-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v8_0)) (v1 : (c : Dev Cert.Kernel17Ideal.nD) → Buf (Elt Ideal) ((c.tc : Thread Cert.Kernel17Ideal.nD Cert.Kernel17Ideal.τ).loc Cert.Kernel17Ideal.main_v8_1)) (v2 : (c : Dev Cert.Kernel17Ideal.nD) → Buf (Elt Ideal) ((c.tc : Thread Cert.Kernel17Ideal.nD Cert.Kernel17Ideal.τ).loc Cert.Kernel17Ideal.main_v8_2)) (v3 : (c : Dev Cert.Kernel17Ideal.nD) → Buf (Elt Ideal) ((c.tc : Thread Cert.Kernel17Ideal.nD Cert.Kernel17Ideal.τ).loc Cert.Kernel17Ideal.main_v8_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v8_0) = v0 c
          ∧ r.2.mem ((c.tc : Thread Cert.Kernel17Ideal.nD Cert.Kernel17Ideal.τ).loc Cert.Kernel17Ideal.main_v8_1) = v1 c
          ∧ r.2.mem ((c.tc : Thread Cert.Kernel17Ideal.nD Cert.Kernel17Ideal.τ).loc Cert.Kernel17Ideal.main_v8_2) = v2 c
          ∧ r.2.mem ((c.tc : Thread Cert.Kernel17Ideal.nD Cert.Kernel17Ideal.τ).loc Cert.Kernel17Ideal.main_v8_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg0) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v8_0)) (v1 : (c : Dev Cert.Kernel18Ideal.nD) → Buf (Elt Ideal) ((c.tc : Thread Cert.Kernel18Ideal.nD Cert.Kernel18Ideal.τ).loc Cert.Kernel18Ideal.main_v8_1)) (v2 : (c : Dev Cert.Kernel18Ideal.nD) → Buf (Elt Ideal) ((c.tc : Thread Cert.Kernel18Ideal.nD Cert.Kernel18Ideal.τ).loc Cert.Kernel18Ideal.main_v8_2)) (v3 : (c : Dev Cert.Kernel18Ideal.nD) → Buf (Elt Ideal) ((c.tc : Thread Cert.Kernel18Ideal.nD Cert.Kernel18Ideal.τ).loc Cert.Kernel18Ideal.main_v8_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v8_0) = v0 c
          ∧ r.2.mem ((c.tc : Thread Cert.Kernel18Ideal.nD Cert.Kernel18Ideal.τ).loc Cert.Kernel18Ideal.main_v8_1) = v1 c
          ∧ r.2.mem ((c.tc : Thread Cert.Kernel18Ideal.nD Cert.Kernel18Ideal.τ).loc Cert.Kernel18Ideal.main_v8_2) = v2 c
          ∧ r.2.mem ((c.tc : Thread Cert.Kernel18Ideal.nD Cert.Kernel18Ideal.τ).loc Cert.Kernel18Ideal.main_v8_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg0) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v8_0)) (v1 : (c : Dev Cert.Kernel19Ideal.nD) → Buf (Elt Ideal) ((c.tc : Thread Cert.Kernel19Ideal.nD Cert.Kernel19Ideal.τ).loc Cert.Kernel19Ideal.main_v8_1)) (v2 : (c : Dev Cert.Kernel19Ideal.nD) → Buf (Elt Ideal) ((c.tc : Thread Cert.Kernel19Ideal.nD Cert.Kernel19Ideal.τ).loc Cert.Kernel19Ideal.main_v8_2)) (v3 : (c : Dev Cert.Kernel19Ideal.nD) → Buf (Elt Ideal) ((c.tc : Thread Cert.Kernel19Ideal.nD Cert.Kernel19Ideal.τ).loc Cert.Kernel19Ideal.main_v8_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v8_0) = v0 c
          ∧ r.2.mem ((c.tc : Thread Cert.Kernel19Ideal.nD Cert.Kernel19Ideal.τ).loc Cert.Kernel19Ideal.main_v8_1) = v1 c
          ∧ r.2.mem ((c.tc : Thread Cert.Kernel19Ideal.nD Cert.Kernel19Ideal.τ).loc Cert.Kernel19Ideal.main_v8_2) = v2 c
          ∧ r.2.mem ((c.tc : Thread Cert.Kernel19Ideal.nD Cert.Kernel19Ideal.τ).loc Cert.Kernel19Ideal.main_v8_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg0) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v8_0)) (v1 : (c : Dev Cert.Kernel20Ideal.nD) → Buf (Elt Ideal) ((c.tc : Thread Cert.Kernel20Ideal.nD Cert.Kernel20Ideal.τ).loc Cert.Kernel20Ideal.main_v8_1)) (v2 : (c : Dev Cert.Kernel20Ideal.nD) → Buf (Elt Ideal) ((c.tc : Thread Cert.Kernel20Ideal.nD Cert.Kernel20Ideal.τ).loc Cert.Kernel20Ideal.main_v8_2)) (v3 : (c : Dev Cert.Kernel20Ideal.nD) → Buf (Elt Ideal) ((c.tc : Thread Cert.Kernel20Ideal.nD Cert.Kernel20Ideal.τ).loc Cert.Kernel20Ideal.main_v8_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v8_0) = v0 c
          ∧ r.2.mem ((c.tc : Thread Cert.Kernel20Ideal.nD Cert.Kernel20Ideal.τ).loc Cert.Kernel20Ideal.main_v8_1) = v1 c
          ∧ r.2.mem ((c.tc : Thread Cert.Kernel20Ideal.nD Cert.Kernel20Ideal.τ).loc Cert.Kernel20Ideal.main_v8_2) = v2 c
          ∧ r.2.mem ((c.tc : Thread Cert.Kernel20Ideal.nD Cert.Kernel20Ideal.τ).loc Cert.Kernel20Ideal.main_v8_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_arg0) = v0 c
          ∧ r.2.mem ((c.tc : Thread Cert.Reference20Ideal.nD Cert.Reference20Ideal.τ).loc Cert.Reference20Ideal.main_v23) = v1 c
          ∧ r.2.mem ((c.tc : Thread Cert.Reference20Ideal.nD Cert.Reference20Ideal.τ).loc Cert.Reference20Ideal.main_v4) = v2 c
          ∧ r.2.mem ((c.tc : Thread Cert.Reference20Ideal.nD Cert.Reference20Ideal.τ).loc Cert.Reference20Ideal.main_v10) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v21)) (v1 : (c : Dev Cert.Kernel21Ideal.nD) → Buf (Elt Ideal) ((c.tc : Thread Cert.Kernel21Ideal.nD Cert.Kernel21Ideal.τ).loc Cert.Kernel21Ideal.main_v22)) (v2 : (c : Dev Cert.Kernel21Ideal.nD) → Buf (Elt Ideal) ((c.tc : Thread Cert.Kernel21Ideal.nD Cert.Kernel21Ideal.τ).loc Cert.Kernel21Ideal.main_v23)) (v3 : (c : Dev Cert.Kernel21Ideal.nD) → Buf (Elt Ideal) ((c.tc : Thread Cert.Kernel21Ideal.nD Cert.Kernel21Ideal.τ).loc Cert.Kernel21Ideal.main_v24)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v21) = v0 c
          ∧ r.2.mem ((c.tc : Thread Cert.Kernel21Ideal.nD Cert.Kernel21Ideal.τ).loc Cert.Kernel21Ideal.main_v22) = v1 c
          ∧ r.2.mem ((c.tc : Thread Cert.Kernel21Ideal.nD Cert.Kernel21Ideal.τ).loc Cert.Kernel21Ideal.main_v23) = v2 c
          ∧ r.2.mem ((c.tc : Thread Cert.Kernel21Ideal.nD Cert.Kernel21Ideal.τ).loc Cert.Kernel21Ideal.main_v24) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg0) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite_inputs.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x1024 .f32) (main_arg1 : FVec F S2048x1024 .f32) (main_arg2 : FVec F S2048x1024 .f32) (main_arg3 : FVec F S2048x1024 .f32) : IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : IVec S2048x1024 1 := andi main_v2 main_v5
  let main_v7 : FVec F S2048x1024 .f32 := Host.absf main_arg2
  let main_cst_1 : FVec F S_ .f32 := constant S_ .f32 0x7F800000#32
  let main_v8 : FVec F S2048x1024 .f32 := broadcastInDim S2048x1024 ![] bcast_S_S2048x1024 main_cst_1
  let main_v9 : IVec S2048x1024 1 := cmpf .olt main_v7 main_v8
  let main_v10 : IVec S2048x1024 1 := andi main_v6 main_v9
  let main_v11 : FVec F S2048x1024 .f32 := Host.absf main_arg3
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_v14 : IVec S2048x1024 1 := andi main_v10 main_v13
  main_v14
-- ==== Kernel.lean ====
abbrev S2048x1024 : Shape := ⟨2, ![2048, 1024]⟩
abbrev S8x2048x1 : Shape := ⟨3, ![8, 2048, 1]⟩
abbrev S256x512 : Shape := ⟨2, ![256, 512]⟩
abbrev S2048x512 : Shape := ⟨2, ![2048, 512]⟩
abbrev S4x256x1 : Shape := ⟨3, ![4, 256, 1]⟩
abbrev S256x128 : Shape := ⟨2, ![256, 128]⟩
abbrev S256x256 : Shape := ⟨2, ![256, 256]⟩
abbrev S256x1 : Shape := ⟨2, ![256, 1]⟩
abbrev S256 : Shape := ⟨1, ![256]⟩
abbrev S1x256x1 : Shape := ⟨3, ![1, 256, 1]⟩

abbrev nBuf : Space → Nat
  | .hbm => 9
  | .vmem => 26
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S8x2048x1, .f32⟩
  | .hbm, ⟨6, _⟩ => ⟨S2048x1024, .f32⟩
  | .hbm, ⟨7, _⟩ => ⟨S2048x1024, .f32⟩
  | .hbm, ⟨8, _⟩ => ⟨S2048x1024, .f32⟩
  | .local _ .vmem, ⟨0, _⟩ => ⟨S256x512, .f32⟩
  | .local _ .vmem, ⟨1, _⟩ => ⟨S256x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S256x512, .f32⟩
  | .local _ .vmem, ⟨7, _⟩ => ⟨S256x512, .f32⟩
  | .local _ .vmem, ⟨8, _⟩ => ⟨S4x256x1, .f32⟩
  | .local _ .vmem, ⟨9, _⟩ => ⟨S4x256x1, .f32⟩
  | .local _ .vmem, ⟨10, _⟩ => ⟨S256x512, .f32⟩
  | .local _ .vmem, ⟨11, _⟩ => ⟨S256x512, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | .local _ .vmem, ⟨16, _⟩ => ⟨S4x256x1, .f32⟩
  | .local _ .vmem, ⟨17, _⟩ => ⟨S4x256x1, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S2048x512, .f32⟩
  | .local _ .vmem, ⟨23, _⟩ => ⟨S2048x512, .f32⟩
  | .local _ .vmem, ⟨24, _⟩ => ⟨S2048x512, .f32⟩
  | .local _ .vmem, ⟨25, _⟩ => ⟨S2048x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c256_i32 : BitVec 32 := 256#32
  let v22 : BitVec 32 := Scalar.muli arg1 c256_i32
  v22
def k0_off1 (i : grid0.Coords) : Fin 2 → Nat :=
  let arg1 : BitVec 32 := BitVec.ofNat 32 (i 1).val
  let c256_i32 : BitVec 32 := 256#32
  let v22 : BitVec 32 := Scalar.muli arg1 c256_i32
  let v23 : BitVec 32 := v22
  let v24 : Index := Scalar.indexCast v23
  let c0_11 : Index := 0#32
  ![v24.toNat, 0]
def k0_off2 (i : grid0.Coords) : Fin 2 → Nat :=
  let arg1 : BitVec 32 := BitVec.ofNat 32 (i 1).val
  let c256_i32 : BitVec 32 := 256#32
  let v22 : BitVec 32 := Scalar.muli arg1 c256_i32
  let v23 : BitVec 32 := v22
  let v27 : Index := Scalar.indexCast v23
  let c128_12 : Index := 128#32
  ![v27.toNat, 128]
def k0_off3 (i : grid0.Coords) : Fin 2 → Nat :=
  let arg1 : BitVec 32 := BitVec.ofNat 32 (i 1).val
  let c256_i32 : BitVec 32 := 256#32
  let v22 : BitVec 32 := Scalar.muli arg1 c256_i32
  let v23 : BitVec 32 := v22
  let v30 : Index := Scalar.indexCast v23
  let c256_13 : Index := 256#32
  ![v30.toNat, 256]
def k0_off4 (i : grid0.Coords) : Fin 2 → Nat :=
  let arg1 : BitVec 32 := BitVec.ofNat 32 (i 1).val
  let c256_i32 : BitVec 32 := 256#32
  let v22 : BitVec 32 := Scalar.muli arg1 c256_i32
  let v23 : BitVec 32 := v22
  let v33 : Index := Scalar.indexCast v23
  let c384_14 : Index := 384#32
  ![v33.toNat, 384]
@[reducible] def k0_t1_loop (i : grid0.Coords) : Scf.Loop 32 :=
  let c0_i32 : BitVec 32 := 0#32
  let arg1 : BitVec 32 := BitVec.ofNat 32 (i 1).val
  let v220 : BitVec 32 := Scalar.subi arg1 c0_i32
  let c1_i32 : BitVec 32 := 1#32
  let v222 : BitVec 32 := Scalar.divsi v220 c1_i32
  let v223 : BitVec 32 := Scalar.muli v222 c1_i32
  let v224 : BitVec 32 := Scalar.addi c0_i32 v223
  let c1_i32_67 : BitVec 32 := 1#32
  ⟨c0_i32, v224, c1_i32_67⟩
def k0_mult2 (i : grid0.Coords) (k0_t1 : Fin (k0_t1_loop i).trips) : BitVec 32 :=
  let arg1 : BitVec 32 := BitVec.ofNat 32 (i 1).val
  let c1_i32_86 : BitVec 32 := 1#32
  let v243 : BitVec 32 := Scalar.subi arg1 c1_i32_86
  let c0_i32 : BitVec 32 := 0#32
  let c1_i32_67 : BitVec 32 := 1#32
  let arg7 : BitVec 32 := Scf.iv c0_i32 c1_i32_67 k0_t1
  let v244 : BitVec 32 := Scalar.subi v243 arg7
  let c256_i32_87 : BitVec 32 := 256#32
  let v245 : BitVec 32 := Scalar.muli v244 c256_i32_87
  v245
def k0_off5 (i : grid0.Coords) (k0_t1 : Fin (k0_t1_loop i).trips) : Fin 2 → Nat :=
  let arg1 : BitVec 32 := BitVec.ofNat 32 (i 1).val
  let c1_i32_86 : BitVec 32 := 1#32
  let v243 : BitVec 32 := Scalar.subi arg1 c1_i32_86
  let c0_i32 : BitVec 32 := 0#32
  let c1_i32_67 : BitVec 32 := 1#32
  let arg7 : BitVec 32 := Scf.iv c0_i32 c1_i32_67 k0_t1
  let v244 : BitVec 32 := Scalar.subi v243 arg7
  let c256_i32_87 : BitVec 32 := 256#32
  let v245 : BitVec 32 := Scalar.muli v244 c256_i32_87
  let v246 : BitVec 32 := v245
  let v247 : Index := Scalar.indexCast v246
  let c0_88 : Index := 0#32
  ![v247.toNat, 0]
def k0_off6 (i : grid0.Coords) (k0_t1 : Fin (k0_t1_loop i).trips) : Fin 2 → Nat :=
  let arg1 : BitVec 32 := BitVec.ofNat 32 (i 1).val
  let c1_i32_86 : BitVec 32 := 1#32
  let v243 : BitVec 32 := Scalar.subi arg1 c1_i32_86
  let c0_i32 : BitVec 32 := 0#32
  let c1_i32_67 : BitVec 32 := 1#32
  let arg7 : BitVec 32 := Scf.iv c0_i32 c1_i32_67 k0_t1
  let v244 : BitVec 32 := Scalar.subi v243 arg7
  let c256_i32_87 : BitVec 32 := 256#32
  let v245 : BitVec 32 := Scalar.muli v244 c256_i32_87
  let v246 : BitVec 32 := v245
  let v250 : Index := Scalar.indexCast v246
  let c128_89 : Index := 128#32
  ![v250.toNat, 128]
def k0_off7 (i : grid0.Coords) (k0_t1 : Fin (k0_t1_loop i).trips) : Fin 2 → Nat :=
  let arg1 : BitVec 32 := BitVec.ofNat 32 (i 1).val
  let c1_i32_86 : BitVec 32 := 1#32
  let v243 : BitVec 32 := Scalar.subi arg1 c1_i32_86
  let c0_i32 : BitVec 32 := 0#32
  let c1_i32_67 : BitVec 32 := 1#32
  let arg7 : BitVec 32 := Scf.iv c0_i32 c1_i32_67 k0_t1
  let v244 : BitVec 32 := Scalar.subi v243 arg7
  let c256_i32_87 : BitVec 32 := 256#32
  let v245 : BitVec 32 := Scalar.muli v244 c256_i32_87
  let v246 : BitVec 32 := v245
  let v253 : Index := Scalar.indexCast v246
  let c256_90 : Index := 256#32
  ![v253.toNat, 256]
def k0_off8 (i : grid0.Coords) (k0_t1 : Fin (k0_t1_loop i).trips) : Fin 2 → Nat :=
  let arg1 : BitVec 32 := BitVec.ofNat 32 (i 1).val
  let c1_i32_86 : BitVec 32 := 1#32
  let v243 : BitVec 32 := Scalar.subi arg1 c1_i32_86
  let c0_i32 : BitVec 32 := 0#32
  let c1_i32_67 : BitVec 32 := 1#32
  let arg7 : BitVec 32 := Scf.iv c0_i32 c1_i32_67 k0_t1
  let v244 : BitVec 32 := Scalar.subi v243 arg7
  let c256_i32_87 : BitVec 32 := 256#32
  let v245 : BitVec 32 := Scalar.muli v244 c256_i32_87
  let v246 : BitVec 32 := v245
  let v256 : Index := Scalar.indexCast v246
  let c384_91 : Index := 384#32
  ![v256.toNat, 384]
@[reducible] def k0_t2_loop (i : grid0.Coords) : Scf.Loop 32 :=
  let c0_i32 : BitVec 32 := 0#32
  let arg1 : BitVec 32 := BitVec.ofNat 32 (i 1).val
  let v220 : BitVec 32 := Scalar.subi arg1 c0_i32
  let c1_i32 : BitVec 32 := 1#32
  let v222 : BitVec 32 := Scalar.divsi v220 c1_i32
  let v223 : BitVec 32 := Scalar.muli v222 c1_i32
  let v224 : BitVec 32 := Scalar.addi c0_i32 v223
  let v221 : BitVec 32 := Scalar.addi c0_i32 v220
  let c1_i32_68 : BitVec 32 := 1#32
  ⟨v224, v221, c1_i32_68⟩
def k0_mult3 (i : grid0.Coords) (k0_t2 : Fin (k0_t2_loop i).trips) : BitVec 32 :=
  let arg1 : BitVec 32 := BitVec.ofNat 32 (i 1).val
  let c1_i32_86 : BitVec 32 := 1#32
  let v243 : BitVec 32 := Scalar.subi arg1 c1_i32_86
  let c0_i32 : BitVec 32 := 0#32
  let v220 : BitVec 32 := Scalar.subi arg1 c0_i32
  let c1_i32 : BitVec 32 := 1#32
  let v222 : BitVec 32 := Scalar.divsi v220 c1_i32
  let v223 : BitVec 32 := Scalar.muli v222 c1_i32
  let v224 : BitVec 32 := Scalar.addi c0_i32 v223
  let c1_i32_68 : BitVec 32 := 1#32
  let arg7 : BitVec 32 := Scf.iv v224 c1_i32_68 k0_t2
  let v244 : BitVec 32 := Scalar.subi v243 arg7
  let c256_i32_87 : BitVec 32 := 256#32
  let v245 : BitVec 32 := Scalar.muli v244 c256_i32_87
  v245
def k0_off9 (i : grid0.Coords) (k0_t2 : Fin (k0_t2_loop i).trips) : Fin 2 → Nat :=
  let arg1 : BitVec 32 := BitVec.ofNat 32 (i 1).val
  let c1_i32_86 : BitVec 32 := 1#32
  let v243 : BitVec 32 := Scalar.subi arg1 c1_i32_86
  let c0_i32 : BitVec 32 := 0#32
  let v220 : BitVec 32 := Scalar.subi arg1 c0_i32
  let c1_i32 : BitVec 32 := 1#32
  let v222 : BitVec 32 := Scalar.divsi v220 c1_i32
  let v223 : BitVec 32 := Scalar.muli v222 c1_i32
  let v224 : BitVec 32 := Scalar.addi c0_i32 v223
  let c1_i32_68 : BitVec 32 := 1#32
  let arg7 : BitVec 32 := Scf.iv v224 c1_i32_68 k0_t2
  let v244 : BitVec 32 := Scalar.subi v243 arg7
  let c256_i32_87 : BitVec 32 := 256#32
  let v245 : BitVec 32 := Scalar.muli v244 c256_i32_87
  let v246 : BitVec 32 := v245
  let v247 : Index := Scalar.indexCast v246
  let c0_88 : Index := 0#32
  ![v247.toNat, 0]
def k0_off10 (i : grid0.Coords) (k0_t2 : Fin (k0_t2_loop i).trips) : Fin 2 → Nat :=
  let arg1 : BitVec 32 := BitVec.ofNat 32 (i 1).val
  let c1_i32_86 : BitVec 32 := 1#32
  let v243 : BitVec 32 := Scalar.subi arg1 c1_i32_86
  let c0_i32 : BitVec 32 := 0#32
  let v220 : BitVec 32 := Scalar.subi arg1 c0_i32
  let c1_i32 : BitVec 32 := 1#32
  let v222 : BitVec 32 := Scalar.divsi v220 c1_i32
  let v223 : BitVec 32 := Scalar.muli v222 c1_i32
  let v224 : BitVec 32 := Scalar.addi c0_i32 v223
  let c1_i32_68 : BitVec 32 := 1#32
  let arg7 : BitVec 32 := Scf.iv v224 c1_i32_68 k0_t2
  let v244 : BitVec 32 := Scalar.subi v243 arg7
  let c256_i32_87 : BitVec 32 := 256#32
  let v245 : BitVec 32 := Scalar.muli v244 c256_i32_87
  let v246 : BitVec 32 := v245
  let v250 : Index := Scalar.indexCast v246
  let c128_89 : Index := 128#32
  ![v250.toNat, 128]
def k0_off11 (i : grid0.Coords) (k0_t2 : Fin (k0_t2_loop i).trips) : Fin 2 → Nat :=
  let arg1 : BitVec 32 := BitVec.ofNat 32 (i 1).val
  let c1_i32_86 : BitVec 32 := 1#32
  let v243 : BitVec 32 := Scalar.subi arg1 c1_i32_86
  let c0_i32 : BitVec 32 := 0#32
  let v220 : BitVec 32 := Scalar.subi arg1 c0_i32
  let c1_i32 : BitVec 32 := 1#32
  let v222 : BitVec 32 := Scalar.divsi v220 c1_i32
  let v223 : BitVec 32 := Scalar.muli v222 c1_i32
  let v224 : BitVec 32 := Scalar.addi c0_i32 v223
  let c1_i32_68 : BitVec 32 := 1#32
  let arg7 : BitVec 32 := Scf.iv v224 c1_i32_68 k0_t2
  let v244 : BitVec 32 := Scalar.subi v243 arg7
  let c256_i32_87 : BitVec 32 := 256#32
  let v245 : BitVec 32 := Scalar.muli v244 c256_i32_87
  let v246 : BitVec 32 := v245
  let v253 : Index := Scalar.indexCast v246
  let c256_90 : Index := 256#32
  ![v253.toNat, 256]
def k0_off12 (i : grid0.Coords) (k0_t2 : Fin (k0_t2_loop i).trips) : Fin 2 → Nat :=
  let arg1 : BitVec 32 := BitVec.ofNat 32 (i 1).val
  let c1_i32_86 : BitVec 32 := 1#32
  let v243 : BitVec 32 := Scalar.subi arg1 c1_i32_86
  let c0_i32 : BitVec 32 := 0#32
  let v220 : BitVec 32 := Scalar.subi arg1 c0_i32
  let c1_i32 : BitVec 32 := 1#32
  let v222 : BitVec 32 := Scalar.divsi v220 c1_i32
  let v223 : BitVec 32 := Scalar.muli v222 c1_i32
  let v224 : BitVec 32 := Scalar.addi c0_i32 v223
  let c1_i32_68 : BitVec 32 := 1#32
  let arg7 : BitVec 32 := Scf.iv v224 c1_i32_68 k0_t2
  let v244 : BitVec 32 := Scalar.subi v243 arg7
  let c256_i32_87 : BitVec 32 := 256#32
  let v245 : BitVec 32 := Scalar.muli v244 c256_i32_87
  let v246 : BitVec 32 := v245
  let v256 : Index := Scalar.indexCast v246
  let c384_91 : Index := 384#32
  ![v256.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

@[reducible] def k1_t1_loop (i : grid1.Coords) : Scf.Loop 32 :=
  let c0_i32_33 : BitVec 32 := 0#32
  let arg1 : BitVec 32 := BitVec.ofNat 32 (i 1).val
  let v49 : BitVec 32 := Scalar.subi arg1 c0_i32_33
  let c1_i32 : BitVec 32 := 1#32
  let v51 : BitVec 32 := Scalar.divsi v49 c1_i32
  let v52 : BitVec 32 := Scalar.muli v51 c1_i32
  let v53 : BitVec 32 := Scalar.addi c0_i32_33 v52
  let c1_i32_34 : BitVec 32 := 1#32
  ⟨c0_i32_33, v53, c1_i32_34⟩
def k1_mult1 (i : grid1.Coords) (k1_t1 : Fin (k1_t1_loop i).trips) : BitVec 32 :=
  let c0_i32_33 : BitVec 32 := 0#32
  let c1_i32_34 : BitVec 32 := 1#32
  let arg10 : BitVec 32 := Scf.iv c0_i32_33 c1_i32_34 k1_t1
  let c256_i32_148 : BitVec 32 := 256#32
  let v418 : BitVec 32 := Scalar.muli arg10 c256_i32_148
  v418
def k1_off1 (i : grid1.Coords) (k1_t1 : Fin (k1_t1_loop i).trips) : Fin 2 → Nat :=
  let c0_i32_33 : BitVec 32 := 0#32
  let c1_i32_34 : BitVec 32 := 1#32
  let arg10 : BitVec 32 := Scf.iv c0_i32_33 c1_i32_34 k1_t1
  let c256_i32_148 : BitVec 32 := 256#32
  let v418 : BitVec 32 := Scalar.muli arg10 c256_i32_148
  let v419 : BitVec 32 := v418
  let v420 : Index := Scalar.indexCast v419
  let c0_149 : Index := 0#32
  ![v420.toNat, 0]
def k1_off2 (i : grid1.Coords) (k1_t1 : Fin (k1_t1_loop i).trips) : Fin 2 → Nat :=
  let c0_i32_33 : BitVec 32 := 0#32
  let c1_i32_34 : BitVec 32 := 1#32
  let arg10 : BitVec 32 := Scf.iv c0_i32_33 c1_i32_34 k1_t1
  let c256_i32_148 : BitVec 32 := 256#32
  let v418 : BitVec 32 := Scalar.muli arg10 c256_i32_148
  let v419 : BitVec 32 := v418
  let v423 : Index := Scalar.indexCast v419
  let c128_150 : Index := 128#32
  ![v423.toNat, 128]
def k1_off3 (i : grid1.Coords) (k1_t1 : Fin (k1_t1_loop i).trips) : Fin 2 → Nat :=
  let c0_i32_33 : BitVec 32 := 0#32
  let c1_i32_34 : BitVec 32 := 1#32
  let arg10 : BitVec 32 := Scf.iv c0_i32_33 c1_i32_34 k1_t1
  let c256_i32_148 : BitVec 32 := 256#32
  let v418 : BitVec 32 := Scalar.muli arg10 c256_i32_148
  let v419 : BitVec 32 := v418
  let v426 : Index := Scalar.indexCast v419
  let c256_151 : Index := 256#32
  ![v426.toNat, 256]
def k1_off4 (i : grid1.Coords) (k1_t1 : Fin (k1_t1_loop i).trips) : Fin 2 → Nat :=
  let c0_i32_33 : BitVec 32 := 0#32
  let c1_i32_34 : BitVec 32 := 1#32
  let arg10 : BitVec 32 := Scf.iv c0_i32_33 c1_i32_34 k1_t1
  let c256_i32_148 : BitVec 32 := 256#32
  let v418 : BitVec 32 := Scalar.muli arg10 c256_i32_148
  let v419 : BitVec 32 := v418
  let v429 : Index := Scalar.indexCast v419
  let c384_152 : Index := 384#32
  ![v429.toNat, 384]
@[reducible] def k1_t2_loop (i : grid1.Coords) : Scf.Loop 32 :=
  let c0_i32_33 : BitVec 32 := 0#32
  let arg1 : BitVec 32 := BitVec.ofNat 32 (i 1).val
  let v49 : BitVec 32 := Scalar.subi arg1 c0_i32_33
  let c1_i32 : BitVec 32 := 1#32
  let v51 : BitVec 32 := Scalar.divsi v49 c1_i32
  let v52 : BitVec 32 := Scalar.muli v51 c1_i32
  let v53 : BitVec 32 := Scalar.addi c0_i32_33 v52
  let v50 : BitVec 32 := Scalar.addi c0_i32_33 v49
  let c1_i32_35 : BitVec 32 := 1#32
  ⟨v53, v50, c1_i32_35⟩
def k1_mult2 (i : grid1.Coords) (k1_t2 : Fin (k1_t2_loop i).trips) : BitVec 32 :=
  let c0_i32_33 : BitVec 32 := 0#32
  let arg1 : BitVec 32 := BitVec.ofNat 32 (i 1).val
  let v49 : BitVec 32 := Scalar.subi arg1 c0_i32_33
  let c1_i32 : BitVec 32 := 1#32
  let v51 : BitVec 32 := Scalar.divsi v49 c1_i32
  let v52 : BitVec 32 := Scalar.muli v51 c1_i32
  let v53 : BitVec 32 := Scalar.addi c0_i32_33 v52
  let c1_i32_35 : BitVec 32 := 1#32
  let arg10 : BitVec 32 := Scf.iv v53 c1_i32_35 k1_t2
  let c256_i32_148 : BitVec 32 := 256#32
  let v418 : BitVec 32 := Scalar.muli arg10 c256_i32_148
  v418
def k1_off5 (i : grid1.Coords) (k1_t2 : Fin (k1_t2_loop i).trips) : Fin 2 → Nat :=
  let c0_i32_33 : BitVec 32 := 0#32
  let arg1 : BitVec 32 := BitVec.ofNat 32 (i 1).val
  let v49 : BitVec 32 := Scalar.subi arg1 c0_i32_33
  let c1_i32 : BitVec 32 := 1#32
  let v51 : BitVec 32 := Scalar.divsi v49 c1_i32
  let v52 : BitVec 32 := Scalar.muli v51 c1_i32
  let v53 : BitVec 32 := Scalar.addi c0_i32_33 v52
  let c1_i32_35 : BitVec 32 := 1#32
  let arg10 : BitVec 32 := Scf.iv v53 c1_i32_35 k1_t2
  let c256_i32_148 : BitVec 32 := 256#32
  let v418 : BitVec 32 := Scalar.muli arg10 c256_i32_148
  let v419 : BitVec 32 := v418
  let v420 : Index := Scalar.indexCast v419
  let c0_149 : Index := 0#32
  ![v420.toNat, 0]
def k1_off6 (i : grid1.Coords) (k1_t2 : Fin (k1_t2_loop i).trips) : Fin 2 → Nat :=
  let c0_i32_33 : BitVec 32 := 0#32
  let arg1 : BitVec 32 := BitVec.ofNat 32 (i 1).val
  let v49 : BitVec 32 := Scalar.subi arg1 c0_i32_33
  let c1_i32 : BitVec 32 := 1#32
  let v51 : BitVec 32 := Scalar.divsi v49 c1_i32
  let v52 : BitVec 32 := Scalar.muli v51 c1_i32
  let v53 : BitVec 32 := Scalar.addi c0_i32_33 v52
  let c1_i32_35 : BitVec 32 := 1#32
  let arg10 : BitVec 32 := Scf.iv v53 c1_i32_35 k1_t2
  let c256_i32_148 : BitVec 32 := 256#32
  let v418 : BitVec 32 := Scalar.muli arg10 c256_i32_148
  let v419 : BitVec 32 := v418
  let v423 : Index := Scalar.indexCast v419
  let c128_150 : Index := 128#32
  ![v423.toNat, 128]
def k1_off7 (i : grid1.Coords) (k1_t2 : Fin (k1_t2_loop i).trips) : Fin 2 → Nat :=
  let c0_i32_33 : BitVec 32 := 0#32
  let arg1 : BitVec 32 := BitVec.ofNat 32 (i 1).val
  let v49 : BitVec 32 := Scalar.subi arg1 c0_i32_33
  let c1_i32 : BitVec 32 := 1#32
  let v51 : BitVec 32 := Scalar.divsi v49 c1_i32
  let v52 : BitVec 32 := Scalar.muli v51 c1_i32
  let v53 : BitVec 32 := Scalar.addi c0_i32_33 v52
  let c1_i32_35 : BitVec 32 := 1#32
  let arg10 : BitVec 32 := Scf.iv v53 c1_i32_35 k1_t2
  let c256_i32_148 : BitVec 32 := 256#32
  let v418 : BitVec 32 := Scalar.muli arg10 c256_i32_148
  let v419 : BitVec 32 := v418
  let v426 : Index := Scalar.indexCast v419
  let c256_151 : Index := 256#32
  ![v426.toNat, 256]
def k1_off8 (i : grid1.Coords) (k1_t2 : Fin (k1_t2_loop i).trips) : Fin 2 → Nat :=
  let c0_i32_33 : BitVec 32 := 0#32
  let arg1 : BitVec 32 := BitVec.ofNat 32 (i 1).val
  let v49 : BitVec 32 := Scalar.subi arg1 c0_i32_33
  let c1_i32 : BitVec 32 := 1#32
  let v51 : BitVec 32 := Scalar.divsi v49 c1_i32
  let v52 : BitVec 32 := Scalar.muli v51 c1_i32
  let v53 : BitVec 32 := Scalar.addi c0_i32_33 v52
  let c1_i32_35 : BitVec 32 := 1#32
  let arg10 : BitVec 32 := Scf.iv v53 c1_i32_35 k1_t2
  let c256_i32_148 : BitVec 32 := 256#32
  let v418 : BitVec 32 := Scalar.muli arg10 c256_i32_148
  let v419 : BitVec 32 := v418
  let v429 : Index := Scalar.indexCast v419
  let c384_152 : Index := 384#32
  ![v429.toNat, 384]
def k1_mult3 (i : grid1.Coords) : BitVec 32 :=
  let arg1 : BitVec 32 := BitVec.ofNat 32 (i 1).val
  let c256_i32 : BitVec 32 := 256#32
  let v56 : BitVec 32 := Scalar.muli arg1 c256_i32
  v56
def k1_off9 (i : grid1.Coords) : Fin 2 → Nat :=
  let arg1 : BitVec 32 := BitVec.ofNat 32 (i 1).val
  let c256_i32 : BitVec 32 := 256#32
  let v56 : BitVec 32 := Scalar.muli arg1 c256_i32
  let v57 : BitVec 32 := v56
  let v58 : Index := Scalar.indexCast v57
  let c0_36 : Index := 0#32
  ![v58.toNat, 0]
def k1_off10 (i : grid1.Coords) : Fin 2 → Nat :=
  let arg1 : BitVec 32 := BitVec.ofNat 32 (i 1).val
  let c256_i32 : BitVec 32 := 256#32
  let v56 : BitVec 32 := Scalar.muli arg1 c256_i32
  let v57 : BitVec 32 := v56
  let v61 : Index := Scalar.indexCast v57
  let c128_37 : Index := 128#32
  ![v61.toNat, 128]
def k1_off11 (i : grid1.Coords) : Fin 2 → Nat :=
  let arg1 : BitVec 32 := BitVec.ofNat 32 (i 1).val
  let c256_i32 : BitVec 32 := 256#32
  let v56 : BitVec 32 := Scalar.muli arg1 c256_i32
  let v57 : BitVec 32 := v56
  let v64 : Index := Scalar.indexCast v57
  let c256_38 : Index := 256#32
  ![v64.toNat, 256]
def k1_off12 (i : grid1.Coords) : Fin 2 → Nat :=
  let arg1 : BitVec 32 := BitVec.ofNat 32 (i 1).val
  let c256_i32 : BitVec 32 := 256#32
  let v56 : BitVec 32 := Scalar.muli arg1 c256_i32
  let v57 : BitVec 32 := v56
  let v67 : Index := Scalar.indexCast v57
  let c384_39 : Index := 384#32
  ![v67.toNat, 384]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4x256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2048x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2048x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S2048x1024 : Shape := ⟨2, ![2048, 1024]⟩
abbrev S2048x8x128 : Shape := ⟨3, ![2048, 8, 128]⟩
abbrev S8x2048x128 : Shape := ⟨3, ![8, 2048, 128]⟩
abbrev S2048 : Shape := ⟨1, ![2048]⟩
abbrev S8x2048x2048 : Shape := ⟨3, ![8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩

abbrev nBuf : Space → Nat
  | .hbm => 176
  | .vmem => 0
  | .smem => 0
  | _ => 0

abbrev hbmTy0_0 (i : Nat) : BufTy := match i % 128 with
  | 0 => ⟨S2048x1024, .f32⟩
  | 1 => ⟨S2048x1024, .f32⟩
  | 2 => ⟨S2048x1024, .f32⟩
  | 3 => ⟨S2048x1024, .f32⟩
  | 4 => ⟨S2048x8x128, .f32⟩
  | 5 => ⟨S8x2048x128, .f32⟩
  | 6 => ⟨S2048x8x128, .f32⟩
  | 7 => ⟨S8x2048x128, .f32⟩
  | 8 => ⟨S2048x8x128, .f32⟩
  | 9 => ⟨S8x2048x128, .f32⟩
  | 10 => ⟨S2048, .i32⟩
  | 11 => ⟨S8x2048x2048, .f32⟩
  | 12 => ⟨S_, .f32⟩
  | 13 => ⟨S8x2048x2048, .f32⟩
  | 14 => ⟨S8x2048x2048, .f32⟩
  | 15 => ⟨S1x2048, .i32⟩
  | 16 => ⟨S2048x1, .i32⟩
  | 17 => ⟨S2048x2048, .i32⟩
  | 18 => ⟨S2048x2048, .i32⟩
  | 19 => ⟨S2048x2048, .i1⟩
  | 20 => ⟨S8x2048x2048, .f32⟩
  | 21 => ⟨S8x2048x2048, .f32⟩
  | 22 => ⟨S_, .f32⟩
  | 23 => ⟨S8x2048x2048, .f32⟩
  | 24 => ⟨S8x2048x2048, .f32⟩
  | 25 => ⟨S8x2048x2048, .f32⟩
  | 26 => ⟨S8x2048x2048, .f32⟩
  | 27 => ⟨S8x2048x2048, .i1⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S_, .f32⟩
  | 37 => ⟨S8x2048x2048, .f32⟩
  | 38 => ⟨S8x2048x2048, .i1⟩
  | 39 => ⟨S_, .f32⟩
  | 40 => ⟨S8x2048x2048, .f32⟩
  | 41 => ⟨S8x2048x2048, .f32⟩
  | 42 => ⟨S_, .f32⟩
  | 43 => ⟨S8x2048x2048, .f32⟩
  | 44 => ⟨S8x2048x2048, .i1⟩
  | 45 => ⟨S_, .f32⟩
  | 46 => ⟨S8x2048x2048, .f32⟩
  | 47 => ⟨S8x2048x2048, .f32⟩
  | 48 => ⟨S8x2048x2048, .f32⟩
  | 49 => ⟨S8x2048x2048, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S8x2048x2048, .f32⟩
  | 58 => ⟨S8x2048x2048, .i1⟩
  | 59 => ⟨S_, .f32⟩
  | 60 => ⟨S8x2048x2048, .f32⟩
  | 61 => ⟨S8x2048x2048, .f32⟩
  | 62 => ⟨S8x2048x2048, .f32⟩
  | 63 => ⟨S8x2048x2048, .f32⟩
  | 64 => ⟨S8x2048x2048, .f32⟩
  | 65 => ⟨S_, .f32⟩
  | 66 => ⟨S8x2048x2048, .f32⟩
  | 67 => ⟨S8x2048x2048, .f32⟩
  | 68 => ⟨S8x2048x2048, .f32⟩
  | 69 => ⟨S_, .f32⟩
  | 70 => ⟨S_, .f32⟩
  | 71 => ⟨S8x2048x2048, .i1⟩
  | 72 => ⟨S8x2048x2048, .f32⟩
  | 73 => ⟨S8x2048x2048, .f32⟩
  | 74 => ⟨S_, .f32⟩
  | 75 => ⟨S8x2048x2048, .f32⟩
  | 76 => ⟨S_, .f32⟩
  | 77 => ⟨S_, .f32⟩
  | 78 => ⟨S8x2048x2048, .f32⟩
  | 79 => ⟨S8x2048x2048, .f32⟩
  | 80 => ⟨S8x2048x2048, .f32⟩
  | 81 => ⟨S_, .f32⟩
  | 82 => ⟨S8x2048x2048, .f32⟩
  | 83 => ⟨S8x2048x2048, .f32⟩
  | 84 => ⟨S8x2048x2048, .f32⟩
  | 85 => ⟨S8x2048x2048, .f32⟩
  | 86 => ⟨S8x2048x2048, .i1⟩
  | 87 => ⟨S8x2048x2048, .f32⟩
  | 88 => ⟨S8x2048x2048, .f32⟩
  | 89 => ⟨S8x2048x2048, .f32⟩
  | 90 => ⟨S8x2048x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S_, .f32⟩
  | 96 => ⟨S8x2048x2048, .f32⟩
  | 97 => ⟨S8x2048x2048, .i1⟩
  | 98 => ⟨S_, .f32⟩
  | 99 => ⟨S8x2048x2048, .f32⟩
  | 100 => ⟨S8x2048x2048, .f32⟩
  | 101 => ⟨S_, .f32⟩
  | 102 => ⟨S8x2048x2048, .f32⟩
  | 103 => ⟨S8x2048x2048, .i1⟩
  | 104 => ⟨S_, .f32⟩
  | 105 => ⟨S8x2048x2048, .f32⟩
  | 106 => ⟨S8x2048x2048, .f32⟩
  | 107 => ⟨S8x2048x2048, .f32⟩
  | 108 => ⟨S8x2048x2048, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S8x2048x2048, .f32⟩
  | 117 => ⟨S8x2048x2048, .i1⟩
  | 118 => ⟨S_, .f32⟩
  | 119 => ⟨S8x2048x2048, .f32⟩
  | 120 => ⟨S8x2048x2048, .f32⟩
  | 121 => ⟨S8x2048x2048, .f32⟩
  | 122 => ⟨S8x2048x2048, .f32⟩
  | 123 => ⟨S8x2048x2048, .f32⟩
  | 124 => ⟨S_, .f32⟩
  | 125 => ⟨S8x2048x2048, .f32⟩
  | 126 => ⟨S8x2048x2048, .f32⟩
  | 127 => ⟨S8x2048x2048, .f32⟩
  | _ => ⟨S2048x1024, .f32⟩

abbrev hbmTy0_1 (i : Nat) : BufTy := match i % 128 with
  | 0 => ⟨S8x2048x2048, .f32⟩
  | 1 => ⟨S8x2048x2048, .f32⟩
  | 2 => ⟨S_, .f32⟩
  | 3 => ⟨S_, .f32⟩
  | 4 => ⟨S8x2048x2048, .i1⟩
  | 5 => ⟨S8x2048x2048, .f32⟩
  | 6 => ⟨S8x2048x2048, .f32⟩
  | 7 => ⟨S_, .f32⟩
  | 8 => ⟨S8x2048x2048, .f32⟩
  | 9 => ⟨S8x2048x128, .f32⟩
  | 10 => ⟨S2048x8x128, .f32⟩
  | 11 => ⟨S2048x1024, .f32⟩
  | 12 => ⟨S2048x8x128, .f32⟩
  | 13 => ⟨S8x2048x128, .f32⟩
  | 14 => ⟨S8x128x2048, .f32⟩
  | 15 => ⟨S8x2048x128, .f32⟩
  | 16 => ⟨S8x2048x2048, .f32⟩
  | 17 => ⟨S_, .f32⟩
  | 18 => ⟨S8x2048x2048, .f32⟩
  | 19 => ⟨S8x2048x2048, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .f32⟩
  | 25 => ⟨S_, .f32⟩
  | 26 => ⟨S_, .f32⟩
  | 27 => ⟨S8x2048x2048, .f32⟩
  | 28 => ⟨S8x2048x2048, .f32⟩
  | 29 => ⟨S_, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S_, .f32⟩
  | 38 => ⟨S8x2048x2048, .f32⟩
  | 39 => ⟨S8x2048x2048, .f32⟩
  | 40 => ⟨S8x2048x128, .f32⟩
  | 41 => ⟨S8x2048x128, .f32⟩
  | 42 => ⟨S2048x8x128, .f32⟩
  | 43 => ⟨S2048x1024, .f32⟩
  | 44 => ⟨S2048x8x128, .f32⟩
  | 45 => ⟨S2048x1024, .f32⟩
  | 46 => ⟨S2048x8x128, .f32⟩
  | 47 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v16_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v16_2 : Ref sig .tc := ⟨.hbm, 67, rfl⟩
abbrev main_v16_0 : Ref sig .tc := ⟨.hbm, 68, rfl⟩
abbrev main_cst_0 : Ref sig .tc := ⟨.hbm, 69, rfl⟩
abbrev main_call1_v0 : Ref sig .tc := ⟨.hbm, 70, rfl⟩
abbrev main_v17_1 : Ref sig .tc := ⟨.hbm, 71, rfl⟩
abbrev main_call1_v2 : Ref sig .tc := ⟨.hbm, 72, rfl⟩
abbrev main_v17_0 : Ref sig .tc := ⟨.hbm, 73, rfl⟩
abbrev main_call1_cst : Ref sig .tc := ⟨.hbm, 74, rfl⟩
abbrev main_v17_2 : Ref sig .tc := ⟨.hbm, 75, rfl⟩
abbrev main_call2_cst : Ref sig .tc := ⟨.hbm, 76, rfl⟩
abbrev main_call2_v0 : Ref sig .tc := ⟨.hbm, 77, rfl⟩
abbrev main_v18 : Ref sig .tc := ⟨.hbm, 78, rfl⟩
abbrev main_v19 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v20_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v20_2 : Ref sig .tc := ⟨.hbm, 126, rfl⟩
abbrev main_v20_0 : Ref sig .tc := ⟨.hbm, 127, rfl⟩
abbrev main_v21 : Ref sig .tc := ⟨.hbm, 128, rfl⟩
abbrev main_v22 : Ref sig .tc := ⟨.hbm, 129, rfl⟩
abbrev main_cst_1 : Ref sig .tc := ⟨.hbm, 130, rfl⟩
abbrev main_call4_v0 : Ref sig .tc := ⟨.hbm, 131, rfl⟩
abbrev main_v23_1 : Ref sig .tc := ⟨.hbm, 132, rfl⟩
abbrev main_call4_v2 : Ref sig .tc := ⟨.hbm, 133, rfl⟩
abbrev main_v23_0 : Ref sig .tc := ⟨.hbm, 134, rfl⟩
abbrev main_call4_cst : Ref sig .tc := ⟨.hbm, 135, rfl⟩
abbrev main_v23_2 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_call5_cst : Ref sig .tc := ⟨.hbm, 145, rfl⟩
abbrev main_call5_v0 : Ref sig .tc := ⟨.hbm, 146, rfl⟩
abbrev main_v32 : Ref sig .tc := ⟨.hbm, 147, rfl⟩
abbrev main_v33 : Ref sig .tc := ⟨.hbm, 148, rfl⟩
abbrev main_call6_v0 : Ref sig .tc := ⟨.hbm, 149, rfl⟩
abbrev main_call6_v1 : Ref sig .tc := ⟨.hbm, 150, rfl⟩
abbrev main_v34 : Ref sig .tc := ⟨.hbm, 151, rfl⟩
abbrev main_v35 : Ref sig .tc := ⟨.hbm, 152, rfl⟩
abbrev main_call7_cst : Ref sig .tc := ⟨.hbm, 153, rfl⟩
abbrev main_call7_v0 : Ref sig .tc := ⟨.hbm, 154, rfl⟩
abbrev main_v36 : Ref sig .tc := ⟨.hbm, 155, rfl⟩
abbrev main_v37 : Ref sig .tc := ⟨.hbm, 156, rfl⟩
abbrev main_call8_cst : Ref sig .tc := ⟨.hbm, 157, rfl⟩
abbrev main_call8_v0 : Ref sig .tc := ⟨.hbm, 158, rfl⟩
abbrev main_v38 : Ref sig .tc := ⟨.hbm, 159, rfl⟩
abbrev main_call9_v0 : Ref sig .tc := ⟨.hbm, 160, rfl⟩
abbrev main_call9_v1 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_cst_2 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩

abbrev nD : Nat := 1
abbrev τ : Topo := Topo.v7x

variable {F : FTy → Type} [FloatOps F]
-- ==== Kernel2.lean ====
abbrev S2048x2048 : Shape := ⟨2, ![2048, 2048]⟩
abbrev S4x2048x2048 : Shape := ⟨3, ![4, 2048, 2048]⟩
abbrev S2048x8192 : Shape := ⟨2, ![2048, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4x2048x2048, .bf16⟩
  | .hbm, ⟨2, _⟩ => ⟨S2048x2048, .bf16⟩
  | .hbm, ⟨3, _⟩ => ⟨S2048x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x2048 : Shape := ⟨2, ![2048, 2048]⟩
abbrev S4x2048x2048 : Shape := ⟨3, ![4, 2048, 2048]⟩
abbrev S2048x4x2048 : Shape := ⟨3, ![2048, 4, 2048]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2048x2048, .bf16⟩
  | .hbm, ⟨2, _⟩ => ⟨S2048x4x2048, .bf16⟩
  | .hbm, ⟨3, _⟩ => ⟨S2048x8192, .bf16⟩
  | .hbm, ⟨4, _⟩ => ⟨S2048x8192, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S2048x2048 : Shape := ⟨2, ![2048, 2048]⟩
abbrev S4x2048x2048 : Shape := ⟨3, ![4, 2048, 2048]⟩
abbrev S2048x8192 : Shape := ⟨2, ![2048, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4x2048x2048, .bf16⟩
  | .hbm, ⟨2, _⟩ => ⟨S2048x8192, .f32⟩
  | .hbm, ⟨3, _⟩ => ⟨S2048x8192, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x2048 : Shape := ⟨2, ![2048, 2048]⟩
abbrev S4x2048x2048 : Shape := ⟨3, ![4, 2048, 2048]⟩
abbrev S2048x8192 : Shape := ⟨2, ![2048, 8192]⟩
abbrev S2048x4x2048 : Shape := ⟨3, ![2048, 4, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2048x2048, .bf16⟩
  | .hbm, ⟨2, _⟩ => ⟨S2048x8192, .f32⟩
  | .hbm, ⟨3, _⟩ => ⟨S2048x4x2048, .bf16⟩
  | .hbm, ⟨4, _⟩ => ⟨S2048x8192, .bf16⟩
  | .hbm, ⟨5, _⟩ => ⟨S2048x8192, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2048x2048 : Shape := ⟨2, ![2048, 2048]⟩
abbrev S4x2048x2048 : Shape := ⟨3, ![4, 2048, 2048]⟩
abbrev S2048x8192 : Shape := ⟨2, ![2048, 8192]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4x2048x2048, .bf16⟩
  | .hbm, ⟨2, _⟩ => ⟨S2048x8192, .f32⟩
  | .hbm, ⟨3, _⟩ => ⟨S2048x2048, .bf16⟩
  | .hbm, ⟨4, _⟩ => ⟨S2048x8192, .bf16⟩
  | .hbm, ⟨5, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x2048 : Shape := ⟨2, ![2048, 2048]⟩
abbrev S4x2048x2048 : Shape := ⟨3, ![4, 2048, 2048]⟩
abbrev S2048x8192 : Shape := ⟨2, ![2048, 8192]⟩
abbrev S2048x4x2048 : Shape := ⟨3, ![2048, 4, 2048]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x2048x2048, .bf16⟩
  | .hbm, ⟨2, _⟩ => ⟨S2048x8192, .f32⟩
  | .hbm, ⟨3, _⟩ => ⟨S2048x4x2048, .bf16⟩
  | .hbm, ⟨4, _⟩ => ⟨S2048x8192, .bf16⟩
  | .hbm, ⟨5, _⟩ => ⟨S2048x8192, .f32⟩
  | .hbm, ⟨6, _⟩ => ⟨S8192x2048, .f32⟩
  | .hbm, ⟨7, _⟩ => ⟨S2048x8192, .f32⟩
  | .hbm, ⟨8, _⟩ => ⟨S2048x8192, .bf16⟩
  | .hbm, ⟨9, _⟩ => ⟨S2048x4x2048, .bf16⟩
  | .hbm, ⟨10, _⟩ => ⟨S4x2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S2048x8192 : Shape := ⟨2, ![2048, 8192]⟩
abbrev S4x2048x2048 : Shape := ⟨3, ![4, 2048, 2048]⟩
abbrev S2048x2048 : Shape := ⟨2, ![2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S4x2048x2048, .bf16⟩
  | .hbm, ⟨2, _⟩ => ⟨S2048x8192, .bf16⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x8192 : Shape := ⟨2, ![2048, 8192]⟩
abbrev S4x2048x2048 : Shape := ⟨3, ![4, 2048, 2048]⟩
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S4x2048x2048, .bf16⟩
  | .hbm, ⟨2, _⟩ => ⟨S8192x2048, .bf16⟩
  | .hbm, ⟨3, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S2048x8192 : Shape := ⟨2, ![2048, 8192]⟩
abbrev S4x2048x2048 : Shape := ⟨3, ![4, 2048, 2048]⟩
abbrev S2048x2048 : Shape := ⟨2, ![2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S4x2048x2048, .bf16⟩
  | .hbm, ⟨2, _⟩ => ⟨S2048x2048, .f32⟩
  | .hbm, ⟨3, _⟩ => ⟨S2048x2048, .bf16⟩
  | .hbm, ⟨4, _⟩ => ⟨S2048x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x8192 : Shape := ⟨2, ![2048, 8192]⟩
abbrev S4x2048x2048 : Shape := ⟨3, ![4, 2048, 2048]⟩
abbrev S2048x2048 : Shape := ⟨2, ![2048, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S4x2048x2048, .bf16⟩
  | .hbm, ⟨2, _⟩ => ⟨S2048x2048, .f32⟩
  | .hbm, ⟨3, _⟩ => ⟨S8192x2048, .bf16⟩
  | .hbm, ⟨4, _⟩ => ⟨S2048x2048, .f32⟩
  | .hbm, ⟨5, _⟩ => ⟨S2048x8192, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S2048x8192 : Shape := ⟨2, ![2048, 8192]⟩
abbrev S4x2048x2048 : Shape := ⟨3, ![4, 2048, 2048]⟩
abbrev S2048x2048 : Shape := ⟨2, ![2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S4x2048x2048, .bf16⟩
  | .hbm, ⟨2, _⟩ => ⟨S2048x2048, .f32⟩
  | .hbm, ⟨3, _⟩ => ⟨S2048x8192, .bf16⟩
  | .hbm, ⟨4, _⟩ => ⟨S2048x2048, .bf16⟩
  | .hbm, ⟨5, _⟩ => ⟨S4x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x8192 : Shape := ⟨2, ![2048, 8192]⟩
abbrev S4x2048x2048 : Shape := ⟨3, ![4, 2048, 2048]⟩
abbrev S2048x2048 : Shape := ⟨2, ![2048, 2048]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S4x2048x2048, .bf16⟩
  | .hbm, ⟨2, _⟩ => ⟨S2048x2048, .f32⟩
  | .hbm, ⟨3, _⟩ => ⟨S8192x2048, .bf16⟩
  | .hbm, ⟨4, _⟩ => ⟨S2048x2048, .f32⟩
  | .hbm, ⟨5, _⟩ => ⟨S2048x8192, .f32⟩
  | .hbm, ⟨6, _⟩ => ⟨S8192x2048, .f32⟩
  | .hbm, ⟨7, _⟩ => ⟨S8192x2048, .bf16⟩
  | .hbm, ⟨8, _⟩ => ⟨S4x2048x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x2048 : Shape := ⟨2, ![2048, 2048]⟩
abbrev S2048x16384 : Shape := ⟨2, ![2048, 16384]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x16384, .bf16⟩
  | .hbm, ⟨2, _⟩ => ⟨S2048x2048, .bf16⟩
  | .hbm, ⟨3, _⟩ => ⟨S2048x16384, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩
abbrev S2048x16384 : Shape := ⟨2, ![2048, 16384]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x16384, .bf16⟩
  | .hbm, ⟨2, _⟩ => ⟨S2048x16384, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S2048x2048 : Shape := ⟨2, ![2048, 2048]⟩
abbrev S2048x16384 : Shape := ⟨2, ![2048, 16384]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x16384, .bf16⟩
  | .hbm, ⟨2, _⟩ => ⟨S2048x16384, .f32⟩
  | .hbm, ⟨3, _⟩ => ⟨S2048x16384, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S2048x16384 : Shape := ⟨2, ![2048, 16384]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x16384, .bf16⟩
  | .hbm, ⟨2, _⟩ => ⟨S2048x16384, .f32⟩
  | .hbm, ⟨3, _⟩ => ⟨S2048x16384, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S2048x2048 : Shape := ⟨2, ![2048, 2048]⟩
abbrev S2048x16384 : Shape := ⟨2, ![2048, 16384]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x16384, .bf16⟩
  | .hbm, ⟨2, _⟩ => ⟨S2048x16384, .f32⟩
  | .hbm, ⟨3, _⟩ => ⟨S2048x2048, .bf16⟩
  | .hbm, ⟨4, _⟩ => ⟨S2048x16384, .bf16⟩
  | .hbm, ⟨5, _⟩ => ⟨S2048x16384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S2048x2048 : Shape := ⟨2, ![2048, 2048]⟩
abbrev S2048x16384 : Shape := ⟨2, ![2048, 16384]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x16384, .bf16⟩
  | .hbm, ⟨2, _⟩ => ⟨S2048x16384, .f32⟩
  | .hbm, ⟨3, _⟩ => ⟨S2048x16384, .f32⟩
  | .hbm, ⟨4, _⟩ => ⟨S16384x2048, .f32⟩
  | .hbm, ⟨5, _⟩ => ⟨S2048x16384, .f32⟩
  | .hbm, ⟨6, _⟩ => ⟨S2048x16384, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S2048x2048 : Shape := ⟨2, ![2048, 2048]⟩
abbrev S4x512x2048 : Shape := ⟨3, ![4, 512, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S4x512x2048, .bf16⟩
  | .hbm, ⟨2, _⟩ => ⟨S2048x2048, .bf16⟩
  | .hbm, ⟨3, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x2048 : Shape := ⟨2, ![2048, 2048]⟩
abbrev S4x512x2048 : Shape := ⟨3, ![4, 512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x512x2048, .bf16⟩
  | .hbm, ⟨2, _⟩ => ⟨S2048x2048, .bf16⟩
  | .hbm, ⟨3, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S2048x2048 : Shape := ⟨2, ![2048, 2048]⟩
abbrev S4x512x2048 : Shape := ⟨3, ![4, 512, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4x512x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩
abbrev S4x512x2048 : Shape := ⟨3, ![4, 512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x512x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S2048x2048 : Shape := ⟨2, ![2048, 2048]⟩
abbrev S4x512x2048 : Shape := ⟨3, ![4, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4x512x2048, .bf16⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S4x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x2048 : Shape := ⟨2, ![2048, 2048]⟩
abbrev S4x512x2048 : Shape := ⟨3, ![4, 512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4x512x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S4x512x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S2048x1024 : Shape := ⟨2, ![2048, 1024]⟩
abbrev S4x1024x512 : Shape := ⟨3, ![4, 1024, 512]⟩
abbrev S2048x2048 : Shape := ⟨2, ![2048, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x1024x512, .bf16⟩
  | .hbm, ⟨2, _⟩ => ⟨S2048x1024, .bf16⟩
  | .hbm, ⟨3, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .f32⟩
  | .local _ .vmem, ⟨5, _⟩ => ⟨S1024x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x1024 : Shape := ⟨2, ![2048, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1024x512, .bf16⟩
  | .hbm, ⟨2, _⟩ => ⟨S1024x4x512, .bf16⟩
  | .hbm, ⟨3, _⟩ => ⟨S1024x2048, .bf16⟩
  | .hbm, ⟨4, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S2048x1024 : Shape := ⟨2, ![2048, 1024]⟩
abbrev S4x1024x512 : Shape := ⟨3, ![4, 1024, 512]⟩
abbrev S2048x2048 : Shape := ⟨2, ![2048, 2048]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S4x1024x512, .bf16⟩
  | .hbm, ⟨2, _⟩ => ⟨S2048x2048, .f32⟩
  | .hbm, ⟨3, _⟩ => ⟨S2048x2048, .bf16⟩
  | .hbm, ⟨4, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S4x1024x512 : Shape := ⟨3, ![4, 1024, 512]⟩
abbrev S2048x2048 : Shape := ⟨2, ![2048, 2048]⟩
abbrev S1024x4x512 : Shape := ⟨3, ![1024, 4, 512]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1024x512, .bf16⟩
  | .hbm, ⟨2, _⟩ => ⟨S2048x2048, .f32⟩
  | .hbm, ⟨3, _⟩ => ⟨S1024x4x512, .bf16⟩
  | .hbm, ⟨4, _⟩ => ⟨S1024x2048, .bf16⟩
  | .hbm, ⟨5, _⟩ => ⟨S2048x2048, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S2048x1024 : Shape := ⟨2, ![2048, 1024]⟩
abbrev S4x1024x512 : Shape := ⟨3, ![4, 1024, 512]⟩
abbrev S2048x2048 : Shape := ⟨2, ![2048, 2048]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S4x1024x512, .bf16⟩
  | .hbm, ⟨2, _⟩ => ⟨S2048x2048, .f32⟩
  | .hbm, ⟨3, _⟩ => ⟨S2048x1024, .bf16⟩
  | .hbm, ⟨4, _⟩ => ⟨S2048x2048, .bf16⟩
  | .hbm, ⟨5, _⟩ => ⟨S4x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2048x1024 : Shape := ⟨2, ![2048, 1024]⟩
abbrev S4x1024x512 : Shape := ⟨3, ![4, 1024, 512]⟩
abbrev S2048x2048 : Shape := ⟨2, ![2048, 2048]⟩
abbrev S1024x4x512 : Shape := ⟨3, ![1024, 4, 512]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1024x512, .bf16⟩
  | .hbm, ⟨2, _⟩ => ⟨S2048x2048, .f32⟩
  | .hbm, ⟨3, _⟩ => ⟨S1024x4x512, .bf16⟩
  | .hbm, ⟨4, _⟩ => ⟨S1024x2048, .bf16⟩
  | .hbm, ⟨5, _⟩ => ⟨S2048x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | .hbm, ⟨9, _⟩ => ⟨S1024x4x512, .bf16⟩
  | .hbm, ⟨10, _⟩ => ⟨S4x1024x512, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S4x1024x512 : Shape := ⟨3, ![4, 1024, 512]⟩
abbrev S1x1024x512 : Shape := ⟨3, ![1, 1024, 512]⟩
abbrev S1024x512 : Shape := ⟨2, ![1024, 512]⟩

abbrev nBuf : Space → Nat
  | .hbm => 16
  | .vmem => 22
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S1x1024x512, .f32⟩
  | .hbm, ⟨5, _⟩ => ⟨S1024x512, .f32⟩
  | .hbm, ⟨6, _⟩ => ⟨S1x1024x512, .f32⟩
  | .hbm, ⟨7, _⟩ => ⟨S1024x512, .f32⟩
  | .hbm, ⟨8, _⟩ => ⟨S1x1024x512, .f32⟩
  | .hbm, ⟨9, _⟩ => ⟨S1024x512, .f32⟩
  | .hbm, ⟨10, _⟩ => ⟨S1x1024x512, .f32⟩
  | .hbm, ⟨11, _⟩ => ⟨S1024x512, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S4x1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .f32⟩
  | .local _ .vmem, ⟨17, _⟩ => ⟨S1x1024x512, .f32⟩
  | .local _ .vmem, ⟨18, _⟩ => ⟨S1x1024x512, .f32⟩
  | .local _ .vmem, ⟨19, _⟩ => ⟨S1x1024x512, .f32⟩
  | .local _ .vmem, ⟨20, _⟩ => ⟨S1x1024x512, .f32⟩
  | .local _ .vmem, ⟨21, _⟩ => ⟨S1x1024x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference17Ideal.lean ====
abbrev S4x1024x512 : Shape := ⟨3, ![4, 1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S_, .f32⟩
  | .hbm, ⟨5, _⟩ => ⟨S4x1024x512, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S_, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S4x1024x512, .f32⟩
  | .hbm, ⟨19, _⟩ => ⟨S_, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S4x512x2048 : Shape := ⟨3, ![4, 512, 2048]⟩
abbrev S1x512x2048 : Shape := ⟨3, ![1, 512, 2048]⟩
abbrev S512x2048 : Shape := ⟨2, ![512, 2048]⟩
abbrev S256x2048 : Shape := ⟨2, ![256, 2048]⟩
abbrev S1x256x2048 : Shape := ⟨3, ![1, 256, 2048]⟩

abbrev nBuf : Space → Nat
  | .hbm => 16
  | .vmem => 22
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S1x512x2048, .f32⟩
  | .hbm, ⟨5, _⟩ => ⟨S512x2048, .f32⟩
  | .hbm, ⟨6, _⟩ => ⟨S1x512x2048, .f32⟩
  | .hbm, ⟨7, _⟩ => ⟨S512x2048, .f32⟩
  | .hbm, ⟨8, _⟩ => ⟨S1x512x2048, .f32⟩
  | .hbm, ⟨9, _⟩ => ⟨S512x2048, .f32⟩
  | .hbm, ⟨10, _⟩ => ⟨S1x512x2048, .f32⟩
  | .hbm, ⟨11, _⟩ => ⟨S512x2048, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S4x512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S1x256x2048, .f32⟩
  | .local _ .vmem, ⟨19, _⟩ => ⟨S1x256x2048, .f32⟩
  | .local _ .vmem, ⟨20, _⟩ => ⟨S1x256x2048, .f32⟩
  | .local _ .vmem, ⟨21, _⟩ => ⟨S1x256x2048, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference18Ideal.lean ====
abbrev S4x512x2048 : Shape := ⟨3, ![4, 512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S4x512x2048, .f32⟩
  | .hbm, ⟨4, _⟩ => ⟨S_, .f32⟩
  | .hbm, ⟨5, _⟩ => ⟨S4x512x2048, .f32⟩
  | .hbm, ⟨6, _⟩ => ⟨S4x512x2048, .f32⟩
  | .hbm, ⟨7, _⟩ => ⟨S_, .f32⟩
  | .hbm, ⟨8, _⟩ => ⟨S4x512x2048, .f32⟩
  | .hbm, ⟨9, _⟩ => ⟨S4x512x2048, .f32⟩
  | .hbm, ⟨10, _⟩ => ⟨S4x512x2048, .f32⟩
  | .hbm, ⟨11, _⟩ => ⟨S_, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S4x512x2048, .f32⟩
  | .hbm, ⟨19, _⟩ => ⟨S_, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S4x512x2048, .f32⟩
  | .hbm, ⟨34, _⟩ => ⟨S_, .f32⟩
  | .hbm, ⟨35, _⟩ => ⟨S4x512x2048, .f32⟩
  | .hbm, ⟨36, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S4x2048x2048 : Shape := ⟨3, ![4, 2048, 2048]⟩
abbrev S1x2048x2048 : Shape := ⟨3, ![1, 2048, 2048]⟩
abbrev S2048x2048 : Shape := ⟨2, ![2048, 2048]⟩
abbrev S256x2048 : Shape := ⟨2, ![256, 2048]⟩
abbrev S1x256x2048 : Shape := ⟨3, ![1, 256, 2048]⟩

abbrev nBuf : Space → Nat
  | .hbm => 16
  | .vmem => 22
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S1x2048x2048, .f32⟩
  | .hbm, ⟨5, _⟩ => ⟨S2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S1x256x2048, .f32⟩
  | .local _ .vmem, ⟨19, _⟩ => ⟨S1x256x2048, .f32⟩
  | .local _ .vmem, ⟨20, _⟩ => ⟨S1x256x2048, .f32⟩
  | .local _ .vmem, ⟨21, _⟩ => ⟨S1x256x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference19Ideal.lean ====
abbrev S4x2048x2048 : Shape := ⟨3, ![4, 2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S4x2048x2048, .f32⟩
  | .hbm, ⟨4, _⟩ => ⟨S_, .f32⟩
  | .hbm, ⟨5, _⟩ => ⟨S4x2048x2048, .f32⟩
  | .hbm, ⟨6, _⟩ => ⟨S4x2048x2048, .f32⟩
  | .hbm, ⟨7, _⟩ => ⟨S_, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S4x4x768 : Shape := ⟨3, ![4, 4, 768]⟩
abbrev S1x4x768 : Shape := ⟨3, ![1, 4, 768]⟩
abbrev S4x768 : Shape := ⟨2, ![4, 768]⟩

abbrev nBuf : Space → Nat
  | .hbm => 16
  | .vmem => 22
  | .smem => 0
  | _ => 0

abbrev bufTy : (tb : Table) → Fin (tcTables nBuf tb) → BufTy
  | .hbm, ⟨0, _⟩ => ⟨S4x4x768, .f32⟩
  | .hbm, ⟨1, _⟩ => ⟨S4x4x768, .f32⟩
  | .hbm, ⟨2, _⟩ => ⟨S4x4x768, .f32⟩
  | .hbm, ⟨3, _⟩ => ⟨S4x4x768, .f32⟩
  | .hbm, ⟨4, _⟩ => ⟨S1x4x768, .f32⟩
  | .hbm, ⟨5, _⟩ => ⟨S4x768, .f32⟩
  | .hbm, ⟨6, _⟩ => ⟨S1x4x768, .f32⟩
  | .hbm, ⟨7, _⟩ => ⟨S4x768, .f32⟩
  | .hbm, ⟨8, _⟩ => ⟨S1x4x768, .f32⟩
  | .hbm, ⟨9, _⟩ => ⟨S4x768, .f32⟩
  | .hbm, ⟨10, _⟩ => ⟨S1x4x768, .f32⟩
  | .hbm, ⟨11, _⟩ => ⟨S4x768, .f32⟩
  | .hbm, ⟨12, _⟩ => ⟨S4x4x768, .f32⟩
  | .hbm, ⟨13, _⟩ => ⟨S4x4x768, .f32⟩
  | .hbm, ⟨14, _⟩ => ⟨S4x4x768, .f32⟩
  | .hbm, ⟨15, _⟩ => ⟨S4x4x768, .f32⟩
  | .local _ .vmem, ⟨0, _⟩ => ⟨S4x768, .f32⟩
  | .local _ .vmem, ⟨1, _⟩ => ⟨S4x768, .f32⟩
  | .local _ .vmem, ⟨2, _⟩ => ⟨S4x768, .f32⟩
  | .local _ .vmem, ⟨3, _⟩ => ⟨S4x768, .f32⟩
  | .local _ .vmem, ⟨4, _⟩ => ⟨S4x768, .f32⟩
  | .local _ .vmem, ⟨5, _⟩ => ⟨S4x768, .f32⟩
  | .local _ .vmem, ⟨6, _⟩ => ⟨S4x768, .f32⟩
  | .local _ .vmem, ⟨7, _⟩ => ⟨S4x768, .f32⟩
  | .local _ .vmem, ⟨8, _⟩ => ⟨S1x4x768, .f32⟩
  | .local _ .vmem, ⟨9, _⟩ => ⟨S1x4x768, .f32⟩
  | .local _ .vmem, ⟨10, _⟩ => ⟨S1x4x768, .f32⟩
  | .local _ .vmem, ⟨11, _⟩ => ⟨S1x4x768, .f32⟩
  | .local _ .vmem, ⟨12, _⟩ => ⟨S1x4x768, .f32⟩
  | .local _ .vmem, ⟨13, _⟩ => ⟨S1x4x768, .f32⟩
  | .local _ .vmem, ⟨14, _⟩ => ⟨S1x4x768, .f32⟩
  | .local _ .vmem, ⟨15, _⟩ => ⟨S1x4x768, .f32⟩
  | .local _ .vmem, ⟨16, _⟩ => ⟨S1x4x768, .f32⟩
  | .local _ .vmem, ⟨17, _⟩ => ⟨S1x4x768, .f32⟩
  | .local _ .vmem, ⟨18, _⟩ => ⟨S1x4x768, .f32⟩
  | .local _ .vmem, ⟨19, _⟩ => ⟨S1x4x768, .f32⟩
  | .local _ .vmem, ⟨20, _⟩ => ⟨S1x4x768, .f32⟩
  | .local _ .vmem, ⟨21, _⟩ => ⟨S1x4x768, .f32⟩
  | _, _ => ⟨S4x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference20Ideal.lean ====
abbrev S4x4x768 : Shape := ⟨3, ![4, 4, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x4x768, .f32⟩
  | .hbm, ⟨1, _⟩ => ⟨S4x4x768, .f32⟩
  | .hbm, ⟨2, _⟩ => ⟨S4x4x768, .f32⟩
  | .hbm, ⟨3, _⟩ => ⟨S4x4x768, .f32⟩
  | .hbm, ⟨4, _⟩ => ⟨S_, .f32⟩
  | .hbm, ⟨5, _⟩ => ⟨S4x4x768, .f32⟩
  | .hbm, ⟨6, _⟩ => ⟨S4x4x768, .f32⟩
  | .hbm, ⟨7, _⟩ => ⟨S_, .f32⟩
  | .hbm, ⟨8, _⟩ => ⟨S4x4x768, .f32⟩
  | .hbm, ⟨9, _⟩ => ⟨S4x4x768, .f32⟩
  | .hbm, ⟨10, _⟩ => ⟨S4x4x768, .f32⟩
  | .hbm, ⟨11, _⟩ => ⟨S_, .f32⟩
  | .hbm, ⟨12, _⟩ => ⟨S4x4x768, .f32⟩
  | .hbm, ⟨13, _⟩ => ⟨S4x4x768, .f32⟩
  | .hbm, ⟨14, _⟩ => ⟨S4x4x768, .f32⟩
  | .hbm, ⟨15, _⟩ => ⟨S_, .f32⟩
  | .hbm, ⟨16, _⟩ => ⟨S4x4x768, .f32⟩
  | .hbm, ⟨17, _⟩ => ⟨S4x4x768, .f32⟩
  | .hbm, ⟨18, _⟩ => ⟨S4x4x768, .f32⟩
  | .hbm, ⟨19, _⟩ => ⟨S_, .f32⟩
  | .hbm, ⟨20, _⟩ => ⟨S4x4x768, .f32⟩
  | .hbm, ⟨21, _⟩ => ⟨S4x4x768, .f32⟩
  | .hbm, ⟨22, _⟩ => ⟨S_, .f32⟩
  | .hbm, ⟨23, _⟩ => ⟨S4x4x768, .f32⟩
  | .hbm, ⟨24, _⟩ => ⟨S4x4x768, .f32⟩
  | .hbm, ⟨25, _⟩ => ⟨S4x4x768, .f32⟩
  | .hbm, ⟨26, _⟩ => ⟨S_, .f32⟩
  | .hbm, ⟨27, _⟩ => ⟨S4x4x768, .f32⟩
  | .hbm, ⟨28, _⟩ => ⟨S4x4x768, .f32⟩
  | .hbm, ⟨29, _⟩ => ⟨S4x4x768, .f32⟩
  | .hbm, ⟨30, _⟩ => ⟨S_, .f32⟩
  | .hbm, ⟨31, _⟩ => ⟨S4x4x768, .f32⟩
  | .hbm, ⟨32, _⟩ => ⟨S4x4x768, .f32⟩
  | .hbm, ⟨33, _⟩ => ⟨S4x4x768, .f32⟩
  | .hbm, ⟨34, _⟩ => ⟨S_, .f32⟩
  | .hbm, ⟨35, _⟩ => ⟨S4x4x768, .f32⟩
  | .hbm, ⟨36, _⟩ => ⟨S4x4x768, .f32⟩
  | _, _ => ⟨S4x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S4x2048x3844 : Shape := ⟨3, ![4, 2048, 3844]⟩
abbrev S1x2048x3844 : Shape := ⟨3, ![1, 2048, 3844]⟩
abbrev S2048x3844 : Shape := ⟨2, ![2048, 3844]⟩
abbrev S3844x2048 : Shape := ⟨2, ![3844, 2048]⟩
abbrev S3844x1x2048 : Shape := ⟨3, ![3844, 1, 2048]⟩
abbrev S3844x4x2048 : Shape := ⟨3, ![3844, 4, 2048]⟩
abbrev S31x4x2048 : Shape := ⟨3, ![31, 4, 2048]⟩

abbrev nBuf : Space → Nat
  | .hbm => 31
  | .vmem => 14
  | .smem => 0
  | _ => 0

abbrev bufTy : (tb : Table) → Fin (tcTables nBuf tb) → BufTy
  | .hbm, ⟨0, _⟩ => ⟨S4x2048x3844, .f32⟩
  | .hbm, ⟨1, _⟩ => ⟨S4x2048x3844, .f32⟩
  | .hbm, ⟨2, _⟩ => ⟨S4x2048x3844, .f32⟩
  | .hbm, ⟨3, _⟩ => ⟨S4x2048x3844, .f32⟩
  | .hbm, ⟨4, _⟩ => ⟨S1x2048x3844, .f32⟩
  | .hbm, ⟨5, _⟩ => ⟨S2048x3844, .f32⟩
  | .hbm, ⟨6, _⟩ => ⟨S1x2048x3844, .f32⟩
  | .hbm, ⟨7, _⟩ => ⟨S2048x3844, .f32⟩
  | .hbm, ⟨8, _⟩ => ⟨S1x2048x3844, .f32⟩
  | .hbm, ⟨9, _⟩ => ⟨S2048x3844, .f32⟩
  | .hbm, ⟨10, _⟩ => ⟨S1x2048x3844, .f32⟩
  | .hbm, ⟨11, _⟩ => ⟨S2048x3844, .f32⟩
  | .hbm, ⟨12, _⟩ => ⟨S3844x2048, .f32⟩
  | .hbm, ⟨13, _⟩ => ⟨S3844x2048, .f32⟩
  | .hbm, ⟨14, _⟩ => ⟨S3844x2048, .f32⟩
  | .hbm, ⟨15, _⟩ => ⟨S3844x2048, .f32⟩
  | .hbm, ⟨16, _⟩ => ⟨S3844x1x2048, .f32⟩
  | .hbm, ⟨17, _⟩ => ⟨S3844x1x2048, .f32⟩
  | .hbm, ⟨18, _⟩ => ⟨S3844x1x2048, .f32⟩
  | .hbm, ⟨19, _⟩ => ⟨S3844x1x2048, .f32⟩
  | .hbm, ⟨20, _⟩ => ⟨S3844x4x2048, .f32⟩
  | .hbm, ⟨21, _⟩ => ⟨S3844x4x2048, .f32⟩
  | .hbm, ⟨22, _⟩ => ⟨S3844x4x2048, .f32⟩
  | .hbm, ⟨23, _⟩ => ⟨S3844x4x2048, .f32⟩
  | .hbm, ⟨24, _⟩ => ⟨S3844x4x2048, .f32⟩
  | .hbm, ⟨25, _⟩ => ⟨S3844x4x2048, .f32⟩
  | .hbm, ⟨26, _⟩ => ⟨S3844x4x2048, .f32⟩
  | .hbm, ⟨27, _⟩ => ⟨S4x2048x3844, .f32⟩
  | .hbm, ⟨28, _⟩ => ⟨S4x2048x3844, .f32⟩
  | .hbm, ⟨29, _⟩ => ⟨S4x2048x3844, .f32⟩
  | .hbm, ⟨30, _⟩ => ⟨S4x2048x3844, .f32⟩
  | .local _ .vmem, ⟨0, _⟩ => ⟨S31x4x2048, .f32⟩
  | .local _ .vmem, ⟨1, _⟩ => ⟨S31x4x2048, .f32⟩
  | .local _ .vmem, ⟨2, _⟩ => ⟨S31x4x2048, .f32⟩
  | .local _ .vmem, ⟨3, _⟩ => ⟨S31x4x2048, .f32⟩
  | .local _ .vmem, ⟨4, _⟩ => ⟨S31x4x2048, .f32⟩
  | .local _ .vmem, ⟨5, _⟩ => ⟨S31x4x2048, .f32⟩
  | .local _ .vmem, ⟨6, _⟩ => ⟨S31x4x2048, .f32⟩
  | .local _ .vmem, ⟨7, _⟩ => ⟨S31x4x2048, .f32⟩
  | .local _ .vmem, ⟨8, _⟩ => ⟨S31x4x2048, .f32⟩
  | .local _ .vmem, ⟨9, _⟩ => ⟨S31x4x2048, .f32⟩
  | .local _ .vmem, ⟨10, _⟩ => ⟨S31x4x2048, .f32⟩
  | .local _ .vmem, ⟨11, _⟩ => ⟨S31x4x2048, .f32⟩
  | .local _ .vmem, ⟨12, _⟩ => ⟨S31x4x2048, .f32⟩
  | .local _ .vmem, ⟨13, _⟩ => ⟨S31x4x2048, .f32⟩
  | _, _ => ⟨S4x2048x3844, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20_0 : Ref sig .tc := ⟨.hbm, 24, rfl⟩
abbrev main_v20_1 : Ref sig .tc := ⟨.hbm, 25, rfl⟩
abbrev main_v20_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![124], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S31x4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S31x4x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S31x4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S31x4x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S31x4x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S31x4x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S31x4x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S4x2048x3844 : Shape := ⟨3, ![4, 2048, 3844]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x3844, .f32⟩
  | .hbm, ⟨1, _⟩ => ⟨S4x2048x3844, .f32⟩
  | .hbm, ⟨2, _⟩ => ⟨S4x2048x3844, .f32⟩
  | .hbm, ⟨3, _⟩ => ⟨S4x2048x3844, .f32⟩
  | .hbm, ⟨4, _⟩ => ⟨S_, .f32⟩
  | .hbm, ⟨5, _⟩ => ⟨S4x2048x3844, .f32⟩
  | .hbm, ⟨6, _⟩ => ⟨S4x2048x3844, .f32⟩
  | .hbm, ⟨7, _⟩ => ⟨S_, .f32⟩
  | .hbm, ⟨8, _⟩ => ⟨S4x2048x3844, .f32⟩
  | .hbm, ⟨9, _⟩ => ⟨S4x2048x3844, .f32⟩
  | .hbm, ⟨10, _⟩ => ⟨S4x2048x3844, .f32⟩
  | .hbm, ⟨11, _⟩ => ⟨S_, .f32⟩
  | .hbm, ⟨12, _⟩ => ⟨S4x2048x3844, .f32⟩
  | .hbm, ⟨13, _⟩ => ⟨S4x2048x3844, .f32⟩
  | .hbm, ⟨14, _⟩ => ⟨S4x2048x3844, .f32⟩
  | .hbm, ⟨15, _⟩ => ⟨S_, .f32⟩
  | .hbm, ⟨16, _⟩ => ⟨S4x2048x3844, .f32⟩
  | .hbm, ⟨17, _⟩ => ⟨S4x2048x3844, .f32⟩
  | .hbm, ⟨18, _⟩ => ⟨S4x2048x3844, .f32⟩
  | .hbm, ⟨19, _⟩ => ⟨S_, .f32⟩
  | .hbm, ⟨20, _⟩ => ⟨S4x2048x3844, .f32⟩
  | .hbm, ⟨21, _⟩ => ⟨S4x2048x3844, .f32⟩
  | .hbm, ⟨22, _⟩ => ⟨S_, .f32⟩
  | .hbm, ⟨23, _⟩ => ⟨S4x2048x3844, .f32⟩
  | .hbm, ⟨24, _⟩ => ⟨S4x2048x3844, .f32⟩
  | .hbm, ⟨25, _⟩ => ⟨S4x2048x3844, .f32⟩
  | .hbm, ⟨26, _⟩ => ⟨S_, .f32⟩
  | .hbm, ⟨27, _⟩ => ⟨S4x2048x3844, .f32⟩
  | .hbm, ⟨28, _⟩ => ⟨S4x2048x3844, .f32⟩
  | .hbm, ⟨29, _⟩ => ⟨S4x2048x3844, .f32⟩
  | .hbm, ⟨30, _⟩ => ⟨S_, .f32⟩
  | .hbm, ⟨31, _⟩ => ⟨S4x2048x3844, .f32⟩
  | .hbm, ⟨32, _⟩ => ⟨S4x2048x3844, .f32⟩
  | .hbm, ⟨33, _⟩ => ⟨S4x2048x3844, .f32⟩
  | .hbm, ⟨34, _⟩ => ⟨S_, .f32⟩
  | .hbm, ⟨35, _⟩ => ⟨S4x2048x3844, .f32⟩
  | .hbm, ⟨36, _⟩ => ⟨S4x2048x3844, .f32⟩
  | _, _ => ⟨S4x2048x3844, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.KRun.lean ====
module

public import proofs.«01_k».proof.Proof.Gen.KernelIdeal.Frame

@[expose] public section

set_option maxRecDepth 16384

noncomputable section

namespace Cert.KernelIdeal.Sba

open Idealize.ShloMosaic Idealize.ShloMosaic.TcCoe Idealize.SL.Sem Cert.KernelIdeal Cert.KernelIdeal.Gen Cert.KernelIdeal.Facts

/-! # The run of the kernel

The generated set-up of the launch, kept with what the four results hold: the forward region's first array and the
backward region's three. -/

section Run

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- No window of the backward region writes the forward region's output. -/
theorem o_kept (c : Dev nD) : W2 m ρ c (Proc.devRef .tc main_v0_0) = (dat0 (V0 m ρ) c).arrAt 3 cfg0.N :=
  (W2_of m ρ c main_v0_0 (by decide)).trans (W1_arr m ρ c 3)

/-- The four results' references. -/
theorem dq_at (c : Dev nD) : W2 m ρ c (Proc.devRef .tc main_v1_0) = (dat1 (V1 m ρ) c).arrAt 5 cfg1.N := W2_arr m ρ c 5
theorem dk_at (c : Dev nD) : W2 m ρ c (Proc.devRef .tc main_v1_1) = (dat1 (V1 m ρ) c).arrAt 6 cfg1.N := W2_arr m ρ c 6
theorem dv_at (c : Dev nD) : W2 m ρ c (Proc.devRef .tc main_v1_2) = (dat1 (V1 m ρ) c).arrAt 7 cfg1.N := W2_arr m ρ c 7

set_option backward.isDefEq.respectTransparency.types false in
/-- Every run ends with the four results at the regions' arrays and the arguments as launched. -/
theorem runs : θ_run defs (onTc (τ := τ) (main (F := F))) ⟨m, fun _ => 0, ρ⟩ (fun r => ∀ c : Dev nD,
      r.2.mem ((c.tc : Thread nD τ).loc main_v0_0) = (dat0 (V0 m ρ) c).arrAt 3 cfg0.N
      ∧ r.2.mem ((c.tc : Thread nD τ).loc main_v1_0) = (dat1 (V1 m ρ) c).arrAt 5 cfg1.N
      ∧ r.2.mem ((c.tc : Thread nD τ).loc main_v1_1) = (dat1 (V1 m ρ) c).arrAt 6 cfg1.N
      ∧ r.2.mem ((c.tc : Thread nD τ).loc main_v1_2) = (dat1 (V1 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v0_0 (by decide))).trans (o_kept m ρ c),
       (h c _ (mem_uc main_v1_0 (by decide))).trans (dq_at m ρ c),
       (h c _ (mem_uc main_v1_1 (by decide))).trans (dk_at m ρ c),
       (h c _ (mem_uc main_v1_2 (by decide))).trans (dv_at m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Run

end Cert.KernelIdeal.Sba

end

end
-- ==== Proof.Steps.lean ====
/- One tile's step of the stick-breaking attention as functions of vectors, for one head: what both kernels compute four times
   over, once per head of the group. -/
module

public import proofs.«01_k».proof.Proof.Gen.KernelIdeal.Skeleton

@[expose] public section

set_option maxRecDepth 16384

noncomputable section

namespace Cert.KernelIdeal.Sba

open Idealize.ShloMosaic Idealize.SL.Sem Cert.KernelIdeal Cert.KernelIdeal.Gen Cert.KernelIdeal.Facts

variable {F : FTy → Type} [FloatOps F]

/-- A tile filled with one word. -/
def cst (w : BitVec 32) : FVec F S256x256 .f32 := broadcast S256x256 (Scalar.ofBits .f32 w)
/-- A column broadcast along the rows of a tile. -/
def bc (x : FVec F S256x1 .f32) : FVec F S256x256 .f32 := broadcastTo S256x256 x broadcasts_S256x1_S256x256
/-- A tile in the narrow format. -/
def nar (x : FVec F S256x256 .f32) : FVec F S256x256 .bf16 := truncf .bf16 x bitsLt_bf16_f32
/-- A narrow tile widened. -/
def wid (x : FVec F S256x256 .bf16) : FVec F S256x256 .f32 := extf .f32 x bitsLt_bf16_f32
/-- A block of one head in the narrow format. -/
def nar' (x : FVec F S256x128 .f32) : FVec F S256x128 .bf16 := truncf .bf16 x bitsLt_bf16_f32
/-- Product of two blocks of rows over the head's width. -/
def mmNT (a b : FVec F S256x128 .bf16) : FVec F S256x256 .f32 :=
  matmul dot_S256x128_S256x128_S256x256_1_1_0_0_n_n none a b (constant S256x256 .f32 0x00000000#32)
/-- Product of two tiles. -/
def mmT (a b : FVec F S256x256 .bf16) : FVec F S256x256 .f32 :=
  matmul dot_S256x256_S256x256_S256x256_1_0_0_1_n_n none a b (constant S256x256 .f32 0x00000000#32)
/-- A tile times a block of rows. -/
def mmN (a : FVec F S256x256 .bf16) (b : FVec F S256x128 .bf16) : FVec F S256x128 .f32 :=
  matmul dot_S256x256_S256x128_S256x128_1_0_0_1_n_n none a b (constant S256x128 .f32 0x00000000#32)
/-- A tile transposed times a block of rows. -/
def mmTN (a : FVec F S256x256 .bf16) (b : FVec F S256x128 .bf16) : FVec F S256x128 .f32 :=
  matmul dot_S256x256_S256x128_S256x128_0_0_1_1_n_n none a b (constant S256x128 .f32 0x00000000#32)
/-- The sum of each row of a tile, as a column. -/
def rowSum (x : FVec F S256x256 .f32) : FVec F S256x1 .f32 :=
  shapeCast S256x1 (multiReduction .add [1] S256 x 0x00000000#32 reduces_S256x256_S256 (.inl rfl) rfl) shapeCasts_S256_S256x1

/-- The scaled scores of a tile. -/
def zK (q k : FVec F S256x128 .bf16) : FVec F S256x256 .f32 := mulf (mmNT q k) (cst 0x3DB504F3#32)
/-- The logarithm of the logistic function of a tile. -/
def lsK (z : FVec F S256x256 .f32) : FVec F S256x256 .f32 :=
  subf (minimumf z (cst 0x00000000#32)) (log (addf (cst 0x3F800000#32) (exp (subf (cst 0x00000000#32) (absf z)))))
/-- The logarithm of the share of the stick a tile's positions leave. -/
def lkK (z : FVec F S256x256 .f32) : FVec F S256x256 .f32 := subf (lsK z) z
/-- What narrowing a tile loses. -/
def resK (x : FVec F S256x256 .f32) : FVec F S256x256 .f32 := subf x (wid (nar x))
/-- A tile times a matrix of ones and zeros, the tile cut into three narrow parts. -/
def splK (x : FVec F S256x256 .f32) (m : FVec F S256x256 .bf16) : FVec F S256x256 .f32 :=
  addf (addf (mmT (nar x) m) (mmT (nar (resK x)) m)) (mmT (nar (resK (resK x))) m)

/-- The weights of a tile in the backward pass, from the logarithms `ls` and `lk`. -/
def attB (upto : FVec F S256x256 .bf16) (ls lk : FVec F S256x256 .f32) (tot kl : FVec F S256x1 .f32) : FVec F S256x256 .f32 :=
  exp (subf (subf (addf ls (bc tot)) (bc kl)) (splK lk upto))
/-- The weights times their gradients. -/
def wB (att : FVec F S256x256 .f32) (d v : FVec F S256x128 .bf16) : FVec F S256x256 .f32 := mulf att (mmNT d v)
/-- The gradient of the logarithm of the logistic function's argument before masking and scaling. -/
def dz0 (before : FVec F S256x256 .bf16) (ls w : FVec F S256x256 .f32) (wl : FVec F S256x1 .f32) : FVec F S256x256 .f32 :=
  subf (mulf w (subf (cst 0x3F800000#32) (exp ls))) (mulf (exp ls) (addf (bc wl) (splK w before)))
/-- Its scaling, in the narrow format. -/
def scl (x : FVec F S256x256 .f32) : FVec F S256x256 .bf16 := nar (mulf x (cst 0x3DB504F3#32))

/-- The zero-one matrix that sums a tile's columns up to and with each one. -/
abbrev UPTO : FVec F S256x256 .bf16 := k1_pay183
/-- The zero-one matrix that sums a tile's columns before each one. -/
abbrev BEFORE : FVec F S256x256 .bf16 := k1_pay184

/-- The weights of a tile below the diagonal, one head. -/
def attU (q k : FVec F S256x128 .bf16) (tot kl : FVec F S256x1 .f32) : FVec F S256x256 .f32 :=
  attB UPTO (lsK (zK q k)) (lkK (zK q k)) tot kl
/-- The weights times their gradients, one head. -/
def wU (q k v d : FVec F S256x128 .bf16) (tot kl : FVec F S256x1 .f32) : FVec F S256x256 .f32 := wB (attU q k tot kl) d v
/-- The gradient of the scores, one head. -/
def dzU (q k v d : FVec F S256x128 .bf16) (tot kl wl : FVec F S256x1 .f32) : FVec F S256x256 .bf16 :=
  scl (dz0 BEFORE (lsK (zK q k)) (wU q k v d tot kl) wl)
/-- Where a tile on the diagonal holds rows before its own. -/
abbrev MASK : IVec S256x256 1 := k1_pay223
/-- The zero-one matrix that sums a tile's columns after each one. -/
abbrev AFTER : FVec F S256x256 .bf16 := k0_pay81
/-- A tile on the diagonal, zero but where it holds rows before its own. -/
def msk (x : FVec F S256x256 .f32) : FVec F S256x256 .f32 := select MASK x (cst 0x00000000#32)
/-- The weights of a tile on the diagonal, one head. -/
def attD (q k : FVec F S256x128 .bf16) (tot kl : FVec F S256x1 .f32) : FVec F S256x256 .f32 :=
  msk (attB UPTO (lsK (zK q k)) (msk (lkK (zK q k))) tot kl)
/-- The weights times their gradients on the diagonal, one head. -/
def wD (q k v d : FVec F S256x128 .bf16) (tot kl : FVec F S256x1 .f32) : FVec F S256x256 .f32 := wB (attD q k tot kl) d v
/-- The gradient of the scores on the diagonal, one head. -/
def dzD (q k v d : FVec F S256x128 .bf16) (tot kl wl : FVec F S256x1 .f32) : FVec F S256x256 .bf16 :=
  scl (msk (dz0 BEFORE (lsK (zK q k)) (wD q k v d tot kl) wl))
/-- The weights of a tile in the forward pass, from the logarithms `ls` and `lk` and the tiles after it. -/
def attF (ls lk : FVec F S256x256 .f32) (run : FVec F S256x1 .f32) : FVec F S256x256 .f32 :=
  exp (addf (addf ls (splK lk AFTER)) (bc run))
/-- The forward pass's weights below the diagonal, one head. -/
def attFU (q k : FVec F S256x128 .bf16) (run : FVec F S256x1 .f32) : FVec F S256x256 .f32 :=
  attF (lsK (zK q k)) (lkK (zK q k)) run
/-- The forward pass's weights on the diagonal, one head. -/
def attFD (q k : FVec F S256x128 .bf16) (run : FVec F S256x1 .f32) : FVec F S256x256 .f32 :=
  msk (attF (lsK (zK q k)) (msk (lkK (zK q k))) run)
/-- A block recast to its own shape. -/
def idc (x : FVec F S256x128 .f32) : FVec F S256x128 .f32 := shapeCast S256x128 x shapeCasts_S256x128_S256x128
/-- A block's rows of one head read from a buffer's contents. -/
abbrev rd (arg : Memref sig .tc .vmem S2048x512 .f32) (X : BufTy.Contents (Elt F) arg.view.ty) (off : Fin 2 → ℕ)
    (inb : ∀ a, off a + S256x128.size a ≤ S2048x512.size a) : FVec F S256x128 .bf16 :=
  nar' (arg.view.readAt (Elt F) (Rect.unit (s := S2048x512) off S256x128.size inb).toLoadRect X)

end Cert.KernelIdeal.Sba

end

end
-- ==== Proof.Bodies.lean ====
/- The backward kernel's stores as the tile's functions of what its buffers hold. -/
module

public import proofs.«01_k».proof.Proof.Steps
public import proofs.«01_k».proof.Proof.Gen.KernelIdeal.Frame

@[expose] public section

set_option maxRecDepth 16384

noncomputable section

namespace Cert.KernelIdeal.Sba

open Idealize.ShloMosaic Idealize.ShloMosaic.TcCoe Idealize.SL.Sem Cert.KernelIdeal Cert.KernelIdeal.Gen Cert.KernelIdeal.Facts

variable {F : FTy → Type} [FloatOps F]

/-- A block's columns of one head read from a buffer's contents, in the narrow format. -/
abbrev qb (arg : Memref sig .tc .vmem S256x512 .f32) (X : BufTy.Contents (Elt F) arg.view.ty) (off : Fin 2 → ℕ)
    (inb : ∀ a, off a + S256x128.size a ≤ S256x512.size a) : FVec F S256x128 .bf16 :=
  nar' (arg.view.readAt (Elt F) (Rect.unit (s := S256x512) off S256x128.size inb).toLoadRect X)
/-- One head's column of totals read from a buffer's contents. -/
abbrev tb (arg : Memref sig .tc .vmem S4x256x1 .f32) (X : BufTy.Contents (Elt F) arg.view.ty) (off : Fin 3 → ℕ)
    (inb : ∀ a, off a + S1x256x1.size a ≤ S4x256x1.size a) : FVec F S256x1 .f32 :=
  shapeCast S256x1 (arg.view.readAt (Elt F) (Rect.unit (s := S4x256x1) off S1x256x1.size inb).toLoadRect X) shapeCasts_S1x256x1_S256x1
/-- What the backward loop carries: each head's sum of what is left, of weights times gradients, and of the queries' gradient. -/
abbrev CarB (F : FTy → Type) : Type := FVec F S256x1 .f32 × FVec F S256x1 .f32 × FVec F S256x1 .f32 × FVec F S256x1 .f32 × FVec F S256x1 .f32 × FVec F S256x1 .f32 × FVec F S256x1 .f32 × FVec F S256x1 .f32 × FVec F S256x128 .f32 × FVec F S256x128 .f32 × FVec F S256x128 .f32 × FVec F S256x128 .f32
/-- A column of zeros. -/
abbrev z1 : FVec F S256x1 .f32 := broadcast S256x1 (Scalar.ofBits .f32 0x00000000#32)
/-- A block of zeros. -/
abbrev z128 : FVec F S256x128 .f32 := broadcast S256x128 (Scalar.ofBits .f32 0x00000000#32)
/-- What the backward loop begins with. -/
abbrev zB : CarB F := (z1, z1, z1, z1, z1, z1, z1, z1, z128, z128, z128, z128)
/-- A buffer's rows of one head with a block added to them: what is stored over the pieces `L` before. -/
abbrev acc (arg : Memref sig .tc .vmem S2048x512 .f32) (G : BufTy.Contents (Elt F) arg.view.ty) (off : Fin 2 → ℕ)
    (inb : ∀ a, off a + S256x128.size a ≤ S2048x512.size a) (D : FVec F S256x128 .f32)
    (L : List (View.Piece (Elt F) S2048x512 .f32)) : List (View.Piece (Elt F) S2048x512 .f32) :=
  ⟨Rect.unit (s := S2048x512) off S256x128.size inb,
    addf (idc (arg.view.readAt (Elt F) (Rect.unit (s := S2048x512) off S256x128.size inb).toLoadRect (arg.view.writes (Elt F) G L))) D⟩ :: L

section
variable (c : Dev nD) (i : grid1.Coords) (arg2 : Memref sig .tc .vmem S256x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S4x256x1 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S2048x512 .f32) (harg8 : arg8.IsWhole) (arg9 : Memref sig .tc .vmem S2048x512 .f32) (harg9 : arg9.IsWhole)

/-- The backward loop's state after `n` tiles. -/
def s1B (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (G8 : BufTy.Contents (Elt F) arg8.view.ty) (G9 : BufTy.Contents (Elt F) arg9.view.ty) (n : ℕ) : CarB F × List (View.Piece (Elt F) S2048x512 .f32) × List (View.Piece (Elt F) S2048x512 .f32) :=
  st_k1_t1 (F := F) Variants.none c none i arg2 harg2 arg3 harg3 arg4 harg4 arg5 harg5 arg6 harg6 arg7 harg7 arg8 harg8 arg9 harg9 (BitVec.ofNat 32 (i 1).val)
    (qb arg2 X2 ![0, 0] inb_S256x512_S256x128_0_0) (qb arg2 X2 ![0, 128] inb_S256x512_S256x128_0_128) (qb arg2 X2 ![0, 256] inb_S256x512_S256x128_0_256) (qb arg2 X2 ![0, 384] inb_S256x512_S256x128_0_384)
    (qb arg6 X6 ![0, 0] inb_S256x512_S256x128_0_0) (qb arg6 X6 ![0, 128] inb_S256x512_S256x128_0_128) (qb arg6 X6 ![0, 256] inb_S256x512_S256x128_0_256) (qb arg6 X6 ![0, 384] inb_S256x512_S256x128_0_384)
    (tb arg5 X5 ![0, 0, 0] inb_S4x256x1_S1x256x1_0_0_0) (tb arg5 X5 ![1, 0, 0] inb_S4x256x1_S1x256x1_1_0_0) (tb arg5 X5 ![2, 0, 0] inb_S4x256x1_S1x256x1_2_0_0) (tb arg5 X5 ![3, 0, 0] inb_S4x256x1_S1x256x1_3_0_0) X3 X4 G8 G9 zB n

/-- The state after the loop and its remainder. -/
def s2B (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (G8 : BufTy.Contents (Elt F) arg8.view.ty) (G9 : BufTy.Contents (Elt F) arg9.view.ty) (Y8 : BufTy.Contents (Elt F) arg8.view.ty) (Y9 : BufTy.Contents (Elt F) arg9.view.ty) : CarB F × List (View.Piece (Elt F) S2048x512 .f32) × List (View.Piece (Elt F) S2048x512 .f32) :=
  st_k1_t2 (F := F) Variants.none c none i arg2 harg2 arg3 harg3 arg4 harg4 arg5 harg5 arg6 harg6 arg7 harg7 arg8 harg8 arg9 harg9 (BitVec.ofNat 32 (i 1).val)
    (qb arg2 X2 ![0, 0] inb_S256x512_S256x128_0_0) (qb arg2 X2 ![0, 128] inb_S256x512_S256x128_0_128) (qb arg2 X2 ![0, 256] inb_S256x512_S256x128_0_256) (qb arg2 X2 ![0, 384] inb_S256x512_S256x128_0_384)
    (qb arg6 X6 ![0, 0] inb_S256x512_S256x128_0_0) (qb arg6 X6 ![0, 128] inb_S256x512_S256x128_0_128) (qb arg6 X6 ![0, 256] inb_S256x512_S256x128_0_256) (qb arg6 X6 ![0, 384] inb_S256x512_S256x128_0_384)
    (tb arg5 X5 ![0, 0, 0] inb_S4x256x1_S1x256x1_0_0_0) (tb arg5 X5 ![1, 0, 0] inb_S4x256x1_S1x256x1_1_0_0) (tb arg5 X5 ![2, 0, 0] inb_S4x256x1_S1x256x1_2_0_0) (tb arg5 X5 ![3, 0, 0] inb_S4x256x1_S1x256x1_3_0_0) (k1_t2_loop i).lb X3 X4
    Y8 Y9
    (s1B c i arg2 harg2 arg3 harg3 arg4 harg4 arg5 harg5 arg6 harg6 arg7 harg7 arg8 harg8 arg9 harg9 X2 X3 X4 X5 X6 G8 G9 (k1_t1_loop i).trips).1 (k1_t2_loop i).trips

/-- The stores of the keys' gradient: the loops' and, over them, the diagonal tile's. -/
def L6B (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (G8 : BufTy.Contents (Elt F) arg8.view.ty) (G9 : BufTy.Contents (Elt F) arg9.view.ty) (Y8 : BufTy.Contents (Elt F) arg8.view.ty) (Y9 : BufTy.Contents (Elt F) arg9.view.ty) (L : List (View.Piece (Elt F) S2048x512 .f32)) : List (View.Piece (Elt F) S2048x512 .f32) :=
  (acc arg8 G8 (k1_off12 i) (k1_off12_inb i) (mmTN (dzD (qb arg2 X2 ![0, 384] inb_S256x512_S256x128_0_384) (rd arg3 X3 (k1_off12 i) (k1_off12_inb i)) (rd arg4 X4 (k1_off12 i) (k1_off12_inb i)) (qb arg6 X6 ![0, 384] inb_S256x512_S256x128_0_384) (tb arg5 X5 ![3, 0, 0] inb_S4x256x1_S1x256x1_3_0_0) (s2B c i arg2 harg2 arg3 harg3 arg4 harg4 arg5 harg5 arg6 harg6 arg7 harg7 arg8 harg8 arg9 harg9 X2 X3 X4 X5 X6 G8 G9 Y8 Y9).1.2.2.2.1 (s2B c i arg2 harg2 arg3 harg3 arg4 harg4 arg5 harg5 arg6 harg6 arg7 harg7 arg8 harg8 arg9 harg9 X2 X3 X4 X5 X6 G8 G9 Y8 Y9).1.2.2.2.2.2.2.2.1) (qb arg2 X2 ![0, 384] inb_S256x512_S256x128_0_384))
    (acc arg8 G8 (k1_off11 i) (k1_off11_inb i) (mmTN (dzD (qb arg2 X2 ![0, 256] inb_S256x512_S256x128_0_256) (rd arg3 X3 (k1_off11 i) (k1_off11_inb i)) (rd arg4 X4 (k1_off11 i) (k1_off11_inb i)) (qb arg6 X6 ![0, 256] inb_S256x512_S256x128_0_256) (tb arg5 X5 ![2, 0, 0] inb_S4x256x1_S1x256x1_2_0_0) (s2B c i arg2 harg2 arg3 harg3 arg4 harg4 arg5 harg5 arg6 harg6 arg7 harg7 arg8 harg8 arg9 harg9 X2 X3 X4 X5 X6 G8 G9 Y8 Y9).1.2.2.1 (s2B c i arg2 harg2 arg3 harg3 arg4 harg4 arg5 harg5 arg6 harg6 arg7 harg7 arg8 harg8 arg9 harg9 X2 X3 X4 X5 X6 G8 G9 Y8 Y9).1.2.2.2.2.2.2.1) (qb arg2 X2 ![0, 256] inb_S256x512_S256x128_0_256))
    (acc arg8 G8 (k1_off10 i) (k1_off10_inb i) (mmTN (dzD (qb arg2 X2 ![0, 128] inb_S256x512_S256x128_0_128) (rd arg3 X3 (k1_off10 i) (k1_off10_inb i)) (rd arg4 X4 (k1_off10 i) (k1_off10_inb i)) (qb arg6 X6 ![0, 128] inb_S256x512_S256x128_0_128) (tb arg5 X5 ![1, 0, 0] inb_S4x256x1_S1x256x1_1_0_0) (s2B c i arg2 harg2 arg3 harg3 arg4 harg4 arg5 harg5 arg6 harg6 arg7 harg7 arg8 harg8 arg9 harg9 X2 X3 X4 X5 X6 G8 G9 Y8 Y9).1.2.1 (s2B c i arg2 harg2 arg3 harg3 arg4 harg4 arg5 harg5 arg6 harg6 arg7 harg7 arg8 harg8 arg9 harg9 X2 X3 X4 X5 X6 G8 G9 Y8 Y9).1.2.2.2.2.2.1) (qb arg2 X2 ![0, 128] inb_S256x512_S256x128_0_128))
    (acc arg8 G8 (k1_off9 i) (k1_off9_inb i) (mmTN (dzD (qb arg2 X2 ![0, 0] inb_S256x512_S256x128_0_0) (rd arg3 X3 (k1_off9 i) (k1_off9_inb i)) (rd arg4 X4 (k1_off9 i) (k1_off9_inb i)) (qb arg6 X6 ![0, 0] inb_S256x512_S256x128_0_0) (tb arg5 X5 ![0, 0, 0] inb_S4x256x1_S1x256x1_0_0_0) (s2B c i arg2 harg2 arg3 harg3 arg4 harg4 arg5 harg5 arg6 harg6 arg7 harg7 arg8 harg8 arg9 harg9 X2 X3 X4 X5 X6 G8 G9 Y8 Y9).1.1 (s2B c i arg2 harg2 arg3 harg3 arg4 harg4 arg5 harg5 arg6 harg6 arg7 harg7 arg8 harg8 arg9 harg9 X2 X3 X4 X5 X6 G8 G9 Y8 Y9).1.2.2.2.2.1) (qb arg2 X2 ![0, 0] inb_S256x512_S256x128_0_0))
    L))))

/-- The stores of the values' gradient. -/
def L7B (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (G8 : BufTy.Contents (Elt F) arg8.view.ty) (G9 : BufTy.Contents (Elt F) arg9.view.ty) (Y8 : BufTy.Contents (Elt F) arg8.view.ty) (Y9 : BufTy.Contents (Elt F) arg9.view.ty) (L : List (View.Piece (Elt F) S2048x512 .f32)) : List (View.Piece (Elt F) S2048x512 .f32) :=
  (acc arg9 G9 (k1_off12 i) (k1_off12_inb i) (mmTN (nar (attD (qb arg2 X2 ![0, 384] inb_S256x512_S256x128_0_384) (rd arg3 X3 (k1_off12 i) (k1_off12_inb i)) (tb arg5 X5 ![3, 0, 0] inb_S4x256x1_S1x256x1_3_0_0) (s2B c i arg2 harg2 arg3 harg3 arg4 harg4 arg5 harg5 arg6 harg6 arg7 harg7 arg8 harg8 arg9 harg9 X2 X3 X4 X5 X6 G8 G9 Y8 Y9).1.2.2.2.1)) (qb arg6 X6 ![0, 384] inb_S256x512_S256x128_0_384))
    (acc arg9 G9 (k1_off11 i) (k1_off11_inb i) (mmTN (nar (attD (qb arg2 X2 ![0, 256] inb_S256x512_S256x128_0_256) (rd arg3 X3 (k1_off11 i) (k1_off11_inb i)) (tb arg5 X5 ![2, 0, 0] inb_S4x256x1_S1x256x1_2_0_0) (s2B c i arg2 harg2 arg3 harg3 arg4 harg4 arg5 harg5 arg6 harg6 arg7 harg7 arg8 harg8 arg9 harg9 X2 X3 X4 X5 X6 G8 G9 Y8 Y9).1.2.2.1)) (qb arg6 X6 ![0, 256] inb_S256x512_S256x128_0_256))
    (acc arg9 G9 (k1_off10 i) (k1_off10_inb i) (mmTN (nar (attD (qb arg2 X2 ![0, 128] inb_S256x512_S256x128_0_128) (rd arg3 X3 (k1_off10 i) (k1_off10_inb i)) (tb arg5 X5 ![1, 0, 0] inb_S4x256x1_S1x256x1_1_0_0) (s2B c i arg2 harg2 arg3 harg3 arg4 harg4 arg5 harg5 arg6 harg6 arg7 harg7 arg8 harg8 arg9 harg9 X2 X3 X4 X5 X6 G8 G9 Y8 Y9).1.2.1)) (qb arg6 X6 ![0, 128] inb_S256x512_S256x128_0_128))
    (acc arg9 G9 (k1_off9 i) (k1_off9_inb i) (mmTN (nar (attD (qb arg2 X2 ![0, 0] inb_S256x512_S256x128_0_0) (rd arg3 X3 (k1_off9 i) (k1_off9_inb i)) (tb arg5 X5 ![0, 0, 0] inb_S4x256x1_S1x256x1_0_0_0) (s2B c i arg2 harg2 arg3 harg3 arg4 harg4 arg5 harg5 arg6 harg6 arg7 harg7 arg8 harg8 arg9 harg9 X2 X3 X4 X5 X6 G8 G9 Y8 Y9).1.1)) (qb arg6 X6 ![0, 0] inb_S256x512_S256x128_0_0))
    L))))

/-- The stores of the queries' gradient. -/
def L5B (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (G8 : BufTy.Contents (Elt F) arg8.view.ty) (G9 : BufTy.Contents (Elt F) arg9.view.ty) (Y8 : BufTy.Contents (Elt F) arg8.view.ty) (Y9 : BufTy.Contents (Elt F) arg9.view.ty) : List (View.Piece (Elt F) S256x512 .f32) :=
  [⟨Rect.unit (s := S256x512) ![0, 384] S256x128.size inb_S256x512_S256x128_0_384, addf (s2B c i arg2 harg2 arg3 harg3 arg4 harg4 arg5 harg5 arg6 harg6 arg7 harg7 arg8 harg8 arg9 harg9 X2 X3 X4 X5 X6 G8 G9 Y8 Y9).1.2.2.2.2.2.2.2.2.2.2.2 (mmN (dzD (qb arg2 X2 ![0, 384] inb_S256x512_S256x128_0_384) (rd arg3 X3 (k1_off12 i) (k1_off12_inb i)) (rd arg4 X4 (k1_off12 i) (k1_off12_inb i)) (qb arg6 X6 ![0, 384] inb_S256x512_S256x128_0_384) (tb arg5 X5 ![3, 0, 0] inb_S4x256x1_S1x256x1_3_0_0) (s2B c i arg2 harg2 arg3 harg3 arg4 harg4 arg5 harg5 arg6 harg6 arg7 harg7 arg8 harg8 arg9 harg9 X2 X3 X4 X5 X6 G8 G9 Y8 Y9).1.2.2.2.1 (s2B c i arg2 harg2 arg3 harg3 arg4 harg4 arg5 harg5 arg6 harg6 arg7 harg7 arg8 harg8 arg9 harg9 X2 X3 X4 X5 X6 G8 G9 Y8 Y9).1.2.2.2.2.2.2.2.1) (rd arg3 X3 (k1_off12 i) (k1_off12_inb i)))⟩,
   ⟨Rect.unit (s := S256x512) ![0, 256] S256x128.size inb_S256x512_S256x128_0_256, addf (s2B c i arg2 harg2 arg3 harg3 arg4 harg4 arg5 harg5 arg6 harg6 arg7 harg7 arg8 harg8 arg9 harg9 X2 X3 X4 X5 X6 G8 G9 Y8 Y9).1.2.2.2.2.2.2.2.2.2.2.1 (mmN (dzD (qb arg2 X2 ![0, 256] inb_S256x512_S256x128_0_256) (rd arg3 X3 (k1_off11 i) (k1_off11_inb i)) (rd arg4 X4 (k1_off11 i) (k1_off11_inb i)) (qb arg6 X6 ![0, 256] inb_S256x512_S256x128_0_256) (tb arg5 X5 ![2, 0, 0] inb_S4x256x1_S1x256x1_2_0_0) (s2B c i arg2 harg2 arg3 harg3 arg4 harg4 arg5 harg5 arg6 harg6 arg7 harg7 arg8 harg8 arg9 harg9 X2 X3 X4 X5 X6 G8 G9 Y8 Y9).1.2.2.1 (s2B c i arg2 harg2 arg3 harg3 arg4 harg4 arg5 harg5 arg6 harg6 arg7 harg7 arg8 harg8 arg9 harg9 X2 X3 X4 X5 X6 G8 G9 Y8 Y9).1.2.2.2.2.2.2.1) (rd arg3 X3 (k1_off11 i) (k1_off11_inb i)))⟩,
   ⟨Rect.unit (s := S256x512) ![0, 128] S256x128.size inb_S256x512_S256x128_0_128, addf (s2B c i arg2 harg2 arg3 harg3 arg4 harg4 arg5 harg5 arg6 harg6 arg7 harg7 arg8 harg8 arg9 harg9 X2 X3 X4 X5 X6 G8 G9 Y8 Y9).1.2.2.2.2.2.2.2.2.2.1 (mmN (dzD (qb arg2 X2 ![0, 128] inb_S256x512_S256x128_0_128) (rd arg3 X3 (k1_off10 i) (k1_off10_inb i)) (rd arg4 X4 (k1_off10 i) (k1_off10_inb i)) (qb arg6 X6 ![0, 128] inb_S256x512_S256x128_0_128) (tb arg5 X5 ![1, 0, 0] inb_S4x256x1_S1x256x1_1_0_0) (s2B c i arg2 harg2 arg3 harg3 arg4 harg4 arg5 harg5 arg6 harg6 arg7 harg7 arg8 harg8 arg9 harg9 X2 X3 X4 X5 X6 G8 G9 Y8 Y9).1.2.1 (s2B c i arg2 harg2 arg3 harg3 arg4 harg4 arg5 harg5 arg6 harg6 arg7 harg7 arg8 harg8 arg9 harg9 X2 X3 X4 X5 X6 G8 G9 Y8 Y9).1.2.2.2.2.2.1) (rd arg3 X3 (k1_off10 i) (k1_off10_inb i)))⟩,
   ⟨Rect.unit (s := S256x512) ![0, 0] S256x128.size inb_S256x512_S256x128_0_0, addf (s2B c i arg2 harg2 arg3 harg3 arg4 harg4 arg5 harg5 arg6 harg6 arg7 harg7 arg8 harg8 arg9 harg9 X2 X3 X4 X5 X6 G8 G9 Y8 Y9).1.2.2.2.2.2.2.2.2.1 (mmN (dzD (qb arg2 X2 ![0, 0] inb_S256x512_S256x128_0_0) (rd arg3 X3 (k1_off9 i) (k1_off9_inb i)) (rd arg4 X4 (k1_off9 i) (k1_off9_inb i)) (qb arg6 X6 ![0, 0] inb_S256x512_S256x128_0_0) (tb arg5 X5 ![0, 0, 0] inb_S4x256x1_S1x256x1_0_0_0) (s2B c i arg2 harg2 arg3 harg3 arg4 harg4 arg5 harg5 arg6 harg6 arg7 harg7 arg8 harg8 arg9 harg9 X2 X3 X4 X5 X6 G8 G9 Y8 Y9).1.1 (s2B c i arg2 harg2 arg3 harg3 arg4 harg4 arg5 harg5 arg6 harg6 arg7 harg7 arg8 harg8 arg9 harg9 X2 X3 X4 X5 X6 G8 G9 Y8 Y9).1.2.2.2.2.1) (rd arg3 X3 (k1_off9 i) (k1_off9_inb i)))⟩]

end

section
variable (c : Dev nD) (i : grid1.Coords) (arg2 : Memref sig .tc .vmem S256x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S4x256x1 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S2048x512 .f32) (harg8 : arg8.IsWhole) (arg9 : Memref sig .tc .vmem S2048x512 .f32) (harg9 : arg9.IsWhole)
variable (x0 : Vec F S256x512 .f32) (x1 : Vec F S2048x512 .f32) (x2 : Vec F S2048x512 .f32) (x3 : Vec F S4x256x1 .f32) (x4 : Vec F S256x512 .f32)

/-- The store that fills a block with zeros. -/
abbrev zp : List (View.Piece (Elt F) S2048x512 .f32) :=
  [⟨Rect.unit (s := S2048x512) ![0, 0] S2048x512.size inb_S2048x512_S2048x512_0_0, (broadcast S2048x512 (Scalar.ofBits .f32 0x00000000#32) : FVec F S2048x512 .f32)⟩]
/-- What a block's buffer holds once it is filled with zeros. -/
abbrev zero8 (arg : Memref sig .tc .vmem S2048x512 .f32) : BufTy.Contents (Elt F) arg.view.ty := arg.view.writes (Elt F) arg.view.junk zp

set_option maxHeartbeats 1000000
attribute [local irreducible] st_k1_t1 st_k1_t2 Scf.trips mulf addf subf exp

theorem run1_B_5 (hc0 : ¬cond1_0 i) (xo6 : Vec F S2048x512 .f32) (xo7 : Vec F S2048x512 .f32) :
    (kernelRun1_B c i arg2 harg2 arg3 harg3 arg4 harg4 arg5 harg5 arg6 harg6 arg7 harg7 arg8 harg8 arg9 harg9 hc0 x0 x1 x2 x3 x4 xo6 xo7).1
      = L5B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7)
        (arg8.view.writes (Elt F) (harg8.unread xo6) (s1B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7) (k1_t1_loop i).trips).2.1)
        (arg9.view.writes (Elt F) (harg9.unread xo7) (s1B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7) (k1_t1_loop i).trips).2.2) := by
  unfold kernelRun1_B
  rfl

theorem run1_B_6 (hc0 : ¬cond1_0 i) (xo6 : Vec F S2048x512 .f32) (xo7 : Vec F S2048x512 .f32) :
    (kernelRun1_B c i arg2 harg2 arg3 harg3 arg4 harg4 arg5 harg5 arg6 harg6 arg7 harg7 arg8 harg8 arg9 harg9 hc0 x0 x1 x2 x3 x4 xo6 xo7).2.1
      = L6B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7)
        (arg8.view.writes (Elt F) (harg8.unread xo6) (s1B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7) (k1_t1_loop i).trips).2.1)
        (arg9.view.writes (Elt F) (harg9.unread xo7) (s1B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7) (k1_t1_loop i).trips).2.2) ((s2B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7)
        (arg8.view.writes (Elt F) (harg8.unread xo6) (s1B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7) (k1_t1_loop i).trips).2.1)
        (arg9.view.writes (Elt F) (harg9.unread xo7) (s1B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7) (k1_t1_loop i).trips).2.2)).2.1 ++ (s1B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7) (k1_t1_loop i).trips).2.1) := by
  unfold kernelRun1_B
  rfl

theorem run1_B_7 (hc0 : ¬cond1_0 i) (xo6 : Vec F S2048x512 .f32) (xo7 : Vec F S2048x512 .f32) :
    (kernelRun1_B c i arg2 harg2 arg3 harg3 arg4 harg4 arg5 harg5 arg6 harg6 arg7 harg7 arg8 harg8 arg9 harg9 hc0 x0 x1 x2 x3 x4 xo6 xo7).2.2.1
      = L7B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7)
        (arg8.view.writes (Elt F) (harg8.unread xo6) (s1B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7) (k1_t1_loop i).trips).2.1)
        (arg9.view.writes (Elt F) (harg9.unread xo7) (s1B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7) (k1_t1_loop i).trips).2.2) ((s2B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7)
        (arg8.view.writes (Elt F) (harg8.unread xo6) (s1B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7) (k1_t1_loop i).trips).2.1)
        (arg9.view.writes (Elt F) (harg9.unread xo7) (s1B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7) (k1_t1_loop i).trips).2.2)).2.2 ++ (s1B c i arg2 harg2 arg3 harg3 arg4 harg4 arg5 harg5 arg6 harg6 arg7 harg7 arg8 harg8 arg9 harg9 (harg2.unread x0) (harg3.unread x1) (harg4.unread x2) (harg5.unread x3) (harg6.unread x4) (harg8.unread xo6) (harg9.unread xo7) (k1_t1_loop i).trips).2.2) := by
  unfold kernelRun1_B
  rfl

theorem run1_A_5 (hc0 : cond1_0 i) :
    (kernelRun1_A c i arg2 harg2 arg3 harg3 arg4 harg4 arg5 harg5 arg6 harg6 arg7 harg7 arg8 harg8 arg9 harg9 hc0 x0 x1 x2 x3 x4).1
      = L5B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9)
        (arg8.view.writes (Elt F) arg8.view.junk ((s1B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9) (k1_t1_loop i).trips).2.1 ++ zp))
        (arg9.view.writes (Elt F) arg9.view.junk ((s1B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9) (k1_t1_loop i).trips).2.2 ++ zp)) := by
  unfold kernelRun1_A
  rfl

/-- The stores of the keys' gradient at the first tile of rows. -/
def L6A (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (Y8 : BufTy.Contents (Elt F) arg8.view.ty) (Y9 : BufTy.Contents (Elt F) arg9.view.ty) (L : List (View.Piece (Elt F) S2048x512 .f32)) : List (View.Piece (Elt F) S2048x512 .f32) :=
  (acc arg8 arg8.view.junk (k1_off12 i) (k1_off12_inb i) (mmTN (dzD (qb arg2 X2 ![0, 384] inb_S256x512_S256x128_0_384) (rd arg3 X3 (k1_off12 i) (k1_off12_inb i)) (rd arg4 X4 (k1_off12 i) (k1_off12_inb i)) (qb arg6 X6 ![0, 384] inb_S256x512_S256x128_0_384) (tb arg5 X5 ![3, 0, 0] inb_S4x256x1_S1x256x1_3_0_0) (s2B c i arg2 harg2 arg3 harg3 arg4 harg4 arg5 harg5 arg6 harg6 arg7 harg7 arg8 harg8 arg9 harg9 X2 X3 X4 X5 X6 (zero8 arg8) (zero8 arg9) Y8 Y9).1.2.2.2.1 (s2B c i arg2 harg2 arg3 harg3 arg4 harg4 arg5 harg5 arg6 harg6 arg7 harg7 arg8 harg8 arg9 harg9 X2 X3 X4 X5 X6 (zero8 arg8) (zero8 arg9) Y8 Y9).1.2.2.2.2.2.2.2.1) (qb arg2 X2 ![0, 384] inb_S256x512_S256x128_0_384))
    (acc arg8 arg8.view.junk (k1_off11 i) (k1_off11_inb i) (mmTN (dzD (qb arg2 X2 ![0, 256] inb_S256x512_S256x128_0_256) (rd arg3 X3 (k1_off11 i) (k1_off11_inb i)) (rd arg4 X4 (k1_off11 i) (k1_off11_inb i)) (qb arg6 X6 ![0, 256] inb_S256x512_S256x128_0_256) (tb arg5 X5 ![2, 0, 0] inb_S4x256x1_S1x256x1_2_0_0) (s2B c i arg2 harg2 arg3 harg3 arg4 harg4 arg5 harg5 arg6 harg6 arg7 harg7 arg8 harg8 arg9 harg9 X2 X3 X4 X5 X6 (zero8 arg8) (zero8 arg9) Y8 Y9).1.2.2.1 (s2B c i arg2 harg2 arg3 harg3 arg4 harg4 arg5 harg5 arg6 harg6 arg7 harg7 arg8 harg8 arg9 harg9 X2 X3 X4 X5 X6 (zero8 arg8) (zero8 arg9) Y8 Y9).1.2.2.2.2.2.2.1) (qb arg2 X2 ![0, 256] inb_S256x512_S256x128_0_256))
    (acc arg8 arg8.view.junk (k1_off10 i) (k1_off10_inb i) (mmTN (dzD (qb arg2 X2 ![0, 128] inb_S256x512_S256x128_0_128) (rd arg3 X3 (k1_off10 i) (k1_off10_inb i)) (rd arg4 X4 (k1_off10 i) (k1_off10_inb i)) (qb arg6 X6 ![0, 128] inb_S256x512_S256x128_0_128) (tb arg5 X5 ![1, 0, 0] inb_S4x256x1_S1x256x1_1_0_0) (s2B c i arg2 harg2 arg3 harg3 arg4 harg4 arg5 harg5 arg6 harg6 arg7 harg7 arg8 harg8 arg9 harg9 X2 X3 X4 X5 X6 (zero8 arg8) (zero8 arg9) Y8 Y9).1.2.1 (s2B c i arg2 harg2 arg3 harg3 arg4 harg4 arg5 harg5 arg6 harg6 arg7 harg7 arg8 harg8 arg9 harg9 X2 X3 X4 X5 X6 (zero8 arg8) (zero8 arg9) Y8 Y9).1.2.2.2.2.2.1) (qb arg2 X2 ![0, 128] inb_S256x512_S256x128_0_128))
    (acc arg8 arg8.view.junk (k1_off9 i) (k1_off9_inb i) (mmTN (dzD (qb arg2 X2 ![0, 0] inb_S256x512_S256x128_0_0) (rd arg3 X3 (k1_off9 i) (k1_off9_inb i)) (rd arg4 X4 (k1_off9 i) (k1_off9_inb i)) (qb arg6 X6 ![0, 0] inb_S256x512_S256x128_0_0) (tb arg5 X5 ![0, 0, 0] inb_S4x256x1_S1x256x1_0_0_0) (s2B c i arg2 harg2 arg3 harg3 arg4 harg4 arg5 harg5 arg6 harg6 arg7 harg7 arg8 harg8 arg9 harg9 X2 X3 X4 X5 X6 (zero8 arg8) (zero8 arg9) Y8 Y9).1.1 (s2B c i arg2 harg2 arg3 harg3 arg4 harg4 arg5 harg5 arg6 harg6 arg7 harg7 arg8 harg8 arg9 harg9 X2 X3 X4 X5 X6 (zero8 arg8) (zero8 arg9) Y8 Y9).1.2.2.2.2.1) (qb arg2 X2 ![0, 0] inb_S256x512_S256x128_0_0))
    L))))

theorem run1_A_6 (hc0 : cond1_0 i) :
    (kernelRun1_A c i arg2 harg2 arg3 harg3 arg4 harg4 arg5 harg5 arg6 harg6 arg7 harg7 arg8 harg8 arg9 harg9 hc0 x0 x1 x2 x3 x4).2.1
      = L6A c i arg2 harg2 arg3 harg3 arg4 harg4 arg5 harg5 arg6 harg6 arg7 harg7 arg8 harg8 arg9 harg9 (harg2.unread x0) (harg3.unread x1) (harg4.unread x2) (harg5.unread x3) (harg6.unread x4)
        (arg8.view.writes (Elt F) arg8.view.junk ((s1B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9) (k1_t1_loop i).trips).2.1 ++ zp))
        (arg9.view.writes (Elt F) arg9.view.junk ((s1B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9) (k1_t1_loop i).trips).2.2 ++ zp)) ((s2B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9)
        (arg8.view.writes (Elt F) arg8.view.junk ((s1B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9) (k1_t1_loop i).trips).2.1 ++ zp))
        (arg9.view.writes (Elt F) arg9.view.junk ((s1B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9) (k1_t1_loop i).trips).2.2 ++ zp))).2.1 ++ ((s1B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9) (k1_t1_loop i).trips).2.1 ++ zp)) := by
  unfold kernelRun1_A
  rfl

/-- The stores of the values' gradient at the first tile of rows. -/
def L7A (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (Y8 : BufTy.Contents (Elt F) arg8.view.ty) (Y9 : BufTy.Contents (Elt F) arg9.view.ty) (L : List (View.Piece (Elt F) S2048x512 .f32)) : List (View.Piece (Elt F) S2048x512 .f32) :=
  (acc arg9 arg9.view.junk (k1_off12 i) (k1_off12_inb i) (mmTN (nar (attD (qb arg2 X2 ![0, 384] inb_S256x512_S256x128_0_384) (rd arg3 X3 (k1_off12 i) (k1_off12_inb i)) (tb arg5 X5 ![3, 0, 0] inb_S4x256x1_S1x256x1_3_0_0) (s2B c i arg2 harg2 arg3 harg3 arg4 harg4 arg5 harg5 arg6 harg6 arg7 harg7 arg8 harg8 arg9 harg9 X2 X3 X4 X5 X6 (zero8 arg8) (zero8 arg9) Y8 Y9).1.2.2.2.1)) (qb arg6 X6 ![0, 384] inb_S256x512_S256x128_0_384))
    (acc arg9 arg9.view.junk (k1_off11 i) (k1_off11_inb i) (mmTN (nar (attD (qb arg2 X2 ![0, 256] inb_S256x512_S256x128_0_256) (rd arg3 X3 (k1_off11 i) (k1_off11_inb i)) (tb arg5 X5 ![2, 0, 0] inb_S4x256x1_S1x256x1_2_0_0) (s2B c i arg2 harg2 arg3 harg3 arg4 harg4 arg5 harg5 arg6 harg6 arg7 harg7 arg8 harg8 arg9 harg9 X2 X3 X4 X5 X6 (zero8 arg8) (zero8 arg9) Y8 Y9).1.2.2.1)) (qb arg6 X6 ![0, 256] inb_S256x512_S256x128_0_256))
    (acc arg9 arg9.view.junk (k1_off10 i) (k1_off10_inb i) (mmTN (nar (attD (qb arg2 X2 ![0, 128] inb_S256x512_S256x128_0_128) (rd arg3 X3 (k1_off10 i) (k1_off10_inb i)) (tb arg5 X5 ![1, 0, 0] inb_S4x256x1_S1x256x1_1_0_0) (s2B c i arg2 harg2 arg3 harg3 arg4 harg4 arg5 harg5 arg6 harg6 arg7 harg7 arg8 harg8 arg9 harg9 X2 X3 X4 X5 X6 (zero8 arg8) (zero8 arg9) Y8 Y9).1.2.1)) (qb arg6 X6 ![0, 128] inb_S256x512_S256x128_0_128))
    (acc arg9 arg9.view.junk (k1_off9 i) (k1_off9_inb i) (mmTN (nar (attD (qb arg2 X2 ![0, 0] inb_S256x512_S256x128_0_0) (rd arg3 X3 (k1_off9 i) (k1_off9_inb i)) (tb arg5 X5 ![0, 0, 0] inb_S4x256x1_S1x256x1_0_0_0) (s2B c i arg2 harg2 arg3 harg3 arg4 harg4 arg5 harg5 arg6 harg6 arg7 harg7 arg8 harg8 arg9 harg9 X2 X3 X4 X5 X6 (zero8 arg8) (zero8 arg9) Y8 Y9).1.1)) (qb arg6 X6 ![0, 0] inb_S256x512_S256x128_0_0))
    L))))

theorem run1_A_7 (hc0 : cond1_0 i) :
    (kernelRun1_A c i arg2 harg2 arg3 harg3 arg4 harg4 arg5 harg5 arg6 harg6 arg7 harg7 arg8 harg8 arg9 harg9 hc0 x0 x1 x2 x3 x4).2.2.1
      = L7A c i arg2 harg2 arg3 harg3 arg4 harg4 arg5 harg5 arg6 harg6 arg7 harg7 arg8 harg8 arg9 harg9 (harg2.unread x0) (harg3.unread x1) (harg4.unread x2) (harg5.unread x3) (harg6.unread x4)
        (arg8.view.writes (Elt F) arg8.view.junk ((s1B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9) (k1_t1_loop i).trips).2.1 ++ zp))
        (arg9.view.writes (Elt F) arg9.view.junk ((s1B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9) (k1_t1_loop i).trips).2.2 ++ zp)) ((s2B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9)
        (arg8.view.writes (Elt F) arg8.view.junk ((s1B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9) (k1_t1_loop i).trips).2.1 ++ zp))
        (arg9.view.writes (Elt F) arg9.view.junk ((s1B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9) (k1_t1_loop i).trips).2.2 ++ zp))).2.2 ++ ((s1B c i arg2 harg2 arg3 harg3 arg4 harg4 arg5 harg5 arg6 harg6 arg7 harg7 arg8 harg8 arg9 harg9 (harg2.unread x0) (harg3.unread x1) (harg4.unread x2) (harg5.unread x3) (harg6.unread x4) (zero8 arg8) (zero8 arg9) (k1_t1_loop i).trips).2.2 ++ zp)) := by
  unfold kernelRun1_A
  rfl

end

end Cert.KernelIdeal.Sba

end

end
-- ==== Proof.FwdBodies.lean ====
module

public import proofs.«01_k».proof.Proof.Bodies

@[expose] public section

set_option maxRecDepth 16384

noncomputable section

namespace Cert.KernelIdeal.Sba

open Idealize.ShloMosaic Idealize.ShloMosaic.TcCoe Idealize.SL.Sem Cert.KernelIdeal Cert.KernelIdeal.Gen Cert.KernelIdeal.Facts

variable {F : FTy → Type} [FloatOps F]

/-- What the forward loop carries: each head's sum of what is left, and of weighted values. -/
abbrev CarF (F : FTy → Type) : Type := FVec F S256x1 .f32 × FVec F S256x1 .f32 × FVec F S256x1 .f32 × FVec F S256x1 .f32 × FVec F S256x128 .f32 × FVec F S256x128 .f32 × FVec F S256x128 .f32 × FVec F S256x128 .f32
/-- One head's sum of what is left, with a tile's added. -/
def runU (q k : FVec F S256x128 .bf16) (r : FVec F S256x1 .f32) : FVec F S256x1 .f32 := addf r (rowSum (lkK (zK q k)))
/-- One head's sum of weighted values, with a tile's added. -/
def accU (q k v : FVec F S256x128 .bf16) (r : FVec F S256x1 .f32) (a : FVec F S256x128 .f32) : FVec F S256x128 .f32 :=
  addf a (mmN (nar (attFU q k r)) v)
/-- One head's sum of what is left over the tile on the diagonal. -/
def runD (q k : FVec F S256x128 .bf16) : FVec F S256x1 .f32 := addf z1 (rowSum (msk (lkK (zK q k))))
/-- One head's sum of weighted values over the tile on the diagonal. -/
def accD (q k v : FVec F S256x128 .bf16) : FVec F S256x128 .f32 := addf z128 (mmN (nar (attFD q k z1)) v)
/-- A head's column of sums, as it is stored. -/
def colS (x : FVec F S256x1 .f32) : FVec F S1x256x1 .f32 := shapeCast S1x256x1 x shapeCasts_S256x1_S1x256x1

section
variable (c : Dev nD) (i : grid0.Coords) (arg2 : Memref sig .tc .vmem S256x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S256x512 .f32) (harg5 : arg5.IsWhole) (arg6 : Memref sig .tc .vmem S4x256x1 .f32) (harg6 : arg6.IsWhole)

/-- One tile of the forward loop. -/
theorem trip0 (arg1 c0 : BitVec 32) (v1 v3 v5 v7 : FVec F S256x128 .bf16) (X3 : BufTy.Contents (Elt F) arg3.view.ty) (X4 : BufTy.Contents (Elt F) arg4.view.ty)
    (k : Fin (k0_t1_loop i).trips) (r1 r2 r3 r4 : FVec F S256x1 .f32) (a1 a2 a3 a4 : FVec F S256x128 .f32) :
    (trip_k0_t1 (F := F) Variants.none c none i arg2 harg2 arg3 harg3 arg4 harg4 arg5 harg5 arg6 harg6 arg1 v1 v3 v5 v7 AFTER c0 X3 X4 k).1 (r1,r2,r3,r4,a1,a2,a3,a4) =
      (runU v1 (rd arg3 X3 (k0_off5 i k) (k0_off5_inb i k)) r1,
      runU v3 (rd arg3 X3 (k0_off6 i k) (k0_off6_inb i k)) r2,
      runU v5 (rd arg3 X3 (k0_off7 i k) (k0_off7_inb i k)) r3,
      runU v7 (rd arg3 X3 (k0_off8 i k) (k0_off8_inb i k)) r4,
      accU v1 (rd arg3 X3 (k0_off5 i k) (k0_off5_inb i k)) (rd arg4 X4 (k0_off5 i k) (k0_off5_inb i k)) r1 a1,
      accU v3 (rd arg3 X3 (k0_off6 i k) (k0_off6_inb i k)) (rd arg4 X4 (k0_off6 i k) (k0_off6_inb i k)) r2 a2,
      accU v5 (rd arg3 X3 (k0_off7 i k) (k0_off7_inb i k)) (rd arg4 X4 (k0_off7 i k) (k0_off7_inb i k)) r3 a3,
      accU v7 (rd arg3 X3 (k0_off8 i k) (k0_off8_inb i k)) (rd arg4 X4 (k0_off8 i k) (k0_off8_inb i k)) r4 a4) := by
  unfold trip_k0_t1
  rfl

variable (X2 : BufTy.Contents (Elt F) arg2.view.ty) (X3 : BufTy.Contents (Elt F) arg3.view.ty) (X4 : BufTy.Contents (Elt F) arg4.view.ty)

/-- What the forward loop begins with: the tile on the diagonal. -/
def iniF : CarF F := (runD (qb arg2 X2 ![0, 0] inb_S256x512_S256x128_0_0) (rd arg3 X3 (k0_off1 i) (k0_off1_inb i)),
      runD (qb arg2 X2 ![0, 128] inb_S256x512_S256x128_0_128) (rd arg3 X3 (k0_off2 i) (k0_off2_inb i)),
      runD (qb arg2 X2 ![0, 256] inb_S256x512_S256x128_0_256) (rd arg3 X3 (k0_off3 i) (k0_off3_inb i)),
      runD (qb arg2 X2 ![0, 384] inb_S256x512_S256x128_0_384) (rd arg3 X3 (k0_off4 i) (k0_off4_inb i)),
      accD (qb arg2 X2 ![0, 0] inb_S256x512_S256x128_0_0) (rd arg3 X3 (k0_off1 i) (k0_off1_inb i)) (rd arg4 X4 (k0_off1 i) (k0_off1_inb i)),
      accD (qb arg2 X2 ![0, 128] inb_S256x512_S256x128_0_128) (rd arg3 X3 (k0_off2 i) (k0_off2_inb i)) (rd arg4 X4 (k0_off2 i) (k0_off2_inb i)),
      accD (qb arg2 X2 ![0, 256] inb_S256x512_S256x128_0_256) (rd arg3 X3 (k0_off3 i) (k0_off3_inb i)) (rd arg4 X4 (k0_off3 i) (k0_off3_inb i)),
      accD (qb arg2 X2 ![0, 384] inb_S256x512_S256x128_0_384) (rd arg3 X3 (k0_off4 i) (k0_off4_inb i)) (rd arg4 X4 (k0_off4 i) (k0_off4_inb i)))

/-- The forward loop's state after `n` tiles. -/
abbrev s1F (n : ℕ) : CarF F :=
  st_k0_t1 Variants.none c none i arg2 harg2 arg3 harg3 arg4 harg4 arg5 harg5 arg6 harg6 (BitVec.ofNat 32 (i 1).val) (qb arg2 X2 ![0, 0] inb_S256x512_S256x128_0_0) (qb arg2 X2 ![0, 128] inb_S256x512_S256x128_0_128) (qb arg2 X2 ![0, 256] inb_S256x512_S256x128_0_256) (qb arg2 X2 ![0, 384] inb_S256x512_S256x128_0_384) AFTER (0#32) X3 X4 (iniF i arg2 arg3 arg4 X2 X3 X4) n

/-- The state after the loop's remainder, which makes no trip. -/
abbrev s2F (v : BitVec 32) (a : CarF F) (n : ℕ) : CarF F :=
  st_k0_t2 Variants.none c none i arg2 harg2 arg3 harg3 arg4 harg4 arg5 harg5 arg6 harg6 (BitVec.ofNat 32 (i 1).val) (qb arg2 X2 ![0, 0] inb_S256x512_S256x128_0_0) (qb arg2 X2 ![0, 128] inb_S256x512_S256x128_0_128) (qb arg2 X2 ![0, 256] inb_S256x512_S256x128_0_256) (qb arg2 X2 ![0, 384] inb_S256x512_S256x128_0_384) AFTER v X3 X4 (a.1,a.2.1,a.2.2.1,a.2.2.2.1,a.2.2.2.2.1,a.2.2.2.2.2.1,a.2.2.2.2.2.2.1,a.2.2.2.2.2.2.2) n

/-- The forward pass's stores of the results, the last first. -/
def L3F (a : CarF F) : List (View.Piece (Elt F) S256x512 .f32) :=
  [⟨Rect.unit (s := S256x512) ![0, 384] S256x128.size inb_S256x512_S256x128_0_384, a.2.2.2.2.2.2.2⟩,
   ⟨Rect.unit (s := S256x512) ![0, 256] S256x128.size inb_S256x512_S256x128_0_256, a.2.2.2.2.2.2.1⟩,
   ⟨Rect.unit (s := S256x512) ![0, 128] S256x128.size inb_S256x512_S256x128_0_128, a.2.2.2.2.2.1⟩,
   ⟨Rect.unit (s := S256x512) ![0, 0] S256x128.size inb_S256x512_S256x128_0_0, a.2.2.2.2.1⟩]
/-- The forward pass's stores of what is left, the last first. -/
def L4F (a : CarF F) : List (View.Piece (Elt F) S4x256x1 .f32) :=
  [⟨Rect.unit (s := S4x256x1) ![3, 0, 0] S1x256x1.size inb_S4x256x1_S1x256x1_3_0_0, colS a.2.2.2.1⟩,
   ⟨Rect.unit (s := S4x256x1) ![2, 0, 0] S1x256x1.size inb_S4x256x1_S1x256x1_2_0_0, colS a.2.2.1⟩,
   ⟨Rect.unit (s := S4x256x1) ![1, 0, 0] S1x256x1.size inb_S4x256x1_S1x256x1_1_0_0, colS a.2.1⟩,
   ⟨Rect.unit (s := S4x256x1) ![0, 0, 0] S1x256x1.size inb_S4x256x1_S1x256x1_0_0_0, colS a.1⟩]

variable (x0 : Vec F S256x512 .f32) (x1 : Vec F S2048x512 .f32) (x2 : Vec F S2048x512 .f32)

/-- What the loop's remainder begins at. -/
abbrev endF (i : grid0.Coords) : BitVec 32 := (k0_t1_loop i).ub

attribute [local irreducible] st_k0_t1 st_k0_t2 Scf.trips mulf addf subf exp

set_option maxHeartbeats 1000000 in
theorem run0_3 : (kernelRun0_A c i arg2 harg2 arg3 harg3 arg4 harg4 arg5 harg5 arg6 harg6 x0 x1 x2).1
      = L3F (s2F c i arg2 harg2 arg3 harg3 arg4 harg4 arg5 harg5 arg6 harg6 (harg2.unread x0) (harg3.unread x1) (harg4.unread x2) (endF i)
        (s1F c i arg2 harg2 arg3 harg3 arg4 harg4 arg5 harg5 arg6 harg6 (harg2.unread x0) (harg3.unread x1) (harg4.unread x2) (k0_t1_loop i).trips) (k0_t2_loop i).trips) := by
  unfold kernelRun0_A
  rfl

set_option maxHeartbeats 1000000 in
theorem run0_4 : (kernelRun0_A c i arg2 harg2 arg3 harg3 arg4 harg4 arg5 harg5 arg6 harg6 x0 x1 x2).2.1
      = L4F (s2F c i arg2 harg2 arg3 harg3 arg4 harg4 arg5 harg5 arg6 harg6 (harg2.unread x0) (harg3.unread x1) (harg4.unread x2) (endF i)
        (s1F c i arg2 harg2 arg3 harg3 arg4 harg4 arg5 harg5 arg6 harg6 (harg2.unread x0) (harg3.unread x1) (harg4.unread x2) (k0_t1_loop i).trips) (k0_t2_loop i).trips) := by
  unfold kernelRun0_A
  rfl
end

end Cert.KernelIdeal.Sba

end

end
-- ==== Proof.Tile.lean ====
/- The tile's operations over the extended reals, read at vectors of numbers: each keeps vectors of numbers, and its elements
   are the sums and products the text names. -/
module

public import proofs.«01_k».proof.Proof.Steps
public import Idealize.ShloMosaic.PureOps.Ideal.Laws
public import Idealize.ShloMosaic.Lib.Pointwise
public import Idealize.ShloMosaic.Lib.ValueIdxCore

@[expose] public section

set_option maxRecDepth 16384

noncomputable section

namespace Cert.KernelIdeal.Sba

open Idealize.ShloMosaic Idealize.SL.Sem Cert.KernelIdeal Cert.KernelIdeal.Gen Cert.KernelIdeal.Facts

/-- A two-axis vector whose elements are the numbers `f`. -/
def IsM {m n : ℕ} {φ : FTy} (x : FVec Ideal ⟨2, ![m, n]⟩ φ) (f : ℕ → ℕ → ℝ) : Prop :=
  ∀ (a : Fin m) (b : Fin n), x (ix2 a b) = ((f a.val b.val : ℝ) : EReal)

/-- The numbers of a vector of numbers may be named anew. -/
theorem IsM.congr {m n : ℕ} {φ : FTy} {x : FVec Ideal ⟨2, ![m, n]⟩ φ} {f g : ℕ → ℕ → ℝ} (h : IsM x f)
    (hfg : ∀ a < m, ∀ b < n, f a b = g a b) : IsM x g := fun a b => by
  rw [h a b, hfg a.val a.isLt b.val b.isLt]

/-- A finite sum of numbers in the extended reals is the number their sum is. -/
theorem coe_sumR {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The same for the coordinates of an axis, counted by the natural numbers. -/
theorem sum_fin_coe {n : ℕ} (f : ℕ → ℝ) : (∑ k : Fin n, ((f k.val : ℝ) : EReal)) = ((∑ k ∈ Finset.range n, f k : ℝ) : EReal) := by
  rw [coe_sumR, Finset.sum_range]

section Pointwise
variable {m n : ℕ} {φ : FTy} {x y : FVec Ideal ⟨2, ![m, n]⟩ φ} {f g : ℕ → ℕ → ℝ}

theorem IsM.add (hx : IsM x f) (hy : IsM y g) : IsM (addf x y) (fun a b => f a b + g a b) := fun a b => by
  show x (ix2 a b) + y (ix2 a b) = _
  rw [hx a b, hy a b, EReal.coe_add]

theorem IsM.sub (hx : IsM x f) (hy : IsM y g) : IsM (subf x y) (fun a b => f a b - g a b) := fun a b => by
  show x (ix2 a b) - y (ix2 a b) = _
  rw [hx a b, hy a b, EReal.coe_sub]

theorem IsM.mul (hx : IsM x f) (hy : IsM y g) : IsM (mulf x y) (fun a b => f a b * g a b) := fun a b => by
  show x (ix2 a b) * y (ix2 a b) = _
  rw [hx a b, hy a b, EReal.coe_mul]

theorem IsM.exp (hx : IsM x f) : IsM (exp x) (fun a b => Real.exp (f a b)) := fun a b => by
  show Ideal.exp (x (ix2 a b)) = _
  rw [hx a b, Ideal.exp_coe]

end Pointwise

/-- The number the scale's word names. -/
def scaleR : ℝ := (Ideal.ofBits .f32 0x3DB504F3#32).toReal

theorem ofBits_scale : Ideal.ofBits .f32 0x3DB504F3#32 = ((scaleR : ℝ) : EReal) := by
  refine (EReal.coe_toReal ?_ ?_).symm <;> simp [Ideal.ofBits, Ideal.ieee, ← EReal.coe_mul]

theorem ofBits_one : Ideal.ofBits .f32 0x3F800000#32 = ((1 : ℝ) : EReal) := by
  simp [Ideal.ofBits, Ideal.ieee, ← EReal.coe_mul]
  norm_num

theorem isM_cst {w : BitVec 32} {r : ℝ} (h : Ideal.ofBits .f32 w = ((r : ℝ) : EReal)) : IsM (cst (F := Ideal) w) (fun _ _ => r) :=
  fun a b => h

theorem isM_zero : IsM (cst (F := Ideal) 0x00000000#32) (fun _ _ => 0) := isM_cst (by rw [Ideal.ofBits_zero_f32]; rfl)

theorem isM_bc {x : FVec Ideal S256x1 .f32} {f : ℕ → ℕ → ℝ} (hx : IsM x f) : IsM (bc x) (fun a _ => f a 0) := fun a b => by
  have : bc x (ix2 a b) = x (ix2 a 0) := by
    unfold bc broadcastTo
    refine congrArg x ?_
    funext d; match d with
    | ⟨0, _⟩ => rfl
    | ⟨1, _⟩ => rfl
  rw [this, hx a 0]; rfl

theorem isM_nar {x : FVec Ideal S256x256 .f32} {f : ℕ → ℕ → ℝ} (hx : IsM x f) : IsM (nar x) f := hx
theorem isM_wid {x : FVec Ideal S256x256 .bf16} {f : ℕ → ℕ → ℝ} (hx : IsM x f) : IsM (wid x) f := hx
theorem isM_nar' {x : FVec Ideal S256x128 .f32} {f : ℕ → ℕ → ℝ} (hx : IsM x f) : IsM (nar' x) f := hx

/-- The logarithm of the logistic function, as both programs write it. -/
def lsr (x : ℝ) : ℝ := min x 0 - Real.log (1 + Real.exp (-|x|))

theorem isM_lsK {z : FVec Ideal S256x256 .f32} {f : ℕ → ℕ → ℝ} (hz : IsM z f) : IsM (lsK z) (fun a b => lsr (f a b)) := fun a b => by
  show min (z (ix2 a b)) (Ideal.ofBits .f32 0x00000000#32) - Ideal.log (Ideal.ofBits .f32 0x3F800000#32
    + Ideal.exp (Ideal.ofBits .f32 0x00000000#32 - max (z (ix2 a b)) (-(z (ix2 a b))))) = ((lsr (f a.val b.val) : ℝ) : EReal)
  rw [hz a b, Ideal.ofBits_zero_f32, ofBits_one]
  generalize f a.val b.val = x
  have h1 : max ((x : ℝ) : EReal) (-(x : EReal)) = ((|x| : ℝ) : EReal) := by
    rw [← EReal.coe_neg]; exact (EReal.coe_strictMono.monotone.map_max).symm
  rw [h1, zero_sub, ← EReal.coe_neg, Ideal.exp_coe, ← EReal.coe_add, Ideal.log_coe, if_neg (not_le.2 (by positivity)),
    ← EReal.coe_zero, ← EReal.coe_strictMono.monotone.map_min, ← EReal.coe_sub]
  rfl

theorem isM_lkK {z : FVec Ideal S256x256 .f32} {f : ℕ → ℕ → ℝ} (hz : IsM z f) : IsM (lkK z) (fun a b => lsr (f a b) - f a b) :=
  (isM_lsK hz).sub hz

section Contractions

theorem isM_mmNT {x y : FVec Ideal S256x128 .bf16} {f g : ℕ → ℕ → ℝ} (hx : IsM x f) (hy : IsM y g) :
    IsM (mmNT x y) (fun a b => ∑ k ∈ Finset.range 128, f a k * g b k) := fun a b => by
  have := Ideal.matmul_apply₁_of dot_S256x128_S256x128_S256x256_1_1_0_0_n_n (a := 1) rfl (K := 128) rfl x y
    (constant (F := Ideal) S256x256 .f32 0x00000000#32) (ix2 a b) (fun k => ix2 a k) (fun k => ix2 b k)
    (fun k => by funext d; match d with | ⟨0, _⟩ => rfl | ⟨1, _⟩ => rfl)
    (fun k => by funext d; match d with | ⟨0, _⟩ => rfl | ⟨1, _⟩ => rfl)
  refine this.trans ?_
  rw [show (constant S256x256 .f32 0x00000000#32 : FVec Ideal S256x256 .f32) (ix2 a b) = 0 from Ideal.ofBits_zero_f32, zero_add,
    ← sum_fin_coe]
  exact Finset.sum_congr rfl fun k _ => by rw [hx a k, hy b k, EReal.coe_mul]

theorem isM_mmT {x y : FVec Ideal S256x256 .bf16} {f g : ℕ → ℕ → ℝ} (hx : IsM x f) (hy : IsM y g) :
    IsM (mmT x y) (fun a b => ∑ k ∈ Finset.range 256, f a k * g k b) := fun a b => by
  have := Ideal.matmul_apply₁_of dot_S256x256_S256x256_S256x256_1_0_0_1_n_n (a := 1) rfl (K := 256) rfl x y
    (constant (F := Ideal) S256x256 .f32 0x00000000#32) (ix2 a b) (fun k => ix2 a k) (fun k => ix2 k b)
    (fun k => by funext d; match d with | ⟨0, _⟩ => rfl | ⟨1, _⟩ => rfl)
    (fun k => by funext d; match d with | ⟨0, _⟩ => rfl | ⟨1, _⟩ => rfl)
  refine this.trans ?_
  rw [show (constant S256x256 .f32 0x00000000#32 : FVec Ideal S256x256 .f32) (ix2 a b) = 0 from Ideal.ofBits_zero_f32, zero_add,
    ← sum_fin_coe]
  exact Finset.sum_congr rfl fun k _ => by rw [hx a k, hy k b, EReal.coe_mul]

theorem isM_mmN {x : FVec Ideal S256x256 .bf16} {y : FVec Ideal S256x128 .bf16} {f g : ℕ → ℕ → ℝ} (hx : IsM x f) (hy : IsM y g) :
    IsM (mmN x y) (fun a b => ∑ k ∈ Finset.range 256, f a k * g k b) := fun a b => by
  have := Ideal.matmul_apply₁_of dot_S256x256_S256x128_S256x128_1_0_0_1_n_n (a := 1) rfl (K := 256) rfl x y
    (constant (F := Ideal) S256x128 .f32 0x00000000#32) (ix2 a b) (fun k => ix2 a k) (fun k => ix2 k b)
    (fun k => by funext d; match d with | ⟨0, _⟩ => rfl | ⟨1, _⟩ => rfl)
    (fun k => by funext d; match d with | ⟨0, _⟩ => rfl | ⟨1, _⟩ => rfl)
  refine this.trans ?_
  rw [show (constant S256x128 .f32 0x00000000#32 : FVec Ideal S256x128 .f32) (ix2 a b) = 0 from Ideal.ofBits_zero_f32, zero_add,
    ← sum_fin_coe]
  exact Finset.sum_congr rfl fun k _ => by rw [hx a k, hy k b, EReal.coe_mul]

theorem isM_mmTN {x : FVec Ideal S256x256 .bf16} {y : FVec Ideal S256x128 .bf16} {f g : ℕ → ℕ → ℝ} (hx : IsM x f) (hy : IsM y g) :
    IsM (mmTN x y) (fun a b => ∑ k ∈ Finset.range 256, f k a * g k b) := fun a b => by
  have := Ideal.matmul_apply₁_of dot_S256x256_S256x128_S256x128_0_0_1_1_n_n (a := 0) rfl (K := 256) rfl x y
    (constant (F := Ideal) S256x128 .f32 0x00000000#32) (ix2 a b) (fun k => ix2 k a) (fun k => ix2 k b)
    (fun k => by funext d; match d with | ⟨0, _⟩ => rfl | ⟨1, _⟩ => rfl)
    (fun k => by funext d; match d with | ⟨0, _⟩ => rfl | ⟨1, _⟩ => rfl)
  refine this.trans ?_
  rw [show (constant S256x128 .f32 0x00000000#32 : FVec Ideal S256x128 .f32) (ix2 a b) = 0 from Ideal.ofBits_zero_f32, zero_add,
    ← sum_fin_coe]
  exact Finset.sum_congr rfl fun k _ => by rw [hx k a, hy k b, EReal.coe_mul]

/-- The row sums of a tile of numbers. -/
theorem isM_rowSum {x : FVec Ideal S256x256 .f32} {f : ℕ → ℕ → ℝ} (hx : IsM x f) :
    IsM (rowSum x) (fun a _ => ∑ k ∈ Finset.range 256, f a k) := fun a b => by
  have hs : rowSum x (ix2 a b) = ∑ k : Fin 256, x (ix2 a k) := by
    unfold rowSum
    simp only [pointwise]
  rw [hs, ← sum_fin_coe]
  exact Finset.sum_congr rfl fun k _ => hx a k

end Contractions

/-- A tile of numbers is narrowed without loss, so the three parts of the split product are the product. -/
theorem isM_splK {x : FVec Ideal S256x256 .f32} {y : FVec Ideal S256x256 .bf16} {f g : ℕ → ℕ → ℝ} (hx : IsM x f) (hy : IsM y g) :
    IsM (splK x y) (fun a b => ∑ k ∈ Finset.range 256, f a k * g k b) := by
  have h1 : IsM (resK x) (fun a b => f a b - f a b) := hx.sub (isM_wid (isM_nar hx))
  have h2 := h1.sub (isM_wid (isM_nar h1))
  refine (((isM_mmT (isM_nar hx) hy).add (isM_mmT (isM_nar h1) hy)).add (isM_mmT (isM_nar h2) hy)).congr fun a _ b _ => ?_
  simp

end Cert.KernelIdeal.Sba

end

end
-- ==== Proof.Head.lean ====
/- Stick-breaking attention of one head over the real numbers: its scores, its weights, its outputs and the gradients of its
   queries, keys and values, as sums over the rows of the sequence. -/
module

public import proofs.«01_k».proof.Proof.Tile

@[expose] public section

noncomputable section

namespace Cert.KernelIdeal.Sba

/-- The number of rows of the sequence. -/
abbrev N : ℕ := 2048

/-- One head's queries, keys, values and the gradient of its output, by row and column. -/
structure Head where
  q : ℕ → ℕ → ℝ
  k : ℕ → ℕ → ℝ
  v : ℕ → ℕ → ℝ
  g : ℕ → ℕ → ℝ

namespace Head

variable (H : Head)

/-- The scaled score of row `t` for row `s`. -/
def z (t s : ℕ) : ℝ := (∑ d ∈ Finset.range 128, H.q t d * H.k s d) * scaleR
/-- The logarithm of the share of the stick row `s` leaves to the rows before it. -/
def lk (t s : ℕ) : ℝ := if s < t then lsr (H.z t s) - H.z t s else 0
/-- What all rows leave. -/
def tot (t : ℕ) : ℝ := ∑ s ∈ Finset.range N, H.lk t s
/-- The weight of row `s` for row `t`. -/
def A (t s : ℕ) : ℝ := if s < t then Real.exp (lsr (H.z t s) + (H.tot t - ∑ s' ∈ Finset.range (s + 1), H.lk t s')) else 0
/-- The weight times its gradient. -/
def w (t s : ℕ) : ℝ := H.A t s * ∑ d ∈ Finset.range 128, H.g t d * H.v s d
/-- The gradient of the unscaled score. -/
def dz (t s : ℕ) : ℝ :=
  if s < t then (H.w t s * (1 - Real.exp (lsr (H.z t s))) - Real.exp (lsr (H.z t s)) * ∑ s' ∈ Finset.range s, H.w t s') * scaleR
  else 0
/-- The output. -/
def o (t d : ℕ) : ℝ := ∑ s ∈ Finset.range N, H.A t s * H.v s d
/-- The gradient of the queries. -/
def dq (t d : ℕ) : ℝ := ∑ s ∈ Finset.range N, H.dz t s * H.k s d
/-- The gradient of the keys. -/
def dk (s d : ℕ) : ℝ := ∑ t ∈ Finset.range N, H.dz t s * H.q t d
/-- The gradient of the values. -/
def dv (s d : ℕ) : ℝ := ∑ t ∈ Finset.range N, H.A t s * H.g t d

theorem lk_of_le {t s : ℕ} (h : t ≤ s) : H.lk t s = 0 := if_neg (by omega)
theorem A_of_le {t s : ℕ} (h : t ≤ s) : H.A t s = 0 := if_neg (by omega)
theorem w_of_le {t s : ℕ} (h : t ≤ s) : H.w t s = 0 := by rw [w, H.A_of_le h, zero_mul]
theorem dz_of_le {t s : ℕ} (h : t ≤ s) : H.dz t s = 0 := if_neg (by omega)

end Head

/-- A sum over the columns up to and with `b`, written with a zero-one factor. -/
theorem sum_upto (f : ℕ → ℝ) {b : ℕ} (hb : b < 256) :
    ∑ k ∈ Finset.range 256, f k * (if k ≤ b then (1 : ℝ) else 0) = ∑ k ∈ Finset.range (b + 1), f k := by
  simp only [mul_ite, mul_one, mul_zero]
  rw [← Finset.sum_filter]
  refine Finset.sum_congr ?_ fun _ _ => rfl
  ext k; simp only [Finset.mem_filter, Finset.mem_range]; omega

/-- A sum over the columns before `b`, written with a zero-one factor. -/
theorem sum_before (f : ℕ → ℝ) {b : ℕ} (hb : b < 256) :
    ∑ k ∈ Finset.range 256, f k * (if k < b then (1 : ℝ) else 0) = ∑ k ∈ Finset.range b, f k := by
  simp only [mul_ite, mul_one, mul_zero]
  rw [← Finset.sum_filter]
  refine Finset.sum_congr ?_ fun _ _ => rfl
  ext k; simp only [Finset.mem_filter, Finset.mem_range]; omega

/-- A sum over the columns after `b`, written with a zero-one factor. -/
theorem sum_after (f : ℕ → ℝ) {b : ℕ} (hb : b < 256) :
    ∑ k ∈ Finset.range 256, f k * (if b < k then (1 : ℝ) else 0)
      = ∑ k ∈ Finset.range 256, f k - ∑ k ∈ Finset.range (b + 1), f k := by
  rw [← sum_upto f hb, ← Finset.sum_sub_distrib]
  refine Finset.sum_congr rfl fun k _ => ?_
  by_cases h : b < k
  · rw [if_pos h, if_neg (by omega)]; ring
  · rw [if_neg h, if_pos (by omega)]; ring

/-- A sum that is zero from some row on may stop there. -/
theorem sum_range_of_zero {f : ℕ → ℝ} {m n : ℕ} (hmn : m ≤ n) (h : ∀ s, m ≤ s → f s = 0) :
    ∑ s ∈ Finset.range m, f s = ∑ s ∈ Finset.range n, f s :=
  Finset.sum_subset (fun x hx => by simp only [Finset.mem_range] at hx ⊢; omega) fun x _ hx => h x (by simpa using hx)

end Cert.KernelIdeal.Sba

end

end
-- ==== Proof.BwdStep.lean ====
/- One tile's backward step over the real numbers, below the diagonal and on it: its vectors hold the weights and the score
   gradients of the head, and what it adds to its carried sums is the tile's share of the head's sums. -/
module

public import proofs.«01_k».proof.Proof.Head

@[expose] public section

set_option maxRecDepth 16384

noncomputable section

namespace Cert.KernelIdeal.Sba

open Idealize.ShloMosaic Idealize.SL.Sem Cert.KernelIdeal Cert.KernelIdeal.Gen Cert.KernelIdeal.Facts

theorem isM_bit {p : CmpIPredicate} {P : ℕ → ℕ → Prop} [∀ a b, Decidable (P a b)] {x y : IVec S256x256 32}
    (h : ∀ a b : Fin 256, cmpi p x y (ix2 a b) = if P a.val b.val then 1#1 else 0#1) :
    IsM (φ := .bf16) (truncf .bf16 (sitofp (F := Ideal) .f32 (extui 32 (cmpi p x y) natLt_1_32)) bitsLt_bf16_f32)
      (fun a b => if P a b then 1 else 0) := fun a b => by
  show (((((cmpi p x y (ix2 a b)).setWidth 32).toInt : ℤ) : ℝ) : EReal) = (((if P a.val b.val then 1 else 0) : ℝ) : EReal)
  rw [h]
  by_cases hp : P a.val b.val
  · rw [if_pos hp, if_pos hp]; simp
  · rw [if_neg hp, if_neg hp]; simp

theorem slt_small {a b : ℕ} (ha : a < 256) (hb : b < 256) : (BitVec.ofNat 32 a).slt (BitVec.ofNat 32 b) = decide (a < b) := by
  rw [BitVec.slt_eq_decide]
  congr 1
  simp [BitVec.toInt_eq_toNat_cond]
  omega

theorem sle_small {a b : ℕ} (ha : a < 256) (hb : b < 256) : (BitVec.ofNat 32 a).sle (BitVec.ofNat 32 b) = decide (a ≤ b) := by
  rw [BitVec.sle_eq_decide]
  congr 1
  simp [BitVec.toInt_eq_toNat_cond]
  omega

theorem iota_row (h) (a b : Fin 256) : iota .tc S256x256 32 [0] h (ix2 a b) = BitVec.ofNat 32 a.val := by
  simp [iota]

theorem iota_col (h) (a b : Fin 256) : iota .tc S256x256 32 [1] h (ix2 a b) = BitVec.ofNat 32 b.val := by
  simp [iota]

theorem ofBool_decide (P : Prop) [Decidable P] : BitVec.ofBool (decide P) = if P then 1#1 else 0#1 := by
  by_cases h : P <;> simp [h]

/-- The matrix that sums up to and with a column. -/
theorem isM_UPTO : IsM (UPTO (F := Ideal)) (fun a b => if a ≤ b then 1 else 0) :=
  isM_bit (P := fun a b => a ≤ b) fun a b => by
    rw [cmpi_apply, iota_row, iota_col]
    show BitVec.ofBool ((BitVec.ofNat 32 _).sle (BitVec.ofNat 32 _)) = _
    rw [sle_small a.isLt b.isLt, ofBool_decide]

/-- The matrix that sums before a column. -/
theorem isM_BEFORE : IsM (BEFORE (F := Ideal)) (fun a b => if a < b then 1 else 0) :=
  isM_bit (P := fun a b => a < b) fun a b => by
    rw [cmpi_apply, iota_row, iota_col]
    show BitVec.ofBool ((BitVec.ofNat 32 _).slt (BitVec.ofNat 32 _)) = _
    rw [slt_small a.isLt b.isLt, ofBool_decide]

/-- The matrix that sums after a column. -/
theorem isM_AFTER : IsM (AFTER (F := Ideal)) (fun a b => if b < a then 1 else 0) :=
  isM_bit (P := fun a b => b < a) fun a b => by
    rw [cmpi_apply, iota_row, iota_col]
    show BitVec.ofBool ((BitVec.ofNat 32 _).slt (BitVec.ofNat 32 _)) = _
    rw [slt_small b.isLt a.isLt, ofBool_decide]

/-- A tile on the diagonal keeps the columns before its rows. -/
theorem isM_msk {x : FVec Ideal S256x256 .f32} {f : ℕ → ℕ → ℝ} (hx : IsM x f) : IsM (msk x) (fun a b => if b < a then f a b else 0) :=
  fun a b => by
    have hm : MASK (ix2 a b) = if b.val < a.val then 1#1 else 0#1 := by
      show cmpi .slt _ _ _ = _
      rw [cmpi_apply, iota_row, iota_col]
      show BitVec.ofBool ((BitVec.ofNat 32 _).slt (BitVec.ofNat 32 _)) = _
      rw [slt_small b.isLt a.isLt, ofBool_decide]
    show Scalar.select (MASK (ix2 a b)) (x (ix2 a b)) (cst (F := Ideal) 0x00000000#32 (ix2 a b)) = (((if b.val < a.val then _ else 0) : ℝ) : EReal)
    rw [hm, hx a b, isM_zero a b]
    by_cases h : b.val < a.val
    · rw [if_pos h, if_pos h]; rfl
    · rw [if_neg h, if_neg h]; rfl

section Step

variable (H : Head) (T S : ℕ)
variable {q k v d : FVec Ideal S256x128 .bf16} {tot kl wl : FVec Ideal S256x1 .f32}

/-- A tile's scores. -/
theorem isM_zK (hq : IsM q fun a c => H.q (T + a) c) (hk : IsM k fun b c => H.k (S + b) c) :
    IsM (zK q k) fun a b => H.z (T + a) (S + b) := (isM_mmNT hq hk).mul (isM_cst ofBits_scale)

/-- A tile's products of the output's gradient and the values. -/
theorem isM_dv (hd : IsM d fun a c => H.g (T + a) c) (hv : IsM v fun b c => H.v (S + b) c) :
    IsM (mmNT d v) fun a b => ∑ c ∈ Finset.range 128, H.g (T + a) c * H.v (S + b) c := isM_mmNT hd hv

/-- What a tile below the diagonal leaves. -/
theorem isM_lkU (hTS : S + 256 ≤ T) (hq : IsM q fun a c => H.q (T + a) c) (hk : IsM k fun b c => H.k (S + b) c) :
    IsM (lkK (zK q k)) fun a b => H.lk (T + a) (S + b) :=
  (isM_lkK (isM_zK H T S hq hk)).congr fun a _ b hb => by rw [Head.lk, if_pos (by omega)]

/-- What a tile on the diagonal leaves. -/
theorem isM_lkD (hq : IsM q fun a c => H.q (T + a) c) (hk : IsM k fun b c => H.k (T + b) c) :
    IsM (msk (lkK (zK q k))) fun a b => H.lk (T + a) (T + b) :=
  (isM_msk (isM_lkK (isM_zK H T T hq hk))).congr fun a _ b hb => by
    rw [Head.lk]; exact if_congr (by omega) rfl rfl

/-- The exponent of the backward pass's weights. -/
theorem isM_attB {ls lk : FVec Ideal S256x256 .f32} (hls : IsM ls fun a b => lsr (H.z (T + a) (S + b)))
    (hlk : IsM lk fun a b => H.lk (T + a) (S + b)) (htot : IsM tot fun a _ => H.tot (T + a))
    (hkl : IsM kl fun a _ => ∑ s ∈ Finset.range S, H.lk (T + a) s) :
    IsM (attB UPTO ls lk tot kl) fun a b => Real.exp (lsr (H.z (T + a) (S + b))
      + (H.tot (T + a) - ∑ s' ∈ Finset.range (S + b + 1), H.lk (T + a) s')) :=
  ((((hls.add (isM_bc htot)).sub (isM_bc hkl)).sub (isM_splK hlk isM_UPTO)).exp).congr fun a _ b hb => by
    beta_reduce
    rw [sum_upto (fun k => H.lk (T + a) (S + k)) hb, add_assoc S b 1, Finset.sum_range_add (fun s => H.lk (T + a) s) S (b + 1)]
    congr 1; ring

/-- The weights of a tile below the diagonal. -/
theorem isM_attU (hTS : S + 256 ≤ T) (hq : IsM q fun a c => H.q (T + a) c) (hk : IsM k fun b c => H.k (S + b) c)
    (htot : IsM tot fun a _ => H.tot (T + a)) (hkl : IsM kl fun a _ => ∑ s ∈ Finset.range S, H.lk (T + a) s) :
    IsM (attU q k tot kl) fun a b => H.A (T + a) (S + b) :=
  (isM_attB H T S (isM_lsK (isM_zK H T S hq hk)) (isM_lkU H T S hTS hq hk) htot hkl).congr fun a _ b hb => by
    rw [Head.A, if_pos (by omega)]

/-- The weights of a tile on the diagonal. -/
theorem isM_attD (hq : IsM q fun a c => H.q (T + a) c) (hk : IsM k fun b c => H.k (T + b) c)
    (htot : IsM tot fun a _ => H.tot (T + a)) (hkl : IsM kl fun a _ => ∑ s ∈ Finset.range T, H.lk (T + a) s) :
    IsM (attD q k tot kl) fun a b => H.A (T + a) (T + b) :=
  (isM_msk (isM_attB H T T (isM_lsK (isM_zK H T T hq hk)) (isM_lkD H T hq hk) htot hkl)).congr fun a _ b hb => by
    rw [Head.A]; exact if_congr (by omega) rfl rfl

/-- The weights times their gradients. -/
theorem isM_wB {att : FVec Ideal S256x256 .f32} (ha : IsM att fun a b => H.A (T + a) (S + b))
    (hd : IsM d fun a c => H.g (T + a) c) (hv : IsM v fun b c => H.v (S + b) c) :
    IsM (wB att d v) fun a b => H.w (T + a) (S + b) := ha.mul (isM_dv H T S hd hv)

/-- The gradient of the scores before masking and scaling. -/
theorem isM_dz0 {ls w : FVec Ideal S256x256 .f32} (hls : IsM ls fun a b => lsr (H.z (T + a) (S + b)))
    (hw : IsM w fun a b => H.w (T + a) (S + b)) (hwl : IsM wl fun a _ => ∑ s ∈ Finset.range S, H.w (T + a) s) :
    IsM (dz0 BEFORE ls w wl) fun a b => H.w (T + a) (S + b) * (1 - Real.exp (lsr (H.z (T + a) (S + b))))
      - Real.exp (lsr (H.z (T + a) (S + b))) * ∑ s' ∈ Finset.range (S + b), H.w (T + a) s' :=
  ((hw.mul ((isM_cst ofBits_one).sub hls.exp)).sub (hls.exp.mul ((isM_bc hwl).add (isM_splK hw isM_BEFORE)))).congr fun a _ b hb => by
    beta_reduce
    rw [sum_before (fun k => H.w (T + a) (S + k)) hb, Finset.sum_range_add]

theorem isM_scl {x : FVec Ideal S256x256 .f32} {f : ℕ → ℕ → ℝ} (hx : IsM x f) : IsM (scl x) fun a b => f a b * scaleR :=
  isM_nar (hx.mul (isM_cst ofBits_scale))

/-- The gradient of the scores of a tile below the diagonal. -/
theorem isM_dzU (hTS : S + 256 ≤ T) (hq : IsM q fun a c => H.q (T + a) c) (hk : IsM k fun b c => H.k (S + b) c)
    (hd : IsM d fun a c => H.g (T + a) c) (hv : IsM v fun b c => H.v (S + b) c) (htot : IsM tot fun a _ => H.tot (T + a))
    (hkl : IsM kl fun a _ => ∑ s ∈ Finset.range S, H.lk (T + a) s) (hwl : IsM wl fun a _ => ∑ s ∈ Finset.range S, H.w (T + a) s) :
    IsM (dzU q k v d tot kl wl) fun a b => H.dz (T + a) (S + b) :=
  (isM_scl (isM_dz0 H T S (isM_lsK (isM_zK H T S hq hk)) (isM_wB H T S (isM_attU H T S hTS hq hk htot hkl) hd hv) hwl)).congr
    fun a _ b hb => by rw [Head.dz, if_pos (by omega)]

/-- The gradient of the scores of a tile on the diagonal. -/
theorem isM_dzD (hq : IsM q fun a c => H.q (T + a) c) (hk : IsM k fun b c => H.k (T + b) c)
    (hd : IsM d fun a c => H.g (T + a) c) (hv : IsM v fun b c => H.v (T + b) c) (htot : IsM tot fun a _ => H.tot (T + a))
    (hkl : IsM kl fun a _ => ∑ s ∈ Finset.range T, H.lk (T + a) s) (hwl : IsM wl fun a _ => ∑ s ∈ Finset.range T, H.w (T + a) s) :
    IsM (dzD q k v d tot kl wl) fun a b => H.dz (T + a) (T + b) :=
  (isM_scl (isM_msk (isM_dz0 H T T (isM_lsK (isM_zK H T T hq hk)) (isM_wB H T T (isM_attD H T hq hk htot hkl) hd hv) hwl))).congr
    fun a _ b hb => by
      rw [Head.dz]
      by_cases h : b < a
      · rw [if_pos h, if_pos (by omega)]
      · rw [if_neg h, if_neg (by omega), zero_mul]

/-- The weights of the forward pass, from the tiles after this one. -/
theorem isM_attF {ls lk : FVec Ideal S256x256 .f32} {run : FVec Ideal S256x1 .f32} (hls : IsM ls fun a b => lsr (H.z (T + a) (S + b)))
    (hlk : IsM lk fun a b => H.lk (T + a) (S + b))
    (hrun : IsM run fun a _ => H.tot (T + a) - ∑ s ∈ Finset.range (S + 256), H.lk (T + a) s) :
    IsM (attF ls lk run) fun a b => Real.exp (lsr (H.z (T + a) (S + b))
      + (H.tot (T + a) - ∑ s' ∈ Finset.range (S + b + 1), H.lk (T + a) s')) :=
  (((hls.add (isM_splK hlk isM_AFTER)).add (isM_bc hrun)).exp).congr fun a _ b hb => by
    beta_reduce
    rw [sum_after (fun k => H.lk (T + a) (S + k)) hb, add_assoc S b 1, Finset.sum_range_add (fun s => H.lk (T + a) s) S (b + 1),
      Finset.sum_range_add (fun s => H.lk (T + a) s) S 256]
    congr 1; ring

/-- The forward pass's weights of a tile below the diagonal. -/
theorem isM_attFU {run : FVec Ideal S256x1 .f32} (hTS : S + 256 ≤ T) (hq : IsM q fun a c => H.q (T + a) c)
    (hk : IsM k fun b c => H.k (S + b) c)
    (hrun : IsM run fun a _ => H.tot (T + a) - ∑ s ∈ Finset.range (S + 256), H.lk (T + a) s) :
    IsM (attFU q k run) fun a b => H.A (T + a) (S + b) :=
  (isM_attF H T S (isM_lsK (isM_zK H T S hq hk)) (isM_lkU H T S hTS hq hk) hrun).congr fun a _ b hb => by
    rw [Head.A, if_pos (by omega)]

/-- The forward pass's weights of a tile on the diagonal. -/
theorem isM_attFD {run : FVec Ideal S256x1 .f32} (hq : IsM q fun a c => H.q (T + a) c) (hk : IsM k fun b c => H.k (T + b) c)
    (hrun : IsM run fun a _ => H.tot (T + a) - ∑ s ∈ Finset.range (T + 256), H.lk (T + a) s) :
    IsM (attFD q k run) fun a b => H.A (T + a) (T + b) :=
  (isM_msk (isM_attF H T T (isM_lsK (isM_zK H T T hq hk)) (isM_lkD H T hq hk) hrun)).congr fun a _ b hb => by
    rw [Head.A]; exact if_congr (by omega) rfl rfl

end Step

end Cert.KernelIdeal.Sba

end

end
-- ==== Proof.Buffers.lean ====
/- Buffers that hold numbers: their windows, and blocks added to their windows. -/
module

public import proofs.«01_k».proof.Proof.BwdStep
public import Idealize.ShloMosaic.Lib.VecWindow

@[expose] public section

set_option maxRecDepth 16384

noncomputable section

namespace Cert.KernelIdeal.Sba

open Idealize.ShloMosaic Idealize.ShloMosaic.TcCoe Idealize.SL.Sem Cert.KernelIdeal Cert.KernelIdeal.Gen Cert.KernelIdeal.Facts

/-- A window of a vector of numbers. -/
theorem isM_window {m n m' n' : ℕ} {x : FVec Ideal ⟨2, ![m, n]⟩ .f32} {f : ℕ → ℕ → ℝ} (hx : IsM x f) (r0 c0 : ℕ)
    (inb : ∀ a, (![r0, c0] : Fin 2 → ℕ) a + (![m', n'] : Fin 2 → ℕ) a ≤ (![m, n] : Fin 2 → ℕ) a) :
    IsM (m := m') (n := n') (φ := .f32) (VecWindow.window (s := ⟨2, ![m, n]⟩) x ![r0, c0] ![m', n'] inb) fun a b => f (r0 + a) (c0 + b) :=
  fun a b => by
    have h0 : r0 + m' ≤ m := inb 0
    have h1 : c0 + n' ≤ n := inb 1
    have ha := a.isLt
    have hb := b.isLt
    have e : (Rect.unit (s := ⟨2, ![m, n]⟩) ![r0, c0] ![m', n'] inb).emb (ix2 a b)
        = ix2 (⟨r0 + a.val, by omega⟩ : Fin m) (⟨c0 + b.val, by omega⟩ : Fin n) := by
      funext d; apply Fin.ext
      match d with
      | ⟨0, _⟩ => show r0 + 1 * a.val = r0 + a.val; omega
      | ⟨1, _⟩ => show c0 + 1 * b.val = c0 + b.val; omega
    exact (congrArg x e).trans (hx _ _)

/-- A load of a window of a buffer that reads numbers. -/
theorem isM_readAt {m n m' n' : ℕ} (arg : Memref sig .tc .vmem ⟨2, ![m, n]⟩ .f32) (X : BufTy.Contents (Elt Ideal) arg.view.ty)
    {f : ℕ → ℕ → ℝ} (hx : IsM (φ := .f32) (arg.view.read (Elt Ideal) X) f) (r0 c0 : ℕ) {off : Fin 2 → ℕ}
    (inb : ∀ a, off a + (![m', n'] : Fin 2 → ℕ) a ≤ (![m, n] : Fin 2 → ℕ) a) (hoff : off = ![r0, c0]) :
    IsM (m := m') (n := n') (φ := .f32) (arg.view.readAt (Elt Ideal) (Rect.unit (s := ⟨2, ![m, n]⟩) off ![m', n'] inb).toLoadRect X)
      fun a b => f (r0 + a) (c0 + b) := by
  subst hoff
  rw [View.readAt_unit arg.view X inb rfl inb]
  exact isM_window hx r0 c0 inb

/-- A block of numbers put over a window of a vector of numbers. -/
theorem isM_put {m n m' n' : ℕ} {x : FVec Ideal ⟨2, ![m, n]⟩ .f32} {w : FVec Ideal ⟨2, ![m', n']⟩ .f32} {f g : ℕ → ℕ → ℝ}
    (hx : IsM x f) (hw : IsM w g) (r0 c0 : ℕ) :
    IsM (m := m) (n := n) (φ := .f32) (VecWindow.put (s := ⟨2, ![m, n]⟩) x ![r0, c0] ![m', n'] w) fun r c =>
      if (r0 ≤ r ∧ r < r0 + m') ∧ (c0 ≤ c ∧ c < c0 + n') then g (r - r0) (c - c0) else f r c := fun r c => by
  unfold VecWindow.put
  beta_reduce
  by_cases h : (r0 ≤ r.val ∧ r.val < r0 + m') ∧ (c0 ≤ c.val ∧ c.val < c0 + n')
  · rw [if_pos h, dif_pos (fun a => by match a with | ⟨0, _⟩ => exact h.1 | ⟨1, _⟩ => exact h.2)]
    refine Eq.trans (congrArg w ?_) (hw ⟨r.val - r0, by omega⟩ ⟨c.val - c0, by omega⟩)
    funext d; match d with
    | ⟨0, _⟩ => rfl
    | ⟨1, _⟩ => rfl
  · rw [if_neg h, dif_neg (fun h' => h ⟨h' 0, h' 1⟩)]
    exact hx r c

/-- The numbers `f` with the block `g` added to them from row `r0` and column `c0` on. -/
def addAt (r0 c0 : ℕ) (g f : ℕ → ℕ → ℝ) (r c : ℕ) : ℝ :=
  if (r0 ≤ r ∧ r < r0 + 256) ∧ (c0 ≤ c ∧ c < c0 + 128) then f r c + g (r - r0) (c - c0) else f r c

/-- The numbers `f` with the blocks `g` of all heads added to them from row `r0` on. -/
def addRows (r0 : ℕ) (g : ℕ → ℕ → ℕ → ℝ) (f : ℕ → ℕ → ℝ) (r c : ℕ) : ℝ :=
  if r0 ≤ r ∧ r < r0 + 256 then f r c + g (c / 128) (r - r0) (c % 128) else f r c

/-- Four heads' blocks side by side are all of a row. -/
theorem addAt_four (r0 : ℕ) (g : ℕ → ℕ → ℕ → ℝ) (f : ℕ → ℕ → ℝ) (r c : ℕ) (hc : c < 512) :
    addAt r0 384 (g 3) (addAt r0 256 (g 2) (addAt r0 128 (g 1) (addAt r0 0 (g 0) f))) r c = addRows r0 g f r c := by
  unfold addAt addRows
  by_cases hr : r0 ≤ r ∧ r < r0 + 256
  · have h : c / 128 = 0 ∨ c / 128 = 1 ∨ c / 128 = 2 ∨ c / 128 = 3 := by omega
    rcases h with h | h | h | h <;> rw [h]
    · rw [if_neg (by omega), if_neg (by omega), if_neg (by omega), if_pos (by omega), if_pos hr]
      congr 2; omega
    · rw [if_neg (by omega), if_neg (by omega), if_pos (by omega), if_neg (by omega), if_pos hr]
      congr 2; omega
    · rw [if_neg (by omega), if_pos (by omega), if_neg (by omega), if_neg (by omega), if_pos hr]
      congr 2; omega
    · rw [if_pos (by omega), if_neg (by omega), if_neg (by omega), if_neg (by omega), if_pos hr]
      congr 2; omega
  · rw [if_neg (by omega), if_neg (by omega), if_neg (by omega), if_neg (by omega), if_neg hr]

theorem isM_idc {x : FVec Ideal S256x128 .f32} {f : ℕ → ℕ → ℝ} (hx : IsM x f) : IsM (idc x) f := by
  unfold idc; rw [shapeCast_id]; exact hx

/-- A block added to a window of a buffer's contents, read from contents that agree with them on the window. -/
theorem isM_piece (arg : Memref sig .tc .vmem S2048x512 .f32) (G G' : BufTy.Contents (Elt Ideal) arg.view.ty)
    (L : List (View.Piece (Elt Ideal) S2048x512 .f32)) {f f' g : ℕ → ℕ → ℝ}
    (hG : IsM (φ := .f32) (arg.view.read (Elt Ideal) (arg.view.writes (Elt Ideal) G L)) f)
    (hG' : IsM (φ := .f32) (arg.view.read (Elt Ideal) G') f') {D : FVec Ideal S256x128 .f32} (hD : IsM D g) (r0 c0 : ℕ)
    {off : Fin 2 → ℕ} (inb : ∀ a, off a + S256x128.size a ≤ S2048x512.size a) (hoff : off = ![r0, c0])
    (hf : ∀ a < 256, ∀ b < 128, f' (r0 + a) (c0 + b) = f (r0 + a) (c0 + b)) :
    IsM (φ := .f32) (arg.view.read (Elt Ideal) (arg.view.writes (Elt Ideal) G (⟨Rect.unit (s := S2048x512) off S256x128.size inb,
      addf (idc (arg.view.readAt (Elt Ideal) (Rect.unit (s := S2048x512) off S256x128.size inb).toLoadRect G')) D⟩ :: L)))
      (addAt r0 c0 g f) := by
  rw [View.read_writes_cons_put arg.view G inb _ L hoff]
  have hw : IsM (addf (idc (arg.view.readAt (Elt Ideal) (Rect.unit (s := S2048x512) off S256x128.size inb).toLoadRect G')) D)
      (fun a b => f' (r0 + a) (c0 + b) + g a b) := (isM_idc (isM_readAt arg G' hG' r0 c0 inb hoff)).add hD
  refine (isM_put hG hw r0 c0).congr fun r _ c _ => ?_
  unfold addAt
  beta_reduce
  by_cases h : (r0 ≤ r ∧ r < r0 + 256) ∧ (c0 ≤ c ∧ c < c0 + 128)
  · rw [if_pos h, if_pos h, hf (r - r0) (by omega) (c - c0) (by omega)]
    congr 2 <;> omega
  · rw [if_neg h, if_neg h]

end Cert.KernelIdeal.Sba

end

end
-- ==== Proof.HeadStep.lean ====
/- One head and one tile of the backward pass: what it carries on and what it adds. -/
module

public import proofs.«01_k».proof.Proof.Buffers

@[expose] public section

set_option maxRecDepth 16384

noncomputable section

namespace Cert.KernelIdeal.Sba

open Idealize.ShloMosaic Idealize.ShloMosaic.TcCoe Idealize.SL.Sem Cert.KernelIdeal Cert.KernelIdeal.Gen Cert.KernelIdeal.Facts

/-- What the rows `T …` add to the keys' gradient. -/
def dkC (H : Head) (T r c : ℕ) : ℝ := ∑ a ∈ Finset.range 256, H.dz (T + a) r * H.q (T + a) c
/-- What the rows `T …` add to the values' gradient. -/
def dvC (H : Head) (T r c : ℕ) : ℝ := ∑ a ∈ Finset.range 256, H.A (T + a) r * H.g (T + a) c

/-- One head's blocks of a tile: queries and output gradients of the rows `T …`, keys and values of the rows `S …`, and the totals. -/
structure HeadIn (H : Head) (T S : ℕ) (q k v d : FVec Ideal S256x128 .bf16) (tot : FVec Ideal S256x1 .f32) : Prop where
  hq : IsM q fun a c => H.q (T + a) c
  hk : IsM k fun b c => H.k (S + b) c
  hv : IsM v fun b c => H.v (S + b) c
  hd : IsM d fun a c => H.g (T + a) c
  ht : IsM tot fun a _ => H.tot (T + a)

/-- What one head carries before the rows `S`. -/
structure HeadCar (H : Head) (T S : ℕ) (kl wl : FVec Ideal S256x1 .f32) (dq : FVec Ideal S256x128 .f32) : Prop where
  hkl : IsM kl fun a _ => ∑ s ∈ Finset.range S, H.lk (T + a) s
  hwl : IsM wl fun a _ => ∑ s ∈ Finset.range S, H.w (T + a) s
  hdq : IsM dq fun a c => ∑ s ∈ Finset.range S, H.dz (T + a) s * H.k s c

variable {H : Head} {T S : ℕ} {q k v d : FVec Ideal S256x128 .bf16} {tot kl wl : FVec Ideal S256x1 .f32} {dq : FVec Ideal S256x128 .f32}

/-- A tile below the diagonal carries the sums on. -/
theorem HeadIn.carU (I : HeadIn H T S q k v d tot) (C : HeadCar H T S kl wl dq) (hTS : S + 256 ≤ T) :
    HeadCar H T (S + 256) (addf kl (rowSum (lkK (zK q k)))) (addf wl (rowSum (wU q k v d tot kl)))
      (addf dq (mmN (dzU q k v d tot kl wl) k)) where
  hkl := (C.hkl.add (isM_rowSum (isM_lkU H T S hTS I.hq I.hk))).congr fun a _ b _ => by
    beta_reduce; rw [Finset.sum_range_add]
  hwl := (C.hwl.add (isM_rowSum (isM_wB H T S (isM_attU H T S hTS I.hq I.hk I.ht C.hkl) I.hd I.hv))).congr fun a _ b _ => by
    beta_reduce; rw [Finset.sum_range_add]
  hdq := (C.hdq.add (isM_mmN (isM_dzU H T S hTS I.hq I.hk I.hd I.hv I.ht C.hkl C.hwl) I.hk)).congr fun a _ b _ => by
    beta_reduce; rw [Finset.sum_range_add]

/-- What a tile below the diagonal adds to the keys' gradient. -/
theorem HeadIn.dkU (I : HeadIn H T S q k v d tot) (C : HeadCar H T S kl wl dq) (hTS : S + 256 ≤ T) :
    IsM (mmTN (dzU q k v d tot kl wl) q) fun b c => dkC H T (S + b) c :=
  isM_mmTN (isM_dzU H T S hTS I.hq I.hk I.hd I.hv I.ht C.hkl C.hwl) I.hq

/-- What a tile below the diagonal adds to the values' gradient. -/
theorem HeadIn.dvU (I : HeadIn H T S q k v d tot) (C : HeadCar H T S kl wl dq) (hTS : S + 256 ≤ T) :
    IsM (mmTN (nar (attU q k tot kl)) d) fun b c => dvC H T (S + b) c :=
  isM_mmTN (isM_nar (isM_attU H T S hTS I.hq I.hk I.ht C.hkl)) I.hd

/-- The queries' gradient after the tile on the diagonal. -/
theorem HeadIn.dqD (I : HeadIn H T T q k v d tot) (C : HeadCar H T T kl wl dq) :
    IsM (addf dq (mmN (dzD q k v d tot kl wl) k)) fun a c => ∑ s ∈ Finset.range (T + 256), H.dz (T + a) s * H.k s c :=
  (C.hdq.add (isM_mmN (isM_dzD H T I.hq I.hk I.hd I.hv I.ht C.hkl C.hwl) I.hk)).congr fun a _ b _ => by
    beta_reduce; rw [Finset.sum_range_add]

/-- What the tile on the diagonal adds to the keys' gradient. -/
theorem HeadIn.dkD (I : HeadIn H T T q k v d tot) (C : HeadCar H T T kl wl dq) :
    IsM (mmTN (dzD q k v d tot kl wl) q) fun b c => dkC H T (T + b) c :=
  isM_mmTN (isM_dzD H T I.hq I.hk I.hd I.hv I.ht C.hkl C.hwl) I.hq

/-- What the tile on the diagonal adds to the values' gradient. -/
theorem HeadIn.dvD (I : HeadIn H T T q k v d tot) (C : HeadCar H T T kl wl dq) :
    IsM (mmTN (nar (attD q k tot kl)) d) fun b c => dvC H T (T + b) c :=
  isM_mmTN (isM_nar (isM_attD H T I.hq I.hk I.ht C.hkl)) I.hd

/-- The rows `T …` add nothing to the gradient of a key on or after their end. -/
theorem dkC_zero (H : Head) {T r : ℕ} (h : T + 256 ≤ r) (c : ℕ) : dkC H T r c = 0 :=
  Finset.sum_eq_zero fun a ha => by
    have := Finset.mem_range.1 ha
    rw [H.dz_of_le (by omega), zero_mul]

/-- The rows `T …` add nothing to the gradient of a value on or after their end. -/
theorem dvC_zero (H : Head) {T r : ℕ} (h : T + 256 ≤ r) (c : ℕ) : dvC H T r c = 0 :=
  Finset.sum_eq_zero fun a ha => by
    have := Finset.mem_range.1 ha
    rw [H.A_of_le (by omega), zero_mul]

/-- Columns outside a block keep their numbers. -/
theorem addAt_out {r0 c0 : ℕ} (g f : ℕ → ℕ → ℝ) (r c : ℕ) (h : c < c0 ∨ c0 + 128 ≤ c) : addAt r0 c0 g f r c = f r c :=
  if_neg (by omega)

/-- Four stores of sums, whose first terms are all read before the stores. -/
theorem isM_fourU (arg : Memref sig .tc .vmem S2048x512 .f32) (G : BufTy.Contents (Elt Ideal) arg.view.ty) {f : ℕ → ℕ → ℝ}
    (hG : IsM (φ := .f32) (arg.view.read (Elt Ideal) G) f) (r0 : ℕ) (g : ℕ → ℕ → ℕ → ℝ) {D0 D1 D2 D3 : FVec Ideal S256x128 .f32}
    (h0 : IsM D0 (g 0)) (h1 : IsM D1 (g 1)) (h2 : IsM D2 (g 2)) (h3 : IsM D3 (g 3)) {o0 o1 o2 o3 : Fin 2 → ℕ}
    (i0 : ∀ a, o0 a + S256x128.size a ≤ S2048x512.size a) (i1 : ∀ a, o1 a + S256x128.size a ≤ S2048x512.size a)
    (i2 : ∀ a, o2 a + S256x128.size a ≤ S2048x512.size a) (i3 : ∀ a, o3 a + S256x128.size a ≤ S2048x512.size a)
    (e0 : o0 = ![r0, 0]) (e1 : o1 = ![r0, 128]) (e2 : o2 = ![r0, 256]) (e3 : o3 = ![r0, 384]) :
    IsM (φ := .f32) (arg.view.read (Elt Ideal) (arg.view.writes (Elt Ideal) G
      [⟨Rect.unit (s := S2048x512) o3 S256x128.size i3, addf (idc (arg.view.readAt (Elt Ideal) (Rect.unit (s := S2048x512) o3 S256x128.size i3).toLoadRect G)) D3⟩,
       ⟨Rect.unit (s := S2048x512) o2 S256x128.size i2, addf (idc (arg.view.readAt (Elt Ideal) (Rect.unit (s := S2048x512) o2 S256x128.size i2).toLoadRect G)) D2⟩,
       ⟨Rect.unit (s := S2048x512) o1 S256x128.size i1, addf (idc (arg.view.readAt (Elt Ideal) (Rect.unit (s := S2048x512) o1 S256x128.size i1).toLoadRect G)) D1⟩,
       ⟨Rect.unit (s := S2048x512) o0 S256x128.size i0, addf (idc (arg.view.readAt (Elt Ideal) (Rect.unit (s := S2048x512) o0 S256x128.size i0).toLoadRect G)) D0⟩]))
      (addRows r0 g f) := by
  have b0 := isM_piece arg G G [] hG hG h0 r0 0 i0 e0 fun _ _ _ _ => rfl
  have b1 := isM_piece arg G G _ b0 hG h1 r0 128 i1 e1 fun a _ b _ => (addAt_out _ _ _ _ (by omega)).symm
  have b2 := isM_piece arg G G _ b1 hG h2 r0 256 i2 e2 fun a _ b _ => by
    rw [addAt_out _ _ _ _ (by omega), addAt_out _ _ _ _ (by omega)]
  have b3 := isM_piece arg G G _ b2 hG h3 r0 384 i3 e3 fun a _ b _ => by
    rw [addAt_out _ _ _ _ (by omega), addAt_out _ _ _ _ (by omega), addAt_out _ _ _ _ (by omega)]
  exact b3.congr fun r _ c hc => addAt_four r0 g f r c hc

end Cert.KernelIdeal.Sba

end

end
-- ==== Proof.Trips.lean ====
/- One tile of the backward loop as the tile's functions of what its buffers hold. -/
module

public import proofs.«01_k».proof.Proof.Steps
public import proofs.«01_k».proof.Proof.Gen.KernelIdeal.Loops

@[expose] public section

set_option maxRecDepth 16384

noncomputable section

namespace Cert.KernelIdeal.Sba

open Idealize.ShloMosaic Idealize.ShloMosaic.TcCoe Idealize.SL.Sem Cert.KernelIdeal Cert.KernelIdeal.Gen

variable {F : FTy → Type} [FloatOps F]

/-- One tile of the backward loop: what it carries on. -/
theorem trip1 (𝒱 : Variants) (c : Dev nD) (bd : Option 𝒱.V) (i : grid1.Coords) (arg2 : Memref sig .tc .vmem S256x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S4x256x1 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S2048x512 .f32) (harg8 : arg8.IsWhole) (arg9 : Memref sig .tc .vmem S2048x512 .f32) (harg9 : arg9.IsWhole) (arg1 : BitVec 32) (v4 v6 v8 v10 v12 v14 v16 v18 : FVec F S256x128 .bf16) (v20 v22 v24 v26 : FVec F S256x1 .f32) (X_arg3 : BufTy.Contents (Elt F) arg3.view.ty) (X_arg4 : BufTy.Contents (Elt F) arg4.view.ty) (k : Fin (k1_t1_loop i).trips)
  (a1 a2 a3 a4 a5 a6 a7 a8 : FVec F S256x1 .f32) (a9 a10 a11 a12 : FVec F S256x128 .f32) (f8 : BufTy.Contents (Elt F) arg8.view.ty) (f9 : BufTy.Contents (Elt F) arg9.view.ty) : (trip_k1_t1 (F := F) 𝒱 c bd i arg2 harg2 arg3 harg3 arg4 harg4 arg5 harg5 arg6 harg6 arg7 harg7 arg8 harg8 arg9 harg9 arg1 v4 v6 v8 v10 v12 v14 v16 v18 v20 v22 v24 v26 X_arg3 X_arg4 k).1 (a1,a2,a3,a4,a5,a6,a7,a8,a9,a10,a11,a12) f8 f9 =
      (addf a1 (rowSum (lkK (zK v4 (rd arg3 X_arg3 (k1_off1 i k) (k1_off1_inb i k))))),
      addf a2 (rowSum (lkK (zK v6 (rd arg3 X_arg3 (k1_off2 i k) (k1_off2_inb i k))))),
      addf a3 (rowSum (lkK (zK v8 (rd arg3 X_arg3 (k1_off3 i k) (k1_off3_inb i k))))),
      addf a4 (rowSum (lkK (zK v10 (rd arg3 X_arg3 (k1_off4 i k) (k1_off4_inb i k))))),
      addf a5 (rowSum (wU v4 (rd arg3 X_arg3 (k1_off1 i k) (k1_off1_inb i k)) (rd arg4 X_arg4 (k1_off1 i k) (k1_off1_inb i k)) v12 v20 a1)),
      addf a6 (rowSum (wU v6 (rd arg3 X_arg3 (k1_off2 i k) (k1_off2_inb i k)) (rd arg4 X_arg4 (k1_off2 i k) (k1_off2_inb i k)) v14 v22 a2)),
      addf a7 (rowSum (wU v8 (rd arg3 X_arg3 (k1_off3 i k) (k1_off3_inb i k)) (rd arg4 X_arg4 (k1_off3 i k) (k1_off3_inb i k)) v16 v24 a3)),
      addf a8 (rowSum (wU v10 (rd arg3 X_arg3 (k1_off4 i k) (k1_off4_inb i k)) (rd arg4 X_arg4 (k1_off4 i k) (k1_off4_inb i k)) v18 v26 a4)),
      addf a9 (mmN (dzU v4 (rd arg3 X_arg3 (k1_off1 i k) (k1_off1_inb i k)) (rd arg4 X_arg4 (k1_off1 i k) (k1_off1_inb i k)) v12 v20 a1 a5) (rd arg3 X_arg3 (k1_off1 i k) (k1_off1_inb i k))),
      addf a10 (mmN (dzU v6 (rd arg3 X_arg3 (k1_off2 i k) (k1_off2_inb i k)) (rd arg4 X_arg4 (k1_off2 i k) (k1_off2_inb i k)) v14 v22 a2 a6) (rd arg3 X_arg3 (k1_off2 i k) (k1_off2_inb i k))),
      addf a11 (mmN (dzU v8 (rd arg3 X_arg3 (k1_off3 i k) (k1_off3_inb i k)) (rd arg4 X_arg4 (k1_off3 i k) (k1_off3_inb i k)) v16 v24 a3 a7) (rd arg3 X_arg3 (k1_off3 i k) (k1_off3_inb i k))),
      addf a12 (mmN (dzU v10 (rd arg3 X_arg3 (k1_off4 i k) (k1_off4_inb i k)) (rd arg4 X_arg4 (k1_off4 i k) (k1_off4_inb i k)) v18 v26 a4 a8) (rd arg3 X_arg3 (k1_off4 i k) (k1_off4_inb i k)))) := by
  unfold trip_k1_t1
  rfl

/-- One tile of the backward loop: its stores of the keys' gradient, the last first. -/
theorem trip1_8 (𝒱 : Variants) (c : Dev nD) (bd : Option 𝒱.V) (i : grid1.Coords) (arg2 : Memref sig .tc .vmem S256x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S4x256x1 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S2048x512 .f32) (harg8 : arg8.IsWhole) (arg9 : Memref sig .tc .vmem S2048x512 .f32) (harg9 : arg9.IsWhole) (arg1 : BitVec 32) (v4 v6 v8 v10 v12 v14 v16 v18 : FVec F S256x128 .bf16) (v20 v22 v24 v26 : FVec F S256x1 .f32) (X_arg3 : BufTy.Contents (Elt F) arg3.view.ty) (X_arg4 : BufTy.Contents (Elt F) arg4.view.ty) (k : Fin (k1_t1_loop i).trips)
  (a1 a2 a3 a4 a5 a6 a7 a8 : FVec F S256x1 .f32) (a9 a10 a11 a12 : FVec F S256x128 .f32) (f8 : BufTy.Contents (Elt F) arg8.view.ty) (f9 : BufTy.Contents (Elt F) arg9.view.ty) : (trip_k1_t1 (F := F) 𝒱 c bd i arg2 harg2 arg3 harg3 arg4 harg4 arg5 harg5 arg6 harg6 arg7 harg7 arg8 harg8 arg9 harg9 arg1 v4 v6 v8 v10 v12 v14 v16 v18 v20 v22 v24 v26 X_arg3 X_arg4 k).2.1 (a1,a2,a3,a4,a5,a6,a7,a8,a9,a10,a11,a12) f8 f9 =
      [⟨Rect.unit (s := S2048x512) (k1_off4 i k) S256x128.size (k1_off4_inb i k), addf (idc (arg8.view.readAt (Elt F) (Rect.unit (s := S2048x512) (k1_off4 i k) S256x128.size (k1_off4_inb i k)).toLoadRect f8)) (mmTN (dzU v10 (rd arg3 X_arg3 (k1_off4 i k) (k1_off4_inb i k)) (rd arg4 X_arg4 (k1_off4 i k) (k1_off4_inb i k)) v18 v26 a4 a8) v10)⟩,
      ⟨Rect.unit (s := S2048x512) (k1_off3 i k) S256x128.size (k1_off3_inb i k), addf (idc (arg8.view.readAt (Elt F) (Rect.unit (s := S2048x512) (k1_off3 i k) S256x128.size (k1_off3_inb i k)).toLoadRect f8)) (mmTN (dzU v8 (rd arg3 X_arg3 (k1_off3 i k) (k1_off3_inb i k)) (rd arg4 X_arg4 (k1_off3 i k) (k1_off3_inb i k)) v16 v24 a3 a7) v8)⟩,
      ⟨Rect.unit (s := S2048x512) (k1_off2 i k) S256x128.size (k1_off2_inb i k), addf (idc (arg8.view.readAt (Elt F) (Rect.unit (s := S2048x512) (k1_off2 i k) S256x128.size (k1_off2_inb i k)).toLoadRect f8)) (mmTN (dzU v6 (rd arg3 X_arg3 (k1_off2 i k) (k1_off2_inb i k)) (rd arg4 X_arg4 (k1_off2 i k) (k1_off2_inb i k)) v14 v22 a2 a6) v6)⟩,
      ⟨Rect.unit (s := S2048x512) (k1_off1 i k) S256x128.size (k1_off1_inb i k), addf (idc (arg8.view.readAt (Elt F) (Rect.unit (s := S2048x512) (k1_off1 i k) S256x128.size (k1_off1_inb i k)).toLoadRect f8)) (mmTN (dzU v4 (rd arg3 X_arg3 (k1_off1 i k) (k1_off1_inb i k)) (rd arg4 X_arg4 (k1_off1 i k) (k1_off1_inb i k)) v12 v20 a1 a5) v4)⟩] := by
  unfold trip_k1_t1
  dsimp only
  rfl

/-- One tile of the backward loop: its stores of the values' gradient, the last first. -/
theorem trip1_9 (𝒱 : Variants) (c : Dev nD) (bd : Option 𝒱.V) (i : grid1.Coords) (arg2 : Memref sig .tc .vmem S256x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S4x256x1 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S2048x512 .f32) (harg8 : arg8.IsWhole) (arg9 : Memref sig .tc .vmem S2048x512 .f32) (harg9 : arg9.IsWhole) (arg1 : BitVec 32) (v4 v6 v8 v10 v12 v14 v16 v18 : FVec F S256x128 .bf16) (v20 v22 v24 v26 : FVec F S256x1 .f32) (X_arg3 : BufTy.Contents (Elt F) arg3.view.ty) (X_arg4 : BufTy.Contents (Elt F) arg4.view.ty) (k : Fin (k1_t1_loop i).trips)
  (a1 a2 a3 a4 a5 a6 a7 a8 : FVec F S256x1 .f32) (a9 a10 a11 a12 : FVec F S256x128 .f32) (f8 : BufTy.Contents (Elt F) arg8.view.ty) (f9 : BufTy.Contents (Elt F) arg9.view.ty) : (trip_k1_t1 (F := F) 𝒱 c bd i arg2 harg2 arg3 harg3 arg4 harg4 arg5 harg5 arg6 harg6 arg7 harg7 arg8 harg8 arg9 harg9 arg1 v4 v6 v8 v10 v12 v14 v16 v18 v20 v22 v24 v26 X_arg3 X_arg4 k).2.2.1 (a1,a2,a3,a4,a5,a6,a7,a8,a9,a10,a11,a12) f8 f9 =
      [⟨Rect.unit (s := S2048x512) (k1_off4 i k) S256x128.size (k1_off4_inb i k), addf (idc (arg9.view.readAt (Elt F) (Rect.unit (s := S2048x512) (k1_off4 i k) S256x128.size (k1_off4_inb i k)).toLoadRect f9)) (mmTN (nar (attU v10 (rd arg3 X_arg3 (k1_off4 i k) (k1_off4_inb i k)) v26 a4)) v18)⟩,
      ⟨Rect.unit (s := S2048x512) (k1_off3 i k) S256x128.size (k1_off3_inb i k), addf (idc (arg9.view.readAt (Elt F) (Rect.unit (s := S2048x512) (k1_off3 i k) S256x128.size (k1_off3_inb i k)).toLoadRect f9)) (mmTN (nar (attU v8 (rd arg3 X_arg3 (k1_off3 i k) (k1_off3_inb i k)) v24 a3)) v16)⟩,
      ⟨Rect.unit (s := S2048x512) (k1_off2 i k) S256x128.size (k1_off2_inb i k), addf (idc (arg9.view.readAt (Elt F) (Rect.unit (s := S2048x512) (k1_off2 i k) S256x128.size (k1_off2_inb i k)).toLoadRect f9)) (mmTN (nar (attU v6 (rd arg3 X_arg3 (k1_off2 i k) (k1_off2_inb i k)) v22 a2)) v14)⟩,
      ⟨Rect.unit (s := S2048x512) (k1_off1 i k) S256x128.size (k1_off1_inb i k), addf (idc (arg9.view.readAt (Elt F) (Rect.unit (s := S2048x512) (k1_off1 i k) S256x128.size (k1_off1_inb i k)).toLoadRect f9)) (mmTN (nar (attU v4 (rd arg3 X_arg3 (k1_off1 i k) (k1_off1_inb i k)) v20 a1)) v12)⟩] := by
  unfold trip_k1_t1
  dsimp only
  rfl

end Cert.KernelIdeal.Sba

end

end
-- ==== Proof.BwdIn.lean ====
/- What the blocks of a step of the backward pass hold, head by head. -/
module

public import proofs.«01_k».proof.Proof.HeadStep
public import proofs.«01_k».proof.Proof.Trips
public import proofs.«01_k».proof.Proof.Bodies
public import Idealize.ShloMosaic.Lib.Pointwise

@[expose] public section

set_option maxRecDepth 16384

noncomputable section

namespace Cert.KernelIdeal.Sba

open Idealize.ShloMosaic Idealize.ShloMosaic.TcCoe Idealize.SL.Sem Cert.KernelIdeal Cert.KernelIdeal.Gen Cert.KernelIdeal.Facts

/-- The loop runs over the tiles before the rows' own. -/
theorem trips1 : ∀ i : grid1.Coords, (k1_t1_loop i).trips = (i 1).val := by decide +kernel

/-- The loop's remainder is empty. -/
theorem trips2 (i : grid1.Coords) : (k1_t2_loop i).trips = 0 := Nat.le_zero.1 (k1_t2_abs i).2.1

/-- Adding the rows from `256 n` on to sums that are complete before them. -/
theorem addRows_step (n : ℕ) (x : ℕ → ℕ → ℕ → ℝ) (f : ℕ → ℕ → ℝ) (r c : ℕ) :
    addRows (256 * n) (fun h b c => x h (256 * n + b) c) (fun r c => if r < 256 * n then f r c + x (c / 128) r (c % 128) else f r c) r c
      = if r < 256 * (n + 1) then f r c + x (c / 128) r (c % 128) else f r c := by
  unfold addRows
  beta_reduce
  by_cases h : r < 256 * n
  · rw [if_neg (by omega), if_pos h, if_pos (by omega)]
  · by_cases h' : r < 256 * (n + 1)
    · rw [if_pos (by omega), if_neg h, if_pos h', show 256 * n + (r - 256 * n) = r by omega]
    · rw [if_neg (by omega), if_neg h, if_neg h']

/-- The blocks of a step of the backward pass hold the numbers of the heads `Hs`, the rows being those from `T` on. -/
structure InB (Hs : ℕ → Head) (T : ℕ) (arg2 : Memref sig .tc .vmem S256x512 .f32) (arg3 arg4 : Memref sig .tc .vmem S2048x512 .f32)
    (arg5 : Memref sig .tc .vmem S4x256x1 .f32) (arg6 : Memref sig .tc .vmem S256x512 .f32)
    (X2 : BufTy.Contents (Elt Ideal) arg2.view.ty) (X3 : BufTy.Contents (Elt Ideal) arg3.view.ty) (X4 : BufTy.Contents (Elt Ideal) arg4.view.ty)
    (X5 : BufTy.Contents (Elt Ideal) arg5.view.ty) (X6 : BufTy.Contents (Elt Ideal) arg6.view.ty) : Prop where
  hq : IsM (φ := .f32) (arg2.view.read (Elt Ideal) X2) fun a c => (Hs (c / 128)).q (T + a) (c % 128)
  hk : IsM (φ := .f32) (arg3.view.read (Elt Ideal) X3) fun s c => (Hs (c / 128)).k s (c % 128)
  hv : IsM (φ := .f32) (arg4.view.read (Elt Ideal) X4) fun s c => (Hs (c / 128)).v s (c % 128)
  hd : IsM (φ := .f32) (arg6.view.read (Elt Ideal) X6) fun a c => (Hs (c / 128)).g (T + a) (c % 128)
  ht : ∀ (h : Fin 4) (a : Fin 256), arg5.view.read (Elt Ideal) X5 (ix3 h a (0 : Fin 1)) = (((Hs h.val).tot (T + a.val) : ℝ) : EReal)

/-- One head's column of totals. -/
theorem isM_tb {Hs : ℕ → Head} {T : ℕ} (arg5 : Memref sig .tc .vmem S4x256x1 .f32) (X5 : BufTy.Contents (Elt Ideal) arg5.view.ty)
    (ht : ∀ (h : Fin 4) (a : Fin 256), arg5.view.read (Elt Ideal) X5 (ix3 h a (0 : Fin 1)) = (((Hs h.val).tot (T + a.val) : ℝ) : EReal))
    (h : ℕ) (hh : h < 4) (inb : ∀ a, (![h, 0, 0] : Fin 3 → ℕ) a + S1x256x1.size a ≤ S4x256x1.size a) :
    IsM (tb (F := Ideal) arg5 X5 ![h, 0, 0] inb) fun a _ => (Hs h).tot (T + a) := fun a b => by
  have e : tb (F := Ideal) arg5 X5 ![h, 0, 0] inb (ix2 a b)
      = arg5.view.readAt (Elt Ideal) (Rect.unit (s := S4x256x1) ![h, 0, 0] S1x256x1.size inb).toLoadRect X5 (ix3 (0 : Fin 1) a (0 : Fin 1)) := by
    show shapeCast S256x1 _ _ (ix2 a b) = _
    simp only [pointwise]
  rw [e, View.readAt_unit arg5.view X5 inb rfl inb]
  refine Eq.trans ?_ (ht ⟨h, hh⟩ a)
  show arg5.view.read (Elt Ideal) X5 ((Rect.unit (s := S4x256x1) ![h, 0, 0] S1x256x1.size inb).emb (ix3 (0 : Fin 1) a (0 : Fin 1))) = _
  congr 1
  funext d; apply Fin.ext
  match d with
  | ⟨0, _⟩ => show h + 1 * 0 = h; omega
  | ⟨1, _⟩ => show 0 + 1 * a.val = a.val; omega
  | ⟨2, _⟩ => rfl

section
variable {Hs : ℕ → Head} {T : ℕ} {arg2 : Memref sig .tc .vmem S256x512 .f32} {arg3 arg4 : Memref sig .tc .vmem S2048x512 .f32}
    {arg5 : Memref sig .tc .vmem S4x256x1 .f32} {arg6 : Memref sig .tc .vmem S256x512 .f32}
    {X2 : BufTy.Contents (Elt Ideal) arg2.view.ty} {X3 : BufTy.Contents (Elt Ideal) arg3.view.ty} {X4 : BufTy.Contents (Elt Ideal) arg4.view.ty}
    {X5 : BufTy.Contents (Elt Ideal) arg5.view.ty} {X6 : BufTy.Contents (Elt Ideal) arg6.view.ty}

/-- One head's blocks of a tile, cut out of the step's blocks. -/
theorem InB.head (I : InB Hs T arg2 arg3 arg4 arg5 arg6 X2 X3 X4 X5 X6) (h c0 : ℕ) (hh : h < 4) (hc : c0 = 128 * h) (S : ℕ)
    (j2 : ∀ a, (![0, c0] : Fin 2 → ℕ) a + S256x128.size a ≤ S256x512.size a) (off : Fin 2 → ℕ)
    (j3 : ∀ a, off a + S256x128.size a ≤ S2048x512.size a) (hoff : off = ![S, c0])
    (j5 : ∀ a, (![h, 0, 0] : Fin 3 → ℕ) a + S1x256x1.size a ≤ S4x256x1.size a) :
    HeadIn (Hs h) T S (qb (F := Ideal) arg2 X2 ![0, c0] j2) (rd (F := Ideal) arg3 X3 off j3) (rd (F := Ideal) arg4 X4 off j3)
      (qb (F := Ideal) arg6 X6 ![0, c0] j2) (tb (F := Ideal) arg5 X5 ![h, 0, 0] j5) where
  hq := (isM_nar' (isM_readAt arg2 X2 I.hq 0 c0 j2 rfl)).congr fun a _ c _ => by
    beta_reduce; rw [show (c0 + c) / 128 = h by omega, show (c0 + c) % 128 = c by omega, Nat.zero_add]
  hk := (isM_nar' (isM_readAt arg3 X3 I.hk S c0 j3 hoff)).congr fun a _ c _ => by
    beta_reduce; rw [show (c0 + c) / 128 = h by omega, show (c0 + c) % 128 = c by omega]
  hv := (isM_nar' (isM_readAt arg4 X4 I.hv S c0 j3 hoff)).congr fun a _ c _ => by
    beta_reduce; rw [show (c0 + c) / 128 = h by omega, show (c0 + c) % 128 = c by omega]
  hd := (isM_nar' (isM_readAt arg6 X6 I.hd 0 c0 j2 rfl)).congr fun a _ c _ => by
    beta_reduce; rw [show (c0 + c) / 128 = h by omega, show (c0 + c) % 128 = c by omega, Nat.zero_add]
  ht := isM_tb arg5 X5 I.ht h hh j5

end

/-- What the backward loop carries before the rows `S`. -/
structure CarOk (Hs : ℕ → Head) (T S : ℕ) (x : CarB Ideal) : Prop where
  c0 : HeadCar (Hs 0) T S x.1 x.2.2.2.2.1 x.2.2.2.2.2.2.2.2.1
  c1 : HeadCar (Hs 1) T S x.2.1 x.2.2.2.2.2.1 x.2.2.2.2.2.2.2.2.2.1
  c2 : HeadCar (Hs 2) T S x.2.2.1 x.2.2.2.2.2.2.1 x.2.2.2.2.2.2.2.2.2.2.1
  c3 : HeadCar (Hs 3) T S x.2.2.2.1 x.2.2.2.2.2.2.2.1 x.2.2.2.2.2.2.2.2.2.2.2

/-- Nothing is carried before the first rows. -/
theorem carOk_zero (Hs : ℕ → Head) (T : ℕ) : CarOk Hs T 0 zB := by
  have h : ∀ H : Head, HeadCar H T 0 z1 z1 z128 := fun H =>
    ⟨fun _ _ => Ideal.ofBits_zero_f32, fun _ _ => Ideal.ofBits_zero_f32, fun _ _ => Ideal.ofBits_zero_f32⟩
  exact ⟨h _, h _, h _, h _⟩

end Cert.KernelIdeal.Sba

end

end
-- ==== Proof.BwdLoop.lean ====
/- The backward loop over the tiles below the diagonal, as sums of numbers. -/
module

public import proofs.«01_k».proof.Proof.BwdIn

@[expose] public section

set_option maxRecDepth 16384

noncomputable section

namespace Cert.KernelIdeal.Sba

open Idealize.ShloMosaic Idealize.ShloMosaic.TcCoe Idealize.SL.Sem Cert.KernelIdeal Cert.KernelIdeal.Gen Cert.KernelIdeal.Facts

section
variable {Hs : ℕ → Head} (c : Dev nD) (i : grid1.Coords) (arg2 : Memref sig .tc .vmem S256x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S4x256x1 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S2048x512 .f32) (harg8 : arg8.IsWhole) (arg9 : Memref sig .tc .vmem S2048x512 .f32) (harg9 : arg9.IsWhole)
    (X2 : BufTy.Contents (Elt Ideal) arg2.view.ty) (X3 : BufTy.Contents (Elt Ideal) arg3.view.ty) (X4 : BufTy.Contents (Elt Ideal) arg4.view.ty)
    (X5 : BufTy.Contents (Elt Ideal) arg5.view.ty) (X6 : BufTy.Contents (Elt Ideal) arg6.view.ty)
    (G8 : BufTy.Contents (Elt Ideal) arg8.view.ty) (G9 : BufTy.Contents (Elt Ideal) arg9.view.ty)

attribute [local irreducible] st_k1_t1 Scf.trips mulf addf subf exp

/-- What the backward loop holds after `n` tiles: the sums it carries, and the gradients of keys and values with the rows' share added below `256 n`. -/
abbrev LoopOk (Hs : ℕ → Head) (T n : ℕ) (arg8 arg9 : Memref sig .tc .vmem S2048x512 .f32) (G8 : BufTy.Contents (Elt Ideal) arg8.view.ty)
    (G9 : BufTy.Contents (Elt Ideal) arg9.view.ty) (f8 f9 : ℕ → ℕ → ℝ)
    (s : CarB Ideal × List (View.Piece (Elt Ideal) S2048x512 .f32) × List (View.Piece (Elt Ideal) S2048x512 .f32)) : Prop :=
  CarOk Hs T (256 * n) s.1
    ∧ IsM (φ := .f32) (arg8.view.read (Elt Ideal) (arg8.view.writes (Elt Ideal) G8 s.2.1))
        (fun r c => if r < 256 * n then f8 r c + dkC (Hs (c / 128)) T r (c % 128) else f8 r c)
    ∧ IsM (φ := .f32) (arg9.view.read (Elt Ideal) (arg9.view.writes (Elt Ideal) G9 s.2.2))
        (fun r c => if r < 256 * n then f9 r c + dvC (Hs (c / 128)) T r (c % 128) else f9 r c)

/-- One more tile. -/
theorem loopB_step {f8 f9 : ℕ → ℕ → ℝ} (I : InB Hs (256 * (i 1).val) arg2 arg3 arg4 arg5 arg6 X2 X3 X4 X5 X6) (n : ℕ) (hk : n < (k1_t1_loop i).trips)
    (hTS : 256 * n + 256 ≤ 256 * (i 1).val)
    (s : CarB Ideal × List (View.Piece (Elt Ideal) S2048x512 .f32) × List (View.Piece (Elt Ideal) S2048x512 .f32))
    (hs : LoopOk Hs (256 * (i 1).val) n arg8 arg9 G8 G9 f8 f9 s) (v : BitVec 32) :
    LoopOk Hs (256 * (i 1).val) (n + 1) arg8 arg9 G8 G9 f8 f9
      ((trip_k1_t1 (F := Ideal) Variants.none c none i arg2 harg2 arg3 harg3 arg4 harg4 arg5 harg5 arg6 harg6 arg7 harg7 arg8 harg8 arg9 harg9 v (qb arg2 X2 ![0, 0] inb_S256x512_S256x128_0_0) (qb arg2 X2 ![0, 128] inb_S256x512_S256x128_0_128) (qb arg2 X2 ![0, 256] inb_S256x512_S256x128_0_256) (qb arg2 X2 ![0, 384] inb_S256x512_S256x128_0_384) (qb arg6 X6 ![0, 0] inb_S256x512_S256x128_0_0) (qb arg6 X6 ![0, 128] inb_S256x512_S256x128_0_128) (qb arg6 X6 ![0, 256] inb_S256x512_S256x128_0_256) (qb arg6 X6 ![0, 384] inb_S256x512_S256x128_0_384) (tb arg5 X5 ![0, 0, 0] inb_S4x256x1_S1x256x1_0_0_0) (tb arg5 X5 ![1, 0, 0] inb_S4x256x1_S1x256x1_1_0_0) (tb arg5 X5 ![2, 0, 0] inb_S4x256x1_S1x256x1_2_0_0) (tb arg5 X5 ![3, 0, 0] inb_S4x256x1_S1x256x1_3_0_0) X3 X4 ⟨n, hk⟩).1 s.1 (arg8.view.writes (Elt Ideal) G8 s.2.1) (arg9.view.writes (Elt Ideal) G9 s.2.2),
       (trip_k1_t1 (F := Ideal) Variants.none c none i arg2 harg2 arg3 harg3 arg4 harg4 arg5 harg5 arg6 harg6 arg7 harg7 arg8 harg8 arg9 harg9 v (qb arg2 X2 ![0, 0] inb_S256x512_S256x128_0_0) (qb arg2 X2 ![0, 128] inb_S256x512_S256x128_0_128) (qb arg2 X2 ![0, 256] inb_S256x512_S256x128_0_256) (qb arg2 X2 ![0, 384] inb_S256x512_S256x128_0_384) (qb arg6 X6 ![0, 0] inb_S256x512_S256x128_0_0) (qb arg6 X6 ![0, 128] inb_S256x512_S256x128_0_128) (qb arg6 X6 ![0, 256] inb_S256x512_S256x128_0_256) (qb arg6 X6 ![0, 384] inb_S256x512_S256x128_0_384) (tb arg5 X5 ![0, 0, 0] inb_S4x256x1_S1x256x1_0_0_0) (tb arg5 X5 ![1, 0, 0] inb_S4x256x1_S1x256x1_1_0_0) (tb arg5 X5 ![2, 0, 0] inb_S4x256x1_S1x256x1_2_0_0) (tb arg5 X5 ![3, 0, 0] inb_S4x256x1_S1x256x1_3_0_0) X3 X4 ⟨n, hk⟩).2.1 s.1 (arg8.view.writes (Elt Ideal) G8 s.2.1) (arg9.view.writes (Elt Ideal) G9 s.2.2) ++ s.2.1,
       (trip_k1_t1 (F := Ideal) Variants.none c none i arg2 harg2 arg3 harg3 arg4 harg4 arg5 harg5 arg6 harg6 arg7 harg7 arg8 harg8 arg9 harg9 v (qb arg2 X2 ![0, 0] inb_S256x512_S256x128_0_0) (qb arg2 X2 ![0, 128] inb_S256x512_S256x128_0_128) (qb arg2 X2 ![0, 256] inb_S256x512_S256x128_0_256) (qb arg2 X2 ![0, 384] inb_S256x512_S256x128_0_384) (qb arg6 X6 ![0, 0] inb_S256x512_S256x128_0_0) (qb arg6 X6 ![0, 128] inb_S256x512_S256x128_0_128) (qb arg6 X6 ![0, 256] inb_S256x512_S256x128_0_256) (qb arg6 X6 ![0, 384] inb_S256x512_S256x128_0_384) (tb arg5 X5 ![0, 0, 0] inb_S4x256x1_S1x256x1_0_0_0) (tb arg5 X5 ![1, 0, 0] inb_S4x256x1_S1x256x1_1_0_0) (tb arg5 X5 ![2, 0, 0] inb_S4x256x1_S1x256x1_2_0_0) (tb arg5 X5 ![3, 0, 0] inb_S4x256x1_S1x256x1_3_0_0) X3 X4 ⟨n, hk⟩).2.2.1 s.1 (arg8.view.writes (Elt Ideal) G8 s.2.1) (arg9.view.writes (Elt Ideal) G9 s.2.2) ++ s.2.2) := by
  obtain ⟨⟨a1, a2, a3, a4, a5, a6, a7, a8, a9, a10, a11, a12⟩, L8, L9⟩ := s
  obtain ⟨C, M8, M9⟩ := hs
  dsimp only at C M8 M9 ⊢
  have I0 := I.head 0 0 (by omega) rfl (256 * n) inb_S256x512_S256x128_0_0 _ (k1_off1_inb i ⟨n, hk⟩) (k1_off1_eq i ⟨n, hk⟩) inb_S4x256x1_S1x256x1_0_0_0
  have I1 := I.head 1 128 (by omega) rfl (256 * n) inb_S256x512_S256x128_0_128 _ (k1_off2_inb i ⟨n, hk⟩) (k1_off2_eq i ⟨n, hk⟩) inb_S4x256x1_S1x256x1_1_0_0
  have I2 := I.head 2 256 (by omega) rfl (256 * n) inb_S256x512_S256x128_0_256 _ (k1_off3_inb i ⟨n, hk⟩) (k1_off3_eq i ⟨n, hk⟩) inb_S4x256x1_S1x256x1_2_0_0
  have I3 := I.head 3 384 (by omega) rfl (256 * n) inb_S256x512_S256x128_0_384 _ (k1_off4_inb i ⟨n, hk⟩) (k1_off4_eq i ⟨n, hk⟩) inb_S4x256x1_S1x256x1_3_0_0
  refine ⟨?_, ?_, ?_⟩
  · dsimp only
    rw [trip1]
    exact ⟨I0.carU C.c0 hTS, I1.carU C.c1 hTS, I2.carU C.c2 hTS, I3.carU C.c3 hTS⟩
  · dsimp only
    rw [View.writes_append, trip1_8]
    refine (isM_fourU arg8 _ M8 (256 * n) (fun h b c => dkC (Hs h) (256 * (i 1).val) (256 * n + b) c) (I0.dkU C.c0 hTS) (I1.dkU C.c1 hTS)
      (I2.dkU C.c2 hTS) (I3.dkU C.c3 hTS) _ _ _ _ (k1_off1_eq i ⟨n, hk⟩) (k1_off2_eq i ⟨n, hk⟩) (k1_off3_eq i ⟨n, hk⟩) (k1_off4_eq i ⟨n, hk⟩)).congr
      fun r _ c _ => addRows_step n (fun h r c => dkC (Hs h) (256 * (i 1).val) r c) f8 r c
  · dsimp only
    rw [View.writes_append, trip1_9]
    refine (isM_fourU arg9 _ M9 (256 * n) (fun h b c => dvC (Hs h) (256 * (i 1).val) (256 * n + b) c) (I0.dvU C.c0 hTS) (I1.dvU C.c1 hTS)
      (I2.dvU C.c2 hTS) (I3.dvU C.c3 hTS) _ _ _ _ (k1_off1_eq i ⟨n, hk⟩) (k1_off2_eq i ⟨n, hk⟩) (k1_off3_eq i ⟨n, hk⟩) (k1_off4_eq i ⟨n, hk⟩)).congr
      fun r _ c _ => addRows_step n (fun h r c => dvC (Hs h) (256 * (i 1).val) r c) f9 r c

/-- The backward loop after `n` tiles. -/
theorem loopB {f8 f9 : ℕ → ℕ → ℝ} (I : InB Hs (256 * (i 1).val) arg2 arg3 arg4 arg5 arg6 X2 X3 X4 X5 X6)
    (h8 : IsM (φ := .f32) (arg8.view.read (Elt Ideal) G8) f8) (h9 : IsM (φ := .f32) (arg9.view.read (Elt Ideal) G9) f9) (n : ℕ) :
    n ≤ (i 1).val → LoopOk Hs (256 * (i 1).val) n arg8 arg9 G8 G9 f8 f9 (s1B c i arg2 harg2 arg3 harg3 arg4 harg4 arg5 harg5 arg6 harg6 arg7 harg7 arg8 harg8 arg9 harg9 X2 X3 X4 X5 X6 G8 G9 n) := by
  induction n with
  | zero =>
    intro _
    have e : (s1B c i arg2 harg2 arg3 harg3 arg4 harg4 arg5 harg5 arg6 harg6 arg7 harg7 arg8 harg8 arg9 harg9 X2 X3 X4 X5 X6 G8 G9 0) = (zB, [], []) := by unfold s1B; rw [st_k1_t1.eq_1]
    rw [e]
    exact ⟨carOk_zero Hs _, h8.congr fun r _ c _ => (if_neg (by omega)).symm, h9.congr fun r _ c _ => (if_neg (by omega)).symm⟩
  | succ n ih =>
    intro hn
    have hk : n < (k1_t1_loop i).trips := by rw [trips1]; omega
    have hs := loopB_step c i arg2 harg2 arg3 harg3 arg4 harg4 arg5 harg5 arg6 harg6 arg7 harg7 arg8 harg8 arg9 harg9 X2 X3 X4 X5 X6 G8 G9 I n hk (by omega) _ (ih (by omega)) (BitVec.ofNat 32 (i 1).val)
    unfold s1B at hs ⊢
    rw [st_k1_t1_succ (F := Ideal) Variants.none c none i arg2 harg2 arg3 harg3 arg4 harg4 arg5 harg5 arg6 harg6 arg7 harg7 arg8 harg8 arg9 harg9 _ _ _ _ _ _ _ _ _ _ _ _ _ X3 X4 G8 G9 zB ⟨n, hk⟩]
    exact hs

end

end Cert.KernelIdeal.Sba

end

end
-- ==== Proof.BwdDiag.lean ====
/- The tile on the diagonal of a step of the backward pass, and with it the step, as sums of numbers. -/
module

public import proofs.«01_k».proof.Proof.BwdLoop

@[expose] public section

set_option maxRecDepth 16384

noncomputable section

namespace Cert.KernelIdeal.Sba

open Idealize.ShloMosaic Idealize.ShloMosaic.TcCoe Idealize.SL.Sem Cert.KernelIdeal Cert.KernelIdeal.Gen Cert.KernelIdeal.Facts

/-- Four stores of blocks side by side fill the rows. -/
theorem isM_four5 {x0 : FVec Ideal S256x512 .f32} {f0 : ℕ → ℕ → ℝ} (hx : IsM x0 f0) (g : ℕ → ℕ → ℕ → ℝ) {D0 D1 D2 D3 : FVec Ideal S256x128 .f32}
    (h0 : IsM D0 (g 0)) (h1 : IsM D1 (g 1)) (h2 : IsM D2 (g 2)) (h3 : IsM D3 (g 3)) :
    IsM (m := 256) (n := 512) (φ := .f32) (VecWindow.put (s := S256x512) (VecWindow.put (s := S256x512) (VecWindow.put (s := S256x512)
      (VecWindow.put (s := S256x512) x0 ![0, 0] S256x128.size D0) ![0, 128] S256x128.size D1) ![0, 256] S256x128.size D2) ![0, 384] S256x128.size D3)
      fun a c => g (c / 128) a (c % 128) :=
  (isM_put (isM_put (isM_put (isM_put hx h0 0 0) h1 0 128) h2 0 256) h3 0 384).congr fun a ha c hc => by
    beta_reduce
    have h : c / 128 = 0 ∨ c / 128 = 1 ∨ c / 128 = 2 ∨ c / 128 = 3 := by omega
    rcases h with h | h | h | h <;> rw [h]
    · rw [if_neg (by omega), if_neg (by omega), if_neg (by omega), if_pos (by omega)]
      congr 1; omega
    · rw [if_neg (by omega), if_neg (by omega), if_pos (by omega)]
      congr 1; omega
    · rw [if_neg (by omega), if_pos (by omega)]
      congr 1; omega
    · rw [if_pos (by omega)]
      congr 1; omega

/-- Four stores of sums, each over the stores before. -/
theorem isM_fourD (arg : Memref sig .tc .vmem S2048x512 .f32) (G : BufTy.Contents (Elt Ideal) arg.view.ty)
    (L : List (View.Piece (Elt Ideal) S2048x512 .f32)) {f : ℕ → ℕ → ℝ}
    (hG : IsM (φ := .f32) (arg.view.read (Elt Ideal) (arg.view.writes (Elt Ideal) G L)) f) (r0 : ℕ) (g : ℕ → ℕ → ℕ → ℝ)
    {D0 D1 D2 D3 : FVec Ideal S256x128 .f32}
    (h0 : IsM D0 (g 0)) (h1 : IsM D1 (g 1)) (h2 : IsM D2 (g 2)) (h3 : IsM D3 (g 3)) {o0 o1 o2 o3 : Fin 2 → ℕ}
    (i0 : ∀ a, o0 a + S256x128.size a ≤ S2048x512.size a) (i1 : ∀ a, o1 a + S256x128.size a ≤ S2048x512.size a)
    (i2 : ∀ a, o2 a + S256x128.size a ≤ S2048x512.size a) (i3 : ∀ a, o3 a + S256x128.size a ≤ S2048x512.size a)
    (e0 : o0 = ![r0, 0]) (e1 : o1 = ![r0, 128]) (e2 : o2 = ![r0, 256]) (e3 : o3 = ![r0, 384]) :
    IsM (φ := .f32) (arg.view.read (Elt Ideal) (arg.view.writes (Elt Ideal) G
      (acc arg G o3 i3 D3 (acc arg G o2 i2 D2 (acc arg G o1 i1 D1 (acc arg G o0 i0 D0 L)))))) (addRows r0 g f) := by
  have b0 := isM_piece arg G _ L hG hG h0 r0 0 i0 e0 fun _ _ _ _ => rfl
  have b1 := isM_piece arg G _ _ b0 b0 h1 r0 128 i1 e1 fun _ _ _ _ => rfl
  have b2 := isM_piece arg G _ _ b1 b1 h2 r0 256 i2 e2 fun _ _ _ _ => rfl
  have b3 := isM_piece arg G _ _ b2 b2 h3 r0 384 i3 e3 fun _ _ _ _ => rfl
  exact b3.congr fun r _ c hc => addAt_four r0 g f r c hc

/-- Sums complete below the rows' end are complete: the rows add nothing after it. -/
theorem step_all (n : ℕ) (x : ℕ → ℕ → ℝ) (f : ℕ → ℕ → ℝ) (h : ∀ r c, 256 * n + 256 ≤ r → x r c = 0) (r c d : ℕ) :
    (if r < 256 * (n + 1) then f r d + x r c else f r d) = f r d + x r c := by
  by_cases h' : r < 256 * (n + 1)
  · rw [if_pos h']
  · rw [if_neg h', h r c (by omega), add_zero]

section
variable {Hs : ℕ → Head} (c : Dev nD) (i : grid1.Coords) (arg2 : Memref sig .tc .vmem S256x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S4x256x1 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S2048x512 .f32) (harg8 : arg8.IsWhole) (arg9 : Memref sig .tc .vmem S2048x512 .f32) (harg9 : arg9.IsWhole)
    (X2 : BufTy.Contents (Elt Ideal) arg2.view.ty) (X3 : BufTy.Contents (Elt Ideal) arg3.view.ty) (X4 : BufTy.Contents (Elt Ideal) arg4.view.ty)
    (X5 : BufTy.Contents (Elt Ideal) arg5.view.ty) (X6 : BufTy.Contents (Elt Ideal) arg6.view.ty)
    (G8 : BufTy.Contents (Elt Ideal) arg8.view.ty) (G9 : BufTy.Contents (Elt Ideal) arg9.view.ty)
    (Y8 : BufTy.Contents (Elt Ideal) arg8.view.ty) (Y9 : BufTy.Contents (Elt Ideal) arg9.view.ty)

attribute [local irreducible] st_k1_t1 st_k1_t2 mulf addf subf exp

/-- The state after the loop and its empty remainder. -/
theorem s2B_eq : (s2B c i arg2 harg2 arg3 harg3 arg4 harg4 arg5 harg5 arg6 harg6 arg7 harg7 arg8 harg8 arg9 harg9 X2 X3 X4 X5 X6 G8 G9 Y8 Y9) = ((s1B c i arg2 harg2 arg3 harg3 arg4 harg4 arg5 harg5 arg6 harg6 arg7 harg7 arg8 harg8 arg9 harg9 X2 X3 X4 X5 X6 G8 G9 (i 1).val).1, [], []) := by
  unfold s2B
  rw [trips2, st_k1_t2.eq_1, trips1]

/-- The queries' gradient after a step. -/
theorem L5_ok {f8 f9 : ℕ → ℕ → ℝ} (I : InB Hs (256 * (i 1).val) arg2 arg3 arg4 arg5 arg6 X2 X3 X4 X5 X6)
    (h8 : IsM (φ := .f32) (arg8.view.read (Elt Ideal) G8) f8) (h9 : IsM (φ := .f32) (arg9.view.read (Elt Ideal) G9) f9)
    {κ : Kind} {sp : Space} (v : View sig κ sp S256x512 .f32) (g : BufTy.Contents (Elt Ideal) v.ty) {f0 : ℕ → ℕ → ℝ} (hg : IsM (φ := .f32) (v.read (Elt Ideal) g) f0) :
    IsM (m := 256) (n := 512) (φ := .f32) (v.read (Elt Ideal) (v.writes (Elt Ideal) g (L5B c i arg2 harg2 arg3 harg3 arg4 harg4 arg5 harg5 arg6 harg6 arg7 harg7 arg8 harg8 arg9 harg9 X2 X3 X4 X5 X6 G8 G9 Y8 Y9)))
      fun a d => ∑ s ∈ Finset.range (256 * (i 1).val + 256), (Hs (d / 128)).dz (256 * (i 1).val + a) s * (Hs (d / 128)).k s (d % 128) := by
  obtain ⟨C, -, -⟩ := loopB c i arg2 harg2 arg3 harg3 arg4 harg4 arg5 harg5 arg6 harg6 arg7 harg7 arg8 harg8 arg9 harg9 X2 X3 X4 X5 X6 G8 G9 I h8 h9 (i 1).val le_rfl
  have I0 := I.head 0 0 (by omega) rfl (256 * (i 1).val) inb_S256x512_S256x128_0_0 _ (k1_off9_inb i) (k1_off9_eq i) inb_S4x256x1_S1x256x1_0_0_0
  have I1 := I.head 1 128 (by omega) rfl (256 * (i 1).val) inb_S256x512_S256x128_0_128 _ (k1_off10_inb i) (k1_off10_eq i) inb_S4x256x1_S1x256x1_1_0_0
  have I2 := I.head 2 256 (by omega) rfl (256 * (i 1).val) inb_S256x512_S256x128_0_256 _ (k1_off11_inb i) (k1_off11_eq i) inb_S4x256x1_S1x256x1_2_0_0
  have I3 := I.head 3 384 (by omega) rfl (256 * (i 1).val) inb_S256x512_S256x128_0_384 _ (k1_off12_inb i) (k1_off12_eq i) inb_S4x256x1_S1x256x1_3_0_0
  unfold L5B
  rw [s2B_eq]
  rw [View.read_writes_cons_put v g _ _ _ rfl, View.read_writes_cons_put v g _ _ _ rfl, View.read_writes_cons_put v g _ _ _ rfl,
    View.read_writes_cons_put v g _ _ _ rfl]
  exact isM_four5 (x0 := v.read (Elt Ideal) (v.writes (Elt Ideal) g [])) hg
    (fun h a d => ∑ s ∈ Finset.range (256 * (i 1).val + 256), (Hs h).dz (256 * (i 1).val + a) s * (Hs h).k s d)
    (I0.dqD C.c0) (I1.dqD C.c1) (I2.dqD C.c2) (I3.dqD C.c3)

/-- The keys' gradient after a step. -/
theorem L6_ok {f8 f9 : ℕ → ℕ → ℝ} (I : InB Hs (256 * (i 1).val) arg2 arg3 arg4 arg5 arg6 X2 X3 X4 X5 X6)
    (h8 : IsM (φ := .f32) (arg8.view.read (Elt Ideal) G8) f8) (h9 : IsM (φ := .f32) (arg9.view.read (Elt Ideal) G9) f9) :
    IsM (φ := .f32) (arg8.view.read (Elt Ideal) (arg8.view.writes (Elt Ideal) G8 (L6B c i arg2 harg2 arg3 harg3 arg4 harg4 arg5 harg5 arg6 harg6 arg7 harg7 arg8 harg8 arg9 harg9 X2 X3 X4 X5 X6 G8 G9 Y8 Y9
        ((s2B c i arg2 harg2 arg3 harg3 arg4 harg4 arg5 harg5 arg6 harg6 arg7 harg7 arg8 harg8 arg9 harg9 X2 X3 X4 X5 X6 G8 G9 Y8 Y9).2.1 ++ (s1B c i arg2 harg2 arg3 harg3 arg4 harg4 arg5 harg5 arg6 harg6 arg7 harg7 arg8 harg8 arg9 harg9 X2 X3 X4 X5 X6 G8 G9 (k1_t1_loop i).trips).2.1))))
      fun r d => f8 r d + dkC (Hs (d / 128)) (256 * (i 1).val) r (d % 128) := by
  obtain ⟨C, M8, -⟩ := loopB c i arg2 harg2 arg3 harg3 arg4 harg4 arg5 harg5 arg6 harg6 arg7 harg7 arg8 harg8 arg9 harg9 X2 X3 X4 X5 X6 G8 G9 I h8 h9 (i 1).val le_rfl
  have I0 := I.head 0 0 (by omega) rfl (256 * (i 1).val) inb_S256x512_S256x128_0_0 _ (k1_off9_inb i) (k1_off9_eq i) inb_S4x256x1_S1x256x1_0_0_0
  have I1 := I.head 1 128 (by omega) rfl (256 * (i 1).val) inb_S256x512_S256x128_0_128 _ (k1_off10_inb i) (k1_off10_eq i) inb_S4x256x1_S1x256x1_1_0_0
  have I2 := I.head 2 256 (by omega) rfl (256 * (i 1).val) inb_S256x512_S256x128_0_256 _ (k1_off11_inb i) (k1_off11_eq i) inb_S4x256x1_S1x256x1_2_0_0
  have I3 := I.head 3 384 (by omega) rfl (256 * (i 1).val) inb_S256x512_S256x128_0_384 _ (k1_off12_inb i) (k1_off12_eq i) inb_S4x256x1_S1x256x1_3_0_0
  unfold L6B
  rw [s2B_eq, trips1]
  refine (isM_fourD arg8 G8 _ M8 (256 * (i 1).val) (fun h b d => dkC (Hs h) (256 * (i 1).val) (256 * (i 1).val + b) d)
    (I0.dkD C.c0) (I1.dkD C.c1) (I2.dkD C.c2) (I3.dkD C.c3) _ _ _ _ (k1_off9_eq i) (k1_off10_eq i) (k1_off11_eq i) (k1_off12_eq i)).congr
    fun r _ d _ => ?_
  rw [addRows_step (i 1).val (fun h r d => dkC (Hs h) (256 * (i 1).val) r d) f8 r d]
  exact step_all (i 1).val (fun r c => dkC (Hs (d / 128)) (256 * (i 1).val) r c) f8 (fun r c h => dkC_zero _ h c) r (d % 128) d

/-- The values' gradient after a step. -/
theorem L7_ok {f8 f9 : ℕ → ℕ → ℝ} (I : InB Hs (256 * (i 1).val) arg2 arg3 arg4 arg5 arg6 X2 X3 X4 X5 X6)
    (h8 : IsM (φ := .f32) (arg8.view.read (Elt Ideal) G8) f8) (h9 : IsM (φ := .f32) (arg9.view.read (Elt Ideal) G9) f9) :
    IsM (φ := .f32) (arg9.view.read (Elt Ideal) (arg9.view.writes (Elt Ideal) G9 (L7B c i arg2 harg2 arg3 harg3 arg4 harg4 arg5 harg5 arg6 harg6 arg7 harg7 arg8 harg8 arg9 harg9 X2 X3 X4 X5 X6 G8 G9 Y8 Y9
        ((s2B c i arg2 harg2 arg3 harg3 arg4 harg4 arg5 harg5 arg6 harg6 arg7 harg7 arg8 harg8 arg9 harg9 X2 X3 X4 X5 X6 G8 G9 Y8 Y9).2.2 ++ (s1B c i arg2 harg2 arg3 harg3 arg4 harg4 arg5 harg5 arg6 harg6 arg7 harg7 arg8 harg8 arg9 harg9 X2 X3 X4 X5 X6 G8 G9 (k1_t1_loop i).trips).2.2))))
      fun r d => f9 r d + dvC (Hs (d / 128)) (256 * (i 1).val) r (d % 128) := by
  obtain ⟨C, -, M9⟩ := loopB c i arg2 harg2 arg3 harg3 arg4 harg4 arg5 harg5 arg6 harg6 arg7 harg7 arg8 harg8 arg9 harg9 X2 X3 X4 X5 X6 G8 G9 I h8 h9 (i 1).val le_rfl
  have I0 := I.head 0 0 (by omega) rfl (256 * (i 1).val) inb_S256x512_S256x128_0_0 _ (k1_off9_inb i) (k1_off9_eq i) inb_S4x256x1_S1x256x1_0_0_0
  have I1 := I.head 1 128 (by omega) rfl (256 * (i 1).val) inb_S256x512_S256x128_0_128 _ (k1_off10_inb i) (k1_off10_eq i) inb_S4x256x1_S1x256x1_1_0_0
  have I2 := I.head 2 256 (by omega) rfl (256 * (i 1).val) inb_S256x512_S256x128_0_256 _ (k1_off11_inb i) (k1_off11_eq i) inb_S4x256x1_S1x256x1_2_0_0
  have I3 := I.head 3 384 (by omega) rfl (256 * (i 1).val) inb_S256x512_S256x128_0_384 _ (k1_off12_inb i) (k1_off12_eq i) inb_S4x256x1_S1x256x1_3_0_0
  unfold L7B
  rw [s2B_eq, trips1]
  refine (isM_fourD arg9 G9 _ M9 (256 * (i 1).val) (fun h b d => dvC (Hs h) (256 * (i 1).val) (256 * (i 1).val + b) d)
    (I0.dvD C.c0) (I1.dvD C.c1) (I2.dvD C.c2) (I3.dvD C.c3) _ _ _ _ (k1_off9_eq i) (k1_off10_eq i) (k1_off11_eq i) (k1_off12_eq i)).congr
    fun r _ d _ => ?_
  rw [addRows_step (i 1).val (fun h r d => dvC (Hs h) (256 * (i 1).val) r d) f9 r d]
  exact step_all (i 1).val (fun r c => dvC (Hs (d / 128)) (256 * (i 1).val) r c) f9 (fun r c h => dvC_zero _ h c) r (d % 128) d

end

end Cert.KernelIdeal.Sba

end

end
-- ==== Proof.FwdLoop.lean ====
module

public import proofs.«01_k».proof.Proof.FwdBodies
public import proofs.«01_k».proof.Proof.BwdDiag

@[expose] public section

set_option maxRecDepth 16384

noncomputable section

namespace Cert.KernelIdeal.Sba

open Idealize.ShloMosaic Idealize.ShloMosaic.TcCoe Idealize.SL.Sem Cert.KernelIdeal Cert.KernelIdeal.Gen Cert.KernelIdeal.Facts

/-- The loop runs over the tiles before the rows' own. -/
theorem trips01 : ∀ i : grid0.Coords, (k0_t1_loop i).trips = (i 1).val := by decide +kernel
/-- The loop's remainder is empty. -/
theorem trips02 (i : grid0.Coords) : (k0_t2_loop i).trips = 0 := Nat.le_zero.1 (k0_t2_abs i).2.1

theorem off1 (i : grid0.Coords) : k0_off1 i = ![256 * (i 1).val, 0] := k0_off1_eq i
theorem off2 (i : grid0.Coords) : k0_off2 i = ![256 * (i 1).val, 128] := k0_off2_eq i
theorem off3 (i : grid0.Coords) : k0_off3 i = ![256 * (i 1).val, 256] := k0_off3_eq i
theorem off4 (i : grid0.Coords) : k0_off4 i = ![256 * (i 1).val, 384] := k0_off4_eq i
theorem off5 : ∀ (i : grid0.Coords) (k : Fin (k0_t1_loop i).trips), k0_off5 i k = ![256 * ((i 1).val - 1 - k.val), 0] := by decide +kernel
theorem off6 : ∀ (i : grid0.Coords) (k : Fin (k0_t1_loop i).trips), k0_off6 i k = ![256 * ((i 1).val - 1 - k.val), 128] := by decide +kernel
theorem off7 : ∀ (i : grid0.Coords) (k : Fin (k0_t1_loop i).trips), k0_off7 i k = ![256 * ((i 1).val - 1 - k.val), 256] := by decide +kernel
theorem off8 : ∀ (i : grid0.Coords) (k : Fin (k0_t1_loop i).trips), k0_off8 i k = ![256 * ((i 1).val - 1 - k.val), 384] := by decide +kernel

/-- One head's blocks of a tile hold the head's numbers. -/
structure FHead (H : Head) (T S : ℕ) (q k v : FVec Ideal S256x128 .bf16) : Prop where
  hq : IsM q fun a c => H.q (T + a) c
  hk : IsM k fun b c => H.k (S + b) c
  hv : IsM v fun b c => H.v (S + b) c

/-- What one head carries once the rows from `S` on are done. -/
structure FCar (H : Head) (T S : ℕ) (r : FVec Ideal S256x1 .f32) (a : FVec Ideal S256x128 .f32) : Prop where
  hr : IsM r fun t _ => H.tot (T + t) - ∑ s ∈ Finset.range S, H.lk (T + t) s
  ha : IsM a fun t d => H.o (T + t) d - ∑ s ∈ Finset.range S, H.A (T + t) s * H.v s d

/-- A tile below the diagonal. -/
theorem FHead.carU {H : Head} {T S : ℕ} {q k v : FVec Ideal S256x128 .bf16} (I : FHead H T S q k v) (hTS : S + 256 ≤ T)
    {r : FVec Ideal S256x1 .f32} {a : FVec Ideal S256x128 .f32} (C : FCar H T (S + 256) r a) :
    FCar H T S (runU q k r) (accU q k v r a) where
  hr := (C.hr.add (isM_rowSum (isM_lkU H T S hTS I.hq I.hk))).congr fun t _ _ _ => by
    beta_reduce
    rw [Finset.sum_range_add (fun s => H.lk (T + t) s) S 256]; ring
  ha := (C.ha.add (isM_mmN (isM_nar (isM_attFU H T S hTS I.hq I.hk C.hr)) I.hv)).congr fun t _ d _ => by
    beta_reduce
    rw [Finset.sum_range_add (fun s => H.A (T + t) s * H.v s d) S 256]; ring

theorem isM_z1 : IsM (m := 256) (n := 1) (φ := .f32) (z1 (F := Ideal)) fun _ _ => 0 := fun _ _ => Ideal.ofBits_zero_f32
theorem isM_z128 : IsM (m := 256) (n := 128) (φ := .f32) (z128 (F := Ideal)) fun _ _ => 0 := fun _ _ => Ideal.ofBits_zero_f32

/-- The rows after a tile's own add nothing to what is left. -/
theorem tot_cut (H : Head) {T t : ℕ} (hT : T + 256 ≤ N) (ht : t < 256) : H.tot (T + t) = ∑ s ∈ Finset.range (T + 256), H.lk (T + t) s :=
  (sum_range_of_zero hT fun s hs => H.lk_of_le (by omega)).symm
/-- The rows after a tile's own add nothing to the output. -/
theorem o_cut (H : Head) {T t d : ℕ} (hT : T + 256 ≤ N) (ht : t < 256) :
    H.o (T + t) d = ∑ s ∈ Finset.range (T + 256), H.A (T + t) s * H.v s d :=
  (sum_range_of_zero hT fun s hs => by rw [H.A_of_le (by omega), zero_mul]).symm

/-- The tile on the diagonal. -/
theorem FHead.carD {H : Head} {T : ℕ} {q k v : FVec Ideal S256x128 .bf16} (I : FHead H T T q k v) (hT : T + 256 ≤ N) :
    FCar H T T (runD q k) (accD q k v) where
  hr := (isM_z1.add (isM_rowSum (isM_lkD H T I.hq I.hk))).congr fun t ht _ _ => by
    beta_reduce
    rw [tot_cut H hT ht, Finset.sum_range_add (fun s => H.lk (T + t) s) T 256]; ring
  ha := (isM_z128.add (isM_mmN (isM_nar (isM_attFD H T I.hq I.hk (isM_z1.congr fun t ht _ _ => by
      beta_reduce; rw [tot_cut H hT ht, sub_self]))) I.hv)).congr fun t ht d _ => by
    beta_reduce
    rw [o_cut H hT ht, Finset.sum_range_add (fun s => H.A (T + t) s * H.v s d) T 256]; ring

/-- What the forward loop carries once the rows from `S` on are done. -/
structure FOk (Hs : ℕ → Head) (T S : ℕ) (x : CarF Ideal) : Prop where
  c0 : FCar (Hs 0) T S x.1 x.2.2.2.2.1
  c1 : FCar (Hs 1) T S x.2.1 x.2.2.2.2.2.1
  c2 : FCar (Hs 2) T S x.2.2.1 x.2.2.2.2.2.2.1
  c3 : FCar (Hs 3) T S x.2.2.2.1 x.2.2.2.2.2.2.2

/-- The blocks of a step of the forward pass hold the numbers of the heads `Hs`, the rows being those from `T` on. -/
structure InF (Hs : ℕ → Head) (T : ℕ) (arg2 : Memref sig .tc .vmem S256x512 .f32) (arg3 arg4 : Memref sig .tc .vmem S2048x512 .f32)
    (X2 : BufTy.Contents (Elt Ideal) arg2.view.ty) (X3 : BufTy.Contents (Elt Ideal) arg3.view.ty) (X4 : BufTy.Contents (Elt Ideal) arg4.view.ty) : Prop where
  hq : IsM (φ := .f32) (arg2.view.read (Elt Ideal) X2) fun a c => (Hs (c / 128)).q (T + a) (c % 128)
  hk : IsM (φ := .f32) (arg3.view.read (Elt Ideal) X3) fun s c => (Hs (c / 128)).k s (c % 128)
  hv : IsM (φ := .f32) (arg4.view.read (Elt Ideal) X4) fun s c => (Hs (c / 128)).v s (c % 128)

/-- One head's blocks of a tile, cut out of the step's blocks. -/
theorem InF.head {Hs : ℕ → Head} {T : ℕ} {arg2 : Memref sig .tc .vmem S256x512 .f32} {arg3 arg4 : Memref sig .tc .vmem S2048x512 .f32}
    {X2 : BufTy.Contents (Elt Ideal) arg2.view.ty} {X3 : BufTy.Contents (Elt Ideal) arg3.view.ty} {X4 : BufTy.Contents (Elt Ideal) arg4.view.ty}
    (I : InF Hs T arg2 arg3 arg4 X2 X3 X4) (h c0 : ℕ) (hh : h < 4) (hc : c0 = 128 * h) (S : ℕ)
    (j2 : ∀ a, (![0, c0] : Fin 2 → ℕ) a + S256x128.size a ≤ S256x512.size a) (off : Fin 2 → ℕ)
    (j3 : ∀ a, off a + S256x128.size a ≤ S2048x512.size a) (hoff : off = ![S, c0]) :
    FHead (Hs h) T S (qb (F := Ideal) arg2 X2 ![0, c0] j2) (rd (F := Ideal) arg3 X3 off j3) (rd (F := Ideal) arg4 X4 off j3) where
  hq := (isM_nar' (isM_readAt arg2 X2 I.hq 0 c0 j2 rfl)).congr fun a _ c _ => by
    beta_reduce; rw [show (c0 + c) / 128 = h by omega, show (c0 + c) % 128 = c by omega, Nat.zero_add]
  hk := (isM_nar' (isM_readAt arg3 X3 I.hk S c0 j3 hoff)).congr fun a _ c _ => by
    beta_reduce; rw [show (c0 + c) / 128 = h by omega, show (c0 + c) % 128 = c by omega]
  hv := (isM_nar' (isM_readAt arg4 X4 I.hv S c0 j3 hoff)).congr fun a _ c _ => by
    beta_reduce; rw [show (c0 + c) / 128 = h by omega, show (c0 + c) % 128 = c by omega]

section
variable {Hs : ℕ → Head} (c : Dev nD) (i : grid0.Coords) (arg2 : Memref sig .tc .vmem S256x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S256x512 .f32) (harg5 : arg5.IsWhole) (arg6 : Memref sig .tc .vmem S4x256x1 .f32) (harg6 : arg6.IsWhole)
variable {X2 : BufTy.Contents (Elt Ideal) arg2.view.ty} {X3 : BufTy.Contents (Elt Ideal) arg3.view.ty} {X4 : BufTy.Contents (Elt Ideal) arg4.view.ty}

/-- The tile on the diagonal, all heads. -/
theorem iniF_ok (I : InF Hs (256 * (i 1).val) arg2 arg3 arg4 X2 X3 X4) :
    FOk Hs (256 * (i 1).val) (256 * (i 1).val) (iniF (F := Ideal) i arg2 arg3 arg4 X2 X3 X4) := by
  have hT : 256 * (i 1).val + 256 ≤ N := by
    have : (i 1).val < 8 := (i 1).isLt
    unfold N; omega
  have I0 := I.head 0 0 (by omega) rfl (256 * (i 1).val) inb_S256x512_S256x128_0_0 _ (k0_off1_inb i) (off1 i)
  have I1 := I.head 1 128 (by omega) rfl (256 * (i 1).val) inb_S256x512_S256x128_0_128 _ (k0_off2_inb i) (off2 i)
  have I2 := I.head 2 256 (by omega) rfl (256 * (i 1).val) inb_S256x512_S256x128_0_256 _ (k0_off3_inb i) (off3 i)
  have I3 := I.head 3 384 (by omega) rfl (256 * (i 1).val) inb_S256x512_S256x128_0_384 _ (k0_off4_inb i) (off4 i)
  exact ⟨I0.carD hT, I1.carD hT, I2.carD hT, I3.carD hT⟩

/-- The forward loop. -/
theorem loopF (I : InF Hs (256 * (i 1).val) arg2 arg3 arg4 X2 X3 X4) (n : ℕ) : n ≤ (i 1).val →
    FOk Hs (256 * (i 1).val) (256 * ((i 1).val - n)) (s1F (F := Ideal) c i arg2 harg2 arg3 harg3 arg4 harg4 arg5 harg5 arg6 harg6 X2 X3 X4 n) := by
  induction n with
  | zero =>
    intro _
    unfold s1F; rw [st_k0_t1.eq_1]
    exact iniF_ok i arg2 arg3 arg4 I
  | succ n ih =>
    intro hn
    have C := ih (by omega)
    have hk : n < (k0_t1_loop i).trips := by rw [trips01]; omega
    have e : s1F (F := Ideal) c i arg2 harg2 arg3 harg3 arg4 harg4 arg5 harg5 arg6 harg6 X2 X3 X4 (n + 1) = _ := st_k0_t1_succ (F := Ideal) Variants.none c none i arg2 harg2 arg3 harg3 arg4 harg4 arg5 harg5 arg6 harg6 (BitVec.ofNat 32 (i 1).val) (qb arg2 X2 ![0, 0] inb_S256x512_S256x128_0_0) (qb arg2 X2 ![0, 128] inb_S256x512_S256x128_0_128) (qb arg2 X2 ![0, 256] inb_S256x512_S256x128_0_256) (qb arg2 X2 ![0, 384] inb_S256x512_S256x128_0_384) AFTER (0#32) X3 X4 (iniF i arg2 arg3 arg4 X2 X3 X4) ⟨n, hk⟩
    rw [e]
    generalize hs : st_k0_t1 (F := Ideal) Variants.none c none i arg2 harg2 arg3 harg3 arg4 harg4 arg5 harg5 arg6 harg6 (BitVec.ofNat 32 (i 1).val) (qb arg2 X2 ![0, 0] inb_S256x512_S256x128_0_0) (qb arg2 X2 ![0, 128] inb_S256x512_S256x128_0_128) (qb arg2 X2 ![0, 256] inb_S256x512_S256x128_0_256) (qb arg2 X2 ![0, 384] inb_S256x512_S256x128_0_384) AFTER (0#32) X3 X4 (iniF i arg2 arg3 arg4 X2 X3 X4) n = x
    have C' : FOk Hs (256 * (i 1).val) (256 * ((i 1).val - n)) x := hs ▸ C
    obtain ⟨r1, r2, r3, r4, a1, a2, a3, a4⟩ := x
    have hS : 256 * ((i 1).val - n) = 256 * ((i 1).val - 1 - n) + 256 := by omega
    rw [hS] at C'
    rw [show (i 1).val - (n + 1) = (i 1).val - 1 - n by omega]
    have hTS : 256 * ((i 1).val - 1 - n) + 256 ≤ 256 * (i 1).val := by omega
    have I0 := I.head 0 0 (by omega) rfl (256 * ((i 1).val - 1 - n)) inb_S256x512_S256x128_0_0 _ (k0_off5_inb i ⟨n, hk⟩) (off5 i ⟨n, hk⟩)
    have I1 := I.head 1 128 (by omega) rfl (256 * ((i 1).val - 1 - n)) inb_S256x512_S256x128_0_128 _ (k0_off6_inb i ⟨n, hk⟩) (off6 i ⟨n, hk⟩)
    have I2 := I.head 2 256 (by omega) rfl (256 * ((i 1).val - 1 - n)) inb_S256x512_S256x128_0_256 _ (k0_off7_inb i ⟨n, hk⟩) (off7 i ⟨n, hk⟩)
    have I3 := I.head 3 384 (by omega) rfl (256 * ((i 1).val - 1 - n)) inb_S256x512_S256x128_0_384 _ (k0_off8_inb i ⟨n, hk⟩) (off8 i ⟨n, hk⟩)
    unfold tripR_k0_t1
    rw [trip0]
    exact ⟨I0.carU hTS C'.c0, I1.carU hTS C'.c1, I2.carU hTS C'.c2, I3.carU hTS C'.c3⟩

/-- The loop's remainder changes nothing. -/
theorem s2F_eq (v : BitVec 32) (a : CarF Ideal) : s2F (F := Ideal) c i arg2 harg2 arg3 harg3 arg4 harg4 arg5 harg5 arg6 harg6 X2 X3 X4 v a (k0_t2_loop i).trips = a := by
  unfold s2F
  rw [trips02, st_k0_t2.eq_1]

/-- The output of a step. -/
theorem L3F_ok {T : ℕ} {a : CarF Ideal} (C : FOk Hs T 0 a) {κ : Kind} {sp : Space} (v : View sig κ sp S256x512 .f32)
    (g : BufTy.Contents (Elt Ideal) v.ty) {f0 : ℕ → ℕ → ℝ} (hg : IsM (φ := .f32) (v.read (Elt Ideal) g) f0) :
    IsM (m := 256) (n := 512) (φ := .f32) (v.read (Elt Ideal) (v.writes (Elt Ideal) g (L3F a))) fun t d => (Hs (d / 128)).o (T + t) (d % 128) := by
  unfold L3F
  rw [View.read_writes_cons_put v g _ _ _ rfl, View.read_writes_cons_put v g _ _ _ rfl, View.read_writes_cons_put v g _ _ _ rfl,
    View.read_writes_cons_put v g _ _ _ rfl]
  have hz : ∀ {H : Head} {r : FVec Ideal S256x1 .f32} {x : FVec Ideal S256x128 .f32}, FCar H T 0 r x → IsM x fun t d => H.o (T + t) d :=
    fun h => h.ha.congr fun t _ d _ => by beta_reduce; rw [Finset.sum_range_zero, sub_zero]
  exact isM_four5 (x0 := v.read (Elt Ideal) (v.writes (Elt Ideal) g [])) hg (fun h t d => (Hs h).o (T + t) d)
    (hz C.c0) (hz C.c1) (hz C.c2) (hz C.c3)

/-- One head's column put over a block of columns. -/
theorem put_col (x : Vec Ideal S4x256x1 .f32) (w : FVec Ideal S256x1 .f32) (j : ℕ) (h : Fin 4) (t : Fin 256) :
    VecWindow.put (s := S4x256x1) x ![j, 0, 0] S1x256x1.size (colS w) (ix3 h t (0 : Fin 1))
      = if h.val = j then w (ix2 t 0) else x (ix3 h t (0 : Fin 1)) := by
  unfold VecWindow.put
  by_cases hj : h.val = j
  · rw [if_pos hj, dif_pos (fun a => by
      match a with
      | ⟨0, _⟩ => exact ⟨hj.ge, by show h.val < j + 1; omega⟩
      | ⟨1, _⟩ => exact ⟨Nat.zero_le _, by show t.val < 0 + 256; omega⟩
      | ⟨2, _⟩ => exact ⟨Nat.zero_le _, by show 0 < 0 + 1; omega⟩)]
    refine Eq.trans (congrArg (colS w) (a₂ := ix3 (0 : Fin 1) t (0 : Fin 1)) ?_) ?_
    · funext d; apply Fin.ext
      match d with
      | ⟨0, _⟩ => show h.val - j = 0; omega
      | ⟨1, _⟩ => rfl
      | ⟨2, _⟩ => rfl
    · show shapeCast S1x256x1 _ _ (ix3 (0 : Fin 1) t (0 : Fin 1)) = _
      simp only [pointwise]
  · rw [if_neg hj, dif_neg (fun h' => hj (by
      have h0 : j ≤ h.val := (h' 0).1
      have h1 : h.val < j + 1 := (h' 0).2
      omega))]

/-- The totals of a step. -/
theorem L4F_ok {T : ℕ} {a : CarF Ideal} (C : FOk Hs T 0 a) {κ : Kind} {sp : Space} (v : View sig κ sp S4x256x1 .f32)
    (g : BufTy.Contents (Elt Ideal) v.ty) (h : Fin 4) (t : Fin 256) :
    v.read (Elt Ideal) (v.writes (Elt Ideal) g (L4F a)) (ix3 h t (0 : Fin 1)) = (((Hs h.val).tot (T + t.val) : ℝ) : EReal) := by
  unfold L4F
  rw [View.read_writes_cons_put v g _ _ _ rfl, View.read_writes_cons_put v g _ _ _ rfl, View.read_writes_cons_put v g _ _ _ rfl,
    View.read_writes_cons_put v g _ _ _ rfl]
  have hz : ∀ {H : Head} {r : FVec Ideal S256x1 .f32} {x : FVec Ideal S256x128 .f32}, FCar H T 0 r x → r (ix2 t (0 : Fin 1)) = ((H.tot (T + t.val) : ℝ) : EReal) :=
    fun h => by rw [h.hr t 0]; beta_reduce; rw [Finset.sum_range_zero, sub_zero]
  refine (put_col _ _ 3 h t).trans ?_
  by_cases h3 : h.val = 3
  · rw [if_pos h3, h3]; exact hz C.c3
  rw [if_neg h3]
  refine (put_col _ _ 2 h t).trans ?_
  by_cases h2 : h.val = 2
  · rw [if_pos h2, h2]; exact hz C.c2
  rw [if_neg h2]
  refine (put_col _ _ 1 h t).trans ?_
  by_cases h1 : h.val = 1
  · rw [if_pos h1, h1]; exact hz C.c1
  rw [if_neg h1]
  refine (put_col _ _ 0 h t).trans ?_
  have h0 : h.val = 0 := by omega
  rw [if_pos h0, h0]; exact hz C.c0

end

end Cert.KernelIdeal.Sba

end

end
-- ==== Proof.BwdPoint.lean ====
/- What a step of the backward pass leaves in its blocks, as sums of numbers. -/
module

public import proofs.«01_k».proof.Proof.BwdDiag

@[expose] public section

set_option maxRecDepth 16384

noncomputable section

namespace Cert.KernelIdeal.Sba

open Idealize.ShloMosaic Idealize.ShloMosaic.TcCoe Idealize.SL.Sem Cert.KernelIdeal Cert.KernelIdeal.Gen Cert.KernelIdeal.Facts

/-- A step's blocks hold the numbers of the heads `Hs`, the rows being those from `T` on. -/
structure InX (Hs : ℕ → Head) (T : ℕ) (x0 : Vec Ideal S256x512 .f32) (x1 x2 : Vec Ideal S2048x512 .f32) (x3 : Vec Ideal S4x256x1 .f32)
    (x4 : Vec Ideal S256x512 .f32) : Prop where
  hq : IsM (φ := .f32) x0 fun a c => (Hs (c / 128)).q (T + a) (c % 128)
  hk : IsM (φ := .f32) x1 fun s c => (Hs (c / 128)).k s (c % 128)
  hv : IsM (φ := .f32) x2 fun s c => (Hs (c / 128)).v s (c % 128)
  hd : IsM (φ := .f32) x4 fun a c => (Hs (c / 128)).g (T + a) (c % 128)
  ht : ∀ (h : Fin 4) (a : Fin 256), x3 (ix3 h a (0 : Fin 1)) = (((Hs h.val).tot (T + a.val) : ℝ) : EReal)

/-- A list of sums over a block filled with zeros, whether the filling is one of the stores or not. -/
theorem acc_zp (arg : Memref sig .tc .vmem S2048x512 .f32) (off : Fin 2 → ℕ) (inb : ∀ a, off a + S256x128.size a ≤ S2048x512.size a)
    (D : FVec Ideal S256x128 .f32) (L : List (View.Piece (Elt Ideal) S2048x512 .f32)) :
    acc arg arg.view.junk off inb D (L ++ zp) = acc arg (zero8 arg) off inb D L ++ zp := by
  unfold acc zero8
  rw [View.writes_append]
  rfl

/-- A block filled with zeros. -/
theorem isM_zero8 (arg : Memref sig .tc .vmem S2048x512 .f32) : IsM (φ := .f32) (arg.view.read (Elt Ideal) (zero8 (F := Ideal) arg)) fun _ _ => 0 := by
  intro r c
  unfold zero8 zp
  have e := View.read_writes_full arg.view (arg.view.junk (Val := Elt Ideal)) inb_S2048x512_S2048x512_0_0 (broadcast S2048x512 (Scalar.ofBits (F := Ideal) .f32 0x00000000#32)) []
  exact (congrFun e _).trans Ideal.ofBits_zero_f32

section
variable {Hs : ℕ → Head} (c : Dev nD) (i : grid1.Coords) (arg2 : Memref sig .tc .vmem S256x512 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S4x256x1 .f32) (harg5 : arg5.IsWhole) (arg6 : Memref sig .tc .vmem S256x512 .f32) (harg6 : arg6.IsWhole) (arg7 : Memref sig .tc .vmem S256x512 .f32) (harg7 : arg7.IsWhole) (arg8 : Memref sig .tc .vmem S2048x512 .f32) (harg8 : arg8.IsWhole) (arg9 : Memref sig .tc .vmem S2048x512 .f32) (harg9 : arg9.IsWhole)
  (x0 : Vec Ideal S256x512 .f32) (x1 : Vec Ideal S2048x512 .f32) (x2 : Vec Ideal S2048x512 .f32) (x3 : Vec Ideal S4x256x1 .f32) (x4 : Vec Ideal S256x512 .f32)

theorem InX.toB {T : ℕ} {x0 : Vec Ideal S256x512 .f32} {x1 x2 : Vec Ideal S2048x512 .f32} {x3 : Vec Ideal S4x256x1 .f32} {x4 : Vec Ideal S256x512 .f32}
    (I : InX Hs T x0 x1 x2 x3 x4) : InB Hs T arg2 arg3 arg4 arg5 arg6 (harg2.unread x0) (harg3.unread x1) (harg4.unread x2) (harg5.unread x3) (harg6.unread x4) where
  hq := by rw [harg2.read_unread]; exact I.hq
  hk := by rw [harg3.read_unread]; exact I.hk
  hv := by rw [harg4.read_unread]; exact I.hv
  hd := by rw [harg6.read_unread]; exact I.hd
  ht := by rw [harg5.read_unread]; exact I.ht

set_option maxHeartbeats 1000000
attribute [local irreducible] st_k1_t1 st_k1_t2 Scf.trips mulf addf subf exp

theorem L6A_eq {X2 : BufTy.Contents (Elt Ideal) arg2.view.ty} {X3 : BufTy.Contents (Elt Ideal) arg3.view.ty} {X4 : BufTy.Contents (Elt Ideal) arg4.view.ty}
    {X5 : BufTy.Contents (Elt Ideal) arg5.view.ty} {X6 : BufTy.Contents (Elt Ideal) arg6.view.ty} (Y8 : BufTy.Contents (Elt Ideal) arg8.view.ty)
    (Y9 : BufTy.Contents (Elt Ideal) arg9.view.ty) (L : List (View.Piece (Elt Ideal) S2048x512 .f32)) :
    L6A c i arg2 harg2 arg3 harg3 arg4 harg4 arg5 harg5 arg6 harg6 arg7 harg7 arg8 harg8 arg9 harg9 X2 X3 X4 X5 X6 Y8 Y9 (L ++ zp) = L6B c i arg2 harg2 arg3 harg3 arg4 harg4 arg5 harg5 arg6 harg6 arg7 harg7 arg8 harg8 arg9 harg9 X2 X3 X4 X5 X6 (zero8 arg8) (zero8 arg9) Y8 Y9 L ++ zp := by
  unfold L6A L6B
  rw [acc_zp, acc_zp, acc_zp, acc_zp]

theorem L7A_eq {X2 : BufTy.Contents (Elt Ideal) arg2.view.ty} {X3 : BufTy.Contents (Elt Ideal) arg3.view.ty} {X4 : BufTy.Contents (Elt Ideal) arg4.view.ty}
    {X5 : BufTy.Contents (Elt Ideal) arg5.view.ty} {X6 : BufTy.Contents (Elt Ideal) arg6.view.ty} (Y8 : BufTy.Contents (Elt Ideal) arg8.view.ty)
    (Y9 : BufTy.Contents (Elt Ideal) arg9.view.ty) (L : List (View.Piece (Elt Ideal) S2048x512 .f32)) :
    L7A c i arg2 harg2 arg3 harg3 arg4 harg4 arg5 harg5 arg6 harg6 arg7 harg7 arg8 harg8 arg9 harg9 X2 X3 X4 X5 X6 Y8 Y9 (L ++ zp) = L7B c i arg2 harg2 arg3 harg3 arg4 harg4 arg5 harg5 arg6 harg6 arg7 harg7 arg8 harg8 arg9 harg9 X2 X3 X4 X5 X6 (zero8 arg8) (zero8 arg9) Y8 Y9 L ++ zp := by
  unfold L7A L7B
  rw [acc_zp, acc_zp, acc_zp, acc_zp]

/-- What a step's blocks hold afterwards: the queries' gradient of its rows, and the keys' and values' gradients with the rows' share added. -/
abbrev OutX (Hs : ℕ → Head) (T : ℕ) (f6 f7 : ℕ → ℕ → ℝ) (y : Vec Ideal S256x512 .f32 × Vec Ideal S2048x512 .f32 × Vec Ideal S2048x512 .f32) : Prop :=
  IsM (m := 256) (n := 512) (φ := .f32) y.1 (fun a d => ∑ s ∈ Finset.range (T + 256), (Hs (d / 128)).dz (T + a) s * (Hs (d / 128)).k s (d % 128))
    ∧ IsM (φ := .f32) y.2.1 (fun r d => f6 r d + dkC (Hs (d / 128)) T r (d % 128))
    ∧ IsM (φ := .f32) y.2.2 (fun r d => f7 r d + dvC (Hs (d / 128)) T r (d % 128))

/-- A step that goes on from the rows before. -/
theorem outB_ok (hc0 : ¬cond1_0 i) (I : InX Hs (256 * (i 1).val) x0 x1 x2 x3 x4) {xo6 xo7 : Vec Ideal S2048x512 .f32} {f6 f7 : ℕ → ℕ → ℝ}
    (h6 : IsM (φ := .f32) xo6 f6) (h7 : IsM (φ := .f32) xo7 f7) :
    OutX Hs (256 * (i 1).val) f6 f7 (out1_B_5 c i arg2 harg2 arg3 harg3 arg4 harg4 arg5 harg5 arg6 harg6 arg7 harg7 arg8 harg8 arg9 harg9 hc0 x0 x1 x2 x3 x4 xo6 xo7, out1_B_6 c i arg2 harg2 arg3 harg3 arg4 harg4 arg5 harg5 arg6 harg6 arg7 harg7 arg8 harg8 arg9 harg9 hc0 x0 x1 x2 x3 x4 xo6 xo7,
      out1_B_7 c i arg2 harg2 arg3 harg3 arg4 harg4 arg5 harg5 arg6 harg6 arg7 harg7 arg8 harg8 arg9 harg9 hc0 x0 x1 x2 x3 x4 xo6 xo7) := by
  have I' : InB Hs (256 * (i 1).val) arg2 arg3 arg4 arg5 arg6 (harg2.unread x0) (harg3.unread x1) (harg4.unread x2) (harg5.unread x3) (harg6.unread x4) := I.toB arg2 harg2 arg3 harg3 arg4 harg4 arg5 harg5 arg6 harg6
  have h8 : IsM (φ := .f32) (arg8.view.read (Elt Ideal) (harg8.unread xo6)) f6 := by rw [harg8.read_unread]; exact h6
  have h9 : IsM (φ := .f32) (arg9.view.read (Elt Ideal) (harg9.unread xo7)) f7 := by rw [harg9.read_unread]; exact h7
  refine ⟨?_, ?_, ?_⟩
  · show IsM (m := 256) (n := 512) (φ := .f32) (out1_B_5 c i arg2 harg2 arg3 harg3 arg4 harg4 arg5 harg5 arg6 harg6 arg7 harg7 arg8 harg8 arg9 harg9 hc0 x0 x1 x2 x3 x4 xo6 xo7) _
    unfold out1_B_5
    rw [View.read_writes_of_cover VO1_5 _ VO1_5 (VO1_5.rep (fun _ => (0 : EReal))) _ (cover1_B_5 c i arg2 harg2 arg3 harg3 arg4 harg4 arg5 harg5 arg6 harg6 arg7 harg7 arg8 harg8 arg9 harg9 hc0 x0 x1 x2 x3 x4 xo6 xo7), run1_B_5]
    exact L5_ok c i arg2 harg2 arg3 harg3 arg4 harg4 arg5 harg5 arg6 harg6 arg7 harg7 arg8 harg8 arg9 harg9 _ _ _ _ _ _ _ _ _ I' h8 h9 VO1_5 _ (f0 := fun _ _ => 0) (fun _ _ => congrFun (View.read_rep VO1_5 _) _)
  · show IsM (φ := .f32) (out1_B_6 c i arg2 harg2 arg3 harg3 arg4 harg4 arg5 harg5 arg6 harg6 arg7 harg7 arg8 harg8 arg9 harg9 hc0 x0 x1 x2 x3 x4 xo6 xo7) _
    unfold out1_B_6
    rw [run1_B_6]
    exact L6_ok c i arg2 harg2 arg3 harg3 arg4 harg4 arg5 harg5 arg6 harg6 arg7 harg7 arg8 harg8 arg9 harg9 _ _ _ _ _ _ _ _ _ I' h8 h9
  · show IsM (φ := .f32) (out1_B_7 c i arg2 harg2 arg3 harg3 arg4 harg4 arg5 harg5 arg6 harg6 arg7 harg7 arg8 harg8 arg9 harg9 hc0 x0 x1 x2 x3 x4 xo6 xo7) _
    unfold out1_B_7
    rw [run1_B_7]
    exact L7_ok c i arg2 harg2 arg3 harg3 arg4 harg4 arg5 harg5 arg6 harg6 arg7 harg7 arg8 harg8 arg9 harg9 _ _ _ _ _ _ _ _ _ I' h8 h9

/-- A step that begins a group of heads. -/
theorem outA_ok (hc0 : cond1_0 i) (I : InX Hs (256 * (i 1).val) x0 x1 x2 x3 x4) :
    OutX Hs (256 * (i 1).val) (fun _ _ => 0) (fun _ _ => 0) (out1_A_5 c i arg2 harg2 arg3 harg3 arg4 harg4 arg5 harg5 arg6 harg6 arg7 harg7 arg8 harg8 arg9 harg9 hc0 x0 x1 x2 x3 x4, out1_A_6 c i arg2 harg2 arg3 harg3 arg4 harg4 arg5 harg5 arg6 harg6 arg7 harg7 arg8 harg8 arg9 harg9 hc0 x0 x1 x2 x3 x4,
      out1_A_7 c i arg2 harg2 arg3 harg3 arg4 harg4 arg5 harg5 arg6 harg6 arg7 harg7 arg8 harg8 arg9 harg9 hc0 x0 x1 x2 x3 x4) := by
  have I' : InB Hs (256 * (i 1).val) arg2 arg3 arg4 arg5 arg6 (harg2.unread x0) (harg3.unread x1) (harg4.unread x2) (harg5.unread x3) (harg6.unread x4) := I.toB arg2 harg2 arg3 harg3 arg4 harg4 arg5 harg5 arg6 harg6
  refine ⟨?_, ?_, ?_⟩
  · show IsM (m := 256) (n := 512) (φ := .f32) (out1_A_5 c i arg2 harg2 arg3 harg3 arg4 harg4 arg5 harg5 arg6 harg6 arg7 harg7 arg8 harg8 arg9 harg9 hc0 x0 x1 x2 x3 x4) _
    unfold out1_A_5
    rw [View.read_writes_of_cover VO1_5 _ VO1_5 (VO1_5.rep (fun _ => (0 : EReal))) _ (cover1_A_5 c i arg2 harg2 arg3 harg3 arg4 harg4 arg5 harg5 arg6 harg6 arg7 harg7 arg8 harg8 arg9 harg9 hc0 x0 x1 x2 x3 x4), run1_A_5]
    exact L5_ok c i arg2 harg2 arg3 harg3 arg4 harg4 arg5 harg5 arg6 harg6 arg7 harg7 arg8 harg8 arg9 harg9 _ _ _ _ _ _ _ _ _ I' (isM_zero8 arg8) (isM_zero8 arg9) VO1_5 _ (f0 := fun _ _ => 0) (fun _ _ => congrFun (View.read_rep VO1_5 _) _)
  · show IsM (φ := .f32) (out1_A_6 c i arg2 harg2 arg3 harg3 arg4 harg4 arg5 harg5 arg6 harg6 arg7 harg7 arg8 harg8 arg9 harg9 hc0 x0 x1 x2 x3 x4) _
    unfold out1_A_6
    rw [View.read_writes_of_cover VO1_6 _ arg8.view arg8.view.junk _ (cover1_A_6 c i arg2 harg2 arg3 harg3 arg4 harg4 arg5 harg5 arg6 harg6 arg7 harg7 arg8 harg8 arg9 harg9 hc0 x0 x1 x2 x3 x4), run1_A_6, ← List.append_assoc, L6A_eq, View.writes_append]
    exact L6_ok c i arg2 harg2 arg3 harg3 arg4 harg4 arg5 harg5 arg6 harg6 arg7 harg7 arg8 harg8 arg9 harg9 _ _ _ _ _ _ _ _ _ I' (isM_zero8 arg8) (isM_zero8 arg9)
  · show IsM (φ := .f32) (out1_A_7 c i arg2 harg2 arg3 harg3 arg4 harg4 arg5 harg5 arg6 harg6 arg7 harg7 arg8 harg8 arg9 harg9 hc0 x0 x1 x2 x3 x4) _
    unfold out1_A_7
    rw [View.read_writes_of_cover VO1_7 _ arg9.view arg9.view.junk _ (cover1_A_7 c i arg2 harg2 arg3 harg3 arg4 harg4 arg5 harg5 arg6 harg6 arg7 harg7 arg8 harg8 arg9 harg9 hc0 x0 x1 x2 x3 x4), run1_A_7, ← List.append_assoc, L7A_eq, View.writes_append]
    exact L7_ok c i arg2 harg2 arg3 harg3 arg4 harg4 arg5 harg5 arg6 harg6 arg7 harg7 arg8 harg8 arg9 harg9 _ _ _ _ _ _ _ _ _ I' (isM_zero8 arg8) (isM_zero8 arg9)

end

end Cert.KernelIdeal.Sba

end

end
-- ==== Proof.Bwd1.lean ====
/- The blocks of the backward pass's steps, read off the arrays. -/
module

public import proofs.«01_k».proof.Proof.BwdPoint
public import Idealize.ShloMosaic.Lib.Pipeline.ValueKit

@[expose] public section

set_option maxRecDepth 16384

noncomputable section

namespace Cert.KernelIdeal.Sba

open Idealize.ShloMosaic Idealize.ShloMosaic.TcCoe Idealize.SL.Sem Cert.KernelIdeal Cert.KernelIdeal.Gen Cert.KernelIdeal.Facts

theorem co1_0 : ∀ t : Fin cfg1.N, (grid1.coords t 0).val = t.val / 8 := (by decide +kernel : ∀ t : Fin grid1.N, _)
theorem co1_1 : ∀ t : Fin cfg1.N, (grid1.coords t 1).val = t.val % 8 := (by decide +kernel : ∀ t : Fin grid1.N, _)
theorem ix1_0 : ∀ t : Fin cfg1.N, win1_0.index t = ![t.val % 8, t.val / 8] := (by decide +kernel : ∀ t : Fin grid1.N, _)
theorem ix1_1 : ∀ t : Fin cfg1.N, win1_1.index t = ![0, t.val / 8] := (by decide +kernel : ∀ t : Fin grid1.N, _)
theorem ix1_2 : ∀ t : Fin cfg1.N, win1_2.index t = ![0, t.val / 8] := (by decide +kernel : ∀ t : Fin grid1.N, _)
theorem ix1_3 : ∀ t : Fin cfg1.N, win1_3.index t = ![t.val / 8, t.val % 8, 0] := (by decide +kernel : ∀ t : Fin grid1.N, _)
theorem ix1_4 : ∀ t : Fin cfg1.N, win1_4.index t = ![t.val % 8, t.val / 8] := (by decide +kernel : ∀ t : Fin grid1.N, _)
theorem ix1_5 : ∀ t : Fin cfg1.N, win1_5.index t = ![t.val % 8, t.val / 8] := (by decide +kernel : ∀ t : Fin grid1.N, _)
theorem ix1_6 : ∀ t : Fin cfg1.N, win1_6.index t = ![0, t.val / 8] := (by decide +kernel : ∀ t : Fin grid1.N, _)
theorem ix1_7 : ∀ t : Fin cfg1.N, win1_7.index t = ![0, t.val / 8] := (by decide +kernel : ∀ t : Fin grid1.N, _)

variable (V : (c : Dev nD) → (b : Ref sig .tc) → Buf (Elt Ideal) ((c : Thread nD τ).loc b)) (c : Dev nD)

/-- The arrays the backward pass reads hold the numbers of the heads `Hh`. -/
structure ArrX (Hh : ℕ → Head) : Prop where
  hq : IsM (m := 2048) (n := 1024) (φ := .f32) (V c main_arg0) fun t C => (Hh (C / 128)).q t (C % 128)
  hk : IsM (m := 2048) (n := 1024) (φ := .f32) (V c main_arg1) fun t C => (Hh (C / 128)).k t (C % 128)
  hv : IsM (m := 2048) (n := 1024) (φ := .f32) (V c main_arg2) fun t C => (Hh (C / 128)).v t (C % 128)
  hd : IsM (m := 2048) (n := 1024) (φ := .f32) (V c main_arg3) fun t C => (Hh (C / 128)).g t (C % 128)
  ht : ∀ (h : Fin 8) (a : Fin 2048), V c main_v0_1 (ix3 h a (0 : Fin 1)) = (((Hh h.val).tot a.val : ℝ) : EReal)

variable {V c} {Hh : ℕ → Head}

/-- A group's heads. -/
abbrev grp (Hh : ℕ → Head) (g : ℕ) : ℕ → Head := fun h => Hh (4 * g + h)

theorem col_div (g c : ℕ) : (512 * g + c) / 128 = 4 * g + c / 128 := by omega
theorem col_mod (g c : ℕ) : (512 * g + c) % 128 = c % 128 := by omega

/-- A step's blocks hold the numbers of its group's heads. -/
theorem ArrX.inX (A : ArrX V c Hh) (t : Fin cfg1.N) :
    InX (grp Hh (t.val / 8)) (256 * (t.val % 8)) (iblk1 V c 0 t) (iblk1 V c 1 t) (iblk1 V c 2 t) (iblk1 V c 3 t) (iblk1 V c 4 t) := by
  have ht : t.val < 16 := t.isLt
  refine ⟨fun a b => ?_, fun a b => ?_, fun a b => ?_, fun a b => ?_, fun h a => ?_⟩
  · blk_simp [iblk1]
    refine Eq.trans (congrArg (V c main_arg0) ?_) ((A.hq ⟨256 * (t.val % 8) + a.val, by omega⟩ ⟨512 * (t.val / 8) + b.val, by omega⟩).trans ?_)
    · blk_ext [ix1_0 t]
    · dsimp only; rw [col_div, col_mod]
  · blk_simp [iblk1]
    refine Eq.trans (congrArg (V c main_arg1) ?_) ((A.hk a ⟨512 * (t.val / 8) + b.val, by omega⟩).trans ?_)
    · blk_ext [ix1_1 t]
    · dsimp only; rw [col_div, col_mod]
  · blk_simp [iblk1]
    refine Eq.trans (congrArg (V c main_arg2) ?_) ((A.hv a ⟨512 * (t.val / 8) + b.val, by omega⟩).trans ?_)
    · blk_ext [ix1_2 t]
    · dsimp only; rw [col_div, col_mod]
  · blk_simp [iblk1]
    refine Eq.trans (congrArg (V c main_arg3) ?_) ((A.hd ⟨256 * (t.val % 8) + a.val, by omega⟩ ⟨512 * (t.val / 8) + b.val, by omega⟩).trans ?_)
    · blk_ext [ix1_4 t]
    · dsimp only; rw [col_div, col_mod]
  · blk_simp [iblk1]
    refine Eq.trans (congrArg (V c main_v0_1) ?_) (A.ht ⟨4 * (t.val / 8) + h.val, by omega⟩ ⟨256 * (t.val % 8) + a.val, by omega⟩)
    blk_ext [ix1_3 t]

/-- What the blocks hold after the step of group `g` and rows `256 i …`. -/
abbrev AccX (Hs : ℕ → Head) (i : ℕ) (y : Vec Ideal S256x512 .f32 × Vec Ideal S2048x512 .f32 × Vec Ideal S2048x512 .f32) : Prop :=
  IsM (m := 256) (n := 512) (φ := .f32) y.1 (fun a d => (Hs (d / 128)).dq (256 * i + a) (d % 128))
    ∧ IsM (m := 2048) (n := 512) (φ := .f32) y.2.1 (fun r d => ∑ t ∈ Finset.range (256 * (i + 1)), (Hs (d / 128)).dz t r * (Hs (d / 128)).q t (d % 128))
    ∧ IsM (m := 2048) (n := 512) (φ := .f32) y.2.2 (fun r d => ∑ t ∈ Finset.range (256 * (i + 1)), (Hs (d / 128)).A t r * (Hs (d / 128)).g t (d % 128))

/-- The sums after a step from the sums before it. -/
theorem OutX.acc {Hs : ℕ → Head} {i : ℕ} (hi : i < 8) {y : Vec Ideal S256x512 .f32 × Vec Ideal S2048x512 .f32 × Vec Ideal S2048x512 .f32}
    (h : OutX Hs (256 * i) (fun r d => ∑ t ∈ Finset.range (256 * i), (Hs (d / 128)).dz t r * (Hs (d / 128)).q t (d % 128))
      (fun r d => ∑ t ∈ Finset.range (256 * i), (Hs (d / 128)).A t r * (Hs (d / 128)).g t (d % 128)) y) : AccX Hs i y := by
  refine ⟨h.1.congr fun a ha d _ => ?_, h.2.1.congr fun r _ d _ => ?_, h.2.2.congr fun r _ d _ => ?_⟩
  · exact sum_range_of_zero (by unfold N; omega) fun s hs => by rw [Head.dz_of_le _ (by omega), zero_mul]
  · rw [Nat.mul_succ, Finset.sum_range_add]; rfl
  · rw [Nat.mul_succ, Finset.sum_range_add]; rfl

/-- What the blocks hold after every step. -/
theorem ArrX.acc (A : ArrX V c Hh) : ∀ (n : ℕ) (hn : n < cfg1.N), AccX (grp Hh (n / 8)) (n % 8) (outsAt1 V c n hn) := by
  intro n
  induction n using Nat.strong_induction_on with
  | _ n ih =>
    intro hn
    have I := A.inX ⟨n, hn⟩
    by_cases h0 : n % 8 = 0
    · rw [show outsAt1 V c n hn = _ from outsAt1_A V c ⟨n, hn⟩ h0]
      refine OutX.acc (by omega) ?_
      have O := outA_ok c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) (ms1_7 ⟨n, hn⟩) (hs1_7 ⟨n, hn⟩)
        _ _ _ _ _ ((hcond1_0 ⟨n, hn⟩).mpr h0) (by rw [co1_1]; exact I)
      rw [co1_1] at O
      refine ⟨O.1, O.2.1.congr fun r _ d _ => ?_, O.2.2.congr fun r _ d _ => ?_⟩
      · dsimp only; rw [h0, Nat.mul_zero, Finset.range_zero, Finset.sum_empty]
      · dsimp only; rw [h0, Nat.mul_zero, Finset.range_zero, Finset.sum_empty]
    · rw [show outsAt1 V c n hn = _ from outsAt1_B V c ⟨n, hn⟩ h0]
      refine OutX.acc (by omega) ?_
      have P := ih (n - 1) (by omega) (Nat.lt_of_le_of_lt (Nat.sub_le _ _) hn)
      rw [show (n - 1) / 8 = n / 8 by omega] at P
      obtain ⟨-, P6, P7⟩ := P
      rw [show (n - 1) % 8 + 1 = n % 8 by omega] at P6 P7
      have O := outB_ok c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) (ms1_4 ⟨n, hn⟩) (hs1_4 ⟨n, hn⟩) (ms1_5 ⟨n, hn⟩) (hs1_5 ⟨n, hn⟩) (ms1_6 ⟨n, hn⟩) (hs1_6 ⟨n, hn⟩) (ms1_7 ⟨n, hn⟩) (hs1_7 ⟨n, hn⟩)
        _ _ _ _ _ (fun h => h0 ((hcond1_0 ⟨n, hn⟩).mp h)) (by rw [co1_1]; exact I) P6 P7
      rw [co1_1] at O
      exact O

/-- An array of numbers. -/
abbrev arrM (f : ℕ → ℕ → ℝ) : S2048x1024.Idx → EReal := fun y => ((f (y 0).val (y 1).val : ℝ) : EReal)

/-- A number of a group's block, found in the array. -/
theorem grp_at (x : Head → ℕ → ℕ → ℝ) {g b C T T' : ℕ} (hT : T' = T) (hC : C = 512 * g + b) :
    ((x (grp Hh g (b / 128)) T (b % 128) : ℝ) : EReal) = ((x (Hh (C / 128)) T' (C % 128) : ℝ) : EReal) := by
  subst hT hC; rw [col_div, col_mod]

theorem last6 : ∀ t : Fin cfg1.N, (cfg1.win 6).flush t = true → t.val % 8 = 7 := by decide +kernel
theorem last7 : ∀ t : Fin cfg1.N, (cfg1.win 7).flush t = true → t.val % 8 = 7 := by decide +kernel

/-- The queries' gradient. -/
theorem ArrX.dq (A : ArrX V c Hh) : (dat1 V c).arrAt 5 cfg1.N = arrM fun t C => (Hh (C / 128)).dq t (C % 128) := by
  refine (dat1 V c).arrAt_eq_of_covers 5 _ (by decide +kernel) fun t hf y => ?_
  blk_simp
  rw [after1_5]
  have hy : y = ix2 (y 0) (y 1) := by funext a; match a with | ⟨0, _⟩ => rfl | ⟨1, _⟩ => rfl
  rw [hy]
  refine ((A.acc t.val t.isLt).1 (y 0) (y 1)).trans ?_
  unfold arrM
  blk_simp [ix1_5 t]
  exact grp_at (fun H => H.dq) (by omega) (by omega)

/-- The keys' gradient. -/
theorem ArrX.dk (A : ArrX V c Hh) : (dat1 V c).arrAt 6 cfg1.N = arrM fun t C => (Hh (C / 128)).dk t (C % 128) := by
  refine (dat1 V c).arrAt_eq_of_covers 6 _ (by decide +kernel) fun t hf y => ?_
  have h7 := last6 t hf
  blk_simp
  rw [after1_6]
  have hy : y = ix2 (y 0) (y 1) := by funext a; match a with | ⟨0, _⟩ => rfl | ⟨1, _⟩ => rfl
  rw [hy]
  refine ((A.acc t.val t.isLt).2.1 (y 0) (y 1)).trans ?_
  unfold arrM
  blk_simp [ix1_6 t]
  rw [h7]
  exact grp_at (fun H => H.dk) (by omega) (by omega)

/-- The values' gradient. -/
theorem ArrX.dv (A : ArrX V c Hh) : (dat1 V c).arrAt 7 cfg1.N = arrM fun t C => (Hh (C / 128)).dv t (C % 128) := by
  refine (dat1 V c).arrAt_eq_of_covers 7 _ (by decide +kernel) fun t hf y => ?_
  have h7 := last7 t hf
  blk_simp
  rw [after1_7]
  have hy : y = ix2 (y 0) (y 1) := by funext a; match a with | ⟨0, _⟩ => rfl | ⟨1, _⟩ => rfl
  rw [hy]
  refine ((A.acc t.val t.isLt).2.2 (y 0) (y 1)).trans ?_
  unfold arrM
  blk_simp [ix1_7 t]
  rw [h7]
  exact grp_at (fun H => H.dv) (by omega) (by omega)

end Cert.KernelIdeal.Sba

end

end
-- ==== Proof.Fwd0.lean ====
/- The forward pass's result arrays: the output and the totals of every head. -/
module

public import proofs.«01_k».proof.Proof.FwdLoop
public import proofs.«01_k».proof.Proof.Bwd1

@[expose] public section

set_option maxRecDepth 16384

noncomputable section

namespace Cert.KernelIdeal.Sba

open Idealize.ShloMosaic Idealize.ShloMosaic.TcCoe Idealize.SL.Sem Cert.KernelIdeal Cert.KernelIdeal.Gen Cert.KernelIdeal.Facts

theorem co0_0 : ∀ t : Fin cfg0.N, (grid0.coords t 0).val = t.val / 8 := (by decide +kernel : ∀ t : Fin grid0.N, _)
theorem co0_1 : ∀ t : Fin cfg0.N, (grid0.coords t 1).val = t.val % 8 := (by decide +kernel : ∀ t : Fin grid0.N, _)
theorem ix0_0 : ∀ t : Fin cfg0.N, win0_0.index t = ![t.val % 8, t.val / 8] := (by decide +kernel : ∀ t : Fin grid0.N, _)
theorem ix0_1 : ∀ t : Fin cfg0.N, win0_1.index t = ![0, t.val / 8] := (by decide +kernel : ∀ t : Fin grid0.N, _)
theorem ix0_2 : ∀ t : Fin cfg0.N, win0_2.index t = ![0, t.val / 8] := (by decide +kernel : ∀ t : Fin grid0.N, _)
theorem ix0_3 : ∀ t : Fin cfg0.N, win0_3.index t = ![t.val % 8, t.val / 8] := (by decide +kernel : ∀ t : Fin grid0.N, _)
theorem ix0_4 : ∀ t : Fin cfg0.N, win0_4.index t = ![t.val / 8, t.val % 8, 0] := (by decide +kernel : ∀ t : Fin grid0.N, _)

variable (V : (c : Dev nD) → (b : Ref sig .tc) → Buf (Elt Ideal) ((c : Thread nD τ).loc b)) (c : Dev nD)

/-- The arrays the forward pass reads hold the numbers of the heads `Hh`. -/
structure ArrF (Hh : ℕ → Head) : Prop where
  hq : IsM (m := 2048) (n := 1024) (φ := .f32) (V c main_arg0) fun t C => (Hh (C / 128)).q t (C % 128)
  hk : IsM (m := 2048) (n := 1024) (φ := .f32) (V c main_arg1) fun t C => (Hh (C / 128)).k t (C % 128)
  hv : IsM (m := 2048) (n := 1024) (φ := .f32) (V c main_arg2) fun t C => (Hh (C / 128)).v t (C % 128)

variable {V c} {Hh : ℕ → Head}

/-- A step's blocks hold the numbers of its group's heads. -/
theorem ArrF.inF (A : ArrF V c Hh) (t : Fin cfg0.N) :
    InF (grp Hh (t.val / 8)) (256 * (t.val % 8)) (ms0_0 t) (ms0_1 t) (ms0_2 t) ((hs0_0 t).unread (iblk0 V c 0 t)) ((hs0_1 t).unread (iblk0 V c 1 t)) ((hs0_2 t).unread (iblk0 V c 2 t)) := by
  have ht : t.val < 16 := t.isLt
  refine ⟨?_, ?_, ?_⟩
  · rw [(hs0_0 t).read_unread]
    intro a b
    blk_simp [iblk0]
    refine Eq.trans (congrArg (V c main_arg0) ?_) ((A.hq ⟨256 * (t.val % 8) + a.val, by omega⟩ ⟨512 * (t.val / 8) + b.val, by omega⟩).trans ?_)
    · blk_ext [ix0_0 t]
    · dsimp only; rw [col_div, col_mod]
  · rw [(hs0_1 t).read_unread]
    intro a b
    blk_simp [iblk0]
    refine Eq.trans (congrArg (V c main_arg1) ?_) ((A.hk a ⟨512 * (t.val / 8) + b.val, by omega⟩).trans ?_)
    · blk_ext [ix0_1 t]
    · dsimp only; rw [col_div, col_mod]
  · rw [(hs0_2 t).read_unread]
    intro a b
    blk_simp [iblk0]
    refine Eq.trans (congrArg (V c main_arg2) ?_) ((A.hv a ⟨512 * (t.val / 8) + b.val, by omega⟩).trans ?_)
    · blk_ext [ix0_2 t]
    · dsimp only; rw [col_div, col_mod]

/-- What the loop leaves at a step. -/
theorem ArrF.ok (A : ArrF V c Hh) (t : Fin cfg0.N) : ∃ a : CarF Ideal, FOk (grp Hh (t.val / 8)) (256 * (t.val % 8)) 0 a
    ∧ (kernelRun0_A c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t)).1 = L3F a
    ∧ (kernelRun0_A c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t)).2.1 = L4F a := by
  have I := A.inF t
  rw [← co0_1] at I
  have O := loopF c (grid0.coords t) (ms0_0 t) (hs0_0 t) (ms0_1 t) (hs0_1 t) (ms0_2 t) (hs0_2 t) (ms0_3 t) (hs0_3 t) (ms0_4 t) (hs0_4 t) I (grid0.coords t 1).val le_rfl
  rw [Nat.sub_self, Nat.mul_zero, co0_1] at O
  refine ⟨_, O, ?_, ?_⟩
  · rw [run0_3, s2F_eq, trips01, co0_1]
  · rw [run0_4, s2F_eq, trips01, co0_1]

/-- The output's block after a step. -/
theorem ArrF.out3 (A : ArrF V c Hh) (t : Fin cfg0.N) :
    IsM (m := 256) (n := 512) (φ := .f32) (outsAt0 V c t).1 fun a d => (grp Hh (t.val / 8) (d / 128)).o (256 * (t.val % 8) + a) (d % 128) := by
  obtain ⟨a, C, h3, -⟩ := A.ok t
  unfold outsAt0
  dsimp only
  unfold out0_A_3
  rw [View.read_writes_of_cover VO0_3 _ VO0_3 (VO0_3.rep (fun _ => (0 : EReal))) _ (cover0_A_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t)), h3]
  exact L3F_ok C VO0_3 _ (f0 := fun _ _ => 0) (fun _ _ => congrFun (View.read_rep VO0_3 _) _)

/-- The totals' block after a step. -/
theorem ArrF.out4 (A : ArrF V c Hh) (t : Fin cfg0.N) (h : Fin 4) (r : Fin 256) :
    (outsAt0 V c t).2 (ix3 h r (0 : Fin 1)) = (((grp Hh (t.val / 8) h.val).tot (256 * (t.val % 8) + r.val) : ℝ) : EReal) := by
  obtain ⟨a, C, -, h4⟩ := A.ok t
  unfold outsAt0
  dsimp only
  unfold out0_A_4
  rw [h4]
  exact L4F_ok C VO0_4 _ h r

/-- The output. -/
theorem ArrF.o (A : ArrF V c Hh) : (dat0 V c).arrAt 3 cfg0.N = arrM fun t C => (Hh (C / 128)).o t (C % 128) := by
  refine (dat0 V c).arrAt_eq_of_covers 3 _ (by decide +kernel) fun t hf y => ?_
  blk_simp
  rw [after0_3]
  have hy : y = ix2 (y 0) (y 1) := by funext a; match a with | ⟨0, _⟩ => rfl | ⟨1, _⟩ => rfl
  rw [hy]
  refine (A.out3 t (y 0) (y 1)).trans ?_
  unfold arrM
  blk_simp [ix0_3 t]
  exact grp_at (fun H => H.o) (by omega) (by omega)

/-- The totals. -/
theorem ArrF.tot (A : ArrF V c Hh) : (dat0 V c).arrAt 4 cfg0.N
    = fun y : S8x2048x1.Idx => (((Hh (y 0).val).tot (y 1).val : ℝ) : EReal) := by
  refine (dat0 V c).arrAt_eq_of_covers 4 _ (by decide +kernel) fun t hf y => ?_
  blk_simp
  rw [after0_4]
  have h2 : (y 2).val = 0 := by have : (y 2).val < 1 := (y 2).isLt; omega
  have hy : y = ix3 (y 0) (y 1) (0 : Fin 1) := by funext a; match a with | ⟨0, _⟩ => rfl | ⟨1, _⟩ => rfl | ⟨2, _⟩ => exact Fin.ext h2
  rw [hy]
  refine (A.out4 t (y 0) (y 1)).trans ?_
  blk_simp [ix0_4 t]
  show (((Hh (4 * (t.val / 8) + _)).tot _ : ℝ) : EReal) = _
  rw [Nat.mul_comm 4, Nat.mul_comm 256]

end Cert.KernelIdeal.Sba

end

end
-- ==== Proof.RefSums.lean ====
/- Running sums of rows of numbers, forward and backward. -/
module

public import proofs.«01_k».proof.Proof.BwdStep
public import proofs.«01_k».proof.Proof.Gen.ReferenceIdeal
public import Idealize.ShloMosaic.Lib.ValueIdx

@[expose] public section

set_option maxRecDepth 16384

noncomputable section

namespace Cert.ReferenceIdeal.Sba

open Idealize.ShloMosaic Idealize.ShloMosaic.TcCoe Idealize.SL.Sem Cert.ReferenceIdeal Cert.ReferenceIdeal.Gen
open Cert.KernelIdeal.Sba (Head lsr N scaleR sum_range_of_zero)

/-- An array of heads of rows holds the numbers `f`. -/
def Is3 {a b n : ℕ} (X : (⟨3, ![a, b, n]⟩ : Shape).Idx → EReal) (f : ℕ → ℕ → ℕ → ℝ) : Prop :=
  ∀ (h : Fin a) (t : Fin b) (s : Fin n), X (ix3 h t s) = ((f h.val t.val s.val : ℝ) : EReal)

/-- Adding up a list from the left. -/
theorem foldl_sum {ι : Type} (g : ι → EReal) : ∀ (l : List ι) (v : EReal), l.foldl (fun r n => r + g n) v = v + (l.map g).sum := by
  intro l
  induction l with
  | nil => intro v; simp
  | cons x l ih => intro v; rw [List.foldl_cons, ih, List.map_cons, List.sum_cons, add_assoc]

/-- The positions of a window one row of which is `n` long. -/
def rowPos (n : ℕ) : Fin n ≃ (⟨3, ![1, 1, n]⟩ : Shape).Idx where
  toFun k := ix3 (0 : Fin 1) (0 : Fin 1) k
  invFun p := p 2
  left_inv _ := rfl
  right_inv p := by
    funext a
    match a with
    | ⟨0, _⟩ => exact Subsingleton.elim (α := Fin 1) _ _
    | ⟨1, _⟩ => exact Subsingleton.elim (α := Fin 1) _ _
    | ⟨2, _⟩ => rfl

/-- A window's sum along a row, padded with zeros. -/
theorem window_row {n : ℕ} (lo hi : ℕ) (x : (⟨3, ![8, n, n]⟩ : Shape).Idx → EReal)
    (h : (⟨3, ![8, n, n]⟩ : Shape).ReduceWindows ![1, 1, n] ![1, 1, 1] ![0, 0, lo] ![0, 0, hi] ⟨3, ![8, n, n]⟩)
    (y : Fin 8) (t s : Fin n) :
    Ideal.hostReduceWindowAdd (s := ⟨3, ![8, n, n]⟩) ![1, 1, n] ![1, 1, 1] ![0, 0, lo] ![0, 0, hi] h x 0 (ix3 y t s)
      = ∑ k : Fin n, if hk : lo ≤ s.val + k.val ∧ s.val + k.val - lo < n then x (ix3 y t ⟨s.val + k.val - lo, hk.2⟩) else 0 := by
  unfold Ideal.hostReduceWindowAdd Host.reduceWindow
  dsimp only
  rw [foldl_sum, zero_add, ← Fin.sum_univ_def, ← Equiv.sum_comp (Shape.rowMajor (⟨3, ![1, 1, n]⟩ : Shape)), ← Equiv.sum_comp (rowPos n)]
  refine Finset.sum_congr rfl fun k _ => ?_
  by_cases hk : lo ≤ s.val + k.val ∧ s.val + k.val - lo < n
  · rw [dif_pos hk, dif_pos]
    · congr 1
      funext a; apply Fin.ext
      match a with
      | ⟨0, _⟩ => simp only [Equiv.symm_apply_apply]; show y.val * 1 + 0 - 0 = y.val; omega
      | ⟨1, _⟩ => simp only [Equiv.symm_apply_apply]; show t.val * 1 + 0 - 0 = t.val; omega
      | ⟨2, _⟩ => simp only [Equiv.symm_apply_apply]; show s.val * 1 + k.val - lo = s.val + k.val - lo; omega
    · intro a
      simp only [Equiv.symm_apply_apply]
      match a with
      | ⟨0, _⟩ => exact ⟨Nat.zero_le _, by show y.val * 1 + 0 - 0 < 8; omega⟩
      | ⟨1, _⟩ => exact ⟨Nat.zero_le _, by show t.val * 1 + 0 - 0 < n; omega⟩
      | ⟨2, _⟩ => exact ⟨by show lo ≤ s.val * 1 + k.val; omega, by show s.val * 1 + k.val - lo < n; omega⟩
  · rw [dif_neg hk, dif_neg]
    intro h'
    simp only [Equiv.symm_apply_apply] at h'
    have h2 := h' 2
    exact hk ⟨by have := h2.1; change lo ≤ s.val * 1 + k.val at this; omega, by have := h2.2; change s.val * 1 + k.val - lo < n at this; omega⟩

/-- A sum of numbers, as extended numbers. -/
theorem coe_sum {n : ℕ} (g : ℕ → ℝ) : ∑ k : Fin n, ((g k.val : ℝ) : EReal) = ((∑ k ∈ Finset.range n, g k : ℝ) : EReal) := by
  rw [← Fin.sum_univ_eq_sum_range]
  exact (map_sum ((⟨⟨fun r : ℝ => (r : EReal), EReal.coe_zero⟩, EReal.coe_add⟩ : ℝ →+ EReal)) _ _).symm

/-- The sums of each row from a column on. -/
theorem sums_from {n : ℕ} {x : (⟨3, ![8, n, n]⟩ : Shape).Idx → EReal} {f : ℕ → ℕ → ℕ → ℝ} (hx : Is3 x f) (hi : ℕ)
    (h : (⟨3, ![8, n, n]⟩ : Shape).ReduceWindows ![1, 1, n] ![1, 1, 1] ![0, 0, 0] ![0, 0, hi] ⟨3, ![8, n, n]⟩) :
    Is3 (Ideal.hostReduceWindowAdd (s := ⟨3, ![8, n, n]⟩) ![1, 1, n] ![1, 1, 1] ![0, 0, 0] ![0, 0, hi] h x 0)
      fun y t s => ∑ k ∈ Finset.range n, f y t k - ∑ k ∈ Finset.range s, f y t k := fun y t s => by
  rw [window_row]
  have e : ∀ k : Fin n, (if hk : 0 ≤ s.val + k.val ∧ s.val + k.val - 0 < n then x (ix3 y t ⟨s.val + k.val - 0, hk.2⟩) else 0)
      = ((if s.val + k.val < n then f y.val t.val (s.val + k.val) else 0 : ℝ) : EReal) := fun k => by
    by_cases hk : s.val + k.val < n
    · rw [dif_pos ⟨Nat.zero_le _, hk⟩, if_pos hk]; exact hx y t _
    · rw [dif_neg (fun h' => hk h'.2), if_neg hk]; rfl
  rw [Finset.sum_congr rfl fun k _ => e k, coe_sum (fun k => if s.val + k < n then f y.val t.val (s.val + k) else 0)]
  congr 1
  have hs := s.isLt
  obtain ⟨d, hd⟩ : ∃ d, n = s.val + d := ⟨n - s.val, by omega⟩
  have e1 : ∑ k ∈ Finset.range n, (if s.val + k < n then f y.val t.val (s.val + k) else 0) = ∑ k ∈ Finset.range d, f y.val t.val (s.val + k) := by
    rw [← sum_range_of_zero (m := d) (n := n) (by omega) (fun k hk => if_neg (by omega))]
    exact Finset.sum_congr rfl fun k hk => if_pos (by have := Finset.mem_range.1 hk; omega)
  have e2 : ∑ k ∈ Finset.range n, f y.val t.val k = ∑ k ∈ Finset.range s.val, f y.val t.val k + ∑ k ∈ Finset.range d, f y.val t.val (s.val + k) := by
    rw [← Finset.sum_range_add, ← hd]
  beta_reduce
  rw [e1, e2, add_sub_cancel_left]

/-- The sums of each row up to and with a column. -/
theorem sums_upto {n lo : ℕ} {x : (⟨3, ![8, n, n]⟩ : Shape).Idx → EReal} {f : ℕ → ℕ → ℕ → ℝ} (hx : Is3 x f) (hlo : n = lo + 1)
    (h : (⟨3, ![8, n, n]⟩ : Shape).ReduceWindows ![1, 1, n] ![1, 1, 1] ![0, 0, lo] ![0, 0, 0] ⟨3, ![8, n, n]⟩) :
    Is3 (Ideal.hostReduceWindowAdd (s := ⟨3, ![8, n, n]⟩) ![1, 1, n] ![1, 1, 1] ![0, 0, lo] ![0, 0, 0] h x 0)
      fun y t s => ∑ k ∈ Finset.range (s + 1), f y t k := fun y t s => by
  have hs := s.isLt
  rw [window_row]
  have e : ∀ k : Fin n, (if hk : lo ≤ s.val + k.val ∧ s.val + k.val - lo < n then x (ix3 y t ⟨s.val + k.val - lo, hk.2⟩) else 0)
      = ((if lo ≤ s.val + k.val then f y.val t.val (s.val + k.val - lo) else 0 : ℝ) : EReal) := fun k => by
    have := k.isLt
    by_cases hk : lo ≤ s.val + k.val
    · rw [dif_pos ⟨hk, by omega⟩, if_pos hk]; exact hx y t _
    · rw [dif_neg (fun h' => hk h'.1), if_neg hk]; rfl
  rw [Finset.sum_congr rfl fun k _ => e k, coe_sum (fun k => if lo ≤ s.val + k then f y.val t.val (s.val + k - lo) else 0)]
  congr 1
  rw [Finset.sum_congr (g := fun k => if lo ≤ s.val + k then f y.val t.val (s.val + k - lo) else 0)
      (show Finset.range n = Finset.range ((lo - s.val) + (s.val + 1)) by congr 1; omega) fun _ _ => rfl, Finset.sum_range_add,
    Finset.sum_eq_zero (fun k hk => if_neg (by have := Finset.mem_range.1 hk; omega)), zero_add]
  exact Finset.sum_congr rfl fun k hk => by
    rw [if_pos (by omega), show s.val + (lo - s.val + k) - lo = k by omega]

end Cert.ReferenceIdeal.Sba

end

end
-- ==== Proof.RefPoint.lean ====
module

public import proofs.«01_k».proof.Proof.RefSums
public import proofs.«01_k».proof.Proof.Gen.ReferenceIdeal.Read

@[expose] public section

set_option maxRecDepth 16384

noncomputable section

namespace Cert.ReferenceIdeal.Sba

open Idealize.ShloMosaic Idealize.ShloMosaic.TcCoe Idealize.SL.Sem Cert.ReferenceIdeal Cert.ReferenceIdeal.Gen
open Cert.KernelIdeal.Sba (Head lsr N scaleR sum_range_of_zero)

open Cert.ReferenceIdeal.Read

/-! # The scalar functions of the reference

The reference takes the logarithm of the sigmoid as the negative of a softplus, and jax writes a softplus with
guards for numbers that are none and for infinities. At a real number every guard is passed. -/

section Scalars

/-- The zero the reference's guards compare with. -/
def zw : EReal := FloatOps.ofBits (F := Ideal) .f32 0x00000000#32

theorem zw_eq : zw = ((0 : ℝ) : EReal) := Ideal.ofBits_zero_f32

/-- The softplus as the reference writes it. -/
def spE (x : EReal) : EReal :=
  Scalar.select (Ideal.cmp .une (x - zw) (x - zw)) (x + zw) (max x zw + Ideal.log1p (Ideal.exp (-(max (x - zw) (-(x - zw))))))

/-- The derivative of the softplus as the reference writes it, from the argument and the value. -/
def dspE (x y : EReal) : EReal :=
  Ideal.exp (Scalar.select (Ideal.cmp .oeq x (FloatOps.ofBits (F := Ideal) .f32 0x7F800000#32)) zw x
    - Scalar.select (Ideal.cmp .oeq y (FloatOps.ofBits (F := Ideal) .f32 0x7F800000#32)) zw y)

theorem word_inf : FloatOps.ofBits (F := Ideal) .f32 0x7F800000#32 = (⊤ : EReal) := by
  show Ideal.ofBits .f32 0x7F800000#32 = (⊤ : EReal)
  simp [Ideal.ofBits, Ideal.ieee]

/-- A softplus over the reals. -/
def spR (x : ℝ) : ℝ := max x 0 + Real.log (1 + Real.exp (-|x|))

theorem spE_coe (x : ℝ) : spE (x : EReal) = ((spR x : ℝ) : EReal) := by
  have h1 : max ((x : ℝ) : EReal) (-(x : EReal)) = ((|x| : ℝ) : EReal) := by
    rw [← EReal.coe_neg]; exact (EReal.coe_strictMono.monotone.map_max).symm
  unfold spE
  have hs : ((x : ℝ) : EReal) - zw = (x : EReal) := by rw [zw_eq, ← EReal.coe_sub, sub_zero]
  rw [hs]
  have hc : Ideal.cmp .une ((x : ℝ) : EReal) (x : EReal) = 0#1 := by simp [Ideal.cmp]
  rw [hc]
  unfold Scalar.select
  rw [if_neg (by decide), h1, ← EReal.coe_neg, Ideal.exp_coe, zw_eq, ← EReal.coe_strictMono.monotone.map_max]
  unfold Ideal.log1p
  rw [← EReal.coe_one, ← EReal.coe_add, Ideal.log_coe, if_neg (not_le.2 (by positivity)), ← EReal.coe_add]
  rfl

theorem dspE_coe (x y : ℝ) : dspE (x : EReal) (y : EReal) = ((Real.exp (x - y) : ℝ) : EReal) := by
  unfold dspE
  have hc : ∀ r : ℝ, Ideal.cmp .oeq ((r : ℝ) : EReal) (FloatOps.ofBits (F := Ideal) .f32 0x7F800000#32) = 0#1 := fun r => by
    rw [word_inf]; simp [Ideal.cmp]
  rw [hc, hc]
  unfold Scalar.select
  rw [if_neg (by decide), if_neg (by decide), ← EReal.coe_sub, Ideal.exp_coe]

/-- The softplus of the negative is the negative of the logarithm of the sigmoid. -/
theorem neg_spR_neg (x : ℝ) : -spR (-x) = lsr x := by
  unfold spR lsr
  rw [abs_neg, neg_add, sub_eq_add_neg]
  congr 1
  rcases le_total x 0 with h | h
  · rw [max_eq_left (by linarith), min_eq_left h, neg_neg]
  · rw [max_eq_right (by linarith), min_eq_right h, neg_zero]

/-- The negative of the softplus is the logarithm of the sigmoid without its argument. -/
theorem neg_spR (x : ℝ) : -spR x = lsr x - x := by
  unfold spR lsr
  rcases le_total x 0 with h | h
  · rw [max_eq_right h, min_eq_left h]; ring
  · rw [max_eq_left h, min_eq_right h]; ring

theorem sub_spR (x : ℝ) : x - spR x = lsr x := by
  have := neg_spR x
  linarith

/-- The sigmoid of the negative is one without the sigmoid. -/
theorem exp_neg_sub_spR (x : ℝ) : Real.exp (-x - spR (-x)) = 1 - Real.exp (lsr x) := by
  rw [sub_eq_add_neg, neg_spR_neg]
  unfold lsr
  have hp : (0:ℝ) < 1 + Real.exp (-|x|) := by positivity
  rcases le_total x 0 with h | h
  · rw [min_eq_left h, abs_of_nonpos h, neg_neg] at *
    rw [show -x + (x - Real.log (1 + Real.exp x)) = -Real.log (1 + Real.exp x) by ring, Real.exp_neg, Real.exp_log hp, Real.exp_sub, Real.exp_log hp]
    field_simp
    ring
  · rw [min_eq_right h, abs_of_nonneg h] at *
    rw [show -x + (0 - Real.log (1 + Real.exp (-x))) = -x - Real.log (1 + Real.exp (-x)) by ring, Real.exp_sub, Real.exp_log hp, Real.exp_sub, Real.exp_log hp,
      Real.exp_zero]
    field_simp
    ring

end Scalars

section Stages

variable (x0 x1 : (⟨S2048x1024, .f32⟩ : BufTy).Contents (Elt Ideal)) (i : S8x2048x2048.Idx)

theorem at_call0_v1 : val_main_call0_v1_0 (F := Ideal) x0 x1 i = spE (val_main_call0_v0 (F := Ideal) x0 x1 i) := by
  simp only [val_main_call0_v1_0_apply, val_main_call0_call0_v4_apply, val_main_call0_call0_v6_apply, val_main_call0_call0_v11_apply, val_main_call0_call0_v10_apply,
    val_main_call0_call0_v9_apply, val_main_call0_call0_v8_apply, val_main_call0_call0_v7_apply, val_main_call0_call0_v3_apply, val_main_call0_call0_v1_apply,
    val_main_call0_call0_v0_apply, val_main_call0_call0_v2_apply, val_main_call0_call0_v5_apply, val_main_call0_call0_cst_apply]
  rfl

theorem at_v16_1 : val_main_v16_1 (F := Ideal) x0 x1 i = dspE (val_main_call0_v0 (F := Ideal) x0 x1 i) (val_main_call0_v1_0 (F := Ideal) x0 x1 i) := by
  simp only [val_main_v16_1_apply, val_main_call0_call0_v21_apply, val_main_call0_call0_v16_apply, val_main_call0_call0_v20_apply, val_main_call0_call0_v14_apply,
    val_main_call0_call0_v18_apply, val_main_call0_call0_v13_apply, val_main_call0_call0_v15_apply, val_main_call0_call0_v17_apply, val_main_call0_call0_v19_apply,
    val_main_call0_call0_cst_0_apply, val_main_call0_call0_cst_1_apply, val_main_call0_call0_cst_2_apply, val_main_call0_call0_cst_3_apply]
  rfl

theorem at_call3_v1 : val_main_call3_v1_0 (F := Ideal) x0 x1 i = spE (val_main_call3_v0 (F := Ideal) x0 x1 i) := by
  simp only [val_main_call3_v1_0_apply, val_main_call3_call0_v4_apply, val_main_call3_call0_v6_apply, val_main_call3_call0_v11_apply, val_main_call3_call0_v10_apply,
    val_main_call3_call0_v9_apply, val_main_call3_call0_v8_apply, val_main_call3_call0_v7_apply, val_main_call3_call0_v3_apply, val_main_call3_call0_v1_apply,
    val_main_call3_call0_v0_apply, val_main_call3_call0_v2_apply, val_main_call3_call0_v5_apply, val_main_call3_call0_cst_apply]
  rfl

theorem at_v20_1 : val_main_v20_1 (F := Ideal) x0 x1 i = dspE (val_main_call3_v0 (F := Ideal) x0 x1 i) (val_main_call3_v1_0 (F := Ideal) x0 x1 i) := by
  simp only [val_main_v20_1_apply, val_main_call3_call0_v21_apply, val_main_call3_call0_v16_apply, val_main_call3_call0_v20_apply, val_main_call3_call0_v14_apply,
    val_main_call3_call0_v18_apply, val_main_call3_call0_v13_apply, val_main_call3_call0_v15_apply, val_main_call3_call0_v17_apply, val_main_call3_call0_v19_apply,
    val_main_call3_call0_cst_0_apply, val_main_call3_call0_cst_1_apply, val_main_call3_call0_cst_2_apply, val_main_call3_call0_cst_3_apply]
  rfl

theorem at_v14 (t s : Fin 2048) : val_main_v14 (F := Ideal) (ix2 t s) = if s.val < t.val then 1#1 else 0#1 := by
  simp only [val_main_v14_apply, val_main_v12_apply, val_main_v13_apply, val_main_v10_apply, val_main_v11_apply, val_main_v6_apply]
  show IntOp.cmpi .slt (BitVec.ofNat 32 s.val) (BitVec.ofNat 32 t.val) = _
  have hs := s.isLt
  have ht := t.isLt
  have e : ∀ n : ℕ, n < 2048 → (BitVec.ofNat 32 n).toInt = (n : ℤ) := fun n hn => by
    rw [BitVec.toInt_eq_toNat_of_lt (by rw [BitVec.toNat_ofNat]; omega), BitVec.toNat_ofNat, Nat.mod_eq_of_lt (by omega)]
  unfold IntOp.cmpi
  simp only [BitVec.slt, e s.val hs, e t.val ht]
  by_cases h : s.val < t.val
  · rw [if_pos h, decide_eq_true (by omega)]; rfl
  · rw [if_neg h, decide_eq_false (by omega)]; rfl

theorem at_v17_1 (h : Fin 8) (t s : Fin 2048) : val_main_v17_1 (F := Ideal) (ix3 h t s) = if s.val < t.val then 1#1 else 0#1 := by
  rw [val_main_v17_1_apply, ← at_v14]
  congr 1
  funext a
  match a with
  | ⟨0, _⟩ => rfl
  | ⟨1, _⟩ => rfl

theorem at_v23_1 (h : Fin 8) (t s : Fin 2048) : val_main_v23_1 (F := Ideal) (ix3 h t s) = if s.val < t.val then 1#1 else 0#1 := by
  rw [val_main_v23_1_apply, ← at_v14]
  congr 1
  funext a
  match a with
  | ⟨0, _⟩ => rfl
  | ⟨1, _⟩ => rfl

end Stages

end Cert.ReferenceIdeal.Sba

end

end
-- ==== Proof.RefFwd.lean ====
module

public import proofs.«01_k».proof.Proof.RefPoint

@[expose] public section

set_option maxRecDepth 16384

noncomputable section

namespace Cert.ReferenceIdeal.Sba

open Idealize.ShloMosaic Idealize.ShloMosaic.TcCoe Idealize.SL.Sem Cert.ReferenceIdeal Cert.ReferenceIdeal.Gen
open Cert.KernelIdeal.Sba (Head lsr N scaleR sum_range_of_zero)

open Cert.ReferenceIdeal.Read

/-! # The reference's forward values

The reference's arguments hold the heads' numbers; each of its values up to the output then holds what `Head` says. -/

/-- The reference's arguments hold the numbers of the heads. -/
structure ArgX (x0 x1 x2 x3 : (⟨S2048x1024, .f32⟩ : BufTy).Contents (Elt Ideal)) (Hh : ℕ → Head) : Prop where
  hq : ∀ (t : Fin 2048) (C : Fin 1024), x0 (ix2 t C) = (((Hh (C.val / 128)).q t.val (C.val % 128) : ℝ) : EReal)
  hk : ∀ (t : Fin 2048) (C : Fin 1024), x1 (ix2 t C) = (((Hh (C.val / 128)).k t.val (C.val % 128) : ℝ) : EReal)
  hv : ∀ (t : Fin 2048) (C : Fin 1024), x2 (ix2 t C) = (((Hh (C.val / 128)).v t.val (C.val % 128) : ℝ) : EReal)
  hg : ∀ (t : Fin 2048) (C : Fin 1024), x3 (ix2 t C) = (((Hh (C.val / 128)).g t.val (C.val % 128) : ℝ) : EReal)

/-- A head's place `d` is place `h · 128 + d` of the row. -/
theorem headPlace (f : ℕ → ℕ → ℕ → ℝ) {h d : ℕ} (t : ℕ) (hd : d < 128) : f ((h * 128 + d) / 128) t ((h * 128 + d) % 128) = f h t d := by
  have e1 : (h * 128 + d) / 128 = h := by omega
  have e2 : (h * 128 + d) % 128 = d := by omega
  rw [e1, e2]

theorem is_v1 {x : (⟨S2048x1024, .f32⟩ : BufTy).Contents (Elt Ideal)} {f : ℕ → ℕ → ℕ → ℝ}
    (hx : ∀ (t : Fin 2048) (C : Fin 1024), x (ix2 t C) = ((f (C.val / 128) t.val (C.val % 128) : ℝ) : EReal)) :
    Is3 (val_main_v1 (F := Ideal) x) f := fun h t d => by
  rw [val_main_v1_apply, val_main_v0_apply]
  have e : idx_main_v0 (idx_main_v1 (ix3 h t d)) = ix2 t (⟨h.val * 128 + d.val, by omega⟩ : Fin 1024) := by
    funext a
    apply Fin.ext
    match a with
    | ⟨0, _⟩ => show ((t.val * 8 + h.val) * 128 + d.val) / 1024 = t.val; omega
    | ⟨1, _⟩ => show ((t.val * 8 + h.val) * 128 + d.val) % 1024 = h.val * 128 + d.val; omega
  rw [e, hx, headPlace f t.val d.isLt]

theorem is_v3 {x : (⟨S2048x1024, .f32⟩ : BufTy).Contents (Elt Ideal)} {f : ℕ → ℕ → ℕ → ℝ}
    (hx : ∀ (t : Fin 2048) (C : Fin 1024), x (ix2 t C) = ((f (C.val / 128) t.val (C.val % 128) : ℝ) : EReal)) :
    Is3 (val_main_v3 (F := Ideal) x) f := fun h t d => by
  rw [val_main_v3_apply, val_main_v2_apply]
  have e : idx_main_v2 (idx_main_v3 (ix3 h t d)) = ix2 t (⟨h.val * 128 + d.val, by omega⟩ : Fin 1024) := by
    funext a
    apply Fin.ext
    match a with
    | ⟨0, _⟩ => show ((t.val * 8 + h.val) * 128 + d.val) / 1024 = t.val; omega
    | ⟨1, _⟩ => show ((t.val * 8 + h.val) * 128 + d.val) % 1024 = h.val * 128 + d.val; omega
  rw [e, hx, headPlace f t.val d.isLt]

theorem is_v5 {x : (⟨S2048x1024, .f32⟩ : BufTy).Contents (Elt Ideal)} {f : ℕ → ℕ → ℕ → ℝ}
    (hx : ∀ (t : Fin 2048) (C : Fin 1024), x (ix2 t C) = ((f (C.val / 128) t.val (C.val % 128) : ℝ) : EReal)) :
    Is3 (val_main_v5 (F := Ideal) x) f := fun h t d => by
  rw [val_main_v5_apply, val_main_v4_apply]
  have e : idx_main_v4 (idx_main_v5 (ix3 h t d)) = ix2 t (⟨h.val * 128 + d.val, by omega⟩ : Fin 1024) := by
    funext a
    apply Fin.ext
    match a with
    | ⟨0, _⟩ => show ((t.val * 8 + h.val) * 128 + d.val) / 1024 = t.val; omega
    | ⟨1, _⟩ => show ((t.val * 8 + h.val) * 128 + d.val) % 1024 = h.val * 128 + d.val; omega
  rw [e, hx, headPlace f t.val d.isLt]

theorem is_v28 {x : (⟨S2048x1024, .f32⟩ : BufTy).Contents (Elt Ideal)} {f : ℕ → ℕ → ℕ → ℝ}
    (hx : ∀ (t : Fin 2048) (C : Fin 1024), x (ix2 t C) = ((f (C.val / 128) t.val (C.val % 128) : ℝ) : EReal)) :
    Is3 (val_main_v28 (F := Ideal) x) f := fun h t d => by
  rw [val_main_v28_apply, val_main_v27_apply]
  have e : idx_main_v27 (idx_main_v28 (ix3 h t d)) = ix2 t (⟨h.val * 128 + d.val, by omega⟩ : Fin 1024) := by
    funext a
    apply Fin.ext
    match a with
    | ⟨0, _⟩ => show ((t.val * 8 + h.val) * 128 + d.val) / 1024 = t.val; omega
    | ⟨1, _⟩ => show ((t.val * 8 + h.val) * 128 + d.val) % 1024 = h.val * 128 + d.val; omega
  rw [e, hx, headPlace f t.val d.isLt]

section Numbers

/-! The instance's operations at real numbers. -/

theorem ad (a b : ℝ) : FloatOps.addf (F := Ideal) (φ := .f32) (a : EReal) (b : EReal) = ((a + b : ℝ) : EReal) := (EReal.coe_add a b).symm
theorem sb (a b : ℝ) : FloatOps.subf (F := Ideal) (φ := .f32) (a : EReal) (b : EReal) = ((a - b : ℝ) : EReal) := (EReal.coe_sub a b).symm
theorem ml (a b : ℝ) : FloatOps.mulf (F := Ideal) (φ := .f32) (a : EReal) (b : EReal) = ((a * b : ℝ) : EReal) := (EReal.coe_mul a b).symm
theorem ng (a : ℝ) : FloatOps.hostNegf (F := Ideal) (φ := .f32) (a : EReal) = ((-a : ℝ) : EReal) := (EReal.coe_neg a).symm
theorem ex (a : ℝ) : FloatOps.hostUnary (F := Ideal) (φ := .f32) .exp (a : EReal) = ((Real.exp a : ℝ) : EReal) := Ideal.exp_coe a

/-- A choice by the mask of a number and zero. -/
theorem sel_mask (p : Prop) [Decidable p] (a : ℝ) (b : EReal) (hb : b = ((0 : ℝ) : EReal)) :
    Scalar.select (if p then 1#1 else 0#1) (a : EReal) b = ((if p then a else 0 : ℝ) : EReal) := by
  unfold Scalar.select
  by_cases hp : p
  · rw [if_pos hp, if_pos (show (1#1 : BitVec 1) = 1 from rfl), if_pos hp]
  · rw [if_neg hp, if_neg (by decide), if_neg hp, hb]

end Numbers

section Zeros

theorem zero_call1 {i : S8x2048x2048.Idx} : val_main_call1_v2 (F := Ideal) i = ((0 : ℝ) : EReal) := by
  rw [val_main_call1_v2_apply, val_main_call1_v0_apply, val_main_cst_0_apply]; exact zw_eq
theorem zero_call2 {i : S_.Idx} : val_main_call2_v0 (F := Ideal) i = 0 := by
  rw [val_main_call2_v0_apply, val_main_call2_cst_apply]; exact zw_eq
theorem zero_call4 {i : S8x2048x2048.Idx} : val_main_call4_v2 (F := Ideal) i = ((0 : ℝ) : EReal) := by
  rw [val_main_call4_v2_apply, val_main_call4_v0_apply, val_main_cst_1_apply]; exact zw_eq
theorem zero_call5 {i : S8x2048x2048.Idx} : val_main_call5_v0 (F := Ideal) i = ((0 : ℝ) : EReal) := by
  rw [val_main_call5_v0_apply, val_main_call5_cst_apply]; exact zw_eq
theorem zero_call7 {i : S_.Idx} : val_main_call7_v0 (F := Ideal) i = 0 := by
  rw [val_main_call7_v0_apply, val_main_call7_cst_apply]; exact zw_eq
theorem zero_call8 {i : S8x2048x2048.Idx} : val_main_call8_v0 (F := Ideal) i = ((0 : ℝ) : EReal) := by
  rw [val_main_call8_v0_apply, val_main_call8_cst_apply]; exact zw_eq

end Zeros

section Forward

variable {x0 x1 x2 x3 : (⟨S2048x1024, .f32⟩ : BufTy).Contents (Elt Ideal)} {Hh : ℕ → Head} (H : ArgX x0 x1 x2 x3 Hh)

include H

/-- The scores. -/
theorem ArgX.v9 : Is3 (val_main_v9 (F := Ideal) x0 x1) fun h t s => (Hh h).z t s := fun h t s => by
  rw [val_main_v9_apply, val_main_v7_apply, val_main_v8_apply]
  have e : ∀ d : Fin 128, val_main_v1 (F := Ideal) x0 (lidx_main_v7 (ix3 h t s) d) * val_main_v3 (F := Ideal) x1 (ridx_main_v7 (ix3 h t s) d)
      = (((Hh h).q t d * (Hh h).k s d : ℝ) : EReal) := fun d => by
    have e1 : lidx_main_v7 (ix3 h t s) d = ix3 h t d := by
      funext a
      match a with
      | ⟨0, _⟩ => rfl
      | ⟨1, _⟩ => rfl
      | ⟨2, _⟩ => rfl
    have e2 : ridx_main_v7 (ix3 h t s) d = ix3 h s d := by
      funext a
      match a with
      | ⟨0, _⟩ => rfl
      | ⟨1, _⟩ => rfl
      | ⟨2, _⟩ => rfl
    rw [e1, e2, is_v1 (f := fun h t d => (Hh h).q t d) H.hq h t d, is_v3 (f := fun h t d => (Hh h).k t d) H.hk h s d, ← EReal.coe_mul]
  rw [Finset.sum_congr rfl fun d _ => e d, coe_sum fun d => (Hh h).q t d * (Hh h).k s d]
  show _ * Ideal.ofBits .f32 0x3DB504F3#32 = _
  rw [Cert.KernelIdeal.Sba.ofBits_scale, ← EReal.coe_mul]
  rfl

/-- The softplus' argument is the score. -/
theorem ArgX.call0_v0 : Is3 (val_main_call0_v0 (F := Ideal) x0 x1) fun h t s => (Hh h).z t s := fun h t s => by
  rw [val_main_call0_v0_apply, val_main_v15_apply, H.v9 h t s]
  rw [ng, ng, neg_neg]

theorem ArgX.call0_v1 : Is3 (val_main_call0_v1_0 (F := Ideal) x0 x1) fun h t s => spR ((Hh h).z t s) := fun h t s => by
  rw [at_call0_v1, H.call0_v0 h t s, spE_coe]

/-- The logarithm of the weight a place leaves. -/
theorem ArgX.v16_0 : Is3 (val_main_v16_0 (F := Ideal) x0 x1) fun h t s => lsr ((Hh h).z t s) - (Hh h).z t s := fun h t s => by
  rw [val_main_v16_0_apply, H.call0_v1 h t s]
  rw [ng, neg_spR]

/-- The sigmoid. -/
theorem ArgX.v16_1 : Is3 (val_main_v16_1 (F := Ideal) x0 x1) fun h t s => Real.exp (lsr ((Hh h).z t s)) := fun h t s => by
  rw [at_v16_1, H.call0_v0 h t s, H.call0_v1 h t s, dspE_coe, sub_spR]

theorem ArgX.v17_0 : Is3 (val_main_v17_0 (F := Ideal) x0 x1) fun h t s => (Hh h).lk t s := fun h t s => by
  rw [val_main_v17_0_apply, at_v17_1, H.v16_0 h t s]
  exact sel_mask _ _ _ zero_call1

/-- The sums from a place on. -/
theorem ArgX.v18 : Is3 (val_main_v18 (F := Ideal) x0 x1) fun h t s => (Hh h).tot t - ∑ k ∈ Finset.range s, (Hh h).lk t k := by
  have h0 := H.v17_0
  unfold val_main_v18
  generalize val_main_v17_0 (F := Ideal) x0 x1 = y at h0 ⊢
  unfold Host.reduceWindowAdd
  rw [Ideal.hostReduceWindowAdd_def, zero_call2]
  exact sums_from h0 2047 _

theorem ArgX.v19 : Is3 (val_main_v19 (F := Ideal) x0 x1) fun h t s => (Hh h).tot t - ∑ k ∈ Finset.range (s + 1), (Hh h).lk t k := fun h t s => by
  rw [val_main_v19_apply, H.v18 h t s, H.v17_0 h t s]
  rw [sb]
  beta_reduce
  rw [Finset.sum_range_succ, sub_sub]

theorem ArgX.call3_v0 : Is3 (val_main_call3_v0 (F := Ideal) x0 x1) fun h t s => -(Hh h).z t s := fun h t s => by
  rw [val_main_call3_v0_apply, H.v9 h t s]
  exact (EReal.coe_neg _).symm

theorem ArgX.call3_v1 : Is3 (val_main_call3_v1_0 (F := Ideal) x0 x1) fun h t s => spR (-(Hh h).z t s) := fun h t s => by
  rw [at_call3_v1, H.call3_v0 h t s, spE_coe]

/-- The logarithm of the sigmoid. -/
theorem ArgX.v20_0 : Is3 (val_main_v20_0 (F := Ideal) x0 x1) fun h t s => lsr ((Hh h).z t s) := fun h t s => by
  rw [val_main_v20_0_apply, H.call3_v1 h t s, ng]
  beta_reduce
  rw [neg_spR_neg]

/-- The sigmoid of the negative. -/
theorem ArgX.v20_1 : Is3 (val_main_v20_1 (F := Ideal) x0 x1) fun h t s => 1 - Real.exp (lsr ((Hh h).z t s)) := fun h t s => by
  rw [at_v20_1, H.call3_v0 h t s, H.call3_v1 h t s, dspE_coe, exp_neg_sub_spR]

theorem ArgX.v22 : Is3 (val_main_v22 (F := Ideal) x0 x1)
    fun h t s => Real.exp (lsr ((Hh h).z t s) + ((Hh h).tot t - ∑ k ∈ Finset.range (s + 1), (Hh h).lk t k)) := fun h t s => by
  rw [val_main_v22_apply, val_main_v21_apply, H.v20_0 h t s, H.v19 h t s]
  rw [ad, ex]

/-- The weights. -/
theorem ArgX.v23_0 : Is3 (val_main_v23_0 (F := Ideal) x0 x1) fun h t s => (Hh h).A t s := fun h t s => by
  rw [val_main_v23_0_apply, at_v23_1, H.v22 h t s]
  exact sel_mask _ _ _ zero_call4

/-- The output by heads. -/
theorem ArgX.v24 : Is3 (val_main_v24 (F := Ideal) x0 x1 x2) fun h t d => (Hh h).o t d := fun h t d => by
  rw [val_main_v24_apply]
  have e : ∀ s : Fin 2048, val_main_v23_0 (F := Ideal) x0 x1 (lidx_main_v24 (ix3 h t d) s) * val_main_v5 (F := Ideal) x2 (ridx_main_v24 (ix3 h t d) s)
      = (((Hh h).A t s * (Hh h).v s d : ℝ) : EReal) := fun s => by
    have e1 : lidx_main_v24 (ix3 h t d) s = ix3 h t s := by
      funext a
      match a with
      | ⟨0, _⟩ => rfl
      | ⟨1, _⟩ => rfl
      | ⟨2, _⟩ => rfl
    have e2 : ridx_main_v24 (ix3 h t d) s = ix3 h s d := by
      funext a
      match a with
      | ⟨0, _⟩ => rfl
      | ⟨1, _⟩ => rfl
      | ⟨2, _⟩ => rfl
    rw [e1, e2, H.v23_0 h t s, is_v5 (f := fun h t d => (Hh h).v t d) H.hv h s d, ← EReal.coe_mul]
  rw [Finset.sum_congr rfl fun s _ => e s, coe_sum fun s => (Hh h).A t s * (Hh h).v s d]
  rfl

end Forward

end Cert.ReferenceIdeal.Sba

end

end
-- ==== Proof.RefBwd.lean ====
module

public import proofs.«01_k».proof.Proof.RefFwd

@[expose] public section

set_option maxRecDepth 16384

noncomputable section

namespace Cert.ReferenceIdeal.Sba

open Idealize.ShloMosaic Idealize.ShloMosaic.TcCoe Idealize.SL.Sem Cert.ReferenceIdeal Cert.ReferenceIdeal.Gen
open Cert.KernelIdeal.Sba (Head lsr N scaleR sum_range_of_zero)

open Cert.ReferenceIdeal.Read

/-! # The reference's gradients

The reference's backward pass, a value at a time, up to the gradients of the queries, the keys and the values. -/

section Backward

variable {x0 x1 x2 x3 : (⟨S2048x1024, .f32⟩ : BufTy).Contents (Elt Ideal)} {Hh : ℕ → Head} (H : ArgX x0 x1 x2 x3 Hh)

include H

/-- The gradient of the weights. -/
theorem ArgX.v31 : Is3 (val_main_v31 (F := Ideal) x2 x3) fun h t s => ∑ d ∈ Finset.range 128, (Hh h).g t d * (Hh h).v s d := fun h t s => by
  rw [val_main_v31_apply]
  have e : ∀ d : Fin 128, val_main_v28 (F := Ideal) x3 (lidx_main_v31 (ix3 h t s) d) * val_main_v5 (F := Ideal) x2 (ridx_main_v31 (ix3 h t s) d)
      = (((Hh h).g t d * (Hh h).v s d : ℝ) : EReal) := fun d => by
    have e1 : lidx_main_v31 (ix3 h t s) d = ix3 h t d := by
      funext a
      match a with
      | ⟨0, _⟩ => rfl
      | ⟨1, _⟩ => rfl
      | ⟨2, _⟩ => rfl
    have e2 : ridx_main_v31 (ix3 h t s) d = ix3 h s d := by
      funext a
      match a with
      | ⟨0, _⟩ => rfl
      | ⟨1, _⟩ => rfl
      | ⟨2, _⟩ => rfl
    rw [e1, e2, is_v28 (f := fun h t d => (Hh h).g t d) H.hg h t d, is_v5 (f := fun h t d => (Hh h).v t d) H.hv h s d, ← EReal.coe_mul]
  rw [Finset.sum_congr rfl fun d _ => e d, coe_sum fun d => (Hh h).g t d * (Hh h).v s d]

theorem ArgX.v32 : Is3 (val_main_v32 (F := Ideal) x2 x3) fun h t s => if s < t then ∑ d ∈ Finset.range 128, (Hh h).g t d * (Hh h).v s d else 0 := fun h t s => by
  rw [val_main_v32_apply, at_v23_1, H.v31 h t s]
  exact sel_mask _ _ _ zero_call5

/-- The weights times their gradient. -/
theorem ArgX.v33 : Is3 (val_main_v33 (F := Ideal) x0 x1 x2 x3) fun h t s => (Hh h).w t s := fun h t s => by
  rw [val_main_v33_apply, H.v32 h t s, H.v22 h t s, ml]
  congr 1
  unfold Head.w Head.A
  by_cases hs : s.val < t.val
  · simp only [if_pos hs]; rw [mul_comm]
  · simp only [if_neg hs, zero_mul]

/-- The share of a place's own logarithm of the sigmoid. -/
theorem ArgX.v34 : Is3 (val_main_v34 (F := Ideal) x0 x1 x2 x3) fun h t s => (Hh h).w t s * (1 - Real.exp (lsr ((Hh h).z t s))) := fun h t s => by
  rw [val_main_v34_apply, val_main_call6_v1_apply, val_main_call6_v0_apply, H.v33 h t s, H.v20_1 h t s, ng, ml, ng]
  congr 1
  ring

/-- The sums up to and with a place. -/
theorem ArgX.v36 : Is3 (val_main_v36 (F := Ideal) x0 x1 x2 x3) fun h t s => ∑ k ∈ Finset.range (s + 1), (Hh h).w t k := by
  have h0 := H.v33
  unfold val_main_v36
  generalize val_main_v33 (F := Ideal) x0 x1 x2 x3 = y at h0 ⊢
  unfold Host.reduceWindowAdd
  rw [Ideal.hostReduceWindowAdd_def, zero_call7]
  exact sums_upto h0 (lo := 2047) rfl _

/-- The sums before a place. -/
theorem ArgX.v37 : Is3 (val_main_v37 (F := Ideal) x0 x1 x2 x3) fun h t s => ∑ k ∈ Finset.range s, (Hh h).w t k := fun h t s => by
  rw [val_main_v37_apply, val_main_v35_apply, H.v33 h t s, H.v36 h t s, ng, ad]
  beta_reduce
  rw [Finset.sum_range_succ]
  congr 1
  ring

theorem ArgX.v38 : Is3 (val_main_v38 (F := Ideal) x0 x1 x2 x3) fun h t s => if s < t then ∑ k ∈ Finset.range s, (Hh h).w t k else 0 := fun h t s => by
  rw [val_main_v38_apply, at_v17_1, H.v37 h t s]
  exact sel_mask _ _ _ zero_call8

/-- The share of the places after. -/
theorem ArgX.v40 : Is3 (val_main_v40 (F := Ideal) x0 x1 x2 x3)
    fun h t s => -(if s < t then ∑ k ∈ Finset.range s, (Hh h).w t k else 0) * Real.exp (lsr ((Hh h).z t s)) := fun h t s => by
  rw [val_main_v40_apply, val_main_v39_apply, val_main_call9_v1_apply, val_main_call9_v0_apply, H.v38 h t s, H.v16_1 h t s, ng, ml, ng, ng, neg_neg]

/-- The gradient of the unscaled scores. -/
theorem ArgX.v43 : Is3 (val_main_v43 (F := Ideal) x0 x1 x2 x3) fun h t s => (Hh h).dz t s := fun h t s => by
  rw [val_main_v43_apply, val_main_v41_apply, H.v34 h t s, H.v40 h t s, ad, val_main_v42_apply, val_main_cst_2_apply]
  have e : FloatOps.ofBits (F := Ideal) .f32 0x3DB504F3#32 = ((scaleR : ℝ) : EReal) := Cert.KernelIdeal.Sba.ofBits_scale
  rw [e, ml]
  congr 1
  unfold Head.dz
  by_cases hs : s.val < t.val
  · simp only [if_pos hs]; ring
  · simp only [if_neg hs]
    rw [(Hh h.val).w_of_le (not_lt.1 hs)]
    ring

/-- The gradient of the keys by heads. -/
theorem ArgX.v44 : Is3 (val_main_v44 (F := Ideal) x0 x1 x2 x3) fun h s d => (Hh h).dk s d := fun h s d => by
  rw [val_main_v44_apply]
  have e : ∀ t : Fin 2048, val_main_v43 (F := Ideal) x0 x1 x2 x3 (lidx_main_v44 (ix3 h s d) t) * val_main_v1 (F := Ideal) x0 (ridx_main_v44 (ix3 h s d) t)
      = (((Hh h).dz t s * (Hh h).q t d : ℝ) : EReal) := fun t => by
    have e1 : lidx_main_v44 (ix3 h s d) t = ix3 h t s := by
      funext a
      match a with
      | ⟨0, _⟩ => rfl
      | ⟨1, _⟩ => rfl
      | ⟨2, _⟩ => rfl
    have e2 : ridx_main_v44 (ix3 h s d) t = ix3 h t d := by
      funext a
      match a with
      | ⟨0, _⟩ => rfl
      | ⟨1, _⟩ => rfl
      | ⟨2, _⟩ => rfl
    rw [e1, e2, H.v43 h t s, is_v1 (f := fun h t d => (Hh h).q t d) H.hq h t d, ← EReal.coe_mul]
  rw [Finset.sum_congr rfl fun t _ => e t, coe_sum fun t => (Hh h).dz t s * (Hh h).q t d]
  rfl

/-- The gradient of the queries by heads. -/
theorem ArgX.v45 : Is3 (val_main_v45 (F := Ideal) x0 x1 x2 x3) fun h t d => (Hh h).dq t d := fun h t d => by
  rw [val_main_v45_apply]
  have e : ∀ s : Fin 2048, val_main_v43 (F := Ideal) x0 x1 x2 x3 (lidx_main_v45 (ix3 h t d) s) * val_main_v3 (F := Ideal) x1 (ridx_main_v45 (ix3 h t d) s)
      = (((Hh h).dz t s * (Hh h).k s d : ℝ) : EReal) := fun s => by
    have e1 : lidx_main_v45 (ix3 h t d) s = ix3 h t s := by
      funext a
      match a with
      | ⟨0, _⟩ => rfl
      | ⟨1, _⟩ => rfl
      | ⟨2, _⟩ => rfl
    have e2 : ridx_main_v45 (ix3 h t d) s = ix3 h s d := by
      funext a
      match a with
      | ⟨0, _⟩ => rfl
      | ⟨1, _⟩ => rfl
      | ⟨2, _⟩ => rfl
    rw [e1, e2, H.v43 h t s, is_v3 (f := fun h t d => (Hh h).k t d) H.hk h s d, ← EReal.coe_mul]
  rw [Finset.sum_congr rfl fun s _ => e s, coe_sum fun s => (Hh h).dz t s * (Hh h).k s d]
  rfl

/-- The gradient of the values by heads, the places first. -/
theorem ArgX.v29 : Is3 (val_main_v29 (F := Ideal) x0 x1 x3) fun h d s => (Hh h).dv s d := fun h d s => by
  rw [val_main_v29_apply]
  have e : ∀ t : Fin 2048, val_main_v28 (F := Ideal) x3 (lidx_main_v29 (ix3 h d s) t) * val_main_v23_0 (F := Ideal) x0 x1 (ridx_main_v29 (ix3 h d s) t)
      = (((Hh h).g t d * (Hh h).A t s : ℝ) : EReal) := fun t => by
    have e1 : lidx_main_v29 (ix3 h d s) t = ix3 h t d := by
      funext a
      match a with
      | ⟨0, _⟩ => rfl
      | ⟨1, _⟩ => rfl
      | ⟨2, _⟩ => rfl
    have e2 : ridx_main_v29 (ix3 h d s) t = ix3 h t s := by
      funext a
      match a with
      | ⟨0, _⟩ => rfl
      | ⟨1, _⟩ => rfl
      | ⟨2, _⟩ => rfl
    rw [e1, e2, is_v28 (f := fun h t d => (Hh h).g t d) H.hg h t d, H.v23_0 h t s, ← EReal.coe_mul]
  rw [Finset.sum_congr rfl fun t _ => e t, coe_sum fun t => (Hh h).g t d * (Hh h).A t s]
  congr 1
  exact Finset.sum_congr rfl fun t _ => mul_comm _ _

/-- The gradient of the values by heads. -/
theorem ArgX.v30 : Is3 (val_main_v30 (F := Ideal) x0 x1 x3) fun h s d => (Hh h).dv s d := fun h s d => by
  rw [val_main_v30_apply]
  have e : idx_main_v30 (ix3 h s d) = ix3 h d s := by
    funext a
    match a with
    | ⟨0, _⟩ => rfl
    | ⟨1, _⟩ => rfl
    | ⟨2, _⟩ => rfl
  rw [e]
  exact H.v29 h d s

/-- The output. -/
theorem ArgX.v26 : val_main_v26 (F := Ideal) x0 x1 x2 = fun y : S2048x1024.Idx => (((Hh ((y 1).val / 128)).o (y 0).val ((y 1).val % 128) : ℝ) : EReal) := by
  funext y
  have h0 : (y 0).val < 2048 := (y 0).isLt
  have h1 : (y 1).val < 1024 := (y 1).isLt
  rw [val_main_v26_apply, val_main_v25_apply]
  have e : idx_main_v25 (idx_main_v26 y) = ix3 (⟨(y 1).val / 128, by omega⟩ : Fin 8) (⟨(y 0).val, h0⟩ : Fin 2048) (⟨(y 1).val % 128, by omega⟩ : Fin 128) := by
    funext a
    apply Fin.ext
    match a with
    | ⟨0, _⟩ => show ((y 0).val * 1024 + (y 1).val) / 128 % 8 = (y 1).val / 128; omega
    | ⟨1, _⟩ => show ((y 0).val * 1024 + (y 1).val) / 1024 = (y 0).val; omega
    | ⟨2, _⟩ => show ((y 0).val * 1024 + (y 1).val) % 128 = (y 1).val % 128; omega
  rw [e]
  exact H.v24 _ _ _

/-- The gradient of the queries. -/
theorem ArgX.v51 : val_main_v51 (F := Ideal) x0 x1 x2 x3 = fun y : S2048x1024.Idx => (((Hh ((y 1).val / 128)).dq (y 0).val ((y 1).val % 128) : ℝ) : EReal) := by
  funext y
  have h0 : (y 0).val < 2048 := (y 0).isLt
  have h1 : (y 1).val < 1024 := (y 1).isLt
  rw [val_main_v51_apply, val_main_v50_apply]
  have e : idx_main_v50 (idx_main_v51 y) = ix3 (⟨(y 1).val / 128, by omega⟩ : Fin 8) (⟨(y 0).val, h0⟩ : Fin 2048) (⟨(y 1).val % 128, by omega⟩ : Fin 128) := by
    funext a
    apply Fin.ext
    match a with
    | ⟨0, _⟩ => show ((y 0).val * 1024 + (y 1).val) / 128 % 8 = (y 1).val / 128; omega
    | ⟨1, _⟩ => show ((y 0).val * 1024 + (y 1).val) / 1024 = (y 0).val; omega
    | ⟨2, _⟩ => show ((y 0).val * 1024 + (y 1).val) % 128 = (y 1).val % 128; omega
  rw [e]
  exact H.v45 _ _ _

/-- The gradient of the keys. -/
theorem ArgX.v49 : val_main_v49 (F := Ideal) x0 x1 x2 x3 = fun y : S2048x1024.Idx => (((Hh ((y 1).val / 128)).dk (y 0).val ((y 1).val % 128) : ℝ) : EReal) := by
  funext y
  have h0 : (y 0).val < 2048 := (y 0).isLt
  have h1 : (y 1).val < 1024 := (y 1).isLt
  rw [val_main_v49_apply, val_main_v48_apply]
  have e : idx_main_v48 (idx_main_v49 y) = ix3 (⟨(y 1).val / 128, by omega⟩ : Fin 8) (⟨(y 0).val, h0⟩ : Fin 2048) (⟨(y 1).val % 128, by omega⟩ : Fin 128) := by
    funext a
    apply Fin.ext
    match a with
    | ⟨0, _⟩ => show ((y 0).val * 1024 + (y 1).val) / 128 % 8 = (y 1).val / 128; omega
    | ⟨1, _⟩ => show ((y 0).val * 1024 + (y 1).val) / 1024 = (y 0).val; omega
    | ⟨2, _⟩ => show ((y 0).val * 1024 + (y 1).val) % 128 = (y 1).val % 128; omega
  rw [e]
  exact H.v44 _ _ _

/-- The gradient of the values. -/
theorem ArgX.v47 : val_main_v47 (F := Ideal) x0 x1 x3 = fun y : S2048x1024.Idx => (((Hh ((y 1).val / 128)).dv (y 0).val ((y 1).val % 128) : ℝ) : EReal) := by
  funext y
  have h0 : (y 0).val < 2048 := (y 0).isLt
  have h1 : (y 1).val < 1024 := (y 1).isLt
  rw [val_main_v47_apply, val_main_v46_apply]
  have e : idx_main_v46 (idx_main_v47 y) = ix3 (⟨(y 1).val / 128, by omega⟩ : Fin 8) (⟨(y 0).val, h0⟩ : Fin 2048) (⟨(y 1).val % 128, by omega⟩ : Fin 128) := by
    funext a
    apply Fin.ext
    match a with
    | ⟨0, _⟩ => show ((y 0).val * 1024 + (y 1).val) / 128 % 8 = (y 1).val / 128; omega
    | ⟨1, _⟩ => show ((y 0).val * 1024 + (y 1).val) / 1024 = (y 0).val; omega
    | ⟨2, _⟩ => show ((y 0).val * 1024 + (y 1).val) % 128 = (y 1).val % 128; omega
  rw [e]
  exact H.v30 _ _ _

end Backward

end Cert.ReferenceIdeal.Sba

end

end
-- ==== Proof.Ends.lean ====
module

public import proofs.«01_k».proof.Defs
public import proofs.«01_k».proof.Proof.KRun
public import proofs.«01_k».proof.Proof.Fwd0
public import proofs.«01_k».proof.Proof.RefBwd
public import proofs.«01_k».proof.Proof.Gen.ReferenceIdeal.Run

@[expose] public section

set_option maxRecDepth 16384

noncomputable section

namespace Cert.Ends

open Idealize.ShloMosaic Idealize.ShloMosaic.TcCoe Idealize.SL.Sem
open Cert.KernelIdeal.Sba (Head ArrF ArrX arrM N)

/-! # The two programs' ends

The precondition makes every argument an array of real numbers; the heads are read off them, and both programs then
end with the heads' sums. -/

abbrev Sh : Shape := ⟨2, ![2048, 1024]⟩

/-- The precondition's side condition. -/
instance factsPre : Cert.Pre_finite_inputs.Facts where
  bcast_S_S2048x1024 := by decide

/-- The number head `h` has at place `e` of row `t` of an argument. -/
def pick (x : Sh.Idx → EReal) (h t e : ℕ) : ℝ :=
  if H : t < 2048 ∧ h * 128 + e < 1024 then (x (ix2 (⟨t, H.1⟩ : Fin 2048) (⟨h * 128 + e, H.2⟩ : Fin 1024))).toReal else 0

/-- The heads of four arguments. -/
def headsOf (x0 x1 x2 x3 : Sh.Idx → EReal) (h : ℕ) : Head where
  q := pick x0 h
  k := pick x1 h
  v := pick x2 h
  g := pick x3 h

/-- An argument without infinities holds the numbers read off it. -/
theorem pick_eq {x : Sh.Idx → EReal} (hx : ∀ y, x y ≠ ⊤ ∧ x y ≠ ⊥) (t : Fin 2048) (C : Fin 1024) :
    x (ix2 t C) = ((pick x (C.val / 128) t.val (C.val % 128) : ℝ) : EReal) := by
  have ht := t.isLt
  have hC := C.isLt
  have e : C.val / 128 * 128 + C.val % 128 = C.val := by omega
  unfold pick
  rw [dif_pos ⟨ht, by omega⟩]
  have e2 : (⟨C.val / 128 * 128 + C.val % 128, by omega⟩ : Fin 1024) = C := Fin.ext e
  rw [e2, EReal.coe_toReal (hx _).1 (hx _).2]

/-- An absolute value below infinity is that of a real number. -/
theorem finite_of_lt {x : EReal} (h : Ideal.cmp .olt (max x (-x)) (FloatOps.ofBits (F := Ideal) .f32 0x7F800000#32) = 1#1) : x ≠ ⊤ ∧ x ≠ ⊥ := by
  rw [Cert.ReferenceIdeal.Sba.word_inf] at h
  unfold Ideal.cmp at h
  have h2 : max x (-x) < ⊤ := by
    by_contra hn
    simp only [hn, decide_false] at h
    exact absurd h (by decide)
  constructor
  · rintro rfl; simp at h2
  · rintro rfl; simp at h2

theorem and_ones {a b : BitVec 1} (h : a &&& b = 1#1) : a = 1#1 ∧ b = 1#1 := by
  revert a b; decide

/-- The precondition says that no argument has an infinity. -/
theorem finite_args {x0 x1 x2 x3 : Sh.Idx → EReal} (h : Cert.Pre_finite_inputs.fn (F := Ideal) x0 x1 x2 x3 = fun _ => 1#1) :
    (∀ y, x0 y ≠ ⊤ ∧ x0 y ≠ ⊥) ∧ (∀ y, x1 y ≠ ⊤ ∧ x1 y ≠ ⊥) ∧ (∀ y, x2 y ≠ ⊤ ∧ x2 y ≠ ⊥) ∧ (∀ y, x3 y ≠ ⊤ ∧ x3 y ≠ ⊥) := by
  have k : ∀ y, (x0 y ≠ ⊤ ∧ x0 y ≠ ⊥) ∧ (x1 y ≠ ⊤ ∧ x1 y ≠ ⊥) ∧ (x2 y ≠ ⊤ ∧ x2 y ≠ ⊥) ∧ (x3 y ≠ ⊤ ∧ x3 y ≠ ⊥) := fun y => by
    have hy := congrFun h y
    obtain ⟨h3, a3⟩ := and_ones hy
    obtain ⟨h2, a2⟩ := and_ones h3
    obtain ⟨a0, a1⟩ := and_ones h2
    exact ⟨finite_of_lt a0, finite_of_lt a1, finite_of_lt a2, finite_of_lt a3⟩
  exact ⟨fun y => (k y).1, fun y => (k y).2.1, fun y => (k y).2.2.1, fun y => (k y).2.2.2⟩

section Kernel

open Cert.KernelIdeal Cert.KernelIdeal.Gen Cert.KernelIdeal.Sba

variable (m : (ℓ : Loc nD τ sig) → Buf (Elt Ideal) ℓ) (ρ : Dev nD → PrngReg)

/-- The heads of a device's arguments. -/
def heads (c : Dev nD) : ℕ → Head :=
  headsOf (m ((c.tc : Thread nD τ).loc main_arg0)) (m ((c.tc : Thread nD τ).loc main_arg1)) (m ((c.tc : Thread nD τ).loc main_arg2)) (m ((c.tc : Thread nD τ).loc main_arg3))

variable {m} (hp : Pre_KernelIdeal_finite_inputs m)

include hp

/-- The forward region is entered with the heads' numbers. -/
theorem forward_in (c : Dev nD) : ArrF (V0 m ρ) c (heads m c) where
  hq := pick_eq (finite_args (hp c)).1
  hk := pick_eq (finite_args (hp c)).2.1
  hv := pick_eq (finite_args (hp c)).2.2.1

/-- The backward region is entered with the heads' numbers and what the forward region left. -/
theorem backward_in (c : Dev nD) : ArrX (V1 m ρ) c (heads m c) where
  hq := fun t C => (congrFun (W1_args m ρ c main_arg0 (by decide)) _).trans (pick_eq (finite_args (hp c)).1 t C)
  hk := fun t C => (congrFun (W1_args m ρ c main_arg1 (by decide)) _).trans (pick_eq (finite_args (hp c)).2.1 t C)
  hv := fun t C => (congrFun (W1_args m ρ c main_arg2 (by decide)) _).trans (pick_eq (finite_args (hp c)).2.2.1 t C)
  hd := fun t C => (congrFun (W1_args m ρ c main_arg3 (by decide)) _).trans (pick_eq (finite_args (hp c)).2.2.2 t C)
  ht := fun h a => congrFun ((W1_arr m ρ c 4).trans (forward_in ρ hp c).tot) _

end Kernel

section Reference

open Cert.ReferenceIdeal Cert.ReferenceIdeal.Read Cert.ReferenceIdeal.Sba

/-- The reference's arguments hold the heads' numbers. -/
theorem reference_in {x0 x1 x2 x3 : Sh.Idx → EReal} (h : Cert.Pre_finite_inputs.fn (F := Ideal) x0 x1 x2 x3 = fun _ => 1#1) :
    ArgX x0 x1 x2 x3 (headsOf x0 x1 x2 x3) where
  hq := pick_eq (finite_args h).1
  hk := pick_eq (finite_args h).2.1
  hv := pick_eq (finite_args h).2.2.1
  hg := pick_eq (finite_args h).2.2.2

end Reference

/-- From equal finite arguments the kernel and the reference end with equal results: the heads' sums. -/
theorem ends_equal : Cert.algebraic_KernelIdeal_ReferenceIdeal_pre_finite_inputs := by
  intro m g m' g' hp ha
  refine ⟨fun c => arrM fun t C => (heads m c (C / 128)).o t (C % 128), fun c => arrM fun t C => (heads m c (C / 128)).dq t (C % 128),
    fun c => arrM fun t C => (heads m c (C / 128)).dk t (C % 128), fun c => arrM fun t C => (heads m c (C / 128)).dv t (C % 128), ?_, ?_⟩
  · refine (θ_run Cert.KernelIdeal.defs _ _).mono (fun r h c => ?_) (Cert.KernelIdeal.Sba.runs m g)
    obtain ⟨h0, h1, h2, h3, hr⟩ := h c
    exact ⟨h0.trans (forward_in g hp c).o, h1.trans (backward_in g hp c).dq, h2.trans (backward_in g hp c).dk, h3.trans (backward_in g hp c).dv, hr⟩
  · refine (θ_run Cert.ReferenceIdeal.defs _ _).mono (fun r h c => ?_) (Cert.ReferenceIdeal.Value.run m' g')
    obtain ⟨h0, h1, h2, h3, hr⟩ := h c
    obtain ⟨a0, a1, a2, a3⟩ := ha c
    have A := reference_in (hp c)
    refine ⟨h0.trans ?_, h1.trans ?_, h2.trans ?_, h3.trans ?_, hr⟩
    · rw [Cert.ReferenceIdeal.Read.val_main_v26_eq, a0, a1, a2]; exact A.v26
    · rw [Cert.ReferenceIdeal.Read.val_main_v51_eq, a0, a1, a2, a3]; exact A.v51
    · rw [Cert.ReferenceIdeal.Read.val_main_v49_eq, a0, a1, a2, a3]; exact A.v49
    · rw [Cert.ReferenceIdeal.Read.val_main_v47_eq, a0, a1, a3]; exact A.v47

/-- The reference ends with its arguments as launched, and it has no semaphore. -/
theorem reference_frame : Cert.quiescent_ReferenceIdeal := by
  intro m ρ _
  exact (θ_run Cert.ReferenceIdeal.defs _ _).mono (fun r h => ⟨fun c => (h c).2.2.2.2, sem_eq_zero_of_no_sems (by decide) r.2⟩)
    (Cert.ReferenceIdeal.Value.run m ρ)

end Cert.Ends

end

end
-- ==== Proof.MmSum.lean ====
/- A sum over a long axis, cut into runs of one length. -/
module

public import Idealize.ShloMosaic.PureOps.Ideal.Laws
public import Idealize.ShloMosaic.Lib.Pointwise
public import Idealize.ShloMosaic.Lib.ValueIdxCore
public import Idealize.ShloMosaic.Lib.Pipeline.ValueKit

@[expose] public section

noncomputable section

namespace Cert.Mm

/-- Place `k` of run `s` lies on the axis. -/
theorem run_lt {n l : ℕ} (s : Fin n) (k : Fin l) : l * s.val + k.val < n * l :=
  calc l * s.val + k.val < l * (s.val + 1) := by rw [Nat.mul_succ]; exact Nat.add_lt_add_left k.isLt _
    _ ≤ l * n := Nat.mul_le_mul_left _ s.isLt
    _ = n * l := Nat.mul_comm _ _

/-- The sum over `n` runs of `l` places each, run by run. -/
theorem sum_runs {M : Type} [AddCommMonoid M] (n l : ℕ) (f : Fin (n * l) → M) :
    ∑ K, f K = ∑ s : Fin n, ∑ k : Fin l, f ⟨l * s.val + k.val, run_lt s k⟩ := by
  rw [← finProdFinEquiv.sum_comp, Fintype.sum_prod_type]
  exact Finset.sum_congr rfl fun s _ => Finset.sum_congr rfl fun k _ => congrArg f (Fin.ext (Nat.add_comm _ _))

end Cert.Mm

end

end
-- ==== Proof.Mm2.lean ====
/- The MLP's first product (`w_ff1`): what the kernel's blocks hold, against the reference's product. -/
module

public import proofs.«01_k».proof.Defs
public import proofs.«01_k».proof.Proof.MmSum
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

namespace Cert.Kernel2Ideal.Mm

open Idealize.ShloMosaic Idealize.ShloMosaic.TcCoe Idealize.SL.Sem Cert.Kernel2Ideal Cert.Kernel2Ideal.Gen Cert.Kernel2Ideal.Facts
open Cert.Reference2Ideal.Read

/-! Which block of its array each window holds at a grid point. -/

theorem ix_a : ∀ t : Fin cfg0.N, win0_0.index t = ![t.val / 8, 0] := (by decide +kernel : ∀ t : Fin grid0.N, _)
theorem ix_b : ∀ t : Fin cfg0.N, win0_1.index t = ![t.val % 8 / 2, 0, t.val % 8 % 2] := (by decide +kernel : ∀ t : Fin grid0.N, _)
theorem ix_o : ∀ t : Fin cfg0.N, win0_2.index t = ![t.val / 8, t.val % 8] := (by decide +kernel : ∀ t : Fin grid0.N, _)

/-- What a grid point computes: the sum over the contracted axis. -/
theorem pay (a : Vec Ideal S1024x2048 .bf16) (b : Vec Ideal S1x2048x1024 .bf16) (r : Fin 1024) (s : Fin 1024) :
    k0_pay1 a b (ix2 r s) = ∑ k : Fin 2048, a (ix2 r k) * b (ix3 (0 : Fin 1) k s) := by
  unfold k0_pay1
  have := Ideal.matmul_apply₁_of dot_S1024x2048_S2048x1024_S1024x1024_1_0_0_1_n_n (a := 1) rfl (K := 2048) rfl (shapeCast S1024x2048 a shapeCasts_S1024x2048_S1024x2048) (shapeCast S2048x1024 b shapeCasts_S1x2048x1024_S2048x1024)
    (constant (F := Ideal) S1024x1024 .f32 0x00000000#32) (ix2 r s) (fun k => ix2 r k) (fun k => ix2 k s)
    (fun k => by funext d; match d with | ⟨0, _⟩ => rfl | ⟨1, _⟩ => rfl)
    (fun k => by funext d; match d with | ⟨0, _⟩ => rfl | ⟨1, _⟩ => rfl)
  refine this.trans ?_
  rw [show (constant S1024x1024 .f32 0x00000000#32 : FVec Ideal S1024x1024 .f32) (ix2 r s) = 0 from Ideal.ofBits_zero_f32, zero_add]
  refine Finset.sum_congr rfl fun k _ => ?_
  congr 1
  · exact shapeCast_apply a shapeCasts_S1024x2048_S1024x2048 _ _ rfl
  · exact shapeCast_apply b shapeCasts_S1x2048x1024_S2048x1024 _ (ix3 (0 : Fin 1) k s) (by
      rw [Shape.rowMajor_val_three, Shape.rowMajor_val_two]; show ((0 : ℕ) * 2048 + k.val) * 1024 + s.val = k.val * 1024 + s.val; omega)

variable (m : (ℓ : Loc nD τ sig) → Buf (Elt Ideal) ℓ) (c : Dev nD)

/-- The kernel's array is the reference's product. -/
theorem arr : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  have ht : t.val < 16 := t.isLt
  blk_simp
  rw [after0_2]
  frame_out
  have hy : y = ix2 (y 0) (y 1) := by funext a; match a with | ⟨0, _⟩ => rfl | ⟨1, _⟩ => rfl
  rw [hy]
  refine (pay _ _ (y 0) (y 1)).trans ?_
  rw [val_main_v2_apply]
  refine Finset.sum_congr rfl fun k _ => ?_
  congr 1
  · blk_simp [iblk]
    refine congrArg (m ((c : Thread nD τ).loc main_arg0)) ?_
    blk_ext [ix_a t, ix_o t]
  · blk_simp [iblk]
    rw [val_main_v1_apply, val_main_v0_apply]
    refine congrArg (m ((c : Thread nD τ).loc main_arg1)) ?_
    blk_ext [ix_b t, ix_o t]

/-- From equal arguments the kernel and the reference end with equal results. -/
theorem ends_equal : Cert.algebraic_Kernel2Ideal_Reference2Ideal := by
  intro m g m' g' _ ha
  refine ⟨fun c => val_main_v2 (F := Ideal) (m ((c.tc : Thread nD τ).loc main_arg0)) (m ((c.tc : Thread nD τ).loc main_arg1)), ?_, ?_⟩
  · refine (θ_run Cert.Kernel2Ideal.defs _ _).mono (fun r h c => ?_) (Cert.Kernel2Ideal.Value.run_blocks m g)
    obtain ⟨h0, hr⟩ := h c
    exact ⟨h0.trans (arr m c), hr⟩
  · refine (θ_run Cert.Reference2Ideal.defs _ _).mono (fun r h c => ?_) (Cert.Reference2Ideal.Value.run m' g')
    obtain ⟨h0, hr⟩ := h c
    obtain ⟨a0, a1⟩ := ha c
    refine ⟨h0.trans ?_, hr⟩
    rw [val_main_v2_eq, a0, a1]

/-- The reference ends with its arguments as launched, and it has no semaphore. -/
theorem reference_frame : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run m ρ)

end Cert.Kernel2Ideal.Mm

end

end
-- ==== Proof.Mm3.lean ====
/- The gradient of the MLP's first product in its left operand (`w_ff1`): what the kernel's blocks hold, against the reference's product. -/
module

public import proofs.«01_k».proof.Defs
public import proofs.«01_k».proof.Proof.MmSum
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

namespace Cert.Kernel3Ideal.Mm

open Idealize.ShloMosaic Idealize.ShloMosaic.TcCoe Idealize.SL.Sem Cert.Kernel3Ideal Cert.Kernel3Ideal.Gen Cert.Kernel3Ideal.Facts
open Cert.Reference3Ideal.Read

/-! Which block of its array each window holds at a grid point. -/

theorem ix_a : ∀ t : Fin cfg0.N, win0_0.index t = ![t.val / 8, t.val % 4] := (by decide +kernel : ∀ t : Fin grid0.N, _)
theorem ix_b : ∀ t : Fin cfg0.N, win0_1.index t = ![t.val % 4, t.val / 4 % 2, 0] := (by decide +kernel : ∀ t : Fin grid0.N, _)
theorem ix_o : ∀ t : Fin cfg0.N, win0_2.index t = ![t.val / 8, t.val / 4 % 2] := (by decide +kernel : ∀ t : Fin grid0.N, _)

/-- What a grid point computes: the sum over its run of the contracted axis. -/
theorem pay (a : Vec Ideal S1024x2048 .bf16) (b : Vec Ideal S1x1024x2048 .bf16) (r : Fin 1024) (s : Fin 1024) :
    k0_pay1 a b (ix2 r s) = ∑ k : Fin 2048, a (ix2 r k) * b (ix3 (0 : Fin 1) s k) := by
  unfold k0_pay1
  have := Ideal.matmul_apply₁_of dot_S1024x2048_S1024x2048_S1024x1024_1_1_0_0_n_n (a := 1) rfl (K := 2048) rfl (shapeCast S1024x2048 a shapeCasts_S1024x2048_S1024x2048) (shapeCast S1024x2048 b shapeCasts_S1x1024x2048_S1024x2048)
    (constant (F := Ideal) S1024x1024 .f32 0x00000000#32) (ix2 r s) (fun k => ix2 r k) (fun k => ix2 s k)
    (fun k => by funext d; match d with | ⟨0, _⟩ => rfl | ⟨1, _⟩ => rfl)
    (fun k => by funext d; match d with | ⟨0, _⟩ => rfl | ⟨1, _⟩ => rfl)
  refine this.trans ?_
  rw [show (constant S1024x1024 .f32 0x00000000#32 : FVec Ideal S1024x1024 .f32) (ix2 r s) = 0 from Ideal.ofBits_zero_f32, zero_add]
  refine Finset.sum_congr rfl fun k _ => ?_
  congr 1
  · exact shapeCast_apply a shapeCasts_S1024x2048_S1024x2048 _ _ rfl
  · exact shapeCast_apply b shapeCasts_S1x1024x2048_S1024x2048 _ (ix3 (0 : Fin 1) s k) (by
      rw [Shape.rowMajor_val_three, Shape.rowMajor_val_two]; show ((0 : ℕ) * 1024 + s.val) * 2048 + k.val = s.val * 2048 + k.val; omega)

/-- The accumulator after a run's first point holds that point's part. -/
theorem pay_first (a : Vec Ideal S1024x2048 .bf16) (b : Vec Ideal S1x1024x2048 .bf16) (y : S1024x1024.Idx) :
    k0_pay2 a b y = 0 + k0_pay1 a b y := by
  rw [zero_add]
  exact shapeCast_apply (k0_pay1 a b) shapeCasts_S1024x1024_S1024x1024 y y rfl

/-- A later point adds its part to what the accumulator holds. -/
theorem pay_next (a : Vec Ideal S1024x2048 .bf16) (b : Vec Ideal S1x1024x2048 .bf16) (x : Vec Ideal S1024x1024 .f32) (y : S1024x1024.Idx) :
    k0_pay3 a b x y = x y + k0_pay1 a b y := by
  unfold k0_pay3
  exact (shapeCast_apply (addf x (k0_pay1 a b)) shapeCasts_S1024x1024_S1024x1024 y y rfl).trans rfl

variable (m : (ℓ : Loc nD τ sig) → Buf (Elt Ideal) ℓ) (c : Dev nD)

/-- At a run's last point the accumulator holds the parts' sum. -/
theorem acc (t : Fin cfg0.N) (ht : t.val % 4 = 3) (y : S1024x1024.Idx) :
    (outsAt0 m c t.val t.isLt).2 y = 0 + ∑ s : Fin 4, k0_pay1 (iblk m c 0 ⟨4 * (t.val / 4) + s.val, by have := t.isLt; omega⟩) (iblk m c 1 ⟨4 * (t.val / 4) + s.val, by have := t.isLt; omega⟩) y := by
  refine Pipeline.eq_sum_fin_of_reset_step_apply_of_flush (N := cfg0.N) (fun n h => (outsAt0 m c n h).2) 4 (fun _ => (0 : EReal)) (fun t => k0_pay1 (iblk m c 0 t) (iblk m c 1 t))
    (fun t h y => ?_) (fun t h y => ?_) t ht y
  · rw [outsAt0_A m c t h (by omega) (by omega)]
    frame_out
    exact pay_first _ _ y
  · by_cases h3 : t.val % 4 = 3
    · rw [outsAt0_C m c t h (by omega) h3]
      frame_out
      exact (pay_next _ _ _ y).trans (congrArg (· + _) (congrFun ((Memref.isWhole_whole cc0_scratch0).read_unread _) y))
    · rw [outsAt0_B m c t h (by omega) h3]
      frame_out
      exact (pay_next _ _ _ y).trans (congrArg (· + _) (congrFun ((Memref.isWhole_whole cc0_scratch0).read_unread _) y))

/-- What is written back at a run's last point is what the accumulator then holds. -/
theorem out_acc (t : Fin cfg0.N) (ht : t.val % 4 = 3) : (outsAt0 m c t.val t.isLt).1 = (outsAt0 m c t.val t.isLt).2 := by
  rw [outsAt0_C m c t (by omega) (by omega) ht]
  frame_out

/-- The kernel's array is the reference's product. -/
theorem arr : (dats m 0 c).arrAt 2 cfg0.N = val_main_v3 (F := Ideal) (m ((c : Thread nD τ).loc main_arg1)) (m ((c : Thread nD τ).loc main_arg2)) := by
  refine (dats m 0 c).arrAt_eq_of_covers 2 _ (by decide +kernel) fun t hf y => ?_
  have ht : t.val < 16 := t.isLt
  have hm : t.val % 4 = 3 := (flush0_2 t).mp hf
  blk_simp
  rw [after0_2, out_acc m c t hm, acc m c t hm, val_main_v3_apply, Cert.Mm.sum_runs 4 2048]
  have hy : y = ix2 (y 0) (y 1) := by funext a; match a with | ⟨0, _⟩ => rfl | ⟨1, _⟩ => rfl
  rw [hy]
  refine (zero_add (M := EReal) _).trans (Finset.sum_congr rfl fun s _ => ?_)
  refine (pay _ _ (y 0) (y 1)).trans (Finset.sum_congr rfl fun k _ => ?_)
  congr 1
  · blk_simp [iblk]
    refine congrArg (m ((c : Thread nD τ).loc main_arg2)) ?_
    blk_ext [ix_a, ix_o t]
  · blk_simp [iblk]
    rw [val_main_v1_apply, val_main_v0_apply]
    refine congrArg (m ((c : Thread nD τ).loc main_arg1)) ?_
    blk_ext [ix_b, ix_o t]

/-- From equal arguments the kernel and the reference end with equal results. -/
theorem ends_equal : Cert.algebraic_Kernel3Ideal_Reference3Ideal := by
  intro m g m' g' _ ha
  refine ⟨fun c => val_main_v3 (F := Ideal) (m ((c.tc : Thread nD τ).loc main_arg1)) (m ((c.tc : Thread nD τ).loc main_arg2)), ?_, ?_⟩
  · refine (θ_run Cert.Kernel3Ideal.defs _ _).mono (fun r h c => ?_) (Cert.Kernel3Ideal.Value.run_blocks m g)
    obtain ⟨h0, hr⟩ := h c
    exact ⟨h0.trans (arr m c), hr⟩
  · refine (θ_run Cert.Reference3Ideal.defs _ _).mono (fun r h c => ?_) (Cert.Reference3Ideal.Value.run m' g')
    obtain ⟨h0, hr⟩ := h c
    obtain ⟨a0, a1, a2⟩ := ha c
    refine ⟨h0.trans ?_, hr⟩
    rw [val_main_v3_eq, a1, a2]

/-- The reference ends with its arguments as launched, and it has no semaphore. -/
theorem reference_frame : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run m ρ)

end Cert.Kernel3Ideal.Mm

end

end
-- ==== Proof.Mm4.lean ====
/- The gradient of the MLP's first product in the weight (`w_ff1`): what the kernel's blocks hold, against the reference's product. -/
module

public import proofs.«01_k».proof.Defs
public import proofs.«01_k».proof.Proof.MmSum
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

namespace Cert.Kernel4Ideal.Mm

open Idealize.ShloMosaic Idealize.ShloMosaic.TcCoe Idealize.SL.Sem Cert.Kernel4Ideal Cert.Kernel4Ideal.Gen Cert.Kernel4Ideal.Facts
open Cert.Reference4Ideal.Read

/-! Which block of its array each window holds at a grid point. -/

theorem ix_a : ∀ t : Fin cfg0.N, win0_0.index t = ![0, t.val / 8] := (by decide +kernel : ∀ t : Fin grid0.N, _)
theorem ix_b : ∀ t : Fin cfg0.N, win0_1.index t = ![0, t.val % 8] := (by decide +kernel : ∀ t : Fin grid0.N, _)
theorem ix_o : ∀ t : Fin cfg0.N, win0_2.index t = ![t.val % 8 / 2, t.val / 8, t.val % 8 % 2] := (by decide +kernel : ∀ t : Fin grid0.N, _)

/-- What a grid point computes: the sum over the contracted axis. -/
theorem pay (a : Vec Ideal S2048x1024 .bf16) (b : Vec Ideal S2048x1024 .bf16) (r : Fin 1024) (s : Fin 1024) :
    k0_pay1 a b (ix3 (0 : Fin 1) r s) = ∑ k : Fin 2048, a (ix2 k r) * b (ix2 k s) := by
  unfold k0_pay1
  have := Ideal.matmul_apply₁_of dot_S2048x1024_S2048x1024_S1024x1024_0_0_1_1_n_n (a := 0) rfl (K := 2048) rfl (shapeCast S2048x1024 a shapeCasts_S2048x1024_S2048x1024) (shapeCast S2048x1024 b shapeCasts_S2048x1024_S2048x1024)
    (constant (F := Ideal) S1024x1024 .f32 0x00000000#32) (ix2 r s) (fun k => ix2 k r) (fun k => ix2 k s)
    (fun k => by funext d; match d with | ⟨0, _⟩ => rfl | ⟨1, _⟩ => rfl)
    (fun k => by funext d; match d with | ⟨0, _⟩ => rfl | ⟨1, _⟩ => rfl)
  refine (shapeCast_apply _ shapeCasts_S1024x1024_S1x1024x1024 (ix3 (0 : Fin 1) r s) (ix2 r s) (by
    rw [Shape.rowMajor_val_two, Shape.rowMajor_val_three]; show r.val * 1024 + s.val = ((0 : ℕ) * 1024 + r.val) * 1024 + s.val; omega)).trans ?_
  refine this.trans ?_
  rw [show (constant S1024x1024 .f32 0x00000000#32 : FVec Ideal S1024x1024 .f32) (ix2 r s) = 0 from Ideal.ofBits_zero_f32, zero_add]
  refine Finset.sum_congr rfl fun k _ => ?_
  congr 1
  · exact shapeCast_apply a shapeCasts_S2048x1024_S2048x1024 _ _ rfl
  · exact shapeCast_apply b shapeCasts_S2048x1024_S2048x1024 _ _ rfl

/-- Over the reals the reference's cast of its result is the identity. -/
theorem ref_cast (x0 : (⟨Cert.Reference4Ideal.S2048x2048, .f32⟩ : BufTy).Contents (Elt Ideal)) (x2 : (⟨Cert.Reference4Ideal.S2048x8192, .f32⟩ : BufTy).Contents (Elt Ideal)) (i : Cert.Reference4Ideal.S2048x8192.Idx) :
    val_main_v5 (F := Ideal) x0 x2 i = val_main_v4 (F := Ideal) x0 x2 i := rfl

variable (m : (ℓ : Loc nD τ sig) → Buf (Elt Ideal) ℓ) (c : Dev nD)

/-- The kernel's array is the reference's product. -/
theorem arr : (dats m 0 c).arrAt 2 cfg0.N = val_main_v7 (F := Ideal) (m ((c : Thread nD τ).loc main_arg0)) (m ((c : Thread nD τ).loc main_arg2)) := by
  refine (dats m 0 c).arrAt_eq_of_covers 2 _ (by decide +kernel) fun t hf y => ?_
  have ht : t.val < 16 := t.isLt
  blk_simp
  rw [after0_2]
  frame_out
  have h0 : (y 0).val = 0 := by have : (y 0).val < 1 := (y 0).isLt; omega
  have hy : y = ix3 (0 : Fin 1) (y 1) (y 2) := by funext a; match a with | ⟨0, _⟩ => exact Fin.ext h0 | ⟨1, _⟩ => rfl | ⟨2, _⟩ => rfl
  rw [hy]
  refine (pay _ _ (y 1) (y 2)).trans ?_
  rw [val_main_v7_apply, val_main_v6_apply, ref_cast, val_main_v4_apply, val_main_v3_apply]
  refine Finset.sum_congr rfl fun k _ => ?_
  refine (EReal.mul_comm _ _).trans ?_
  congr 1
  · blk_simp [iblk]
    refine congrArg (m ((c : Thread nD τ).loc main_arg2)) ?_
    blk_ext [ix_b t, ix_o t]
  · blk_simp [iblk]
    refine congrArg (m ((c : Thread nD τ).loc main_arg0)) ?_
    blk_ext [ix_a t, ix_o t]

/-- From equal arguments the kernel and the reference end with equal results. -/
theorem ends_equal : Cert.algebraic_Kernel4Ideal_Reference4Ideal := by
  intro m g m' g' _ ha
  refine ⟨fun c => val_main_v7 (F := Ideal) (m ((c.tc : Thread nD τ).loc main_arg0)) (m ((c.tc : Thread nD τ).loc main_arg2)), ?_, ?_⟩
  · refine (θ_run Cert.Kernel4Ideal.defs _ _).mono (fun r h c => ?_) (Cert.Kernel4Ideal.Value.run_blocks m g)
    obtain ⟨h0, hr⟩ := h c
    exact ⟨h0.trans (arr m c), hr⟩
  · refine (θ_run Cert.Reference4Ideal.defs _ _).mono (fun r h c => ?_) (Cert.Reference4Ideal.Value.run m' g')
    obtain ⟨h0, hr⟩ := h c
    obtain ⟨a0, a1, a2⟩ := ha c
    refine ⟨h0.trans ?_, hr⟩
    rw [val_main_v7_eq, a0, a2]

/-- The reference ends with its arguments as launched, and it has no semaphore. -/
theorem reference_frame : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run m ρ)

end Cert.Kernel4Ideal.Mm

end

end
-- ==== Proof.Mm5.lean ====
/- The MLP's second product (`w_ff2`): what the kernel's blocks hold, against the reference's product. -/
module

public import proofs.«01_k».proof.Defs
public import proofs.«01_k».proof.Proof.MmSum
public import proofs.«01_k».proof.Proof.Gen.Kernel5Ideal.Value
public import proofs.«01_k».proof.Proof.Gen.Reference5Ideal.Run
public import proofs.«01_k».proof.Proof.Gen.Reference5Ideal.Read

@[expose] public section

set_option maxRecDepth 16384

noncomputable section

namespace Cert.Kernel5Ideal.Mm

open Idealize.ShloMosaic Idealize.ShloMosaic.TcCoe Idealize.SL.Sem Cert.Kernel5Ideal Cert.Kernel5Ideal.Gen Cert.Kernel5Ideal.Facts
open Cert.Reference5Ideal.Read

/-! Which block of its array each window holds at a grid point. -/

theorem ix_a : ∀ t : Fin cfg0.N, win0_0.index t = ![t.val / 8, t.val % 4] := (by decide +kernel : ∀ t : Fin grid0.N, _)
theorem ix_b : ∀ t : Fin cfg0.N, win0_1.index t = ![t.val % 4, 0, t.val / 4 % 2] := (by decide +kernel : ∀ t : Fin grid0.N, _)
theorem ix_o : ∀ t : Fin cfg0.N, win0_2.index t = ![t.val / 8, t.val / 4 % 2] := (by decide +kernel : ∀ t : Fin grid0.N, _)

/-- What a grid point computes: the sum over its run of the contracted axis. -/
theorem pay (a : Vec Ideal S1024x2048 .bf16) (b : Vec Ideal S1x2048x1024 .bf16) (r : Fin 1024) (s : Fin 1024) :
    k0_pay1 a b (ix2 r s) = ∑ k : Fin 2048, a (ix2 r k) * b (ix3 (0 : Fin 1) k s) := by
  unfold k0_pay1
  have := Ideal.matmul_apply₁_of dot_S1024x2048_S2048x1024_S1024x1024_1_0_0_1_n_n (a := 1) rfl (K := 2048) rfl (shapeCast S1024x2048 a shapeCasts_S1024x2048_S1024x2048) (shapeCast S2048x1024 b shapeCasts_S1x2048x1024_S2048x1024)
    (constant (F := Ideal) S1024x1024 .f32 0x00000000#32) (ix2 r s) (fun k => ix2 r k) (fun k => ix2 k s)
    (fun k => by funext d; match d with | ⟨0, _⟩ => rfl | ⟨1, _⟩ => rfl)
    (fun k => by funext d; match d with | ⟨0, _⟩ => rfl | ⟨1, _⟩ => rfl)
  refine this.trans ?_
  rw [show (constant S1024x1024 .f32 0x00000000#32 : FVec Ideal S1024x1024 .f32) (ix2 r s) = 0 from Ideal.ofBits_zero_f32, zero_add]
  refine Finset.sum_congr rfl fun k _ => ?_
  congr 1
  · exact shapeCast_apply a shapeCasts_S1024x2048_S1024x2048 _ _ rfl
  · exact shapeCast_apply b shapeCasts_S1x2048x1024_S2048x1024 _ (ix3 (0 : Fin 1) k s) (by
      rw [Shape.rowMajor_val_three, Shape.rowMajor_val_two]; show ((0 : ℕ) * 2048 + k.val) * 1024 + s.val = k.val * 1024 + s.val; omega)

/-- The accumulator after a run's first point holds that point's part. -/
theorem pay_first (a : Vec Ideal S1024x2048 .bf16) (b : Vec Ideal S1x2048x1024 .bf16) (y : S1024x1024.Idx) :
    k0_pay2 a b y = 0 + k0_pay1 a b y := by
  rw [zero_add]
  exact shapeCast_apply (k0_pay1 a b) shapeCasts_S1024x1024_S1024x1024 y y rfl

/-- A later point adds its part to what the accumulator holds. -/
theorem pay_next (a : Vec Ideal S1024x2048 .bf16) (b : Vec Ideal S1x2048x1024 .bf16) (x : Vec Ideal S1024x1024 .f32) (y : S1024x1024.Idx) :
    k0_pay3 a b x y = x y + k0_pay1 a b y := by
  unfold k0_pay3
  exact (shapeCast_apply (addf x (k0_pay1 a b)) shapeCasts_S1024x1024_S1024x1024 y y rfl).trans rfl

set_option backward.proofsInPublic true in
/-- The place in its chip's rows of a place of the whole weight. -/
abbrev chip (i : Cert.Reference5Ideal.S8192x2048.Idx) : Cert.Reference5Ideal.S4x2048x2048.Idx :=
  fun a => match a with
  | ⟨0, _⟩ => ⟨(i 0).val / 2048, by have h : (i 0).val < 8192 := (i 0).isLt; show (i 0).val / 2048 < 4; omega⟩
  | ⟨1, _⟩ => ⟨(i 0).val % 2048, Nat.mod_lt _ (by decide)⟩
  | ⟨2, _⟩ => ⟨(i 1).val, (i 1).isLt⟩

/-- The reference's whole weight at a place is the chip's weight there. -/
theorem ref_weight (x1 : (⟨Cert.Reference5Ideal.S4x2048x2048, .bf16⟩ : BufTy).Contents (Elt Ideal)) (i : Cert.Reference5Ideal.S8192x2048.Idx) :
    val_main_v0 (F := Ideal) x1 i = x1 (chip i) := by
  rw [val_main_v0_apply]
  have h0 : (i 0).val < 8192 := (i 0).isLt
  have h1 : (i 1).val < 2048 := (i 1).isLt
  refine congrArg x1 (funext fun a => Fin.ext ?_)
  match a with
  | ⟨0, _⟩ => show ((i 0).val * 2048 + (i 1).val) / 4194304 = (i 0).val / 2048; omega
  | ⟨1, _⟩ => show ((i 0).val * 2048 + (i 1).val) / 2048 % 2048 = (i 0).val % 2048; omega
  | ⟨2, _⟩ => show ((i 0).val * 2048 + (i 1).val) % 2048 = (i 1).val; omega

variable (m : (ℓ : Loc nD τ sig) → Buf (Elt Ideal) ℓ) (c : Dev nD)

/-- At a run's last point the accumulator holds the parts' sum. -/
theorem acc (t : Fin cfg0.N) (ht : t.val % 4 = 3) (y : S1024x1024.Idx) :
    (outsAt0 m c t.val t.isLt).2 y = 0 + ∑ s : Fin 4, k0_pay1 (iblk m c 0 ⟨4 * (t.val / 4) + s.val, by have := t.isLt; omega⟩) (iblk m c 1 ⟨4 * (t.val / 4) + s.val, by have := t.isLt; omega⟩) y := by
  refine Pipeline.eq_sum_fin_of_reset_step_apply_of_flush (N := cfg0.N) (fun n h => (outsAt0 m c n h).2) 4 (fun _ => (0 : EReal)) (fun t => k0_pay1 (iblk m c 0 t) (iblk m c 1 t))
    (fun t h y => ?_) (fun t h y => ?_) t ht y
  · rw [outsAt0_A m c t h (by omega) (by omega)]
    frame_out
    exact pay_first _ _ y
  · by_cases h3 : t.val % 4 = 3
    · rw [outsAt0_C m c t h (by omega) h3]
      frame_out
      exact (pay_next _ _ _ y).trans (congrArg (· + _) (congrFun ((Memref.isWhole_whole cc0_scratch0).read_unread _) y))
    · rw [outsAt0_B m c t h (by omega) h3]
      frame_out
      exact (pay_next _ _ _ y).trans (congrArg (· + _) (congrFun ((Memref.isWhole_whole cc0_scratch0).read_unread _) y))

/-- What is written back at a run's last point is what the accumulator then holds. -/
theorem out_acc (t : Fin cfg0.N) (ht : t.val % 4 = 3) : (outsAt0 m c t.val t.isLt).1 = (outsAt0 m c t.val t.isLt).2 := by
  rw [outsAt0_C m c t (by omega) (by omega) ht]
  frame_out

/-- The kernel's array is the reference's product. -/
theorem arr : (dats m 0 c).arrAt 2 cfg0.N = val_main_v1 (F := Ideal) (m ((c : Thread nD τ).loc main_arg0)) (m ((c : Thread nD τ).loc main_arg1)) := by
  refine (dats m 0 c).arrAt_eq_of_covers 2 _ (by decide +kernel) fun t hf y => ?_
  have ht : t.val < 16 := t.isLt
  have hm : t.val % 4 = 3 := (flush0_2 t).mp hf
  blk_simp
  rw [after0_2, out_acc m c t hm, acc m c t hm, val_main_v1_apply, Cert.Mm.sum_runs 4 2048]
  have hy : y = ix2 (y 0) (y 1) := by funext a; match a with | ⟨0, _⟩ => rfl | ⟨1, _⟩ => rfl
  rw [hy]
  refine (zero_add (M := EReal) _).trans (Finset.sum_congr rfl fun s _ => ?_)
  refine (pay _ _ (y 0) (y 1)).trans (Finset.sum_congr rfl fun k _ => ?_)
  congr 1
  · blk_simp [iblk]
    refine congrArg (m ((c : Thread nD τ).loc main_arg0)) ?_
    blk_ext [ix_a, ix_o t]
  · blk_simp [iblk]
    rw [ref_weight]
    refine congrArg (m ((c : Thread nD τ).loc main_arg1)) ?_
    blk_ext [ix_b, ix_o t]

/-- From equal arguments the kernel and the reference end with equal results. -/
theorem ends_equal : Cert.algebraic_Kernel5Ideal_Reference5Ideal := by
  intro m g m' g' _ ha
  refine ⟨fun c => val_main_v1 (F := Ideal) (m ((c.tc : Thread nD τ).loc main_arg0)) (m ((c.tc : Thread nD τ).loc main_arg1)), ?_, ?_⟩
  · refine (θ_run Cert.Kernel5Ideal.defs _ _).mono (fun r h c => ?_) (Cert.Kernel5Ideal.Value.run_blocks m g)
    obtain ⟨h0, hr⟩ := h c
    exact ⟨h0.trans (arr m c), hr⟩
  · refine (θ_run Cert.Reference5Ideal.defs _ _).mono (fun r h c => ?_) (Cert.Reference5Ideal.Value.run m' g')
    obtain ⟨h0, hr⟩ := h c
    obtain ⟨a0, a1⟩ := ha c
    refine ⟨h0.trans ?_, hr⟩
    rw [val_main_v1_eq, a0, a1]

/-- The reference ends with its arguments as launched, and it has no semaphore. -/
theorem reference_frame : Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run m ρ)

end Cert.Kernel5Ideal.Mm

end

end
-- ==== Proof.Mm6.lean ====
/- The gradient of the MLP's second product in its left operand (`w_ff2`): what the kernel's blocks hold, against the reference's product. -/
module

public import proofs.«01_k».proof.Defs
public import proofs.«01_k».proof.Proof.MmSum
public import proofs.«01_k».proof.Proof.Gen.Kernel6Ideal.Value
public import proofs.«01_k».proof.Proof.Gen.Reference6Ideal.Run
public import proofs.«01_k».proof.Proof.Gen.Reference6Ideal.Read

@[expose] public section

set_option maxRecDepth 16384

noncomputable section

namespace Cert.Kernel6Ideal.Mm

open Idealize.ShloMosaic Idealize.ShloMosaic.TcCoe Idealize.SL.Sem Cert.Kernel6Ideal Cert.Kernel6Ideal.Gen Cert.Kernel6Ideal.Facts
open Cert.Reference6Ideal.Read

/-! Which block of its array each window holds at a grid point. -/

theorem ix_a : ∀ t : Fin cfg0.N, win0_0.index t = ![t.val / 8, 0] := (by decide +kernel : ∀ t : Fin grid0.N, _)
theorem ix_b : ∀ t : Fin cfg0.N, win0_1.index t = ![t.val % 8 / 2, t.val % 8 % 2, 0] := (by decide +kernel : ∀ t : Fin grid0.N, _)
theorem ix_o : ∀ t : Fin cfg0.N, win0_2.index t = ![t.val / 8, t.val % 8] := (by decide +kernel : ∀ t : Fin grid0.N, _)

/-- What a grid point computes: the sum over the contracted axis. -/
theorem pay (a : Vec Ideal S1024x2048 .bf16) (b : Vec Ideal S1x1024x2048 .bf16) (r : Fin 1024) (s : Fin 1024) :
    k0_pay1 a b (ix2 r s) = ∑ k : Fin 2048, a (ix2 r k) * b (ix3 (0 : Fin 1) s k) := by
  unfold k0_pay1
  have := Ideal.matmul_apply₁_of dot_S1024x2048_S1024x2048_S1024x1024_1_1_0_0_n_n (a := 1) rfl (K := 2048) rfl (shapeCast S1024x2048 a shapeCasts_S1024x2048_S1024x2048) (shapeCast S1024x2048 b shapeCasts_S1x1024x2048_S1024x2048)
    (constant (F := Ideal) S1024x1024 .f32 0x00000000#32) (ix2 r s) (fun k => ix2 r k) (fun k => ix2 s k)
    (fun k => by funext d; match d with | ⟨0, _⟩ => rfl | ⟨1, _⟩ => rfl)
    (fun k => by funext d; match d with | ⟨0, _⟩ => rfl | ⟨1, _⟩ => rfl)
  refine this.trans ?_
  rw [show (constant S1024x1024 .f32 0x00000000#32 : FVec Ideal S1024x1024 .f32) (ix2 r s) = 0 from Ideal.ofBits_zero_f32, zero_add]
  refine Finset.sum_congr rfl fun k _ => ?_
  congr 1
  · exact shapeCast_apply a shapeCasts_S1024x2048_S1024x2048 _ _ rfl
  · exact shapeCast_apply b shapeCasts_S1x1024x2048_S1024x2048 _ (ix3 (0 : Fin 1) s k) (by
      rw [Shape.rowMajor_val_three, Shape.rowMajor_val_two]; show ((0 : ℕ) * 1024 + s.val) * 2048 + k.val = s.val * 2048 + k.val; omega)

set_option backward.proofsInPublic true in
/-- The place in its chip's rows of a place of the whole weight. -/
abbrev chip (i : Cert.Reference6Ideal.S8192x2048.Idx) : Cert.Reference6Ideal.S4x2048x2048.Idx :=
  fun a => match a with
  | ⟨0, _⟩ => ⟨(i 0).val / 2048, by have h : (i 0).val < 8192 := (i 0).isLt; show (i 0).val / 2048 < 4; omega⟩
  | ⟨1, _⟩ => ⟨(i 0).val % 2048, Nat.mod_lt _ (by decide)⟩
  | ⟨2, _⟩ => ⟨(i 1).val, (i 1).isLt⟩

/-- The reference's whole weight at a place is the chip's weight there. -/
theorem ref_weight (x1 : (⟨Cert.Reference6Ideal.S4x2048x2048, .bf16⟩ : BufTy).Contents (Elt Ideal)) (i : Cert.Reference6Ideal.S8192x2048.Idx) :
    val_main_v0 (F := Ideal) x1 i = x1 (chip i) := by
  rw [val_main_v0_apply]
  have h0 : (i 0).val < 8192 := (i 0).isLt
  have h1 : (i 1).val < 2048 := (i 1).isLt
  refine congrArg x1 (funext fun a => Fin.ext ?_)
  match a with
  | ⟨0, _⟩ => show ((i 0).val * 2048 + (i 1).val) / 4194304 = (i 0).val / 2048; omega
  | ⟨1, _⟩ => show ((i 0).val * 2048 + (i 1).val) / 2048 % 2048 = (i 0).val % 2048; omega
  | ⟨2, _⟩ => show ((i 0).val * 2048 + (i 1).val) % 2048 = (i 1).val; omega

variable (m : (ℓ : Loc nD τ sig) → Buf (Elt Ideal) ℓ) (c : Dev nD)

/-- The kernel's array is the reference's product. -/
theorem arr : (dats m 0 c).arrAt 2 cfg0.N = val_main_v2 (F := Ideal) (m ((c : Thread nD τ).loc main_arg1)) (m ((c : Thread nD τ).loc main_arg2)) := by
  refine (dats m 0 c).arrAt_eq_of_covers 2 _ (by decide +kernel) fun t hf y => ?_
  have ht : t.val < 16 := t.isLt
  blk_simp
  rw [after0_2]
  frame_out
  have hy : y = ix2 (y 0) (y 1) := by funext a; match a with | ⟨0, _⟩ => rfl | ⟨1, _⟩ => rfl
  rw [hy]
  refine (pay _ _ (y 0) (y 1)).trans ?_
  rw [val_main_v2_apply]
  refine Finset.sum_congr rfl fun k _ => ?_
  congr 1
  · blk_simp [iblk]
    refine congrArg (m ((c : Thread nD τ).loc main_arg2)) ?_
    blk_ext [ix_a t, ix_o t]
  · blk_simp [iblk]
    rw [ref_weight]
    refine congrArg (m ((c : Thread nD τ).loc main_arg1)) ?_
    blk_ext [ix_b t, ix_o t]

/-- From equal arguments the kernel and the reference end with equal results. -/
theorem ends_equal : Cert.algebraic_Kernel6Ideal_Reference6Ideal := by
  intro m g m' g' _ ha
  refine ⟨fun c => val_main_v2 (F := Ideal) (m ((c.tc : Thread nD τ).loc main_arg1)) (m ((c.tc : Thread nD τ).loc main_arg2)), ?_, ?_⟩
  · refine (θ_run Cert.Kernel6Ideal.defs _ _).mono (fun r h c => ?_) (Cert.Kernel6Ideal.Value.run_blocks m g)
    obtain ⟨h0, hr⟩ := h c
    exact ⟨h0.trans (arr m c), hr⟩
  · refine (θ_run Cert.Reference6Ideal.defs _ _).mono (fun r h c => ?_) (Cert.Reference6Ideal.Value.run m' g')
    obtain ⟨h0, hr⟩ := h c
    obtain ⟨a0, a1, a2⟩ := ha c
    refine ⟨h0.trans ?_, hr⟩
    rw [val_main_v2_eq, a1, a2]

/-- The reference ends with its arguments as launched, and it has no semaphore. -/
theorem reference_frame : Cert.quiescent_Reference6Ideal := by
  intro m ρ _
  exact (θ_run Cert.Reference6Ideal.defs _ _).mono (fun r h => ⟨fun c => (h c).2, sem_eq_zero_of_no_sems (by decide) r.2⟩)
    (Cert.Reference6Ideal.Value.run m ρ)

end Cert.Kernel6Ideal.Mm

end

end
-- ==== Proof.Mm7.lean ====
/- The gradient of the MLP's second product in the weight (`w_ff2`): what the kernel's blocks hold, against the reference's product. -/
module

public import proofs.«01_k».proof.Defs
public import proofs.«01_k».proof.Proof.MmSum
public import proofs.«01_k».proof.Proof.Gen.Kernel7Ideal.Value
public import proofs.«01_k».proof.Proof.Gen.Reference7Ideal.Run
public import proofs.«01_k».proof.Proof.Gen.Reference7Ideal.Read

@[expose] public section

set_option maxRecDepth 16384

noncomputable section

namespace Cert.Kernel7Ideal.Mm

open Idealize.ShloMosaic Idealize.ShloMosaic.TcCoe Idealize.SL.Sem Cert.Kernel7Ideal Cert.Kernel7Ideal.Gen Cert.Kernel7Ideal.Facts
open Cert.Reference7Ideal.Read

/-! Which block of its array each window holds at a grid point. -/

theorem ix_a : ∀ t : Fin cfg0.N, win0_0.index t = ![0, t.val / 2] := (by decide +kernel : ∀ t : Fin grid0.N, _)
theorem ix_b : ∀ t : Fin cfg0.N, win0_1.index t = ![0, t.val % 2] := (by decide +kernel : ∀ t : Fin grid0.N, _)
theorem ix_o : ∀ t : Fin cfg0.N, win0_2.index t = ![t.val / 2 / 2, t.val / 2 % 2, t.val % 2] := (by decide +kernel : ∀ t : Fin grid0.N, _)

/-- What a grid point computes: the sum over the contracted axis. -/
theorem pay (a : Vec Ideal S2048x1024 .bf16) (b : Vec Ideal S2048x1024 .bf16) (r : Fin 1024) (s : Fin 1024) :
    k0_pay1 a b (ix3 (0 : Fin 1) r s) = ∑ k : Fin 2048, a (ix2 k r) * b (ix2 k s) := by
  unfold k0_pay1
  have := Ideal.matmul_apply₁_of dot_S2048x1024_S2048x1024_S1024x1024_0_0_1_1_n_n (a := 0) rfl (K := 2048) rfl (shapeCast S2048x1024 a shapeCasts_S2048x1024_S2048x1024) (shapeCast S2048x1024 b shapeCasts_S2048x1024_S2048x1024)
    (constant (F := Ideal) S1024x1024 .f32 0x00000000#32) (ix2 r s) (fun k => ix2 k r) (fun k => ix2 k s)
    (fun k => by funext d; match d with | ⟨0, _⟩ => rfl | ⟨1, _⟩ => rfl)
    (fun k => by funext d; match d with | ⟨0, _⟩ => rfl | ⟨1, _⟩ => rfl)
  refine (shapeCast_apply _ shapeCasts_S1024x1024_S1x1024x1024 (ix3 (0 : Fin 1) r s) (ix2 r s) (by
    rw [Shape.rowMajor_val_two, Shape.rowMajor_val_three]; show r.val * 1024 + s.val = ((0 : ℕ) * 1024 + r.val) * 1024 + s.val; omega)).trans ?_
  refine this.trans ?_
  rw [show (constant S1024x1024 .f32 0x00000000#32 : FVec Ideal S1024x1024 .f32) (ix2 r s) = 0 from Ideal.ofBits_zero_f32, zero_add]
  refine Finset.sum_congr rfl fun k _ => ?_
  congr 1
  · exact shapeCast_apply a shapeCasts_S2048x1024_S2048x1024 _ _ rfl
  · exact shapeCast_apply b shapeCasts_S2048x1024_S2048x1024 _ _ rfl

/-- Over the reals the reference's cast of its result is the identity. -/
theorem ref_cast (x0 : (⟨Cert.Reference7Ideal.S2048x8192, .f32⟩ : BufTy).Contents (Elt Ideal)) (x2 : (⟨Cert.Reference7Ideal.S2048x2048, .f32⟩ : BufTy).Contents (Elt Ideal)) (i : Cert.Reference7Ideal.S8192x2048.Idx) :
    val_main_v4 (F := Ideal) x0 x2 i = val_main_v3 (F := Ideal) x0 x2 i := rfl

variable (m : (ℓ : Loc nD τ sig) → Buf (Elt Ideal) ℓ) (c : Dev nD)

/-- The kernel's array is the reference's product. -/
theorem arr : (dats m 0 c).arrAt 2 cfg0.N = val_main_v5 (F := Ideal) (m ((c : Thread nD τ).loc main_arg0)) (m ((c : Thread nD τ).loc main_arg2)) := by
  refine (dats m 0 c).arrAt_eq_of_covers 2 _ (by decide +kernel) fun t hf y => ?_
  have ht : t.val < 16 := t.isLt
  blk_simp
  rw [after0_2]
  frame_out
  have h0 : (y 0).val = 0 := by have : (y 0).val < 1 := (y 0).isLt; omega
  have hy : y = ix3 (0 : Fin 1) (y 1) (y 2) := by funext a; match a with | ⟨0, _⟩ => exact Fin.ext h0 | ⟨1, _⟩ => rfl | ⟨2, _⟩ => rfl
  rw [hy]
  refine (pay _ _ (y 1) (y 2)).trans ?_
  rw [val_main_v5_apply, ref_cast, val_main_v3_apply, val_main_v2_apply]
  refine Finset.sum_congr rfl fun k _ => ?_
  refine (EReal.mul_comm _ _).trans ?_
  congr 1
  · blk_simp [iblk]
    refine congrArg (m ((c : Thread nD τ).loc main_arg2)) ?_
    blk_ext [ix_b t, ix_o t]
  · blk_simp [iblk]
    refine congrArg (m ((c : Thread nD τ).loc main_arg0)) ?_
    blk_ext [ix_a t, ix_o t]

/-- From equal arguments the kernel and the reference end with equal results. -/
theorem ends_equal : Cert.algebraic_Kernel7Ideal_Reference7Ideal := by
  intro m g m' g' _ ha
  refine ⟨fun c => val_main_v5 (F := Ideal) (m ((c.tc : Thread nD τ).loc main_arg0)) (m ((c.tc : Thread nD τ).loc main_arg2)), ?_, ?_⟩
  · refine (θ_run Cert.Kernel7Ideal.defs _ _).mono (fun r h c => ?_) (Cert.Kernel7Ideal.Value.run_blocks m g)
    obtain ⟨h0, hr⟩ := h c
    exact ⟨h0.trans (arr m c), hr⟩
  · refine (θ_run Cert.Reference7Ideal.defs _ _).mono (fun r h c => ?_) (Cert.Reference7Ideal.Value.run m' g')
    obtain ⟨h0, hr⟩ := h c
    obtain ⟨a0, a1, a2⟩ := ha c
    refine ⟨h0.trans ?_, hr⟩
    rw [val_main_v5_eq, a0, a2]

/-- The reference ends with its arguments as launched, and it has no semaphore. -/
theorem reference_frame : Cert.quiescent_Reference7Ideal := by
  intro m ρ _
  exact (θ_run Cert.Reference7Ideal.defs _ _).mono (fun r h => ⟨fun c => (h c).2, sem_eq_zero_of_no_sems (by decide) r.2⟩)
    (Cert.Reference7Ideal.Value.run m ρ)

end Cert.Kernel7Ideal.Mm

end

end
-- ==== Proof.Mm8.lean ====
/- The mixer's first product (`w_in`): what the kernel's blocks hold, against the reference's product. -/
module

public import proofs.«01_k».proof.Defs
public import proofs.«01_k».proof.Proof.MmSum
public import proofs.«01_k».proof.Proof.Gen.Kernel8Ideal.Value
public import proofs.«01_k».proof.Proof.Gen.Reference8Ideal.Run
public import proofs.«01_k».proof.Proof.Gen.Reference8Ideal.Read

@[expose] public section

set_option maxRecDepth 16384

noncomputable section

namespace Cert.Kernel8Ideal.Mm

open Idealize.ShloMosaic Idealize.ShloMosaic.TcCoe Idealize.SL.Sem Cert.Kernel8Ideal Cert.Kernel8Ideal.Gen Cert.Kernel8Ideal.Facts
open Cert.Reference8Ideal.Read

/-! Which block of its array each window holds at a grid point. -/

theorem ix_a : ∀ t : Fin cfg0.N, win0_0.index t = ![t.val / 16, 0] := (by decide +kernel : ∀ t : Fin grid0.N, _)
theorem ix_b : ∀ t : Fin cfg0.N, win0_1.index t = ![0, t.val % 16] := (by decide +kernel : ∀ t : Fin grid0.N, _)
theorem ix_o : ∀ t : Fin cfg0.N, win0_2.index t = ![t.val / 16, t.val % 16] := (by decide +kernel : ∀ t : Fin grid0.N, _)

/-- What a grid point computes: the sum over the contracted axis. -/
theorem pay (a : Vec Ideal S1024x2048 .bf16) (b : Vec Ideal S2048x1024 .bf16) (r : Fin 1024) (s : Fin 1024) :
    k0_pay1 a b (ix2 r s) = ∑ k : Fin 2048, a (ix2 r k) * b (ix2 k s) := by
  unfold k0_pay1
  have := Ideal.matmul_apply₁_of dot_S1024x2048_S2048x1024_S1024x1024_1_0_0_1_n_n (a := 1) rfl (K := 2048) rfl (shapeCast S1024x2048 a shapeCasts_S1024x2048_S1024x2048) b
    (constant (F := Ideal) S1024x1024 .f32 0x00000000#32) (ix2 r s) (fun k => ix2 r k) (fun k => ix2 k s)
    (fun k => by funext d; match d with | ⟨0, _⟩ => rfl | ⟨1, _⟩ => rfl)
    (fun k => by funext d; match d with | ⟨0, _⟩ => rfl | ⟨1, _⟩ => rfl)
  refine this.trans ?_
  rw [show (constant S1024x1024 .f32 0x00000000#32 : FVec Ideal S1024x1024 .f32) (ix2 r s) = 0 from Ideal.ofBits_zero_f32, zero_add]
  refine Finset.sum_congr rfl fun k _ => ?_
  congr 1
  · exact shapeCast_apply a shapeCasts_S1024x2048_S1024x2048 _ _ rfl

variable (m : (ℓ : Loc nD τ sig) → Buf (Elt Ideal) ℓ) (c : Dev nD)

/-- The kernel's array is the reference's product. -/
theorem arr : (dats m 0 c).arrAt 2 cfg0.N = val_main_v0 (F := Ideal) (m ((c : Thread nD τ).loc main_arg0)) (m ((c : Thread nD τ).loc main_arg1)) := by
  refine (dats m 0 c).arrAt_eq_of_covers 2 _ (by decide +kernel) fun t hf y => ?_
  have ht : t.val < 32 := t.isLt
  blk_simp
  rw [after0_2]
  frame_out
  have hy : y = ix2 (y 0) (y 1) := by funext a; match a with | ⟨0, _⟩ => rfl | ⟨1, _⟩ => rfl
  rw [hy]
  refine (pay _ _ (y 0) (y 1)).trans ?_
  rw [val_main_v0_apply]
  refine Finset.sum_congr rfl fun k _ => ?_
  congr 1
  · blk_simp [iblk]
    refine congrArg (m ((c : Thread nD τ).loc main_arg0)) ?_
    blk_ext [ix_a t, ix_o t]
  · blk_simp [iblk]
    refine congrArg (m ((c : Thread nD τ).loc main_arg1)) ?_
    blk_ext [ix_b t, ix_o t]

/-- From equal arguments the kernel and the reference end with equal results. -/
theorem ends_equal : Cert.algebraic_Kernel8Ideal_Reference8Ideal := by
  intro m g m' g' _ ha
  refine ⟨fun c => val_main_v0 (F := Ideal) (m ((c.tc : Thread nD τ).loc main_arg0)) (m ((c.tc : Thread nD τ).loc main_arg1)), ?_, ?_⟩
  · refine (θ_run Cert.Kernel8Ideal.defs _ _).mono (fun r h c => ?_) (Cert.Kernel8Ideal.Value.run_blocks m g)
    obtain ⟨h0, hr⟩ := h c
    exact ⟨h0.trans (arr m c), hr⟩
  · refine (θ_run Cert.Reference8Ideal.defs _ _).mono (fun r h c => ?_) (Cert.Reference8Ideal.Value.run m' g')
    obtain ⟨h0, hr⟩ := h c
    obtain ⟨a0, a1⟩ := ha c
    refine ⟨h0.trans ?_, hr⟩
    rw [val_main_v0_eq, a0, a1]

/-- The reference ends with its arguments as launched, and it has no semaphore. -/
theorem reference_frame : Cert.quiescent_Reference8Ideal := by
  intro m ρ _
  exact (θ_run Cert.Reference8Ideal.defs _ _).mono (fun r h => ⟨fun c => (h c).2, sem_eq_zero_of_no_sems (by decide) r.2⟩)
    (Cert.Reference8Ideal.Value.run m ρ)

end Cert.Kernel8Ideal.Mm

end

end
-- ==== Proof.Mm9.lean ====
/- The gradient of the mixer's first product in its left operand (`w_in`): what the kernel's blocks hold, against the reference's product. -/
module

public import proofs.«01_k».proof.Defs
public import proofs.«01_k».proof.Proof.MmSum
public import proofs.«01_k».proof.Proof.Gen.Kernel9Ideal.Value
public import proofs.«01_k».proof.Proof.Gen.Reference9Ideal.Run
public import proofs.«01_k».proof.Proof.Gen.Reference9Ideal.Read

@[expose] public section

set_option maxRecDepth 16384

noncomputable section

namespace Cert.Kernel9Ideal.Mm

open Idealize.ShloMosaic Idealize.ShloMosaic.TcCoe Idealize.SL.Sem Cert.Kernel9Ideal Cert.Kernel9Ideal.Gen Cert.Kernel9Ideal.Facts
open Cert.Reference9Ideal.Read

/-! Which block of its array each window holds at a grid point. -/

theorem ix_a : ∀ t : Fin cfg0.N, win0_0.index t = ![t.val / 16, t.val % 8] := (by decide +kernel : ∀ t : Fin grid0.N, _)
theorem ix_b : ∀ t : Fin cfg0.N, win0_1.index t = ![t.val / 8 % 2, t.val % 8] := (by decide +kernel : ∀ t : Fin grid0.N, _)
theorem ix_o : ∀ t : Fin cfg0.N, win0_2.index t = ![t.val / 16, t.val / 8 % 2] := (by decide +kernel : ∀ t : Fin grid0.N, _)

/-- What a grid point computes: the sum over its run of the contracted axis. -/
theorem pay (a : Vec Ideal S1024x2048 .bf16) (b : Vec Ideal S1024x2048 .bf16) (r : Fin 1024) (s : Fin 1024) :
    k0_pay1 a b (ix2 r s) = ∑ k : Fin 2048, a (ix2 r k) * b (ix2 s k) := by
  unfold k0_pay1
  have := Ideal.matmul_apply₁_of dot_S1024x2048_S1024x2048_S1024x1024_1_1_0_0_n_n (a := 1) rfl (K := 2048) rfl (shapeCast S1024x2048 a shapeCasts_S1024x2048_S1024x2048) b
    (constant (F := Ideal) S1024x1024 .f32 0x00000000#32) (ix2 r s) (fun k => ix2 r k) (fun k => ix2 s k)
    (fun k => by funext d; match d with | ⟨0, _⟩ => rfl | ⟨1, _⟩ => rfl)
    (fun k => by funext d; match d with | ⟨0, _⟩ => rfl | ⟨1, _⟩ => rfl)
  refine this.trans ?_
  rw [show (constant S1024x1024 .f32 0x00000000#32 : FVec Ideal S1024x1024 .f32) (ix2 r s) = 0 from Ideal.ofBits_zero_f32, zero_add]
  refine Finset.sum_congr rfl fun k _ => ?_
  congr 1
  · exact shapeCast_apply a shapeCasts_S1024x2048_S1024x2048 _ _ rfl

/-- The accumulator after a run's first point holds that point's part. -/
theorem pay_first (a : Vec Ideal S1024x2048 .bf16) (b : Vec Ideal S1024x2048 .bf16) (y : S1024x1024.Idx) :
    k0_pay2 a b y = 0 + k0_pay1 a b y := by
  rw [zero_add]
  exact shapeCast_apply (k0_pay1 a b) shapeCasts_S1024x1024_S1024x1024 y y rfl

/-- A later point adds its part to what the accumulator holds. -/
theorem pay_next (a : Vec Ideal S1024x2048 .bf16) (b : Vec Ideal S1024x2048 .bf16) (x : Vec Ideal S1024x1024 .f32) (y : S1024x1024.Idx) :
    k0_pay3 a b x y = x y + k0_pay1 a b y := by
  unfold k0_pay3
  exact (shapeCast_apply (addf x (k0_pay1 a b)) shapeCasts_S1024x1024_S1024x1024 y y rfl).trans rfl

variable (m : (ℓ : Loc nD τ sig) → Buf (Elt Ideal) ℓ) (c : Dev nD)

/-- At a run's last point the accumulator holds the parts' sum. -/
theorem acc (t : Fin cfg0.N) (ht : t.val % 8 = 7) (y : S1024x1024.Idx) :
    (outsAt0 m c t.val t.isLt).2 y = 0 + ∑ s : Fin 8, k0_pay1 (iblk m c 0 ⟨8 * (t.val / 8) + s.val, by have := t.isLt; omega⟩) (iblk m c 1 ⟨8 * (t.val / 8) + s.val, by have := t.isLt; omega⟩) y := by
  refine Pipeline.eq_sum_fin_of_reset_step_apply_of_flush (N := cfg0.N) (fun n h => (outsAt0 m c n h).2) 8 (fun _ => (0 : EReal)) (fun t => k0_pay1 (iblk m c 0 t) (iblk m c 1 t))
    (fun t h y => ?_) (fun t h y => ?_) t ht y
  · rw [outsAt0_A m c t h (by omega) (by omega)]
    frame_out
    exact pay_first _ _ y
  · by_cases h3 : t.val % 8 = 7
    · rw [outsAt0_C m c t h (by omega) h3]
      frame_out
      exact (pay_next _ _ _ y).trans (congrArg (· + _) (congrFun ((Memref.isWhole_whole cc0_scratch0).read_unread _) y))
    · rw [outsAt0_B m c t h (by omega) h3]
      frame_out
      exact (pay_next _ _ _ y).trans (congrArg (· + _) (congrFun ((Memref.isWhole_whole cc0_scratch0).read_unread _) y))

/-- What is written back at a run's last point is what the accumulator then holds. -/
theorem out_acc (t : Fin cfg0.N) (ht : t.val % 8 = 7) : (outsAt0 m c t.val t.isLt).1 = (outsAt0 m c t.val t.isLt).2 := by
  rw [outsAt0_C m c t (by omega) (by omega) ht]
  frame_out

/-- The kernel's array is the reference's product. -/
theorem arr : (dats m 0 c).arrAt 2 cfg0.N = val_main_v1 (F := Ideal) (m ((c : Thread nD τ).loc main_arg1)) (m ((c : Thread nD τ).loc main_arg2)) := by
  refine (dats m 0 c).arrAt_eq_of_covers 2 _ (by decide +kernel) fun t hf y => ?_
  have ht : t.val < 32 := t.isLt
  have hm : t.val % 8 = 7 := (flush0_2 t).mp hf
  blk_simp
  rw [after0_2, out_acc m c t hm, acc m c t hm, val_main_v1_apply, Cert.Mm.sum_runs 8 2048]
  have hy : y = ix2 (y 0) (y 1) := by funext a; match a with | ⟨0, _⟩ => rfl | ⟨1, _⟩ => rfl
  rw [hy]
  refine (zero_add (M := EReal) _).trans (Finset.sum_congr rfl fun s _ => ?_)
  refine (pay _ _ (y 0) (y 1)).trans (Finset.sum_congr rfl fun k _ => ?_)
  congr 1
  · blk_simp [iblk]
    refine congrArg (m ((c : Thread nD τ).loc main_arg2)) ?_
    blk_ext [ix_a, ix_o t]
  · blk_simp [iblk]
    refine congrArg (m ((c : Thread nD τ).loc main_arg1)) ?_
    blk_ext [ix_b, ix_o t]

/-- From equal arguments the kernel and the reference end with equal results. -/
theorem ends_equal : Cert.algebraic_Kernel9Ideal_Reference9Ideal := by
  intro m g m' g' _ ha
  refine ⟨fun c => val_main_v1 (F := Ideal) (m ((c.tc : Thread nD τ).loc main_arg1)) (m ((c.tc : Thread nD τ).loc main_arg2)), ?_, ?_⟩
  · refine (θ_run Cert.Kernel9Ideal.defs _ _).mono (fun r h c => ?_) (Cert.Kernel9Ideal.Value.run_blocks m g)
    obtain ⟨h0, hr⟩ := h c
    exact ⟨h0.trans (arr m c), hr⟩
  · refine (θ_run Cert.Reference9Ideal.defs _ _).mono (fun r h c => ?_) (Cert.Reference9Ideal.Value.run m' g')
    obtain ⟨h0, hr⟩ := h c
    obtain ⟨a0, a1, a2⟩ := ha c
    refine ⟨h0.trans ?_, hr⟩
    rw [val_main_v1_eq, a1, a2]

/-- The reference ends with its arguments as launched, and it has no semaphore. -/
theorem reference_frame : Cert.quiescent_Reference9Ideal := by
  intro m ρ _
  exact (θ_run Cert.Reference9Ideal.defs _ _).mono (fun r h => ⟨fun c => (h c).2, sem_eq_zero_of_no_sems (by decide) r.2⟩)
    (Cert.Reference9Ideal.Value.run m ρ)

end Cert.Kernel9Ideal.Mm

end

end
-- ==== Proof.Mm10.lean ====
/- The gradient of the mixer's first product in the weight (`w_in`): what the kernel's blocks hold, against the reference's product. -/
module

public import proofs.«01_k».proof.Defs
public import proofs.«01_k».proof.Proof.MmSum
public import proofs.«01_k».proof.Proof.Gen.Kernel10Ideal.Value
public import proofs.«01_k».proof.Proof.Gen.Reference10Ideal.Run
public import proofs.«01_k».proof.Proof.Gen.Reference10Ideal.Read

@[expose] public section

set_option maxRecDepth 16384

noncomputable section

namespace Cert.Kernel10Ideal.Mm

open Idealize.ShloMosaic Idealize.ShloMosaic.TcCoe Idealize.SL.Sem Cert.Kernel10Ideal Cert.Kernel10Ideal.Gen Cert.Kernel10Ideal.Facts
open Cert.Reference10Ideal.Read

/-! Which block of its array each window holds at a grid point. -/

theorem ix_a : ∀ t : Fin cfg0.N, win0_0.index t = ![0, t.val / 16] := (by decide +kernel : ∀ t : Fin grid0.N, _)
theorem ix_b : ∀ t : Fin cfg0.N, win0_1.index t = ![0, t.val % 16] := (by decide +kernel : ∀ t : Fin grid0.N, _)
theorem ix_o : ∀ t : Fin cfg0.N, win0_2.index t = ![t.val / 16, t.val % 16] := (by decide +kernel : ∀ t : Fin grid0.N, _)

/-- What a grid point computes: the sum over the contracted axis. -/
theorem pay (a : Vec Ideal S2048x1024 .bf16) (b : Vec Ideal S2048x1024 .bf16) (r : Fin 1024) (s : Fin 1024) :
    k0_pay1 a b (ix2 r s) = ∑ k : Fin 2048, a (ix2 k r) * b (ix2 k s) := by
  unfold k0_pay1
  have := Ideal.matmul_apply₁_of dot_S2048x1024_S2048x1024_S1024x1024_0_0_1_1_n_n (a := 0) rfl (K := 2048) rfl (shapeCast S2048x1024 a shapeCasts_S2048x1024_S2048x1024) (shapeCast S2048x1024 b shapeCasts_S2048x1024_S2048x1024)
    (constant (F := Ideal) S1024x1024 .f32 0x00000000#32) (ix2 r s) (fun k => ix2 k r) (fun k => ix2 k s)
    (fun k => by funext d; match d with | ⟨0, _⟩ => rfl | ⟨1, _⟩ => rfl)
    (fun k => by funext d; match d with | ⟨0, _⟩ => rfl | ⟨1, _⟩ => rfl)
  refine this.trans ?_
  rw [show (constant S1024x1024 .f32 0x00000000#32 : FVec Ideal S1024x1024 .f32) (ix2 r s) = 0 from Ideal.ofBits_zero_f32, zero_add]
  refine Finset.sum_congr rfl fun k _ => ?_
  congr 1
  · exact shapeCast_apply a shapeCasts_S2048x1024_S2048x1024 _ _ rfl
  · exact shapeCast_apply b shapeCasts_S2048x1024_S2048x1024 _ _ rfl

/-- Over the reals the reference's cast of its result is the identity. -/
theorem ref_cast (x0 : (⟨Cert.Reference10Ideal.S2048x2048, .f32⟩ : BufTy).Contents (Elt Ideal)) (x2 : (⟨Cert.Reference10Ideal.S2048x16384, .f32⟩ : BufTy).Contents (Elt Ideal)) (i : Cert.Reference10Ideal.S2048x16384.Idx) :
    val_main_v3 (F := Ideal) x0 x2 i = val_main_v2 (F := Ideal) x0 x2 i := rfl

variable (m : (ℓ : Loc nD τ sig) → Buf (Elt Ideal) ℓ) (c : Dev nD)

/-- The kernel's array is the reference's product. -/
theorem arr : (dats m 0 c).arrAt 2 cfg0.N = val_main_v3 (F := Ideal) (m ((c : Thread nD τ).loc main_arg0)) (m ((c : Thread nD τ).loc main_arg2)) := by
  refine (dats m 0 c).arrAt_eq_of_covers 2 _ (by decide +kernel) fun t hf y => ?_
  have ht : t.val < 32 := t.isLt
  blk_simp
  rw [after0_2]
  frame_out
  have hy : y = ix2 (y 0) (y 1) := by funext a; match a with | ⟨0, _⟩ => rfl | ⟨1, _⟩ => rfl
  rw [hy]
  refine (pay _ _ (y 0) (y 1)).trans ?_
  rw [ref_cast, val_main_v2_apply, val_main_v1_apply]
  refine Finset.sum_congr rfl fun k _ => ?_
  refine (EReal.mul_comm _ _).trans ?_
  congr 1
  · blk_simp [iblk]
    refine congrArg (m ((c : Thread nD τ).loc main_arg2)) ?_
    blk_ext [ix_b t, ix_o t]
  · blk_simp [iblk]
    refine congrArg (m ((c : Thread nD τ).loc main_arg0)) ?_
    blk_ext [ix_a t, ix_o t]

/-- From equal arguments the kernel and the reference end with equal results. -/
theorem ends_equal : Cert.algebraic_Kernel10Ideal_Reference10Ideal := by
  intro m g m' g' _ ha
  refine ⟨fun c => val_main_v3 (F := Ideal) (m ((c.tc : Thread nD τ).loc main_arg0)) (m ((c.tc : Thread nD τ).loc main_arg2)), ?_, ?_⟩
  · refine (θ_run Cert.Kernel10Ideal.defs _ _).mono (fun r h c => ?_) (Cert.Kernel10Ideal.Value.run_blocks m g)
    obtain ⟨h0, hr⟩ := h c
    exact ⟨h0.trans (arr m c), hr⟩
  · refine (θ_run Cert.Reference10Ideal.defs _ _).mono (fun r h c => ?_) (Cert.Reference10Ideal.Value.run m' g')
    obtain ⟨h0, hr⟩ := h c
    obtain ⟨a0, a1, a2⟩ := ha c
    refine ⟨h0.trans ?_, hr⟩
    rw [val_main_v3_eq, a0, a2]

/-- The reference ends with its arguments as launched, and it has no semaphore. -/
theorem reference_frame : Cert.quiescent_Reference10Ideal := by
  intro m ρ _
  exact (θ_run Cert.Reference10Ideal.defs _ _).mono (fun r h => ⟨fun c => (h c).2, sem_eq_zero_of_no_sems (by decide) r.2⟩)
    (Cert.Reference10Ideal.Value.run m ρ)

end Cert.Kernel10Ideal.Mm

end

end
-- ==== Proof.Mm11.lean ====
/- The mixer's last product (`w_out`): what the kernel's blocks hold, against the reference's product. -/
module

public import proofs.«01_k».proof.Defs
public import proofs.«01_k».proof.Proof.MmSum
public import proofs.«01_k».proof.Proof.Gen.Kernel11Ideal.Value
public import proofs.«01_k».proof.Proof.Gen.Reference11Ideal.Run
public import proofs.«01_k».proof.Proof.Gen.Reference11Ideal.Read

@[expose] public section

set_option maxRecDepth 16384

noncomputable section

namespace Cert.Kernel11Ideal.Mm

open Idealize.ShloMosaic Idealize.ShloMosaic.TcCoe Idealize.SL.Sem Cert.Kernel11Ideal Cert.Kernel11Ideal.Gen Cert.Kernel11Ideal.Facts
open Cert.Reference11Ideal.Read

/-! Which block of its array each window holds at a grid point. -/

theorem ix_a : ∀ t : Fin cfg0.N, win0_0.index t = ![t.val / 8, t.val % 4] := (by decide +kernel : ∀ t : Fin grid0.N, _)
theorem ix_b : ∀ t : Fin cfg0.N, win0_1.index t = ![t.val % 4, 0, t.val / 4 % 2] := (by decide +kernel : ∀ t : Fin grid0.N, _)
theorem ix_o : ∀ t : Fin cfg0.N, win0_2.index t = ![t.val / 8, t.val / 4 % 2] := (by decide +kernel : ∀ t : Fin grid0.N, _)

/-- What a grid point computes: the sum over its run of the contracted axis. -/
theorem pay (a : Vec Ideal S1024x512 .bf16) (b : Vec Ideal S1x512x1024 .bf16) (r : Fin 1024) (s : Fin 1024) :
    k0_pay1 a b (ix2 r s) = ∑ k : Fin 512, a (ix2 r k) * b (ix3 (0 : Fin 1) k s) := by
  unfold k0_pay1
  have := Ideal.matmul_apply₁_of dot_S1024x512_S512x1024_S1024x1024_1_0_0_1_n_n (a := 1) rfl (K := 512) rfl (shapeCast S1024x512 a shapeCasts_S1024x512_S1024x512) (shapeCast S512x1024 b shapeCasts_S1x512x1024_S512x1024)
    (constant (F := Ideal) S1024x1024 .f32 0x00000000#32) (ix2 r s) (fun k => ix2 r k) (fun k => ix2 k s)
    (fun k => by funext d; match d with | ⟨0, _⟩ => rfl | ⟨1, _⟩ => rfl)
    (fun k => by funext d; match d with | ⟨0, _⟩ => rfl | ⟨1, _⟩ => rfl)
  refine this.trans ?_
  rw [show (constant S1024x1024 .f32 0x00000000#32 : FVec Ideal S1024x1024 .f32) (ix2 r s) = 0 from Ideal.ofBits_zero_f32, zero_add]
  refine Finset.sum_congr rfl fun k _ => ?_
  congr 1
  · exact shapeCast_apply a shapeCasts_S1024x512_S1024x512 _ _ rfl
  · exact shapeCast_apply b shapeCasts_S1x512x1024_S512x1024 _ (ix3 (0 : Fin 1) k s) (by
      rw [Shape.rowMajor_val_three, Shape.rowMajor_val_two]; show ((0 : ℕ) * 512 + k.val) * 1024 + s.val = k.val * 1024 + s.val; omega)

/-- The accumulator after a run's first point holds that point's part. -/
theorem pay_first (a : Vec Ideal S1024x512 .bf16) (b : Vec Ideal S1x512x1024 .bf16) (y : S1024x1024.Idx) :
    k0_pay2 a b y = 0 + k0_pay1 a b y := by
  rw [zero_add]
  exact shapeCast_apply (k0_pay1 a b) shapeCasts_S1024x1024_S1024x1024 y y rfl

/-- A later point adds its part to what the accumulator holds. -/
theorem pay_next (a : Vec Ideal S1024x512 .bf16) (b : Vec Ideal S1x512x1024 .bf16) (x : Vec Ideal S1024x1024 .f32) (y : S1024x1024.Idx) :
    k0_pay3 a b x y = x y + k0_pay1 a b y := by
  unfold k0_pay3
  exact (shapeCast_apply (addf x (k0_pay1 a b)) shapeCasts_S1024x1024_S1024x1024 y y rfl).trans rfl

set_option backward.proofsInPublic true in
/-- The place in its chip's rows of a place of the whole weight. -/
abbrev chip (i : Cert.Reference11Ideal.S2048x2048.Idx) : Cert.Reference11Ideal.S4x512x2048.Idx :=
  fun a => match a with
  | ⟨0, _⟩ => ⟨(i 0).val / 512, by have h : (i 0).val < 2048 := (i 0).isLt; show (i 0).val / 512 < 4; omega⟩
  | ⟨1, _⟩ => ⟨(i 0).val % 512, Nat.mod_lt _ (by decide)⟩
  | ⟨2, _⟩ => ⟨(i 1).val, (i 1).isLt⟩

/-- The reference's whole weight at a place is the chip's weight there. -/
theorem ref_weight (x1 : (⟨Cert.Reference11Ideal.S4x512x2048, .bf16⟩ : BufTy).Contents (Elt Ideal)) (i : Cert.Reference11Ideal.S2048x2048.Idx) :
    val_main_v0 (F := Ideal) x1 i = x1 (chip i) := by
  rw [val_main_v0_apply]
  have h0 : (i 0).val < 2048 := (i 0).isLt
  have h1 : (i 1).val < 2048 := (i 1).isLt
  refine congrArg x1 (funext fun a => Fin.ext ?_)
  match a with
  | ⟨0, _⟩ => show ((i 0).val * 2048 + (i 1).val) / 1048576 = (i 0).val / 512; omega
  | ⟨1, _⟩ => show ((i 0).val * 2048 + (i 1).val) / 2048 % 512 = (i 0).val % 512; omega
  | ⟨2, _⟩ => show ((i 0).val * 2048 + (i 1).val) % 2048 = (i 1).val; omega

variable (m : (ℓ : Loc nD τ sig) → Buf (Elt Ideal) ℓ) (c : Dev nD)

/-- At a run's last point the accumulator holds the parts' sum. -/
theorem acc (t : Fin cfg0.N) (ht : t.val % 4 = 3) (y : S1024x1024.Idx) :
    (outsAt0 m c t.val t.isLt).2 y = 0 + ∑ s : Fin 4, k0_pay1 (iblk m c 0 ⟨4 * (t.val / 4) + s.val, by have := t.isLt; omega⟩) (iblk m c 1 ⟨4 * (t.val / 4) + s.val, by have := t.isLt; omega⟩) y := by
  refine Pipeline.eq_sum_fin_of_reset_step_apply_of_flush (N := cfg0.N) (fun n h => (outsAt0 m c n h).2) 4 (fun _ => (0 : EReal)) (fun t => k0_pay1 (iblk m c 0 t) (iblk m c 1 t))
    (fun t h y => ?_) (fun t h y => ?_) t ht y
  · rw [outsAt0_A m c t h (by omega) (by omega)]
    frame_out
    exact pay_first _ _ y
  · by_cases h3 : t.val % 4 = 3
    · rw [outsAt0_C m c t h (by omega) h3]
      frame_out
      exact (pay_next _ _ _ y).trans (congrArg (· + _) (congrFun ((Memref.isWhole_whole cc0_scratch0).read_unread _) y))
    · rw [outsAt0_B m c t h (by omega) h3]
      frame_out
      exact (pay_next _ _ _ y).trans (congrArg (· + _) (congrFun ((Memref.isWhole_whole cc0_scratch0).read_unread _) y))

/-- What is written back at a run's last point is what the accumulator then holds. -/
theorem out_acc (t : Fin cfg0.N) (ht : t.val % 4 = 3) : (outsAt0 m c t.val t.isLt).1 = (outsAt0 m c t.val t.isLt).2 := by
  rw [outsAt0_C m c t (by omega) (by omega) ht]
  frame_out

/-- The kernel's array is the reference's product. -/
theorem arr : (dats m 0 c).arrAt 2 cfg0.N = val_main_v1 (F := Ideal) (m ((c : Thread nD τ).loc main_arg0)) (m ((c : Thread nD τ).loc main_arg1)) := by
  refine (dats m 0 c).arrAt_eq_of_covers 2 _ (by decide +kernel) fun t hf y => ?_
  have ht : t.val < 16 := t.isLt
  have hm : t.val % 4 = 3 := (flush0_2 t).mp hf
  blk_simp
  rw [after0_2, out_acc m c t hm, acc m c t hm, val_main_v1_apply, Cert.Mm.sum_runs 4 512]
  have hy : y = ix2 (y 0) (y 1) := by funext a; match a with | ⟨0, _⟩ => rfl | ⟨1, _⟩ => rfl
  rw [hy]
  refine (zero_add (M := EReal) _).trans (Finset.sum_congr rfl fun s _ => ?_)
  refine (pay _ _ (y 0) (y 1)).trans (Finset.sum_congr rfl fun k _ => ?_)
  congr 1
  · blk_simp [iblk]
    refine congrArg (m ((c : Thread nD τ).loc main_arg0)) ?_
    blk_ext [ix_a, ix_o t]
  · blk_simp [iblk]
    rw [ref_weight]
    refine congrArg (m ((c : Thread nD τ).loc main_arg1)) ?_
    blk_ext [ix_b, ix_o t]

/-- From equal arguments the kernel and the reference end with equal results. -/
theorem ends_equal : Cert.algebraic_Kernel11Ideal_Reference11Ideal := by
  intro m g m' g' _ ha
  refine ⟨fun c => val_main_v1 (F := Ideal) (m ((c.tc : Thread nD τ).loc main_arg0)) (m ((c.tc : Thread nD τ).loc main_arg1)), ?_, ?_⟩
  · refine (θ_run Cert.Kernel11Ideal.defs _ _).mono (fun r h c => ?_) (Cert.Kernel11Ideal.Value.run_blocks m g)
    obtain ⟨h0, hr⟩ := h c
    exact ⟨h0.trans (arr m c), hr⟩
  · refine (θ_run Cert.Reference11Ideal.defs _ _).mono (fun r h c => ?_) (Cert.Reference11Ideal.Value.run m' g')
    obtain ⟨h0, hr⟩ := h c
    obtain ⟨a0, a1⟩ := ha c
    refine ⟨h0.trans ?_, hr⟩
    rw [val_main_v1_eq, a0, a1]

/-- The reference ends with its arguments as launched, and it has no semaphore. -/
theorem reference_frame : Cert.quiescent_Reference11Ideal := by
  intro m ρ _
  exact (θ_run Cert.Reference11Ideal.defs _ _).mono (fun r h => ⟨fun c => (h c).2, sem_eq_zero_of_no_sems (by decide) r.2⟩)
    (Cert.Reference11Ideal.Value.run m ρ)

end Cert.Kernel11Ideal.Mm

end

end
-- ==== Proof.Mm12.lean ====
/- The gradient of the mixer's last product in its left operand (`w_out`): what the kernel's blocks hold, against the reference's product. -/
module

public import proofs.«01_k».proof.Defs
public import proofs.«01_k».proof.Proof.MmSum
public import proofs.«01_k».proof.Proof.Gen.Kernel12Ideal.Value
public import proofs.«01_k».proof.Proof.Gen.Reference12Ideal.Run
public import proofs.«01_k».proof.Proof.Gen.Reference12Ideal.Read

@[expose] public section

set_option maxRecDepth 16384

noncomputable section

namespace Cert.Kernel12Ideal.Mm

open Idealize.ShloMosaic Idealize.ShloMosaic.TcCoe Idealize.SL.Sem Cert.Kernel12Ideal Cert.Kernel12Ideal.Gen Cert.Kernel12Ideal.Facts
open Cert.Reference12Ideal.Read

/-! Which block of its array each window holds at a grid point. -/

theorem ix_a : ∀ t : Fin cfg0.N, win0_0.index t = ![t.val / 4, 0] := (by decide +kernel : ∀ t : Fin grid0.N, _)
theorem ix_b : ∀ t : Fin cfg0.N, win0_1.index t = ![t.val % 4, 0, 0] := (by decide +kernel : ∀ t : Fin grid0.N, _)
theorem ix_o : ∀ t : Fin cfg0.N, win0_2.index t = ![t.val / 4, t.val % 4] := (by decide +kernel : ∀ t : Fin grid0.N, _)

/-- What a grid point computes: the sum over the contracted axis. -/
theorem pay (a : Vec Ideal S1024x2048 .bf16) (b : Vec Ideal S1x512x2048 .bf16) (r : Fin 1024) (s : Fin 512) :
    k0_pay1 a b (ix2 r s) = ∑ k : Fin 2048, a (ix2 r k) * b (ix3 (0 : Fin 1) s k) := by
  unfold k0_pay1
  have := Ideal.matmul_apply₁_of dot_S1024x2048_S512x2048_S1024x512_1_1_0_0_n_n (a := 1) rfl (K := 2048) rfl (shapeCast S1024x2048 a shapeCasts_S1024x2048_S1024x2048) (shapeCast S512x2048 b shapeCasts_S1x512x2048_S512x2048)
    (constant (F := Ideal) S1024x512 .f32 0x00000000#32) (ix2 r s) (fun k => ix2 r k) (fun k => ix2 s k)
    (fun k => by funext d; match d with | ⟨0, _⟩ => rfl | ⟨1, _⟩ => rfl)
    (fun k => by funext d; match d with | ⟨0, _⟩ => rfl | ⟨1, _⟩ => rfl)
  refine this.trans ?_
  rw [show (constant S1024x512 .f32 0x00000000#32 : FVec Ideal S1024x512 .f32) (ix2 r s) = 0 from Ideal.ofBits_zero_f32, zero_add]
  refine Finset.sum_congr rfl fun k _ => ?_
  congr 1
  · exact shapeCast_apply a shapeCasts_S1024x2048_S1024x2048 _ _ rfl
  · exact shapeCast_apply b shapeCasts_S1x512x2048_S512x2048 _ (ix3 (0 : Fin 1) s k) (by
      rw [Shape.rowMajor_val_three, Shape.rowMajor_val_two]; show ((0 : ℕ) * 512 + s.val) * 2048 + k.val = s.val * 2048 + k.val; omega)

set_option backward.proofsInPublic true in
/-- The place in its chip's rows of a place of the whole weight. -/
abbrev chip (i : Cert.Reference12Ideal.S2048x2048.Idx) : Cert.Reference12Ideal.S4x512x2048.Idx :=
  fun a => match a with
  | ⟨0, _⟩ => ⟨(i 0).val / 512, by have h : (i 0).val < 2048 := (i 0).isLt; show (i 0).val / 512 < 4; omega⟩
  | ⟨1, _⟩ => ⟨(i 0).val % 512, Nat.mod_lt _ (by decide)⟩
  | ⟨2, _⟩ => ⟨(i 1).val, (i 1).isLt⟩

/-- The reference's whole weight at a place is the chip's weight there. -/
theorem ref_weight (x1 : (⟨Cert.Reference12Ideal.S4x512x2048, .bf16⟩ : BufTy).Contents (Elt Ideal)) (i : Cert.Reference12Ideal.S2048x2048.Idx) :
    val_main_v0 (F := Ideal) x1 i = x1 (chip i) := by
  rw [val_main_v0_apply]
  have h0 : (i 0).val < 2048 := (i 0).isLt
  have h1 : (i 1).val < 2048 := (i 1).isLt
  refine congrArg x1 (funext fun a => Fin.ext ?_)
  match a with
  | ⟨0, _⟩ => show ((i 0).val * 2048 + (i 1).val) / 1048576 = (i 0).val / 512; omega
  | ⟨1, _⟩ => show ((i 0).val * 2048 + (i 1).val) / 2048 % 512 = (i 0).val % 512; omega
  | ⟨2, _⟩ => show ((i 0).val * 2048 + (i 1).val) % 2048 = (i 1).val; omega

variable (m : (ℓ : Loc nD τ sig) → Buf (Elt Ideal) ℓ) (c : Dev nD)

/-- The kernel's array is the reference's product. -/
theorem arr : (dats m 0 c).arrAt 2 cfg0.N = val_main_v2 (F := Ideal) (m ((c : Thread nD τ).loc main_arg1)) (m ((c : Thread nD τ).loc main_arg2)) := by
  refine (dats m 0 c).arrAt_eq_of_covers 2 _ (by decide +kernel) fun t hf y => ?_
  have ht : t.val < 8 := t.isLt
  blk_simp
  rw [after0_2]
  frame_out
  have hy : y = ix2 (y 0) (y 1) := by funext a; match a with | ⟨0, _⟩ => rfl | ⟨1, _⟩ => rfl
  rw [hy]
  refine (pay _ _ (y 0) (y 1)).trans ?_
  rw [val_main_v2_apply]
  refine Finset.sum_congr rfl fun k _ => ?_
  congr 1
  · blk_simp [iblk]
    refine congrArg (m ((c : Thread nD τ).loc main_arg2)) ?_
    blk_ext [ix_a t, ix_o t]
  · blk_simp [iblk]
    rw [ref_weight]
    refine congrArg (m ((c : Thread nD τ).loc main_arg1)) ?_
    blk_ext [ix_b t, ix_o t]

/-- From equal arguments the kernel and the reference end with equal results. -/
theorem ends_equal : Cert.algebraic_Kernel12Ideal_Reference12Ideal := by
  intro m g m' g' _ ha
  refine ⟨fun c => val_main_v2 (F := Ideal) (m ((c.tc : Thread nD τ).loc main_arg1)) (m ((c.tc : Thread nD τ).loc main_arg2)), ?_, ?_⟩
  · refine (θ_run Cert.Kernel12Ideal.defs _ _).mono (fun r h c => ?_) (Cert.Kernel12Ideal.Value.run_blocks m g)
    obtain ⟨h0, hr⟩ := h c
    exact ⟨h0.trans (arr m c), hr⟩
  · refine (θ_run Cert.Reference12Ideal.defs _ _).mono (fun r h c => ?_) (Cert.Reference12Ideal.Value.run m' g')
    obtain ⟨h0, hr⟩ := h c
    obtain ⟨a0, a1, a2⟩ := ha c
    refine ⟨h0.trans ?_, hr⟩
    rw [val_main_v2_eq, a1, a2]

/-- The reference ends with its arguments as launched, and it has no semaphore. -/
theorem reference_frame : Cert.quiescent_Reference12Ideal := by
  intro m ρ _
  exact (θ_run Cert.Reference12Ideal.defs _ _).mono (fun r h => ⟨fun c => (h c).2, sem_eq_zero_of_no_sems (by decide) r.2⟩)
    (Cert.Reference12Ideal.Value.run m ρ)

end Cert.Kernel12Ideal.Mm

end

end
-- ==== Proof.Mm13.lean ====
/- The gradient of the mixer's last product in the weight (`w_out`): what the kernel's blocks hold, against the reference's product. -/
module

public import proofs.«01_k».proof.Defs
public import proofs.«01_k».proof.Proof.MmSum
public import proofs.«01_k».proof.Proof.Gen.Kernel13Ideal.Value
public import proofs.«01_k».proof.Proof.Gen.Reference13Ideal.Run
public import proofs.«01_k».proof.Proof.Gen.Reference13Ideal.Read

@[expose] public section

set_option maxRecDepth 16384

noncomputable section

namespace Cert.Kernel13Ideal.Mm

open Idealize.ShloMosaic Idealize.ShloMosaic.TcCoe Idealize.SL.Sem Cert.Kernel13Ideal Cert.Kernel13Ideal.Gen Cert.Kernel13Ideal.Facts
open Cert.Reference13Ideal.Read

/-! Which block of its array each window holds at a grid point. -/

theorem ix_a : ∀ t : Fin cfg0.N, win0_0.index t = ![0, t.val / 2] := (by decide +kernel : ∀ t : Fin grid0.N, _)
theorem ix_b : ∀ t : Fin cfg0.N, win0_1.index t = ![0, t.val % 2] := (by decide +kernel : ∀ t : Fin grid0.N, _)
theorem ix_o : ∀ t : Fin cfg0.N, win0_2.index t = ![t.val / 2, 0, t.val % 2] := (by decide +kernel : ∀ t : Fin grid0.N, _)

/-- What a grid point computes: the sum over the contracted axis. -/
theorem pay (a : Vec Ideal S2048x512 .bf16) (b : Vec Ideal S2048x1024 .bf16) (r : Fin 512) (s : Fin 1024) :
    k0_pay1 a b (ix3 (0 : Fin 1) r s) = ∑ k : Fin 2048, a (ix2 k r) * b (ix2 k s) := by
  unfold k0_pay1
  have := Ideal.matmul_apply₁_of dot_S2048x512_S2048x1024_S512x1024_0_0_1_1_n_n (a := 0) rfl (K := 2048) rfl (shapeCast S2048x512 a shapeCasts_S2048x512_S2048x512) (shapeCast S2048x1024 b shapeCasts_S2048x1024_S2048x1024)
    (constant (F := Ideal) S512x1024 .f32 0x00000000#32) (ix2 r s) (fun k => ix2 k r) (fun k => ix2 k s)
    (fun k => by funext d; match d with | ⟨0, _⟩ => rfl | ⟨1, _⟩ => rfl)
    (fun k => by funext d; match d with | ⟨0, _⟩ => rfl | ⟨1, _⟩ => rfl)
  refine (shapeCast_apply _ shapeCasts_S512x1024_S1x512x1024 (ix3 (0 : Fin 1) r s) (ix2 r s) (by
    rw [Shape.rowMajor_val_two, Shape.rowMajor_val_three]; show r.val * 1024 + s.val = ((0 : ℕ) * 512 + r.val) * 1024 + s.val; omega)).trans ?_
  refine this.trans ?_
  rw [show (constant S512x1024 .f32 0x00000000#32 : FVec Ideal S512x1024 .f32) (ix2 r s) = 0 from Ideal.ofBits_zero_f32, zero_add]
  refine Finset.sum_congr rfl fun k _ => ?_
  congr 1
  · exact shapeCast_apply a shapeCasts_S2048x512_S2048x512 _ _ rfl
  · exact shapeCast_apply b shapeCasts_S2048x1024_S2048x1024 _ _ rfl

/-- Over the reals the reference's cast of its result is the identity. -/
theorem ref_cast (x0 x2 : (⟨Cert.Reference13Ideal.S2048x2048, .f32⟩ : BufTy).Contents (Elt Ideal)) (i : Cert.Reference13Ideal.S2048x2048.Idx) :
    val_main_v4 (F := Ideal) x0 x2 i = val_main_v3 (F := Ideal) x0 x2 i := rfl

variable (m : (ℓ : Loc nD τ sig) → Buf (Elt Ideal) ℓ) (c : Dev nD)

/-- The kernel's array is the reference's product. -/
theorem arr : (dats m 0 c).arrAt 2 cfg0.N = val_main_v5 (F := Ideal) (m ((c : Thread nD τ).loc main_arg0)) (m ((c : Thread nD τ).loc main_arg2)) := by
  refine (dats m 0 c).arrAt_eq_of_covers 2 _ (by decide +kernel) fun t hf y => ?_
  have ht : t.val < 8 := t.isLt
  blk_simp
  rw [after0_2]
  frame_out
  have h0 : (y 0).val = 0 := by have : (y 0).val < 1 := (y 0).isLt; omega
  have hy : y = ix3 (0 : Fin 1) (y 1) (y 2) := by funext a; match a with | ⟨0, _⟩ => exact Fin.ext h0 | ⟨1, _⟩ => rfl | ⟨2, _⟩ => rfl
  rw [hy]
  refine (pay _ _ (y 1) (y 2)).trans ?_
  rw [val_main_v5_apply, ref_cast, val_main_v3_apply, val_main_v2_apply]
  refine Finset.sum_congr rfl fun k _ => ?_
  refine (EReal.mul_comm _ _).trans ?_
  congr 1
  · blk_simp [iblk]
    refine congrArg (m ((c : Thread nD τ).loc main_arg2)) ?_
    blk_ext [ix_b t, ix_o t]
  · blk_simp [iblk]
    refine congrArg (m ((c : Thread nD τ).loc main_arg0)) ?_
    blk_ext [ix_a t, ix_o t]

/-- From equal arguments the kernel and the reference end with equal results. -/
theorem ends_equal : Cert.algebraic_Kernel13Ideal_Reference13Ideal := by
  intro m g m' g' _ ha
  refine ⟨fun c => val_main_v5 (F := Ideal) (m ((c.tc : Thread nD τ).loc main_arg0)) (m ((c.tc : Thread nD τ).loc main_arg2)), ?_, ?_⟩
  · refine (θ_run Cert.Kernel13Ideal.defs _ _).mono (fun r h c => ?_) (Cert.Kernel13Ideal.Value.run_blocks m g)
    obtain ⟨h0, hr⟩ := h c
    exact ⟨h0.trans (arr m c), hr⟩
  · refine (θ_run Cert.Reference13Ideal.defs _ _).mono (fun r h c => ?_) (Cert.Reference13Ideal.Value.run m' g')
    obtain ⟨h0, hr⟩ := h c
    obtain ⟨a0, a1, a2⟩ := ha c
    refine ⟨h0.trans ?_, hr⟩
    rw [val_main_v5_eq, a0, a2]

/-- The reference ends with its arguments as launched, and it has no semaphore. -/
theorem reference_frame : Cert.quiescent_Reference13Ideal := by
  intro m ρ _
  exact (θ_run Cert.Reference13Ideal.defs _ _).mono (fun r h => ⟨fun c => (h c).2, sem_eq_zero_of_no_sems (by decide) r.2⟩)
    (Cert.Reference13Ideal.Value.run m ρ)

end Cert.Kernel13Ideal.Mm

end

end
-- ==== Proof.Mm14.lean ====
/- A branch's product in the mixer (`w_out_branch`): what the kernel's blocks hold, against the reference's product. -/
module

public import proofs.«01_k».proof.Defs
public import proofs.«01_k».proof.Proof.MmSum
public import proofs.«01_k».proof.Proof.Gen.Kernel14Ideal.Value
public import proofs.«01_k».proof.Proof.Gen.Reference14Ideal.Run
public import proofs.«01_k».proof.Proof.Gen.Reference14Ideal.Read

@[expose] public section

set_option maxRecDepth 16384

noncomputable section

namespace Cert.Kernel14Ideal.Mm

open Idealize.ShloMosaic Idealize.ShloMosaic.TcCoe Idealize.SL.Sem Cert.Kernel14Ideal Cert.Kernel14Ideal.Gen Cert.Kernel14Ideal.Facts
open Cert.Reference14Ideal.Read

/-! Which block of its array each window holds at a grid point. -/

theorem ix_a : ∀ t : Fin cfg0.N, win0_0.index t = ![t.val / 4, 0] := (by decide +kernel : ∀ t : Fin grid0.N, _)
theorem ix_b : ∀ t : Fin cfg0.N, win0_1.index t = ![t.val % 4, 0, 0] := (by decide +kernel : ∀ t : Fin grid0.N, _)
theorem ix_o : ∀ t : Fin cfg0.N, win0_2.index t = ![t.val / 4, t.val % 4] := (by decide +kernel : ∀ t : Fin grid0.N, _)

/-- What a grid point computes: the sum over the contracted axis. -/
theorem pay (a : Vec Ideal S1024x1024 .bf16) (b : Vec Ideal S1x1024x512 .bf16) (r : Fin 1024) (s : Fin 512) :
    k0_pay1 a b (ix2 r s) = ∑ k : Fin 1024, a (ix2 r k) * b (ix3 (0 : Fin 1) k s) := by
  unfold k0_pay1
  have := Ideal.matmul_apply₁_of dot_S1024x1024_S1024x512_S1024x512_1_0_0_1_n_n (a := 1) rfl (K := 1024) rfl (shapeCast S1024x1024 a shapeCasts_S1024x1024_S1024x1024) (shapeCast S1024x512 b shapeCasts_S1x1024x512_S1024x512)
    (constant (F := Ideal) S1024x512 .f32 0x00000000#32) (ix2 r s) (fun k => ix2 r k) (fun k => ix2 k s)
    (fun k => by funext d; match d with | ⟨0, _⟩ => rfl | ⟨1, _⟩ => rfl)
    (fun k => by funext d; match d with | ⟨0, _⟩ => rfl | ⟨1, _⟩ => rfl)
  refine this.trans ?_
  rw [show (constant S1024x512 .f32 0x00000000#32 : FVec Ideal S1024x512 .f32) (ix2 r s) = 0 from Ideal.ofBits_zero_f32, zero_add]
  refine Finset.sum_congr rfl fun k _ => ?_
  congr 1
  · exact shapeCast_apply a shapeCasts_S1024x1024_S1024x1024 _ _ rfl
  · exact shapeCast_apply b shapeCasts_S1x1024x512_S1024x512 _ (ix3 (0 : Fin 1) k s) (by
      rw [Shape.rowMajor_val_three, Shape.rowMajor_val_two]; show ((0 : ℕ) * 1024 + k.val) * 512 + s.val = k.val * 512 + s.val; omega)

variable (m : (ℓ : Loc nD τ sig) → Buf (Elt Ideal) ℓ) (c : Dev nD)

/-- The kernel's array is the reference's product. -/
theorem arr : (dats m 0 c).arrAt 2 cfg0.N = val_main_v2 (F := Ideal) (m ((c : Thread nD τ).loc main_arg0)) (m ((c : Thread nD τ).loc main_arg1)) := by
  refine (dats m 0 c).arrAt_eq_of_covers 2 _ (by decide +kernel) fun t hf y => ?_
  have ht : t.val < 8 := t.isLt
  blk_simp
  rw [after0_2]
  frame_out
  have hy : y = ix2 (y 0) (y 1) := by funext a; match a with | ⟨0, _⟩ => rfl | ⟨1, _⟩ => rfl
  rw [hy]
  refine (pay _ _ (y 0) (y 1)).trans ?_
  rw [val_main_v2_apply]
  refine Finset.sum_congr rfl fun k _ => ?_
  congr 1
  · blk_simp [iblk]
    refine congrArg (m ((c : Thread nD τ).loc main_arg0)) ?_
    blk_ext [ix_a t, ix_o t]
  · blk_simp [iblk]
    rw [val_main_v1_apply, val_main_v0_apply]
    refine congrArg (m ((c : Thread nD τ).loc main_arg1)) ?_
    blk_ext [ix_b t, ix_o t]

/-- From equal arguments the kernel and the reference end with equal results. -/
theorem ends_equal : Cert.algebraic_Kernel14Ideal_Reference14Ideal := by
  intro m g m' g' _ ha
  refine ⟨fun c => val_main_v2 (F := Ideal) (m ((c.tc : Thread nD τ).loc main_arg0)) (m ((c.tc : Thread nD τ).loc main_arg1)), ?_, ?_⟩
  · refine (θ_run Cert.Kernel14Ideal.defs _ _).mono (fun r h c => ?_) (Cert.Kernel14Ideal.Value.run_blocks m g)
    obtain ⟨h0, hr⟩ := h c
    exact ⟨h0.trans (arr m c), hr⟩
  · refine (θ_run Cert.Reference14Ideal.defs _ _).mono (fun r h c => ?_) (Cert.Reference14Ideal.Value.run m' g')
    obtain ⟨h0, hr⟩ := h c
    obtain ⟨a0, a1⟩ := ha c
    refine ⟨h0.trans ?_, hr⟩
    rw [val_main_v2_eq, a0, a1]

/-- The reference ends with its arguments as launched, and it has no semaphore. -/
theorem reference_frame : Cert.quiescent_Reference14Ideal := by
  intro m ρ _
  exact (θ_run Cert.Reference14Ideal.defs _ _).mono (fun r h => ⟨fun c => (h c).2, sem_eq_zero_of_no_sems (by decide) r.2⟩)
    (Cert.Reference14Ideal.Value.run m ρ)

end Cert.Kernel14Ideal.Mm

end

end
-- ==== Proof.Mm15.lean ====
/- The gradient of a branch's product in the mixer in its left operand (`w_out_branch`): what the kernel's blocks hold, against the reference's product. -/
module

public import proofs.«01_k».proof.Defs
public import proofs.«01_k».proof.Proof.MmSum
public import proofs.«01_k».proof.Proof.Gen.Kernel15Ideal.Value
public import proofs.«01_k».proof.Proof.Gen.Reference15Ideal.Run
public import proofs.«01_k».proof.Proof.Gen.Reference15Ideal.Read

@[expose] public section

set_option maxRecDepth 16384

noncomputable section

namespace Cert.Kernel15Ideal.Mm

open Idealize.ShloMosaic Idealize.ShloMosaic.TcCoe Idealize.SL.Sem Cert.Kernel15Ideal Cert.Kernel15Ideal.Gen Cert.Kernel15Ideal.Facts
open Cert.Reference15Ideal.Read

/-! Which block of its array each window holds at a grid point. -/

theorem ix_a : ∀ t : Fin cfg0.N, win0_0.index t = ![t.val / 4, t.val % 4] := (by decide +kernel : ∀ t : Fin grid0.N, _)
theorem ix_b : ∀ t : Fin cfg0.N, win0_1.index t = ![t.val % 4, t.val / 4 % 1, 0] := (by decide +kernel : ∀ t : Fin grid0.N, _)
theorem ix_o : ∀ t : Fin cfg0.N, win0_2.index t = ![t.val / 4, t.val / 4 % 1] := (by decide +kernel : ∀ t : Fin grid0.N, _)

/-- What a grid point computes: the sum over its run of the contracted axis. -/
theorem pay (a : Vec Ideal S1024x512 .bf16) (b : Vec Ideal S1x1024x512 .bf16) (r : Fin 1024) (s : Fin 1024) :
    k0_pay1 a b (ix2 r s) = ∑ k : Fin 512, a (ix2 r k) * b (ix3 (0 : Fin 1) s k) := by
  unfold k0_pay1
  have := Ideal.matmul_apply₁_of dot_S1024x512_S1024x512_S1024x1024_1_1_0_0_n_n (a := 1) rfl (K := 512) rfl (shapeCast S1024x512 a shapeCasts_S1024x512_S1024x512) (shapeCast S1024x512 b shapeCasts_S1x1024x512_S1024x512)
    (constant (F := Ideal) S1024x1024 .f32 0x00000000#32) (ix2 r s) (fun k => ix2 r k) (fun k => ix2 s k)
    (fun k => by funext d; match d with | ⟨0, _⟩ => rfl | ⟨1, _⟩ => rfl)
    (fun k => by funext d; match d with | ⟨0, _⟩ => rfl | ⟨1, _⟩ => rfl)
  refine this.trans ?_
  rw [show (constant S1024x1024 .f32 0x00000000#32 : FVec Ideal S1024x1024 .f32) (ix2 r s) = 0 from Ideal.ofBits_zero_f32, zero_add]
  refine Finset.sum_congr rfl fun k _ => ?_
  congr 1
  · exact shapeCast_apply a shapeCasts_S1024x512_S1024x512 _ _ rfl
  · exact shapeCast_apply b shapeCasts_S1x1024x512_S1024x512 _ (ix3 (0 : Fin 1) s k) (by
      rw [Shape.rowMajor_val_three, Shape.rowMajor_val_two]; show ((0 : ℕ) * 1024 + s.val) * 512 + k.val = s.val * 512 + k.val; omega)

/-- The accumulator after a run's first point holds that point's part. -/
theorem pay_first (a : Vec Ideal S1024x512 .bf16) (b : Vec Ideal S1x1024x512 .bf16) (y : S1024x1024.Idx) :
    k0_pay2 a b y = 0 + k0_pay1 a b y := by
  rw [zero_add]
  exact shapeCast_apply (k0_pay1 a b) shapeCasts_S1024x1024_S1024x1024 y y rfl

/-- A later point adds its part to what the accumulator holds. -/
theorem pay_next (a : Vec Ideal S1024x512 .bf16) (b : Vec Ideal S1x1024x512 .bf16) (x : Vec Ideal S1024x1024 .f32) (y : S1024x1024.Idx) :
    k0_pay3 a b x y = x y + k0_pay1 a b y := by
  unfold k0_pay3
  exact (shapeCast_apply (addf x (k0_pay1 a b)) shapeCasts_S1024x1024_S1024x1024 y y rfl).trans rfl

variable (m : (ℓ : Loc nD τ sig) → Buf (Elt Ideal) ℓ) (c : Dev nD)

/-- At a run's last point the accumulator holds the parts' sum. -/
theorem acc (t : Fin cfg0.N) (ht : t.val % 4 = 3) (y : S1024x1024.Idx) :
    (outsAt0 m c t.val t.isLt).2 y = 0 + ∑ s : Fin 4, k0_pay1 (iblk m c 0 ⟨4 * (t.val / 4) + s.val, by have := t.isLt; omega⟩) (iblk m c 1 ⟨4 * (t.val / 4) + s.val, by have := t.isLt; omega⟩) y := by
  refine Pipeline.eq_sum_fin_of_reset_step_apply_of_flush (N := cfg0.N) (fun n h => (outsAt0 m c n h).2) 4 (fun _ => (0 : EReal)) (fun t => k0_pay1 (iblk m c 0 t) (iblk m c 1 t))
    (fun t h y => ?_) (fun t h y => ?_) t ht y
  · rw [outsAt0_A m c t h (by omega) (by omega)]
    frame_out
    exact pay_first _ _ y
  · by_cases h3 : t.val % 4 = 3
    · rw [outsAt0_C m c t h (by omega) h3]
      frame_out
      exact (pay_next _ _ _ y).trans (congrArg (· + _) (congrFun ((Memref.isWhole_whole cc0_scratch0).read_unread _) y))
    · rw [outsAt0_B m c t h (by omega) h3]
      frame_out
      exact (pay_next _ _ _ y).trans (congrArg (· + _) (congrFun ((Memref.isWhole_whole cc0_scratch0).read_unread _) y))

/-- What is written back at a run's last point is what the accumulator then holds. -/
theorem out_acc (t : Fin cfg0.N) (ht : t.val % 4 = 3) : (outsAt0 m c t.val t.isLt).1 = (outsAt0 m c t.val t.isLt).2 := by
  rw [outsAt0_C m c t (by omega) (by omega) ht]
  frame_out

/-- The kernel's array is the reference's product. -/
theorem arr : (dats m 0 c).arrAt 2 cfg0.N = val_main_v3 (F := Ideal) (m ((c : Thread nD τ).loc main_arg1)) (m ((c : Thread nD τ).loc main_arg2)) := by
  refine (dats m 0 c).arrAt_eq_of_covers 2 _ (by decide +kernel) fun t hf y => ?_
  have ht : t.val < 8 := t.isLt
  have hm : t.val % 4 = 3 := (flush0_2 t).mp hf
  blk_simp
  rw [after0_2, out_acc m c t hm, acc m c t hm, val_main_v3_apply, Cert.Mm.sum_runs 4 512]
  have hy : y = ix2 (y 0) (y 1) := by funext a; match a with | ⟨0, _⟩ => rfl | ⟨1, _⟩ => rfl
  rw [hy]
  refine (zero_add (M := EReal) _).trans (Finset.sum_congr rfl fun s _ => ?_)
  refine (pay _ _ (y 0) (y 1)).trans (Finset.sum_congr rfl fun k _ => ?_)
  congr 1
  · blk_simp [iblk]
    refine congrArg (m ((c : Thread nD τ).loc main_arg2)) ?_
    blk_ext [ix_a, ix_o t]
  · blk_simp [iblk]
    rw [val_main_v1_apply, val_main_v0_apply]
    refine congrArg (m ((c : Thread nD τ).loc main_arg1)) ?_
    blk_ext [ix_b, ix_o t]

/-- From equal arguments the kernel and the reference end with equal results. -/
theorem ends_equal : Cert.algebraic_Kernel15Ideal_Reference15Ideal := by
  intro m g m' g' _ ha
  refine ⟨fun c => val_main_v3 (F := Ideal) (m ((c.tc : Thread nD τ).loc main_arg1)) (m ((c.tc : Thread nD τ).loc main_arg2)), ?_, ?_⟩
  · refine (θ_run Cert.Kernel15Ideal.defs _ _).mono (fun r h c => ?_) (Cert.Kernel15Ideal.Value.run_blocks m g)
    obtain ⟨h0, hr⟩ := h c
    exact ⟨h0.trans (arr m c), hr⟩
  · refine (θ_run Cert.Reference15Ideal.defs _ _).mono (fun r h c => ?_) (Cert.Reference15Ideal.Value.run m' g')
    obtain ⟨h0, hr⟩ := h c
    obtain ⟨a0, a1, a2⟩ := ha c
    refine ⟨h0.trans ?_, hr⟩
    rw [val_main_v3_eq, a1, a2]

/-- The reference ends with its arguments as launched, and it has no semaphore. -/
theorem reference_frame : Cert.quiescent_Reference15Ideal := by
  intro m ρ _
  exact (θ_run Cert.Reference15Ideal.defs _ _).mono (fun r h => ⟨fun c => (h c).2, sem_eq_zero_of_no_sems (by decide) r.2⟩)
    (Cert.Reference15Ideal.Value.run m ρ)

end Cert.Kernel15Ideal.Mm

end

end
-- ==== Proof.Mm16.lean ====
/- The gradient of a branch's product in the mixer in the weight (`w_out_branch`): what the kernel's blocks hold, against the reference's product. -/
module

public import proofs.«01_k».proof.Defs
public import proofs.«01_k».proof.Proof.MmSum
public import proofs.«01_k».proof.Proof.Gen.Kernel16Ideal.Value
public import proofs.«01_k».proof.Proof.Gen.Reference16Ideal.Run
public import proofs.«01_k».proof.Proof.Gen.Reference16Ideal.Read

@[expose] public section

set_option maxRecDepth 16384

noncomputable section

namespace Cert.Kernel16Ideal.Mm

open Idealize.ShloMosaic Idealize.ShloMosaic.TcCoe Idealize.SL.Sem Cert.Kernel16Ideal Cert.Kernel16Ideal.Gen Cert.Kernel16Ideal.Facts
open Cert.Reference16Ideal.Read

/-! Which block of its array each window holds at a grid point. -/

theorem ix_a : ∀ t : Fin cfg0.N, win0_0.index t = ![0, t.val / 4] := (by decide +kernel : ∀ t : Fin grid0.N, _)
theorem ix_b : ∀ t : Fin cfg0.N, win0_1.index t = ![0, t.val % 4] := (by decide +kernel : ∀ t : Fin grid0.N, _)
theorem ix_o : ∀ t : Fin cfg0.N, win0_2.index t = ![t.val % 4, t.val / 4, 0] := (by decide +kernel : ∀ t : Fin grid0.N, _)

/-- What a grid point computes: the sum over the contracted axis. -/
theorem pay (a : Vec Ideal S2048x1024 .bf16) (b : Vec Ideal S2048x512 .bf16) (r : Fin 1024) (s : Fin 512) :
    k0_pay1 a b (ix3 (0 : Fin 1) r s) = ∑ k : Fin 2048, a (ix2 k r) * b (ix2 k s) := by
  unfold k0_pay1
  have := Ideal.matmul_apply₁_of dot_S2048x1024_S2048x512_S1024x512_0_0_1_1_n_n (a := 0) rfl (K := 2048) rfl (shapeCast S2048x1024 a shapeCasts_S2048x1024_S2048x1024) (shapeCast S2048x512 b shapeCasts_S2048x512_S2048x512)
    (constant (F := Ideal) S1024x512 .f32 0x00000000#32) (ix2 r s) (fun k => ix2 k r) (fun k => ix2 k s)
    (fun k => by funext d; match d with | ⟨0, _⟩ => rfl | ⟨1, _⟩ => rfl)
    (fun k => by funext d; match d with | ⟨0, _⟩ => rfl | ⟨1, _⟩ => rfl)
  refine (shapeCast_apply _ shapeCasts_S1024x512_S1x1024x512 (ix3 (0 : Fin 1) r s) (ix2 r s) (by
    rw [Shape.rowMajor_val_two, Shape.rowMajor_val_three]; show r.val * 512 + s.val = ((0 : ℕ) * 1024 + r.val) * 512 + s.val; omega)).trans ?_
  refine this.trans ?_
  rw [show (constant S1024x512 .f32 0x00000000#32 : FVec Ideal S1024x512 .f32) (ix2 r s) = 0 from Ideal.ofBits_zero_f32, zero_add]
  refine Finset.sum_congr rfl fun k _ => ?_
  congr 1
  · exact shapeCast_apply a shapeCasts_S2048x1024_S2048x1024 _ _ rfl
  · exact shapeCast_apply b shapeCasts_S2048x512_S2048x512 _ _ rfl

/-- Over the reals the reference's cast of its result is the identity. -/
theorem ref_cast (x0 : (⟨Cert.Reference16Ideal.S2048x1024, .f32⟩ : BufTy).Contents (Elt Ideal)) (x2 : (⟨Cert.Reference16Ideal.S2048x2048, .f32⟩ : BufTy).Contents (Elt Ideal)) (i : Cert.Reference16Ideal.S1024x2048.Idx) :
    val_main_v5 (F := Ideal) x0 x2 i = val_main_v4 (F := Ideal) x0 x2 i := rfl

variable (m : (ℓ : Loc nD τ sig) → Buf (Elt Ideal) ℓ) (c : Dev nD)

/-- The kernel's array is the reference's product. -/
theorem arr : (dats m 0 c).arrAt 2 cfg0.N = val_main_v7 (F := Ideal) (m ((c : Thread nD τ).loc main_arg0)) (m ((c : Thread nD τ).loc main_arg2)) := by
  refine (dats m 0 c).arrAt_eq_of_covers 2 _ (by decide +kernel) fun t hf y => ?_
  have ht : t.val < 4 := t.isLt
  blk_simp
  rw [after0_2]
  frame_out
  have h0 : (y 0).val = 0 := by have : (y 0).val < 1 := (y 0).isLt; omega
  have hy : y = ix3 (0 : Fin 1) (y 1) (y 2) := by funext a; match a with | ⟨0, _⟩ => exact Fin.ext h0 | ⟨1, _⟩ => rfl | ⟨2, _⟩ => rfl
  rw [hy]
  refine (pay _ _ (y 1) (y 2)).trans ?_
  rw [val_main_v7_apply, val_main_v6_apply, ref_cast, val_main_v4_apply, val_main_v3_apply]
  refine Finset.sum_congr rfl fun k _ => ?_
  refine (EReal.mul_comm _ _).trans ?_
  congr 1
  · blk_simp [iblk]
    refine congrArg (m ((c : Thread nD τ).loc main_arg2)) ?_
    blk_ext [ix_b t, ix_o t]
  · blk_simp [iblk]
    refine congrArg (m ((c : Thread nD τ).loc main_arg0)) ?_
    blk_ext [ix_a t, ix_o t]

/-- From equal arguments the kernel and the reference end with equal results. -/
theorem ends_equal : Cert.algebraic_Kernel16Ideal_Reference16Ideal := by
  intro m g m' g' _ ha
  refine ⟨fun c => val_main_v7 (F := Ideal) (m ((c.tc : Thread nD τ).loc main_arg0)) (m ((c.tc : Thread nD τ).loc main_arg2)), ?_, ?_⟩
  · refine (θ_run Cert.Kernel16Ideal.defs _ _).mono (fun r h c => ?_) (Cert.Kernel16Ideal.Value.run_blocks m g)
    obtain ⟨h0, hr⟩ := h c
    exact ⟨h0.trans (arr m c), hr⟩
  · refine (θ_run Cert.Reference16Ideal.defs _ _).mono (fun r h c => ?_) (Cert.Reference16Ideal.Value.run m' g')
    obtain ⟨h0, hr⟩ := h c
    obtain ⟨a0, a1, a2⟩ := ha c
    refine ⟨h0.trans ?_, hr⟩
    rw [val_main_v7_eq, a0, a2]

/-- The reference ends with its arguments as launched, and it has no semaphore. -/
theorem reference_frame : Cert.quiescent_Reference16Ideal := by
  intro m ρ _
  exact (θ_run Cert.Reference16Ideal.defs _ _).mono (fun r h => ⟨fun c => (h c).2, sem_eq_zero_of_no_sems (by decide) r.2⟩)
    (Cert.Reference16Ideal.Value.run m ρ)

end Cert.Kernel16Ideal.Mm

end

end
-- ==== Proof.Adam17.lean ====
/- The optimiser's step of `w_out_a`, `w_out_b` and `w_out_c`: what the kernel's blocks hold, against the reference's step. -/
module

public import proofs.«01_k».proof.Defs
public import proofs.«01_k».proof.Proof.MmSum
public import proofs.«01_k».proof.Proof.Gen.Kernel17Ideal.Value
public import proofs.«01_k».proof.Proof.Gen.Reference17Ideal.Run
public import proofs.«01_k».proof.Proof.Gen.Reference17Ideal.Read

@[expose] public section

set_option maxRecDepth 16384

noncomputable section

namespace Cert.Kernel17Ideal.Adam

open Idealize.ShloMosaic Idealize.ShloMosaic.TcCoe Idealize.SL.Sem Cert.Kernel17Ideal Cert.Kernel17Ideal.Gen Cert.Kernel17Ideal.Facts
open Cert.Reference17Ideal.Read

/-! Which block of its array each window holds at a grid point. -/

theorem ix_0 : ∀ t : Fin cfg0.N, win0_0.index t = ![if t.val / 1 = 0 then t.val % 1 else 0, 0] := (by decide +kernel : ∀ t : Fin grid0.N, _)
theorem ix_1 : ∀ t : Fin cfg0.N, win0_1.index t = ![if t.val / 1 = 1 then t.val % 1 else 0, 0] := (by decide +kernel : ∀ t : Fin grid0.N, _)
theorem ix_2 : ∀ t : Fin cfg0.N, win0_2.index t = ![if t.val / 1 = 2 then t.val % 1 else 0, 0] := (by decide +kernel : ∀ t : Fin grid0.N, _)
theorem ix_3 : ∀ t : Fin cfg0.N, win0_3.index t = ![if t.val / 1 = 3 then t.val % 1 else 0, 0] := (by decide +kernel : ∀ t : Fin grid0.N, _)
theorem ix_4 : ∀ t : Fin cfg0.N, win0_4.index t = ![t.val / 1, t.val % 1, 0] := (by decide +kernel : ∀ t : Fin grid0.N, _)
theorem ix_5 : ∀ t : Fin cfg0.N, win0_5.index t = ![t.val / 1, t.val % 1, 0] := (by decide +kernel : ∀ t : Fin grid0.N, _)
theorem ix_6 : ∀ t : Fin cfg0.N, win0_6.index t = ![t.val / 1, t.val % 1, 0] := (by decide +kernel : ∀ t : Fin grid0.N, _)
theorem ix_7 : ∀ t : Fin cfg0.N, win0_7.index t = ![t.val / 1, t.val % 1, 0] := (by decide +kernel : ∀ t : Fin grid0.N, _)
theorem ix_8 : ∀ t : Fin cfg0.N, win0_8.index t = ![t.val / 1, t.val % 1, 0] := (by decide +kernel : ∀ t : Fin grid0.N, _)
theorem ix_9 : ∀ t : Fin cfg0.N, win0_9.index t = ![t.val / 1, t.val % 1, 0] := (by decide +kernel : ∀ t : Fin grid0.N, _)
theorem ix_10 : ∀ t : Fin cfg0.N, win0_10.index t = ![t.val / 1, t.val % 1, 0] := (by decide +kernel : ∀ t : Fin grid0.N, _)
theorem co : ∀ t : Fin cfg0.N, ((cfg0.grid.coords t) 0).val = t.val / 1 := (by decide +kernel : ∀ t : Fin grid0.N, _)

variable (m : (ℓ : Loc nD τ sig) → Buf (Elt Ideal) ℓ) (c : Dev nD)

/-! The gradient of a layer, as the host cuts it out. -/

theorem cut_0 (j : S1024x512.Idx) (i : S4x1024x512.Idx) (h0 : (i 0).val = 0) (h1 : (i 1).val = (j 0).val) (h2 : (i 2).val = (j 1).val) :
    V m c main_v1 j = m ((c : Thread nD τ).loc main_arg0) i := by
  have h : V m c main_v1 = shapeCast S1024x512 (extractStridedSlice S1x1024x512 ![0, 0, 0] (m ((c : Thread nD τ).loc main_arg0)) slices_S4x1024x512_S1x1024x512_0_0_0) shapeCasts_S1x1024x512_S1024x512 := by
    funext j
    entry_read
    rfl
  rw [h]
  refine (shapeCast_apply _ _ _ (ix3 (0 : Fin 1) (j 0) (j 1)) (by
    rw [Shape.rowMajor_val_three, Shape.rowMajor_val_two]; show ((0 : ℕ) * 1024 + (j 0).val) * 512 + (j 1).val = (j 0).val * 512 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

theorem cut_1 (j : S1024x512.Idx) (i : S4x1024x512.Idx) (h0 : (i 0).val = 1) (h1 : (i 1).val = (j 0).val) (h2 : (i 2).val = (j 1).val) :
    V m c main_v3 j = m ((c : Thread nD τ).loc main_arg0) i := by
  have h : V m c main_v3 = shapeCast S1024x512 (extractStridedSlice S1x1024x512 ![1, 0, 0] (m ((c : Thread nD τ).loc main_arg0)) slices_S4x1024x512_S1x1024x512_1_0_0) shapeCasts_S1x1024x512_S1024x512 := by
    funext j
    entry_read
    rfl
  rw [h]
  refine (shapeCast_apply _ _ _ (ix3 (0 : Fin 1) (j 0) (j 1)) (by
    rw [Shape.rowMajor_val_three, Shape.rowMajor_val_two]; show ((0 : ℕ) * 1024 + (j 0).val) * 512 + (j 1).val = (j 0).val * 512 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

theorem cut_2 (j : S1024x512.Idx) (i : S4x1024x512.Idx) (h0 : (i 0).val = 2) (h1 : (i 1).val = (j 0).val) (h2 : (i 2).val = (j 1).val) :
    V m c main_v5 j = m ((c : Thread nD τ).loc main_arg0) i := by
  have h : V m c main_v5 = shapeCast S1024x512 (extractStridedSlice S1x1024x512 ![2, 0, 0] (m ((c : Thread nD τ).loc main_arg0)) slices_S4x1024x512_S1x1024x512_2_0_0) shapeCasts_S1x1024x512_S1024x512 := by
    funext j
    entry_read
    rfl
  rw [h]
  refine (shapeCast_apply _ _ _ (ix3 (0 : Fin 1) (j 0) (j 1)) (by
    rw [Shape.rowMajor_val_three, Shape.rowMajor_val_two]; show ((0 : ℕ) * 1024 + (j 0).val) * 512 + (j 1).val = (j 0).val * 512 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

theorem cut_3 (j : S1024x512.Idx) (i : S4x1024x512.Idx) (h0 : (i 0).val = 3) (h1 : (i 1).val = (j 0).val) (h2 : (i 2).val = (j 1).val) :
    V m c main_v7 j = m ((c : Thread nD τ).loc main_arg0) i := by
  have h : V m c main_v7 = shapeCast S1024x512 (extractStridedSlice S1x1024x512 ![3, 0, 0] (m ((c : Thread nD τ).loc main_arg0)) slices_S4x1024x512_S1x1024x512_3_0_0) shapeCasts_S1x1024x512_S1024x512 := by
    funext j
    entry_read
    rfl
  rw [h]
  refine (shapeCast_apply _ _ _ (ix3 (0 : Fin 1) (j 0) (j 1)) (by
    rw [Shape.rowMajor_val_three, Shape.rowMajor_val_two]; show ((0 : ℕ) * 1024 + (j 0).val) * 512 + (j 1).val = (j 0).val * 512 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

/-- The gradient that a grid point takes is the gradient's element of its layer. -/
theorem grad (t : Fin cfg0.N) (r : Fin 1024) (s : Fin 512) (i : S4x1024x512.Idx) (h0 : (i 0).val = t.val / 1)
    (h1 : (i 1).val = t.val % 1 * 1024 + r.val) (h2 : (i 2).val = s.val) :
    k0_pay5 (grid0.coords t) (iblk m c 0 t) (iblk m c 1 t) (iblk m c 2 t) (iblk m c 3 t) (ix2 r s) =
      m ((c : Thread nD τ).loc main_arg0) i := by
  have ht : t.val < 4 := t.isLt
  have h : t.val / 1 = 0 ∨ t.val / 1 = 1 ∨ t.val / 1 = 2 ∨ t.val / 1 = 3 := by omega
  unfold k0_pay5
  dsimp only
  rw [co t]
  rcases h with h | h | h | h
  · rw [h, show Scalar.cmpi .eq (BitVec.ofNat 32 0) 1#32 = 0#1 from by decide, show Scalar.cmpi .eq (BitVec.ofNat 32 0) 2#32 = 0#1 from by decide, show Scalar.cmpi .eq (BitVec.ofNat 32 0) 3#32 = 0#1 from by decide]
    refine (shapeCast_apply (iblk m c 0 t) _ _ (ix2 r s) rfl).trans ?_
    blk_simp [iblk]
    refine cut_0 m c _ i (h0.trans h) (h1.trans ?_) (h2.trans ?_)
    · blk_simp [ix_0 t, h]
      rw [if_pos trivial]
    · blk_simp [ix_0 t, h]
  · rw [h, show Scalar.cmpi .eq (BitVec.ofNat 32 1) 1#32 = 1#1 from by decide, show Scalar.cmpi .eq (BitVec.ofNat 32 1) 2#32 = 0#1 from by decide, show Scalar.cmpi .eq (BitVec.ofNat 32 1) 3#32 = 0#1 from by decide]
    refine (shapeCast_apply (iblk m c 1 t) _ _ (ix2 r s) rfl).trans ?_
    blk_simp [iblk]
    refine cut_1 m c _ i (h0.trans h) (h1.trans ?_) (h2.trans ?_)
    · blk_simp [ix_1 t, h]
      rw [if_pos trivial]
    · blk_simp [ix_1 t, h]
  · rw [h, show Scalar.cmpi .eq (BitVec.ofNat 32 2) 1#32 = 0#1 from by decide, show Scalar.cmpi .eq (BitVec.ofNat 32 2) 2#32 = 1#1 from by decide, show Scalar.cmpi .eq (BitVec.ofNat 32 2) 3#32 = 0#1 from by decide]
    refine (shapeCast_apply (iblk m c 2 t) _ _ (ix2 r s) rfl).trans ?_
    blk_simp [iblk]
    refine cut_2 m c _ i (h0.trans h) (h1.trans ?_) (h2.trans ?_)
    · blk_simp [ix_2 t, h]
      rw [if_pos trivial]
    · blk_simp [ix_2 t, h]
  · rw [h, show Scalar.cmpi .eq (BitVec.ofNat 32 3) 1#32 = 0#1 from by decide, show Scalar.cmpi .eq (BitVec.ofNat 32 3) 2#32 = 0#1 from by decide, show Scalar.cmpi .eq (BitVec.ofNat 32 3) 3#32 = 1#1 from by decide]
    refine (shapeCast_apply (iblk m c 3 t) _ _ (ix2 r s) rfl).trans ?_
    blk_simp [iblk]
    refine cut_3 m c _ i (h0.trans h) (h1.trans ?_) (h2.trans ?_)
    · blk_simp [ix_3 t, h]
      rw [if_pos trivial]
    · blk_simp [ix_3 t, h]

/-- The kernel's first array is the gradient. -/
theorem arr0 : (dats m 0 c).arrAt 7 cfg0.N = (m ((c : Thread nD τ).loc main_arg0)) := by
  refine (dats m 0 c).arrAt_eq_of_covers 7 _ (by decide +kernel) fun t hf y => ?_
  have ht : t.val < 4 := t.isLt
  blk_simp
  rw [after0_7]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay1]
  rw [grad m c t (y 1) (y 2) (((View.whole main_v8_0).slice (win0_7.rect t)).emb (ix3 (0 : Fin 1) (y 1) (y 2))) (by blk_simp [ix_7 t]; rfl) (by blk_simp [ix_7 t]) (by blk_simp [ix_7 t])]

/-- The kernel's second array is the reference's update. -/
theorem arr1 : (dats m 0 c).arrAt 8 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have ht : t.val < 4 := t.isLt
  blk_simp
  rw [after0_8]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay2, k0_pay8, k0_pay9, k0_pay6, k0_pay7]
  rw [grad m c t (y 1) (y 2) (((View.whole main_v8_1).slice (win0_8.rect t)).emb (ix3 (0 : Fin 1) (y 1) (y 2))) (by blk_simp [ix_8 t]; rfl) (by blk_simp [ix_8 t]) (by blk_simp [ix_8 t])]
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, ix_4 t, ix_5 t, ix_6 t, ix_8 t]

/-- The kernel's third array is the reference's first moment. -/
theorem arr2 : (dats m 0 c).arrAt 9 cfg0.N = val_main_v4 (F := Ideal) (m ((c : Thread nD τ).loc main_arg0)) (m ((c : Thread nD τ).loc main_arg2)) := by
  refine (dats m 0 c).arrAt_eq_of_covers 9 _ (by decide +kernel) fun t hf y => ?_
  have ht : t.val < 4 := t.isLt
  blk_simp
  rw [after0_9]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay3, k0_pay6]
  rw [grad m c t (y 1) (y 2) (((View.whole main_v8_2).slice (win0_9.rect t)).emb (ix3 (0 : Fin 1) (y 1) (y 2))) (by blk_simp [ix_9 t]; rfl) (by blk_simp [ix_9 t]) (by blk_simp [ix_9 t])]
  pointwise [val_main_v4, val_main_v3, val_main_v2, val_main_cst_0, val_main_v1, val_main_v0, val_main_cst]
  blk_point [iblk, ix_4 t, ix_5 t, ix_6 t, ix_9 t]

/-- The kernel's fourth array is the reference's second moment. -/
theorem arr3 : (dats m 0 c).arrAt 10 cfg0.N = val_main_v10 (F := Ideal) (m ((c : Thread nD τ).loc main_arg0)) (m ((c : Thread nD τ).loc main_arg3)) := by
  refine (dats m 0 c).arrAt_eq_of_covers 10 _ (by decide +kernel) fun t hf y => ?_
  have ht : t.val < 4 := t.isLt
  blk_simp
  rw [after0_10]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay4, k0_pay7]
  rw [grad m c t (y 1) (y 2) (((View.whole main_v8_3).slice (win0_10.rect t)).emb (ix3 (0 : Fin 1) (y 1) (y 2))) (by blk_simp [ix_10 t]; rfl) (by blk_simp [ix_10 t]) (by blk_simp [ix_10 t])]
  pointwise [val_main_v10, val_main_v9, val_main_v8, val_main_cst_2, val_main_v7, val_main_v6, val_main_v5, val_main_cst_1, val_main_v4, val_main_v3, val_main_v2, val_main_cst_0, val_main_v1, val_main_v0, val_main_cst]
  blk_point [iblk, ix_4 t, ix_5 t, ix_6 t, ix_10 t]

/-- From equal arguments the kernel and the reference end with equal results. -/
theorem ends_equal : Cert.algebraic_Kernel17Ideal_Reference17Ideal := by
  intro m g m' g' _ ha
  refine ⟨fun c => m ((c.tc : Thread nD τ).loc main_arg0), fun c => val_main_v23 (F := Ideal) (m ((c.tc : Thread nD τ).loc main_arg0)) (m ((c.tc : Thread nD τ).loc main_arg1)) (m ((c.tc : Thread nD τ).loc main_arg2)) (m ((c.tc : Thread nD τ).loc main_arg3)), fun c => val_main_v4 (F := Ideal) (m ((c.tc : Thread nD τ).loc main_arg0)) (m ((c.tc : Thread nD τ).loc main_arg2)), fun c => val_main_v10 (F := Ideal) (m ((c.tc : Thread nD τ).loc main_arg0)) (m ((c.tc : Thread nD τ).loc main_arg3)), ?_, ?_⟩
  · refine (θ_run Cert.Kernel17Ideal.defs _ _).mono (fun r h c => ?_) (Cert.Kernel17Ideal.Value.run_blocks m g)
    obtain ⟨h0, h1, h2, h3, hr⟩ := h c
    exact ⟨h0.trans (arr0 m c), h1.trans (arr1 m c), h2.trans (arr2 m c), h3.trans (arr3 m c), hr⟩
  · refine (θ_run Cert.Reference17Ideal.defs _ _).mono (fun r h c => ?_) (Cert.Reference17Ideal.Value.run m' g')
    obtain ⟨h0, h1, h2, h3, hr⟩ := h c
    obtain ⟨a0, a1, a2, a3⟩ := ha c
    refine ⟨h0.trans a0, h1.trans ?_, h2.trans ?_, h3.trans ?_, hr⟩
    · rw [val_main_v23_eq, a0, a1, a2, a3]
    · rw [val_main_v4_eq, a0, a2]
    · rw [val_main_v10_eq, a0, a3]

/-- The reference ends with its arguments as launched, and it has no semaphore. -/
theorem reference_frame : Cert.quiescent_Reference17Ideal := by
  intro m ρ _
  exact (θ_run Cert.Reference17Ideal.defs _ _).mono (fun r h => ⟨fun c => (h c).2.2.2.2, sem_eq_zero_of_no_sems (by decide) r.2⟩)
    (Cert.Reference17Ideal.Value.run m ρ)

end Cert.Kernel17Ideal.Adam

end

end
-- ==== Proof.Adam18.lean ====
/- The optimiser's step of `w_out`: what the kernel's blocks hold, against the reference's step. -/
module

public import proofs.«01_k».proof.Defs
public import proofs.«01_k».proof.Proof.MmSum
public import proofs.«01_k».proof.Proof.Gen.Kernel18Ideal.Value
public import proofs.«01_k».proof.Proof.Gen.Reference18Ideal.Run
public import proofs.«01_k».proof.Proof.Gen.Reference18Ideal.Read

@[expose] public section

set_option maxRecDepth 16384

noncomputable section

namespace Cert.Kernel18Ideal.Adam

open Idealize.ShloMosaic Idealize.ShloMosaic.TcCoe Idealize.SL.Sem Cert.Kernel18Ideal Cert.Kernel18Ideal.Gen Cert.Kernel18Ideal.Facts
open Cert.Reference18Ideal.Read

/-! Which block of its array each window holds at a grid point. -/

theorem ix_0 : ∀ t : Fin cfg0.N, win0_0.index t = ![if t.val / 2 = 0 then t.val % 2 else 0, 0] := (by decide +kernel : ∀ t : Fin grid0.N, _)
theorem ix_1 : ∀ t : Fin cfg0.N, win0_1.index t = ![if t.val / 2 = 1 then t.val % 2 else 0, 0] := (by decide +kernel : ∀ t : Fin grid0.N, _)
theorem ix_2 : ∀ t : Fin cfg0.N, win0_2.index t = ![if t.val / 2 = 2 then t.val % 2 else 0, 0] := (by decide +kernel : ∀ t : Fin grid0.N, _)
theorem ix_3 : ∀ t : Fin cfg0.N, win0_3.index t = ![if t.val / 2 = 3 then t.val % 2 else 0, 0] := (by decide +kernel : ∀ t : Fin grid0.N, _)
theorem ix_4 : ∀ t : Fin cfg0.N, win0_4.index t = ![t.val / 2, t.val % 2, 0] := (by decide +kernel : ∀ t : Fin grid0.N, _)
theorem ix_5 : ∀ t : Fin cfg0.N, win0_5.index t = ![t.val / 2, t.val % 2, 0] := (by decide +kernel : ∀ t : Fin grid0.N, _)
theorem ix_6 : ∀ t : Fin cfg0.N, win0_6.index t = ![t.val / 2, t.val % 2, 0] := (by decide +kernel : ∀ t : Fin grid0.N, _)
theorem ix_7 : ∀ t : Fin cfg0.N, win0_7.index t = ![t.val / 2, t.val % 2, 0] := (by decide +kernel : ∀ t : Fin grid0.N, _)
theorem ix_8 : ∀ t : Fin cfg0.N, win0_8.index t = ![t.val / 2, t.val % 2, 0] := (by decide +kernel : ∀ t : Fin grid0.N, _)
theorem ix_9 : ∀ t : Fin cfg0.N, win0_9.index t = ![t.val / 2, t.val % 2, 0] := (by decide +kernel : ∀ t : Fin grid0.N, _)
theorem ix_10 : ∀ t : Fin cfg0.N, win0_10.index t = ![t.val / 2, t.val % 2, 0] := (by decide +kernel : ∀ t : Fin grid0.N, _)
theorem co : ∀ t : Fin cfg0.N, ((cfg0.grid.coords t) 0).val = t.val / 2 := (by decide +kernel : ∀ t : Fin grid0.N, _)

variable (m : (ℓ : Loc nD τ sig) → Buf (Elt Ideal) ℓ) (c : Dev nD)

/-! The gradient of a layer, as the host cuts it out. -/

theorem cut_0 (j : S512x2048.Idx) (i : S4x512x2048.Idx) (h0 : (i 0).val = 0) (h1 : (i 1).val = (j 0).val) (h2 : (i 2).val = (j 1).val) :
    V m c main_v1 j = m ((c : Thread nD τ).loc main_arg0) i := by
  have h : V m c main_v1 = shapeCast S512x2048 (extractStridedSlice S1x512x2048 ![0, 0, 0] (m ((c : Thread nD τ).loc main_arg0)) slices_S4x512x2048_S1x512x2048_0_0_0) shapeCasts_S1x512x2048_S512x2048 := by
    funext j
    entry_read
    rfl
  rw [h]
  refine (shapeCast_apply _ _ _ (ix3 (0 : Fin 1) (j 0) (j 1)) (by
    rw [Shape.rowMajor_val_three, Shape.rowMajor_val_two]; show ((0 : ℕ) * 512 + (j 0).val) * 2048 + (j 1).val = (j 0).val * 2048 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

theorem cut_1 (j : S512x2048.Idx) (i : S4x512x2048.Idx) (h0 : (i 0).val = 1) (h1 : (i 1).val = (j 0).val) (h2 : (i 2).val = (j 1).val) :
    V m c main_v3 j = m ((c : Thread nD τ).loc main_arg0) i := by
  have h : V m c main_v3 = shapeCast S512x2048 (extractStridedSlice S1x512x2048 ![1, 0, 0] (m ((c : Thread nD τ).loc main_arg0)) slices_S4x512x2048_S1x512x2048_1_0_0) shapeCasts_S1x512x2048_S512x2048 := by
    funext j
    entry_read
    rfl
  rw [h]
  refine (shapeCast_apply _ _ _ (ix3 (0 : Fin 1) (j 0) (j 1)) (by
    rw [Shape.rowMajor_val_three, Shape.rowMajor_val_two]; show ((0 : ℕ) * 512 + (j 0).val) * 2048 + (j 1).val = (j 0).val * 2048 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

theorem cut_2 (j : S512x2048.Idx) (i : S4x512x2048.Idx) (h0 : (i 0).val = 2) (h1 : (i 1).val = (j 0).val) (h2 : (i 2).val = (j 1).val) :
    V m c main_v5 j = m ((c : Thread nD τ).loc main_arg0) i := by
  have h : V m c main_v5 = shapeCast S512x2048 (extractStridedSlice S1x512x2048 ![2, 0, 0] (m ((c : Thread nD τ).loc main_arg0)) slices_S4x512x2048_S1x512x2048_2_0_0) shapeCasts_S1x512x2048_S512x2048 := by
    funext j
    entry_read
    rfl
  rw [h]
  refine (shapeCast_apply _ _ _ (ix3 (0 : Fin 1) (j 0) (j 1)) (by
    rw [Shape.rowMajor_val_three, Shape.rowMajor_val_two]; show ((0 : ℕ) * 512 + (j 0).val) * 2048 + (j 1).val = (j 0).val * 2048 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

theorem cut_3 (j : S512x2048.Idx) (i : S4x512x2048.Idx) (h0 : (i 0).val = 3) (h1 : (i 1).val = (j 0).val) (h2 : (i 2).val = (j 1).val) :
    V m c main_v7 j = m ((c : Thread nD τ).loc main_arg0) i := by
  have h : V m c main_v7 = shapeCast S512x2048 (extractStridedSlice S1x512x2048 ![3, 0, 0] (m ((c : Thread nD τ).loc main_arg0)) slices_S4x512x2048_S1x512x2048_3_0_0) shapeCasts_S1x512x2048_S512x2048 := by
    funext j
    entry_read
    rfl
  rw [h]
  refine (shapeCast_apply _ _ _ (ix3 (0 : Fin 1) (j 0) (j 1)) (by
    rw [Shape.rowMajor_val_three, Shape.rowMajor_val_two]; show ((0 : ℕ) * 512 + (j 0).val) * 2048 + (j 1).val = (j 0).val * 2048 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

/-- The gradient that a grid point takes is the gradient's element of its layer. -/
theorem grad (t : Fin cfg0.N) (r : Fin 256) (s : Fin 2048) (i : S4x512x2048.Idx) (h0 : (i 0).val = t.val / 2)
    (h1 : (i 1).val = t.val % 2 * 256 + r.val) (h2 : (i 2).val = s.val) :
    k0_pay5 (grid0.coords t) (iblk m c 0 t) (iblk m c 1 t) (iblk m c 2 t) (iblk m c 3 t) (ix2 r s) =
      m ((c : Thread nD τ).loc main_arg0) i := by
  have ht : t.val < 8 := t.isLt
  have h : t.val / 2 = 0 ∨ t.val / 2 = 1 ∨ t.val / 2 = 2 ∨ t.val / 2 = 3 := by omega
  unfold k0_pay5
  dsimp only
  rw [co t]
  rcases h with h | h | h | h
  · rw [h, show Scalar.cmpi .eq (BitVec.ofNat 32 0) 1#32 = 0#1 from by decide, show Scalar.cmpi .eq (BitVec.ofNat 32 0) 2#32 = 0#1 from by decide, show Scalar.cmpi .eq (BitVec.ofNat 32 0) 3#32 = 0#1 from by decide]
    refine (shapeCast_apply (iblk m c 0 t) _ _ (ix2 r s) rfl).trans ?_
    blk_simp [iblk]
    refine cut_0 m c _ i (h0.trans h) (h1.trans ?_) (h2.trans ?_)
    · blk_simp [ix_0 t, h]
      rw [if_pos trivial]
    · blk_simp [ix_0 t, h]
  · rw [h, show Scalar.cmpi .eq (BitVec.ofNat 32 1) 1#32 = 1#1 from by decide, show Scalar.cmpi .eq (BitVec.ofNat 32 1) 2#32 = 0#1 from by decide, show Scalar.cmpi .eq (BitVec.ofNat 32 1) 3#32 = 0#1 from by decide]
    refine (shapeCast_apply (iblk m c 1 t) _ _ (ix2 r s) rfl).trans ?_
    blk_simp [iblk]
    refine cut_1 m c _ i (h0.trans h) (h1.trans ?_) (h2.trans ?_)
    · blk_simp [ix_1 t, h]
      rw [if_pos trivial]
    · blk_simp [ix_1 t, h]
  · rw [h, show Scalar.cmpi .eq (BitVec.ofNat 32 2) 1#32 = 0#1 from by decide, show Scalar.cmpi .eq (BitVec.ofNat 32 2) 2#32 = 1#1 from by decide, show Scalar.cmpi .eq (BitVec.ofNat 32 2) 3#32 = 0#1 from by decide]
    refine (shapeCast_apply (iblk m c 2 t) _ _ (ix2 r s) rfl).trans ?_
    blk_simp [iblk]
    refine cut_2 m c _ i (h0.trans h) (h1.trans ?_) (h2.trans ?_)
    · blk_simp [ix_2 t, h]
      rw [if_pos trivial]
    · blk_simp [ix_2 t, h]
  · rw [h, show Scalar.cmpi .eq (BitVec.ofNat 32 3) 1#32 = 0#1 from by decide, show Scalar.cmpi .eq (BitVec.ofNat 32 3) 2#32 = 0#1 from by decide, show Scalar.cmpi .eq (BitVec.ofNat 32 3) 3#32 = 1#1 from by decide]
    refine (shapeCast_apply (iblk m c 3 t) _ _ (ix2 r s) rfl).trans ?_
    blk_simp [iblk]
    refine cut_3 m c _ i (h0.trans h) (h1.trans ?_) (h2.trans ?_)
    · blk_simp [ix_3 t, h]
      rw [if_pos trivial]
    · blk_simp [ix_3 t, h]

/-- The kernel's first array is the gradient. -/
theorem arr0 : (dats m 0 c).arrAt 7 cfg0.N = (m ((c : Thread nD τ).loc main_arg0)) := by
  refine (dats m 0 c).arrAt_eq_of_covers 7 _ (by decide +kernel) fun t hf y => ?_
  have ht : t.val < 8 := t.isLt
  blk_simp
  rw [after0_7]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay1]
  rw [grad m c t (y 1) (y 2) (((View.whole main_v8_0).slice (win0_7.rect t)).emb (ix3 (0 : Fin 1) (y 1) (y 2))) (by blk_simp [ix_7 t]; rfl) (by blk_simp [ix_7 t]) (by blk_simp [ix_7 t])]

/-- The kernel's second array is the reference's update. -/
theorem arr1 : (dats m 0 c).arrAt 8 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have ht : t.val < 8 := t.isLt
  blk_simp
  rw [after0_8]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay2, k0_pay8, k0_pay9, k0_pay6, k0_pay7]
  rw [grad m c t (y 1) (y 2) (((View.whole main_v8_1).slice (win0_8.rect t)).emb (ix3 (0 : Fin 1) (y 1) (y 2))) (by blk_simp [ix_8 t]; rfl) (by blk_simp [ix_8 t]) (by blk_simp [ix_8 t])]
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, ix_4 t, ix_5 t, ix_6 t, ix_8 t]

/-- The kernel's third array is the reference's first moment. -/
theorem arr2 : (dats m 0 c).arrAt 9 cfg0.N = val_main_v4 (F := Ideal) (m ((c : Thread nD τ).loc main_arg0)) (m ((c : Thread nD τ).loc main_arg2)) := by
  refine (dats m 0 c).arrAt_eq_of_covers 9 _ (by decide +kernel) fun t hf y => ?_
  have ht : t.val < 8 := t.isLt
  blk_simp
  rw [after0_9]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay3, k0_pay6]
  rw [grad m c t (y 1) (y 2) (((View.whole main_v8_2).slice (win0_9.rect t)).emb (ix3 (0 : Fin 1) (y 1) (y 2))) (by blk_simp [ix_9 t]; rfl) (by blk_simp [ix_9 t]) (by blk_simp [ix_9 t])]
  pointwise [val_main_v4, val_main_v3, val_main_v2, val_main_cst_0, val_main_v1, val_main_v0, val_main_cst]
  blk_point [iblk, ix_4 t, ix_5 t, ix_6 t, ix_9 t]

/-- The kernel's fourth array is the reference's second moment. -/
theorem arr3 : (dats m 0 c).arrAt 10 cfg0.N = val_main_v10 (F := Ideal) (m ((c : Thread nD τ).loc main_arg0)) (m ((c : Thread nD τ).loc main_arg3)) := by
  refine (dats m 0 c).arrAt_eq_of_covers 10 _ (by decide +kernel) fun t hf y => ?_
  have ht : t.val < 8 := t.isLt
  blk_simp
  rw [after0_10]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay4, k0_pay7]
  rw [grad m c t (y 1) (y 2) (((View.whole main_v8_3).slice (win0_10.rect t)).emb (ix3 (0 : Fin 1) (y 1) (y 2))) (by blk_simp [ix_10 t]; rfl) (by blk_simp [ix_10 t]) (by blk_simp [ix_10 t])]
  pointwise [val_main_v10, val_main_v9, val_main_v8, val_main_cst_2, val_main_v7, val_main_v6, val_main_v5, val_main_cst_1, val_main_v4, val_main_v3, val_main_v2, val_main_cst_0, val_main_v1, val_main_v0, val_main_cst]
  blk_point [iblk, ix_4 t, ix_5 t, ix_6 t, ix_10 t]

/-- From equal arguments the kernel and the reference end with equal results. -/
theorem ends_equal : Cert.algebraic_Kernel18Ideal_Reference18Ideal := by
  intro m g m' g' _ ha
  refine ⟨fun c => m ((c.tc : Thread nD τ).loc main_arg0), fun c => val_main_v23 (F := Ideal) (m ((c.tc : Thread nD τ).loc main_arg0)) (m ((c.tc : Thread nD τ).loc main_arg1)) (m ((c.tc : Thread nD τ).loc main_arg2)) (m ((c.tc : Thread nD τ).loc main_arg3)), fun c => val_main_v4 (F := Ideal) (m ((c.tc : Thread nD τ).loc main_arg0)) (m ((c.tc : Thread nD τ).loc main_arg2)), fun c => val_main_v10 (F := Ideal) (m ((c.tc : Thread nD τ).loc main_arg0)) (m ((c.tc : Thread nD τ).loc main_arg3)), ?_, ?_⟩
  · refine (θ_run Cert.Kernel18Ideal.defs _ _).mono (fun r h c => ?_) (Cert.Kernel18Ideal.Value.run_blocks m g)
    obtain ⟨h0, h1, h2, h3, hr⟩ := h c
    exact ⟨h0.trans (arr0 m c), h1.trans (arr1 m c), h2.trans (arr2 m c), h3.trans (arr3 m c), hr⟩
  · refine (θ_run Cert.Reference18Ideal.defs _ _).mono (fun r h c => ?_) (Cert.Reference18Ideal.Value.run m' g')
    obtain ⟨h0, h1, h2, h3, hr⟩ := h c
    obtain ⟨a0, a1, a2, a3⟩ := ha c
    refine ⟨h0.trans a0, h1.trans ?_, h2.trans ?_, h3.trans ?_, hr⟩
    · rw [val_main_v23_eq, a0, a1, a2, a3]
    · rw [val_main_v4_eq, a0, a2]
    · rw [val_main_v10_eq, a0, a3]

/-- The reference ends with its arguments as launched, and it has no semaphore. -/
theorem reference_frame : Cert.quiescent_Reference18Ideal := by
  intro m ρ _
  exact (θ_run Cert.Reference18Ideal.defs _ _).mono (fun r h => ⟨fun c => (h c).2.2.2.2, sem_eq_zero_of_no_sems (by decide) r.2⟩)
    (Cert.Reference18Ideal.Value.run m ρ)

end Cert.Kernel18Ideal.Adam

end

end
-- ==== Proof.Adam19.lean ====
/- The optimiser's step of `w_ff1` and `w_ff2`: what the kernel's blocks hold, against the reference's step. -/
module

public import proofs.«01_k».proof.Defs
public import proofs.«01_k».proof.Proof.MmSum
public import proofs.«01_k».proof.Proof.Gen.Kernel19Ideal.Value
public import proofs.«01_k».proof.Proof.Gen.Reference19Ideal.Run
public import proofs.«01_k».proof.Proof.Gen.Reference19Ideal.Read

@[expose] public section

set_option maxRecDepth 16384

noncomputable section

namespace Cert.Kernel19Ideal.Adam

open Idealize.ShloMosaic Idealize.ShloMosaic.TcCoe Idealize.SL.Sem Cert.Kernel19Ideal Cert.Kernel19Ideal.Gen Cert.Kernel19Ideal.Facts
open Cert.Reference19Ideal.Read

/-! Which block of its array each window holds at a grid point. -/

theorem ix_0 : ∀ t : Fin cfg0.N, win0_0.index t = ![if t.val / 8 = 0 then t.val % 8 else 0, 0] := (by decide +kernel : ∀ t : Fin grid0.N, _)
theorem ix_1 : ∀ t : Fin cfg0.N, win0_1.index t = ![if t.val / 8 = 1 then t.val % 8 else 0, 0] := (by decide +kernel : ∀ t : Fin grid0.N, _)
theorem ix_2 : ∀ t : Fin cfg0.N, win0_2.index t = ![if t.val / 8 = 2 then t.val % 8 else 0, 0] := (by decide +kernel : ∀ t : Fin grid0.N, _)
theorem ix_3 : ∀ t : Fin cfg0.N, win0_3.index t = ![if t.val / 8 = 3 then t.val % 8 else 0, 0] := (by decide +kernel : ∀ t : Fin grid0.N, _)
theorem ix_4 : ∀ t : Fin cfg0.N, win0_4.index t = ![t.val / 8, t.val % 8, 0] := (by decide +kernel : ∀ t : Fin grid0.N, _)
theorem ix_5 : ∀ t : Fin cfg0.N, win0_5.index t = ![t.val / 8, t.val % 8, 0] := (by decide +kernel : ∀ t : Fin grid0.N, _)
theorem ix_6 : ∀ t : Fin cfg0.N, win0_6.index t = ![t.val / 8, t.val % 8, 0] := (by decide +kernel : ∀ t : Fin grid0.N, _)
theorem ix_7 : ∀ t : Fin cfg0.N, win0_7.index t = ![t.val / 8, t.val % 8, 0] := (by decide +kernel : ∀ t : Fin grid0.N, _)
theorem ix_8 : ∀ t : Fin cfg0.N, win0_8.index t = ![t.val / 8, t.val % 8, 0] := (by decide +kernel : ∀ t : Fin grid0.N, _)
theorem ix_9 : ∀ t : Fin cfg0.N, win0_9.index t = ![t.val / 8, t.val % 8, 0] := (by decide +kernel : ∀ t : Fin grid0.N, _)
theorem ix_10 : ∀ t : Fin cfg0.N, win0_10.index t = ![t.val / 8, t.val % 8, 0] := (by decide +kernel : ∀ t : Fin grid0.N, _)
theorem co : ∀ t : Fin cfg0.N, ((cfg0.grid.coords t) 0).val = t.val / 8 := (by decide +kernel : ∀ t : Fin grid0.N, _)

variable (m : (ℓ : Loc nD τ sig) → Buf (Elt Ideal) ℓ) (c : Dev nD)

/-! The gradient of a layer, as the host cuts it out. -/

theorem cut_0 (j : S2048x2048.Idx) (i : S4x2048x2048.Idx) (h0 : (i 0).val = 0) (h1 : (i 1).val = (j 0).val) (h2 : (i 2).val = (j 1).val) :
    V m c main_v1 j = m ((c : Thread nD τ).loc main_arg0) i := by
  have h : V m c main_v1 = shapeCast S2048x2048 (extractStridedSlice S1x2048x2048 ![0, 0, 0] (m ((c : Thread nD τ).loc main_arg0)) slices_S4x2048x2048_S1x2048x2048_0_0_0) shapeCasts_S1x2048x2048_S2048x2048 := by
    funext j
    entry_read
    rfl
  rw [h]
  refine (shapeCast_apply _ _ _ (ix3 (0 : Fin 1) (j 0) (j 1)) (by
    rw [Shape.rowMajor_val_three, Shape.rowMajor_val_two]; show ((0 : ℕ) * 2048 + (j 0).val) * 2048 + (j 1).val = (j 0).val * 2048 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

theorem cut_1 (j : S2048x2048.Idx) (i : S4x2048x2048.Idx) (h0 : (i 0).val = 1) (h1 : (i 1).val = (j 0).val) (h2 : (i 2).val = (j 1).val) :
    V m c main_v3 j = m ((c : Thread nD τ).loc main_arg0) i := by
  have h : V m c main_v3 = shapeCast S2048x2048 (extractStridedSlice S1x2048x2048 ![1, 0, 0] (m ((c : Thread nD τ).loc main_arg0)) slices_S4x2048x2048_S1x2048x2048_1_0_0) shapeCasts_S1x2048x2048_S2048x2048 := by
    funext j
    entry_read
    rfl
  rw [h]
  refine (shapeCast_apply _ _ _ (ix3 (0 : Fin 1) (j 0) (j 1)) (by
    rw [Shape.rowMajor_val_three, Shape.rowMajor_val_two]; show ((0 : ℕ) * 2048 + (j 0).val) * 2048 + (j 1).val = (j 0).val * 2048 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

theorem cut_2 (j : S2048x2048.Idx) (i : S4x2048x2048.Idx) (h0 : (i 0).val = 2) (h1 : (i 1).val = (j 0).val) (h2 : (i 2).val = (j 1).val) :
    V m c main_v5 j = m ((c : Thread nD τ).loc main_arg0) i := by
  have h : V m c main_v5 = shapeCast S2048x2048 (extractStridedSlice S1x2048x2048 ![2, 0, 0] (m ((c : Thread nD τ).loc main_arg0)) slices_S4x2048x2048_S1x2048x2048_2_0_0) shapeCasts_S1x2048x2048_S2048x2048 := by
    funext j
    entry_read
    rfl
  rw [h]
  refine (shapeCast_apply _ _ _ (ix3 (0 : Fin 1) (j 0) (j 1)) (by
    rw [Shape.rowMajor_val_three, Shape.rowMajor_val_two]; show ((0 : ℕ) * 2048 + (j 0).val) * 2048 + (j 1).val = (j 0).val * 2048 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

theorem cut_3 (j : S2048x2048.Idx) (i : S4x2048x2048.Idx) (h0 : (i 0).val = 3) (h1 : (i 1).val = (j 0).val) (h2 : (i 2).val = (j 1).val) :
    V m c main_v7 j = m ((c : Thread nD τ).loc main_arg0) i := by
  have h : V m c main_v7 = shapeCast S2048x2048 (extractStridedSlice S1x2048x2048 ![3, 0, 0] (m ((c : Thread nD τ).loc main_arg0)) slices_S4x2048x2048_S1x2048x2048_3_0_0) shapeCasts_S1x2048x2048_S2048x2048 := by
    funext j
    entry_read
    rfl
  rw [h]
  refine (shapeCast_apply _ _ _ (ix3 (0 : Fin 1) (j 0) (j 1)) (by
    rw [Shape.rowMajor_val_three, Shape.rowMajor_val_two]; show ((0 : ℕ) * 2048 + (j 0).val) * 2048 + (j 1).val = (j 0).val * 2048 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

/-- The gradient that a grid point takes is the gradient's element of its layer. -/
theorem grad (t : Fin cfg0.N) (r : Fin 256) (s : Fin 2048) (i : S4x2048x2048.Idx) (h0 : (i 0).val = t.val / 8)
    (h1 : (i 1).val = t.val % 8 * 256 + r.val) (h2 : (i 2).val = s.val) :
    k0_pay5 (grid0.coords t) (iblk m c 0 t) (iblk m c 1 t) (iblk m c 2 t) (iblk m c 3 t) (ix2 r s) =
      m ((c : Thread nD τ).loc main_arg0) i := by
  have ht : t.val < 32 := t.isLt
  have h : t.val / 8 = 0 ∨ t.val / 8 = 1 ∨ t.val / 8 = 2 ∨ t.val / 8 = 3 := by omega
  unfold k0_pay5
  dsimp only
  rw [co t]
  rcases h with h | h | h | h
  · rw [h, show Scalar.cmpi .eq (BitVec.ofNat 32 0) 1#32 = 0#1 from by decide, show Scalar.cmpi .eq (BitVec.ofNat 32 0) 2#32 = 0#1 from by decide, show Scalar.cmpi .eq (BitVec.ofNat 32 0) 3#32 = 0#1 from by decide]
    refine (shapeCast_apply (iblk m c 0 t) _ _ (ix2 r s) rfl).trans ?_
    blk_simp [iblk]
    refine cut_0 m c _ i (h0.trans h) (h1.trans ?_) (h2.trans ?_)
    · blk_simp [ix_0 t, h]
      rw [if_pos trivial]
    · blk_simp [ix_0 t, h]
  · rw [h, show Scalar.cmpi .eq (BitVec.ofNat 32 1) 1#32 = 1#1 from by decide, show Scalar.cmpi .eq (BitVec.ofNat 32 1) 2#32 = 0#1 from by decide, show Scalar.cmpi .eq (BitVec.ofNat 32 1) 3#32 = 0#1 from by decide]
    refine (shapeCast_apply (iblk m c 1 t) _ _ (ix2 r s) rfl).trans ?_
    blk_simp [iblk]
    refine cut_1 m c _ i (h0.trans h) (h1.trans ?_) (h2.trans ?_)
    · blk_simp [ix_1 t, h]
      rw [if_pos trivial]
    · blk_simp [ix_1 t, h]
  · rw [h, show Scalar.cmpi .eq (BitVec.ofNat 32 2) 1#32 = 0#1 from by decide, show Scalar.cmpi .eq (BitVec.ofNat 32 2) 2#32 = 1#1 from by decide, show Scalar.cmpi .eq (BitVec.ofNat 32 2) 3#32 = 0#1 from by decide]
    refine (shapeCast_apply (iblk m c 2 t) _ _ (ix2 r s) rfl).trans ?_
    blk_simp [iblk]
    refine cut_2 m c _ i (h0.trans h) (h1.trans ?_) (h2.trans ?_)
    · blk_simp [ix_2 t, h]
      rw [if_pos trivial]
    · blk_simp [ix_2 t, h]
  · rw [h, show Scalar.cmpi .eq (BitVec.ofNat 32 3) 1#32 = 0#1 from by decide, show Scalar.cmpi .eq (BitVec.ofNat 32 3) 2#32 = 0#1 from by decide, show Scalar.cmpi .eq (BitVec.ofNat 32 3) 3#32 = 1#1 from by decide]
    refine (shapeCast_apply (iblk m c 3 t) _ _ (ix2 r s) rfl).trans ?_
    blk_simp [iblk]
    refine cut_3 m c _ i (h0.trans h) (h1.trans ?_) (h2.trans ?_)
    · blk_simp [ix_3 t, h]
      rw [if_pos trivial]
    · blk_simp [ix_3 t, h]

/-- The kernel's first array is the gradient. -/
theorem arr0 : (dats m 0 c).arrAt 7 cfg0.N = (m ((c : Thread nD τ).loc main_arg0)) := by
  refine (dats m 0 c).arrAt_eq_of_covers 7 _ (by decide +kernel) fun t hf y => ?_
  have ht : t.val < 32 := t.isLt
  blk_simp
  rw [after0_7]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay1]
  rw [grad m c t (y 1) (y 2) (((View.whole main_v8_0).slice (win0_7.rect t)).emb (ix3 (0 : Fin 1) (y 1) (y 2))) (by blk_simp [ix_7 t]; rfl) (by blk_simp [ix_7 t]) (by blk_simp [ix_7 t])]

/-- The kernel's second array is the reference's update. -/
theorem arr1 : (dats m 0 c).arrAt 8 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have ht : t.val < 32 := t.isLt
  blk_simp
  rw [after0_8]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay2, k0_pay8, k0_pay9, k0_pay6, k0_pay7]
  rw [grad m c t (y 1) (y 2) (((View.whole main_v8_1).slice (win0_8.rect t)).emb (ix3 (0 : Fin 1) (y 1) (y 2))) (by blk_simp [ix_8 t]; rfl) (by blk_simp [ix_8 t]) (by blk_simp [ix_8 t])]
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, ix_4 t, ix_5 t, ix_6 t, ix_8 t]

/-- The kernel's third array is the reference's first moment. -/
theorem arr2 : (dats m 0 c).arrAt 9 cfg0.N = val_main_v4 (F := Ideal) (m ((c : Thread nD τ).loc main_arg0)) (m ((c : Thread nD τ).loc main_arg2)) := by
  refine (dats m 0 c).arrAt_eq_of_covers 9 _ (by decide +kernel) fun t hf y => ?_
  have ht : t.val < 32 := t.isLt
  blk_simp
  rw [after0_9]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay3, k0_pay6]
  rw [grad m c t (y 1) (y 2) (((View.whole main_v8_2).slice (win0_9.rect t)).emb (ix3 (0 : Fin 1) (y 1) (y 2))) (by blk_simp [ix_9 t]; rfl) (by blk_simp [ix_9 t]) (by blk_simp [ix_9 t])]
  pointwise [val_main_v4, val_main_v3, val_main_v2, val_main_cst_0, val_main_v1, val_main_v0, val_main_cst]
  blk_point [iblk, ix_4 t, ix_5 t, ix_6 t, ix_9 t]

/-- The kernel's fourth array is the reference's second moment. -/
theorem arr3 : (dats m 0 c).arrAt 10 cfg0.N = val_main_v10 (F := Ideal) (m ((c : Thread nD τ).loc main_arg0)) (m ((c : Thread nD τ).loc main_arg3)) := by
  refine (dats m 0 c).arrAt_eq_of_covers 10 _ (by decide +kernel) fun t hf y => ?_
  have ht : t.val < 32 := t.isLt
  blk_simp
  rw [after0_10]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay4, k0_pay7]
  rw [grad m c t (y 1) (y 2) (((View.whole main_v8_3).slice (win0_10.rect t)).emb (ix3 (0 : Fin 1) (y 1) (y 2))) (by blk_simp [ix_10 t]; rfl) (by blk_simp [ix_10 t]) (by blk_simp [ix_10 t])]
  pointwise [val_main_v10, val_main_v9, val_main_v8, val_main_cst_2, val_main_v7, val_main_v6, val_main_v5, val_main_cst_1, val_main_v4, val_main_v3, val_main_v2, val_main_cst_0, val_main_v1, val_main_v0, val_main_cst]
  blk_point [iblk, ix_4 t, ix_5 t, ix_6 t, ix_10 t]

/-- From equal arguments the kernel and the reference end with equal results. -/
theorem ends_equal : Cert.algebraic_Kernel19Ideal_Reference19Ideal := by
  intro m g m' g' _ ha
  refine ⟨fun c => m ((c.tc : Thread nD τ).loc main_arg0), fun c => val_main_v23 (F := Ideal) (m ((c.tc : Thread nD τ).loc main_arg0)) (m ((c.tc : Thread nD τ).loc main_arg1)) (m ((c.tc : Thread nD τ).loc main_arg2)) (m ((c.tc : Thread nD τ).loc main_arg3)), fun c => val_main_v4 (F := Ideal) (m ((c.tc : Thread nD τ).loc main_arg0)) (m ((c.tc : Thread nD τ).loc main_arg2)), fun c => val_main_v10 (F := Ideal) (m ((c.tc : Thread nD τ).loc main_arg0)) (m ((c.tc : Thread nD τ).loc main_arg3)), ?_, ?_⟩
  · refine (θ_run Cert.Kernel19Ideal.defs _ _).mono (fun r h c => ?_) (Cert.Kernel19Ideal.Value.run_blocks m g)
    obtain ⟨h0, h1, h2, h3, hr⟩ := h c
    exact ⟨h0.trans (arr0 m c), h1.trans (arr1 m c), h2.trans (arr2 m c), h3.trans (arr3 m c), hr⟩
  · refine (θ_run Cert.Reference19Ideal.defs _ _).mono (fun r h c => ?_) (Cert.Reference19Ideal.Value.run m' g')
    obtain ⟨h0, h1, h2, h3, hr⟩ := h c
    obtain ⟨a0, a1, a2, a3⟩ := ha c
    refine ⟨h0.trans a0, h1.trans ?_, h2.trans ?_, h3.trans ?_, hr⟩
    · rw [val_main_v23_eq, a0, a1, a2, a3]
    · rw [val_main_v4_eq, a0, a2]
    · rw [val_main_v10_eq, a0, a3]

/-- The reference ends with its arguments as launched, and it has no semaphore. -/
theorem reference_frame : Cert.quiescent_Reference19Ideal := by
  intro m ρ _
  exact (θ_run Cert.Reference19Ideal.defs _ _).mono (fun r h => ⟨fun c => (h c).2.2.2.2, sem_eq_zero_of_no_sems (by decide) r.2⟩)
    (Cert.Reference19Ideal.Value.run m ρ)

end Cert.Kernel19Ideal.Adam

end

end
-- ==== Proof.Adam20.lean ====
/- The optimiser's step of `conv_w`: what the kernel's blocks hold, against the reference's step. -/
module

public import proofs.«01_k».proof.Defs
public import proofs.«01_k».proof.Proof.MmSum
public import proofs.«01_k».proof.Proof.Gen.Kernel20Ideal.Value
public import proofs.«01_k».proof.Proof.Gen.Reference20Ideal.Run
public import proofs.«01_k».proof.Proof.Gen.Reference20Ideal.Read

@[expose] public section

set_option maxRecDepth 16384

noncomputable section

namespace Cert.Kernel20Ideal.Adam

open Idealize.ShloMosaic Idealize.ShloMosaic.TcCoe Idealize.SL.Sem Cert.Kernel20Ideal Cert.Kernel20Ideal.Gen Cert.Kernel20Ideal.Facts
open Cert.Reference20Ideal.Read

/-! Which block of its array each window holds at a grid point. -/

theorem ix_0 : ∀ t : Fin cfg0.N, win0_0.index t = ![if t.val / 1 = 0 then t.val % 1 else 0, 0] := (by decide +kernel : ∀ t : Fin grid0.N, _)
theorem ix_1 : ∀ t : Fin cfg0.N, win0_1.index t = ![if t.val / 1 = 1 then t.val % 1 else 0, 0] := (by decide +kernel : ∀ t : Fin grid0.N, _)
theorem ix_2 : ∀ t : Fin cfg0.N, win0_2.index t = ![if t.val / 1 = 2 then t.val % 1 else 0, 0] := (by decide +kernel : ∀ t : Fin grid0.N, _)
theorem ix_3 : ∀ t : Fin cfg0.N, win0_3.index t = ![if t.val / 1 = 3 then t.val % 1 else 0, 0] := (by decide +kernel : ∀ t : Fin grid0.N, _)
theorem ix_4 : ∀ t : Fin cfg0.N, win0_4.index t = ![t.val / 1, t.val % 1, 0] := (by decide +kernel : ∀ t : Fin grid0.N, _)
theorem ix_5 : ∀ t : Fin cfg0.N, win0_5.index t = ![t.val / 1, t.val % 1, 0] := (by decide +kernel : ∀ t : Fin grid0.N, _)
theorem ix_6 : ∀ t : Fin cfg0.N, win0_6.index t = ![t.val / 1, t.val % 1, 0] := (by decide +kernel : ∀ t : Fin grid0.N, _)
theorem ix_7 : ∀ t : Fin cfg0.N, win0_7.index t = ![t.val / 1, t.val % 1, 0] := (by decide +kernel : ∀ t : Fin grid0.N, _)
theorem ix_8 : ∀ t : Fin cfg0.N, win0_8.index t = ![t.val / 1, t.val % 1, 0] := (by decide +kernel : ∀ t : Fin grid0.N, _)
theorem ix_9 : ∀ t : Fin cfg0.N, win0_9.index t = ![t.val / 1, t.val % 1, 0] := (by decide +kernel : ∀ t : Fin grid0.N, _)
theorem ix_10 : ∀ t : Fin cfg0.N, win0_10.index t = ![t.val / 1, t.val % 1, 0] := (by decide +kernel : ∀ t : Fin grid0.N, _)
theorem co : ∀ t : Fin cfg0.N, ((cfg0.grid.coords t) 0).val = t.val / 1 := (by decide +kernel : ∀ t : Fin grid0.N, _)

variable (m : (ℓ : Loc nD τ sig) → Buf (Elt Ideal) ℓ) (c : Dev nD)

/-! The gradient of a layer, as the host cuts it out. -/

theorem cut_0 (j : S4x768.Idx) (i : S4x4x768.Idx) (h0 : (i 0).val = 0) (h1 : (i 1).val = (j 0).val) (h2 : (i 2).val = (j 1).val) :
    V m c main_v1 j = m ((c : Thread nD τ).loc main_arg0) i := by
  have h : V m c main_v1 = shapeCast S4x768 (extractStridedSlice S1x4x768 ![0, 0, 0] (m ((c : Thread nD τ).loc main_arg0)) slices_S4x4x768_S1x4x768_0_0_0) shapeCasts_S1x4x768_S4x768 := by
    funext j
    entry_read
    rfl
  rw [h]
  refine (shapeCast_apply _ _ _ (ix3 (0 : Fin 1) (j 0) (j 1)) (by
    rw [Shape.rowMajor_val_three, Shape.rowMajor_val_two]; show ((0 : ℕ) * 4 + (j 0).val) * 768 + (j 1).val = (j 0).val * 768 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

theorem cut_1 (j : S4x768.Idx) (i : S4x4x768.Idx) (h0 : (i 0).val = 1) (h1 : (i 1).val = (j 0).val) (h2 : (i 2).val = (j 1).val) :
    V m c main_v3 j = m ((c : Thread nD τ).loc main_arg0) i := by
  have h : V m c main_v3 = shapeCast S4x768 (extractStridedSlice S1x4x768 ![1, 0, 0] (m ((c : Thread nD τ).loc main_arg0)) slices_S4x4x768_S1x4x768_1_0_0) shapeCasts_S1x4x768_S4x768 := by
    funext j
    entry_read
    rfl
  rw [h]
  refine (shapeCast_apply _ _ _ (ix3 (0 : Fin 1) (j 0) (j 1)) (by
    rw [Shape.rowMajor_val_three, Shape.rowMajor_val_two]; show ((0 : ℕ) * 4 + (j 0).val) * 768 + (j 1).val = (j 0).val * 768 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

theorem cut_2 (j : S4x768.Idx) (i : S4x4x768.Idx) (h0 : (i 0).val = 2) (h1 : (i 1).val = (j 0).val) (h2 : (i 2).val = (j 1).val) :
    V m c main_v5 j = m ((c : Thread nD τ).loc main_arg0) i := by
  have h : V m c main_v5 = shapeCast S4x768 (extractStridedSlice S1x4x768 ![2, 0, 0] (m ((c : Thread nD τ).loc main_arg0)) slices_S4x4x768_S1x4x768_2_0_0) shapeCasts_S1x4x768_S4x768 := by
    funext j
    entry_read
    rfl
  rw [h]
  refine (shapeCast_apply _ _ _ (ix3 (0 : Fin 1) (j 0) (j 1)) (by
    rw [Shape.rowMajor_val_three, Shape.rowMajor_val_two]; show ((0 : ℕ) * 4 + (j 0).val) * 768 + (j 1).val = (j 0).val * 768 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

theorem cut_3 (j : S4x768.Idx) (i : S4x4x768.Idx) (h0 : (i 0).val = 3) (h1 : (i 1).val = (j 0).val) (h2 : (i 2).val = (j 1).val) :
    V m c main_v7 j = m ((c : Thread nD τ).loc main_arg0) i := by
  have h : V m c main_v7 = shapeCast S4x768 (extractStridedSlice S1x4x768 ![3, 0, 0] (m ((c : Thread nD τ).loc main_arg0)) slices_S4x4x768_S1x4x768_3_0_0) shapeCasts_S1x4x768_S4x768 := by
    funext j
    entry_read
    rfl
  rw [h]
  refine (shapeCast_apply _ _ _ (ix3 (0 : Fin 1) (j 0) (j 1)) (by
    rw [Shape.rowMajor_val_three, Shape.rowMajor_val_two]; show ((0 : ℕ) * 4 + (j 0).val) * 768 + (j 1).val = (j 0).val * 768 + (j 1).val; omega)).trans ?_
  refine congrArg (m ((c : Thread nD τ).loc main_arg0)) ?_
  funext a
  match a with
  | ⟨0, _⟩ => exact Fin.ext h0.symm
  | ⟨1, _⟩ => exact Fin.ext ((Nat.zero_add _).trans h1.symm)
  | ⟨2, _⟩ => exact Fin.ext ((Nat.zero_add _).trans h2.symm)

/-- The gradient that a grid point takes is the gradient's element of its layer. -/
theorem grad (t : Fin cfg0.N) (r : Fin 4) (s : Fin 768) (i : S4x4x768.Idx) (h0 : (i 0).val = t.val / 1)
    (h1 : (i 1).val = t.val % 1 * 4 + r.val) (h2 : (i 2).val = s.val) :
    k0_pay5 (grid0.coords t) (iblk m c 0 t) (iblk m c 1 t) (iblk m c 2 t) (iblk m c 3 t) (ix2 r s) =
      m ((c : Thread nD τ).loc main_arg0) i := by
  have ht : t.val < 4 := t.isLt
  have h : t.val / 1 = 0 ∨ t.val / 1 = 1 ∨ t.val / 1 = 2 ∨ t.val / 1 = 3 := by omega
  unfold k0_pay5
  dsimp only
  rw [co t]
  rcases h with h | h | h | h
  · rw [h, show Scalar.cmpi .eq (BitVec.ofNat 32 0) 1#32 = 0#1 from by decide, show Scalar.cmpi .eq (BitVec.ofNat 32 0) 2#32 = 0#1 from by decide, show Scalar.cmpi .eq (BitVec.ofNat 32 0) 3#32 = 0#1 from by decide]
    refine (shapeCast_apply (iblk m c 0 t) _ _ (ix2 r s) rfl).trans ?_
    blk_simp [iblk]
    refine cut_0 m c _ i (h0.trans h) (h1.trans ?_) (h2.trans ?_)
    · blk_simp [ix_0 t, h]
      rw [if_pos trivial]
    · blk_simp [ix_0 t, h]
  · rw [h, show Scalar.cmpi .eq (BitVec.ofNat 32 1) 1#32 = 1#1 from by decide, show Scalar.cmpi .eq (BitVec.ofNat 32 1) 2#32 = 0#1 from by decide, show Scalar.cmpi .eq (BitVec.ofNat 32 1) 3#32 = 0#1 from by decide]
    refine (shapeCast_apply (iblk m c 1 t) _ _ (ix2 r s) rfl).trans ?_
    blk_simp [iblk]
    refine cut_1 m c _ i (h0.trans h) (h1.trans ?_) (h2.trans ?_)
    · blk_simp [ix_1 t, h]
      rw [if_pos trivial]
    · blk_simp [ix_1 t, h]
  · rw [h, show Scalar.cmpi .eq (BitVec.ofNat 32 2) 1#32 = 0#1 from by decide, show Scalar.cmpi .eq (BitVec.ofNat 32 2) 2#32 = 1#1 from by decide, show Scalar.cmpi .eq (BitVec.ofNat 32 2) 3#32 = 0#1 from by decide]
    refine (shapeCast_apply (iblk m c 2 t) _ _ (ix2 r s) rfl).trans ?_
    blk_simp [iblk]
    refine cut_2 m c _ i (h0.trans h) (h1.trans ?_) (h2.trans ?_)
    · blk_simp [ix_2 t, h]
      rw [if_pos trivial]
    · blk_simp [ix_2 t, h]
  · rw [h, show Scalar.cmpi .eq (BitVec.ofNat 32 3) 1#32 = 0#1 from by decide, show Scalar.cmpi .eq (BitVec.ofNat 32 3) 2#32 = 0#1 from by decide, show Scalar.cmpi .eq (BitVec.ofNat 32 3) 3#32 = 1#1 from by decide]
    refine (shapeCast_apply (iblk m c 3 t) _ _ (ix2 r s) rfl).trans ?_
    blk_simp [iblk]
    refine cut_3 m c _ i (h0.trans h) (h1.trans ?_) (h2.trans ?_)
    · blk_simp [ix_3 t, h]
      rw [if_pos trivial]
    · blk_simp [ix_3 t, h]

/-- The kernel's first array is the gradient. -/
theorem arr0 : (dats m 0 c).arrAt 7 cfg0.N = (m ((c : Thread nD τ).loc main_arg0)) := by
  refine (dats m 0 c).arrAt_eq_of_covers 7 _ (by decide +kernel) fun t hf y => ?_
  have ht : t.val < 4 := t.isLt
  blk_simp
  rw [after0_7]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay1]
  rw [grad m c t (y 1) (y 2) (((View.whole main_v8_0).slice (win0_7.rect t)).emb (ix3 (0 : Fin 1) (y 1) (y 2))) (by blk_simp [ix_7 t]; rfl) (by blk_simp [ix_7 t]) (by blk_simp [ix_7 t])]

/-- The kernel's second array is the reference's update. -/
theorem arr1 : (dats m 0 c).arrAt 8 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have ht : t.val < 4 := t.isLt
  blk_simp
  rw [after0_8]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay2, k0_pay8, k0_pay9, k0_pay6, k0_pay7]
  rw [grad m c t (y 1) (y 2) (((View.whole main_v8_1).slice (win0_8.rect t)).emb (ix3 (0 : Fin 1) (y 1) (y 2))) (by blk_simp [ix_8 t]; rfl) (by blk_simp [ix_8 t]) (by blk_simp [ix_8 t])]
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  blk_point [iblk, ix_4 t, ix_5 t, ix_6 t, ix_8 t]

/-- The kernel's third array is the reference's first moment. -/
theorem arr2 : (dats m 0 c).arrAt 9 cfg0.N = val_main_v4 (F := Ideal) (m ((c : Thread nD τ).loc main_arg0)) (m ((c : Thread nD τ).loc main_arg2)) := by
  refine (dats m 0 c).arrAt_eq_of_covers 9 _ (by decide +kernel) fun t hf y => ?_
  have ht : t.val < 4 := t.isLt
  blk_simp
  rw [after0_9]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay3, k0_pay6]
  rw [grad m c t (y 1) (y 2) (((View.whole main_v8_2).slice (win0_9.rect t)).emb (ix3 (0 : Fin 1) (y 1) (y 2))) (by blk_simp [ix_9 t]; rfl) (by blk_simp [ix_9 t]) (by blk_simp [ix_9 t])]
  pointwise [val_main_v4, val_main_v3, val_main_v2, val_main_cst_0, val_main_v1, val_main_v0, val_main_cst]
  blk_point [iblk, ix_4 t, ix_5 t, ix_6 t, ix_9 t]

/-- The kernel's fourth array is the reference's second moment. -/
theorem arr3 : (dats m 0 c).arrAt 10 cfg0.N = val_main_v10 (F := Ideal) (m ((c : Thread nD τ).loc main_arg0)) (m ((c : Thread nD τ).loc main_arg3)) := by
  refine (dats m 0 c).arrAt_eq_of_covers 10 _ (by decide +kernel) fun t hf y => ?_
  have ht : t.val < 4 := t.isLt
  blk_simp
  rw [after0_10]
  frame_out
  have hy : y = ix3 (0 : Fin 1) (y 1) (y 2) := by funext a; match a with | ⟨0, _⟩ => exact Subsingleton.elim (α := Fin 1) _ _ | ⟨1, _⟩ => rfl | ⟨2, _⟩ => rfl
  rw [hy]
  pointwise [k0_pay4, k0_pay7]
  rw [grad m c t (y 1) (y 2) (((View.whole main_v8_3).slice (win0_10.rect t)).emb (ix3 (0 : Fin 1) (y 1) (y 2))) (by blk_simp [ix_10 t]; rfl) (by blk_simp [ix_10 t]) (by blk_simp [ix_10 t])]
  pointwise [val_main_v10, val_main_v9, val_main_v8, val_main_cst_2, val_main_v7, val_main_v6, val_main_v5, val_main_cst_1, val_main_v4, val_main_v3, val_main_v2, val_main_cst_0, val_main_v1, val_main_v0, val_main_cst]
  blk_point [iblk, ix_4 t, ix_5 t, ix_6 t, ix_10 t]

/-- From equal arguments the kernel and the reference end with equal results. -/
theorem ends_equal : Cert.algebraic_Kernel20Ideal_Reference20Ideal := by
  intro m g m' g' _ ha
  refine ⟨fun c => m ((c.tc : Thread nD τ).loc main_arg0), fun c => val_main_v23 (F := Ideal) (m ((c.tc : Thread nD τ).loc main_arg0)) (m ((c.tc : Thread nD τ).loc main_arg1)) (m ((c.tc : Thread nD τ).loc main_arg2)) (m ((c.tc : Thread nD τ).loc main_arg3)), fun c => val_main_v4 (F := Ideal) (m ((c.tc : Thread nD τ).loc main_arg0)) (m ((c.tc : Thread nD τ).loc main_arg2)), fun c => val_main_v10 (F := Ideal) (m ((c.tc : Thread nD τ).loc main_arg0)) (m ((c.tc : Thread nD τ).loc main_arg3)), ?_, ?_⟩
  · refine (θ_run Cert.Kernel20Ideal.defs _ _).mono (fun r h c => ?_) (Cert.Kernel20Ideal.Value.run_blocks m g)
    obtain ⟨h0, h1, h2, h3, hr⟩ := h c
    exact ⟨h0.trans (arr0 m c), h1.trans (arr1 m c), h2.trans (arr2 m c), h3.trans (arr3 m c), hr⟩
  · refine (θ_run Cert.Reference20Ideal.defs _ _).mono (fun r h c => ?_) (Cert.Reference20Ideal.Value.run m' g')
    obtain ⟨h0, h1, h2, h3, hr⟩ := h c
    obtain ⟨a0, a1, a2, a3⟩ := ha c
    refine ⟨h0.trans a0, h1.trans ?_, h2.trans ?_, h3.trans ?_, hr⟩
    · rw [val_main_v23_eq, a0, a1, a2, a3]
    · rw [val_main_v4_eq, a0, a2]
    · rw [val_main_v10_eq, a0, a3]

/-- The reference ends with its arguments as launched, and it has no semaphore. -/
theorem reference_frame : Cert.quiescent_Reference20Ideal := by
  intro m ρ _
  exact (θ_run Cert.Reference20Ideal.defs _ _).mono (fun r h => ⟨fun c => (h c).2.2.2.2, sem_eq_zero_of_no_sems (by decide) r.2⟩)
    (Cert.Reference20Ideal.Value.run m ρ)

end Cert.Kernel20Ideal.Adam

end

end
-- ==== Proof.Adam21.lean ====
/- The optimiser's step of `w_in`: what the kernel's blocks hold, against the reference's step. -/
module

public import proofs.«01_k».proof.Defs
public import proofs.«01_k».proof.Proof.MmSum
public import proofs.«01_k».proof.Proof.Gen.Kernel21Ideal.Frame
public import proofs.«01_k».proof.Proof.Gen.Reference21Ideal.Run
public import proofs.«01_k».proof.Proof.Gen.Reference21Ideal.Read

@[expose] public section

set_option maxRecDepth 16384

noncomputable section

namespace Cert.Kernel21Ideal.Adam

open Idealize.ShloMosaic Idealize.ShloMosaic.TcCoe Idealize.SL.Sem Cert.Kernel21Ideal Cert.Kernel21Ideal.Gen Cert.Kernel21Ideal.Facts
open Cert.Reference21Ideal.Read

/-! Which block of its array each window holds at a grid point. -/

theorem ix_0 : ∀ t : Fin cfg0.N, win0_0.index t = ![t.val, 0, 0] := (by decide +kernel : ∀ t : Fin grid0.N, _)
theorem ix_1 : ∀ t : Fin cfg0.N, win0_1.index t = ![t.val, 0, 0] := (by decide +kernel : ∀ t : Fin grid0.N, _)
theorem ix_2 : ∀ t : Fin cfg0.N, win0_2.index t = ![t.val, 0, 0] := (by decide +kernel : ∀ t : Fin grid0.N, _)
theorem ix_3 : ∀ t : Fin cfg0.N, win0_3.index t = ![t.val, 0, 0] := (by decide +kernel : ∀ t : Fin grid0.N, _)
theorem ix_4 : ∀ t : Fin cfg0.N, win0_4.index t = ![t.val, 0, 0] := (by decide +kernel : ∀ t : Fin grid0.N, _)
theorem ix_5 : ∀ t : Fin cfg0.N, win0_5.index t = ![t.val, 0, 0] := (by decide +kernel : ∀ t : Fin grid0.N, _)
theorem ix_6 : ∀ t : Fin cfg0.N, win0_6.index t = ![t.val, 0, 0] := (by decide +kernel : ∀ t : Fin grid0.N, _)

/-! The host cuts the gradients of the layers out, turns each over and stacks them again. -/

/-- Layer 0's gradient, cut out, turned over and given an axis of its own, at an index. -/
theorem lay_0 (G : S4x2048x3844.Idx → Elt Ideal .f32) (i : S3844x1x2048.Idx) :
    broadcastInDim S3844x1x2048 ![0, 2] bcast_S3844x2048_S3844x1x2048_0_2 (transpose S3844x2048 [1, 0] (shapeCast S2048x3844 (extractStridedSlice S1x2048x3844 ![0, 0, 0] G slices_S4x2048x3844_S1x2048x3844_0_0_0) shapeCasts_S1x2048x3844_S2048x3844) transposes_S2048x3844_S3844x2048_1_0) i = G (ix3 (⟨0, by decide⟩ : Fin 4) (i 2) (i 0)) := by
  show transpose S3844x2048 [1, 0] _ _ _ = _
  refine (transpose_apply [1, 0] _ _ _ (@ix2 2048 3844 (i 2) (i 0)) (fun b => by
    match b with
    | ⟨0, _⟩ => rfl
    | ⟨1, _⟩ => rfl)).trans ?_
  refine (shapeCast_apply _ _ _ (@ix3 1 2048 3844 0 (i 2) (i 0)) (by
    rw [Shape.rowMajor_val_three, Shape.rowMajor_val_two]; show ((0 : ℕ) * 2048 + (i 2).val) * 3844 + (i 0).val = (i 2).val * 3844 + (i 0).val; omega)).trans ?_
  refine congrArg G ?_
  funext a
  match a with
  | ⟨0, _⟩ => rfl
  | ⟨1, _⟩ => exact Fin.ext (Nat.zero_add _)
  | ⟨2, _⟩ => exact Fin.ext (Nat.zero_add _)

/-- Layer 1's gradient, cut out, turned over and given an axis of its own, at an index. -/
theorem lay_1 (G : S4x2048x3844.Idx → Elt Ideal .f32) (i : S3844x1x2048.Idx) :
    broadcastInDim S3844x1x2048 ![0, 2] bcast_S3844x2048_S3844x1x2048_0_2 (transpose S3844x2048 [1, 0] (shapeCast S2048x3844 (extractStridedSlice S1x2048x3844 ![1, 0, 0] G slices_S4x2048x3844_S1x2048x3844_1_0_0) shapeCasts_S1x2048x3844_S2048x3844) transposes_S2048x3844_S3844x2048_1_0) i = G (ix3 (⟨1, by decide⟩ : Fin 4) (i 2) (i 0)) := by
  show transpose S3844x2048 [1, 0] _ _ _ = _
  refine (transpose_apply [1, 0] _ _ _ (@ix2 2048 3844 (i 2) (i 0)) (fun b => by
    match b with
    | ⟨0, _⟩ => rfl
    | ⟨1, _⟩ => rfl)).trans ?_
  refine (shapeCast_apply _ _ _ (@ix3 1 2048 3844 0 (i 2) (i 0)) (by
    rw [Shape.rowMajor_val_three, Shape.rowMajor_val_two]; show ((0 : ℕ) * 2048 + (i 2).val) * 3844 + (i 0).val = (i 2).val * 3844 + (i 0).val; omega)).trans ?_
  refine congrArg G ?_
  funext a
  match a with
  | ⟨0, _⟩ => rfl
  | ⟨1, _⟩ => exact Fin.ext (Nat.zero_add _)
  | ⟨2, _⟩ => exact Fin.ext (Nat.zero_add _)

/-- Layer 2's gradient, cut out, turned over and given an axis of its own, at an index. -/
theorem lay_2 (G : S4x2048x3844.Idx → Elt Ideal .f32) (i : S3844x1x2048.Idx) :
    broadcastInDim S3844x1x2048 ![0, 2] bcast_S3844x2048_S3844x1x2048_0_2 (transpose S3844x2048 [1, 0] (shapeCast S2048x3844 (extractStridedSlice S1x2048x3844 ![2, 0, 0] G slices_S4x2048x3844_S1x2048x3844_2_0_0) shapeCasts_S1x2048x3844_S2048x3844) transposes_S2048x3844_S3844x2048_1_0) i = G (ix3 (⟨2, by decide⟩ : Fin 4) (i 2) (i 0)) := by
  show transpose S3844x2048 [1, 0] _ _ _ = _
  refine (transpose_apply [1, 0] _ _ _ (@ix2 2048 3844 (i 2) (i 0)) (fun b => by
    match b with
    | ⟨0, _⟩ => rfl
    | ⟨1, _⟩ => rfl)).trans ?_
  refine (shapeCast_apply _ _ _ (@ix3 1 2048 3844 0 (i 2) (i 0)) (by
    rw [Shape.rowMajor_val_three, Shape.rowMajor_val_two]; show ((0 : ℕ) * 2048 + (i 2).val) * 3844 + (i 0).val = (i 2).val * 3844 + (i 0).val; omega)).trans ?_
  refine congrArg G ?_
  funext a
  match a with
  | ⟨0, _⟩ => rfl
  | ⟨1, _⟩ => exact Fin.ext (Nat.zero_add _)
  | ⟨2, _⟩ => exact Fin.ext (Nat.zero_add _)

/-- Layer 3's gradient, cut out, turned over and given an axis of its own, at an index. -/
theorem lay_3 (G : S4x2048x3844.Idx → Elt Ideal .f32) (i : S3844x1x2048.Idx) :
    broadcastInDim S3844x1x2048 ![0, 2] bcast_S3844x2048_S3844x1x2048_0_2 (transpose S3844x2048 [1, 0] (shapeCast S2048x3844 (extractStridedSlice S1x2048x3844 ![3, 0, 0] G slices_S4x2048x3844_S1x2048x3844_3_0_0) shapeCasts_S1x2048x3844_S2048x3844) transposes_S2048x3844_S3844x2048_1_0) i = G (ix3 (⟨3, by decide⟩ : Fin 4) (i 2) (i 0)) := by
  show transpose S3844x2048 [1, 0] _ _ _ = _
  refine (transpose_apply [1, 0] _ _ _ (@ix2 2048 3844 (i 2) (i 0)) (fun b => by
    match b with
    | ⟨0, _⟩ => rfl
    | ⟨1, _⟩ => rfl)).trans ?_
  refine (shapeCast_apply _ _ _ (@ix3 1 2048 3844 0 (i 2) (i 0)) (by
    rw [Shape.rowMajor_val_three, Shape.rowMajor_val_two]; show ((0 : ℕ) * 2048 + (i 2).val) * 3844 + (i 0).val = (i 2).val * 3844 + (i 0).val; omega)).trans ?_
  refine congrArg G ?_
  funext a
  match a with
  | ⟨0, _⟩ => rfl
  | ⟨1, _⟩ => exact Fin.ext (Nat.zero_add _)
  | ⟨2, _⟩ => exact Fin.ext (Nat.zero_add _)

/-- Four layers stacked, read at layer 0. -/
theorem stack_0 (x0 x1 x2 x3 : S3844x1x2048.Idx → Elt Ideal .f32) (j : S3844x4x2048.Idx) (hc : (j 1).val = 0) :
    concatenate S3844x4x2048 1 [⟨S3844x1x2048, x0⟩, ⟨S3844x1x2048, x1⟩, ⟨S3844x1x2048, x2⟩, ⟨S3844x1x2048, x3⟩] concatenates_S3844x1x2048_S3844x1x2048_S3844x1x2048_S3844x1x2048_S3844x4x2048_d1 j = x0 (@ix3 3844 1 2048 (j 0) 0 (j 2)) :=
  concatenate_apply_piece (1 : Fin S3844x4x2048.rank) [⟨S3844x1x2048, x0⟩, ⟨S3844x1x2048, x1⟩, ⟨S3844x1x2048, x2⟩, ⟨S3844x1x2048, x3⟩] _ j 0 (show 0 < 4 by decide) S3844x1x2048 x0 rfl rfl 0 rfl (@ix3 3844 1 2048 (j 0) 0 (j 2)) (fun b hb => by
    match b, hb with
    | ⟨0, _⟩, _ => rfl
    | ⟨1, _⟩, hb => exact absurd rfl hb
    | ⟨2, _⟩, _ => rfl) hc.symm

/-- Four layers stacked, read at layer 1. -/
theorem stack_1 (x0 x1 x2 x3 : S3844x1x2048.Idx → Elt Ideal .f32) (j : S3844x4x2048.Idx) (hc : (j 1).val = 1) :
    concatenate S3844x4x2048 1 [⟨S3844x1x2048, x0⟩, ⟨S3844x1x2048, x1⟩, ⟨S3844x1x2048, x2⟩, ⟨S3844x1x2048, x3⟩] concatenates_S3844x1x2048_S3844x1x2048_S3844x1x2048_S3844x1x2048_S3844x4x2048_d1 j = x1 (@ix3 3844 1 2048 (j 0) 0 (j 2)) :=
  concatenate_apply_piece (1 : Fin S3844x4x2048.rank) [⟨S3844x1x2048, x0⟩, ⟨S3844x1x2048, x1⟩, ⟨S3844x1x2048, x2⟩, ⟨S3844x1x2048, x3⟩] _ j 1 (show 1 < 4 by decide) S3844x1x2048 x1 rfl rfl 1 rfl (@ix3 3844 1 2048 (j 0) 0 (j 2)) (fun b hb => by
    match b, hb with
    | ⟨0, _⟩, _ => rfl
    | ⟨1, _⟩, hb => exact absurd rfl hb
    | ⟨2, _⟩, _ => rfl) hc.symm

/-- Four layers stacked, read at layer 2. -/
theorem stack_2 (x0 x1 x2 x3 : S3844x1x2048.Idx → Elt Ideal .f32) (j : S3844x4x2048.Idx) (hc : (j 1).val = 2) :
    concatenate S3844x4x2048 1 [⟨S3844x1x2048, x0⟩, ⟨S3844x1x2048, x1⟩, ⟨S3844x1x2048, x2⟩, ⟨S3844x1x2048, x3⟩] concatenates_S3844x1x2048_S3844x1x2048_S3844x1x2048_S3844x1x2048_S3844x4x2048_d1 j = x2 (@ix3 3844 1 2048 (j 0) 0 (j 2)) :=
  concatenate_apply_piece (1 : Fin S3844x4x2048.rank) [⟨S3844x1x2048, x0⟩, ⟨S3844x1x2048, x1⟩, ⟨S3844x1x2048, x2⟩, ⟨S3844x1x2048, x3⟩] _ j 2 (show 2 < 4 by decide) S3844x1x2048 x2 rfl rfl 2 rfl (@ix3 3844 1 2048 (j 0) 0 (j 2)) (fun b hb => by
    match b, hb with
    | ⟨0, _⟩, _ => rfl
    | ⟨1, _⟩, hb => exact absurd rfl hb
    | ⟨2, _⟩, _ => rfl) hc.symm

/-- Four layers stacked, read at layer 3. -/
theorem stack_3 (x0 x1 x2 x3 : S3844x1x2048.Idx → Elt Ideal .f32) (j : S3844x4x2048.Idx) (hc : (j 1).val = 3) :
    concatenate S3844x4x2048 1 [⟨S3844x1x2048, x0⟩, ⟨S3844x1x2048, x1⟩, ⟨S3844x1x2048, x2⟩, ⟨S3844x1x2048, x3⟩] concatenates_S3844x1x2048_S3844x1x2048_S3844x1x2048_S3844x1x2048_S3844x4x2048_d1 j = x3 (@ix3 3844 1 2048 (j 0) 0 (j 2)) :=
  concatenate_apply_piece (1 : Fin S3844x4x2048.rank) [⟨S3844x1x2048, x0⟩, ⟨S3844x1x2048, x1⟩, ⟨S3844x1x2048, x2⟩, ⟨S3844x1x2048, x3⟩] _ j 3 (show 3 < 4 by decide) S3844x1x2048 x3 rfl rfl 3 rfl (@ix3 3844 1 2048 (j 0) 0 (j 2)) (fun b hb => by
    match b, hb with
    | ⟨0, _⟩, _ => rfl
    | ⟨1, _⟩, hb => exact absurd rfl hb
    | ⟨2, _⟩, _ => rfl) hc.symm

variable (m : (ℓ : Loc nD τ sig) → Buf (Elt Ideal) ℓ) (c : Dev nD)

/-- The stacked gradient the kernel reads is the gradient, turned over. -/
theorem v16 (j : S3844x4x2048.Idx) (i : S4x2048x3844.Idx) (h0 : (i 0).val = (j 1).val) (h1 : (i 1).val = (j 2).val) (h2 : (i 2).val = (j 0).val) :
    V m c main_v16 j = m ((c : Thread nD τ).loc main_arg0) i := by
  have h : V m c main_v16 = concatenate S3844x4x2048 1 [⟨S3844x1x2048, broadcastInDim S3844x1x2048 ![0, 2] bcast_S3844x2048_S3844x1x2048_0_2 (transpose S3844x2048 [1, 0] (shapeCast S2048x3844 (extractStridedSlice S1x2048x3844 ![0, 0, 0] (m ((c : Thread nD τ).loc main_arg0)) slices_S4x2048x3844_S1x2048x3844_0_0_0) shapeCasts_S1x2048x3844_S2048x3844) transposes_S2048x3844_S3844x2048_1_0)⟩, ⟨S3844x1x2048, broadcastInDim S3844x1x2048 ![0, 2] bcast_S3844x2048_S3844x1x2048_0_2 (transpose S3844x2048 [1, 0] (shapeCast S2048x3844 (extractStridedSlice S1x2048x3844 ![1, 0, 0] (m ((c : Thread nD τ).loc main_arg0)) slices_S4x2048x3844_S1x2048x3844_1_0_0) shapeCasts_S1x2048x3844_S2048x3844) transposes_S2048x3844_S3844x2048_1_0)⟩, ⟨S3844x1x2048, broadcastInDim S3844x1x2048 ![0, 2] bcast_S3844x2048_S3844x1x2048_0_2 (transpose S3844x2048 [1, 0] (shapeCast S2048x3844 (extractStridedSlice S1x2048x3844 ![2, 0, 0] (m ((c : Thread nD τ).loc main_arg0)) slices_S4x2048x3844_S1x2048x3844_2_0_0) shapeCasts_S1x2048x3844_S2048x3844) transposes_S2048x3844_S3844x2048_1_0)⟩, ⟨S3844x1x2048, broadcastInDim S3844x1x2048 ![0, 2] bcast_S3844x2048_S3844x1x2048_0_2 (transpose S3844x2048 [1, 0] (shapeCast S2048x3844 (extractStridedSlice S1x2048x3844 ![3, 0, 0] (m ((c : Thread nD τ).loc main_arg0)) slices_S4x2048x3844_S1x2048x3844_3_0_0) shapeCasts_S1x2048x3844_S2048x3844) transposes_S2048x3844_S3844x2048_1_0)⟩] concatenates_S3844x1x2048_S3844x1x2048_S3844x1x2048_S3844x1x2048_S3844x4x2048_d1 := by
    show StableHlo.after [hostOps0].flatten (fun b => m (c, b)) (Proc.tc.devRef main_v16) = _
    simp only [hostOps0, List.flatten_cons, List.flatten_nil, List.append_nil]
    after_results_simp
    rfl
  rw [h]
  have hi : i = ix3 (j 1) (j 2) (j 0) := by
    funext a
    match a with
    | ⟨0, _⟩ => exact Fin.ext h0
    | ⟨1, _⟩ => exact Fin.ext h1
    | ⟨2, _⟩ => exact Fin.ext h2
  have hj : (j 1).val < 4 := (j 1).isLt
  have hc : (j 1).val = 0 ∨ (j 1).val = 1 ∨ (j 1).val = 2 ∨ (j 1).val = 3 := by omega
  rw [hi]
  rcases hc with hc | hc | hc | hc
  · refine (stack_0 _ _ _ _ j hc).trans ?_
    refine (lay_0 _ _).trans (congrArg (m ((c : Thread nD τ).loc main_arg0)) ?_)
    funext a
    match a with
    | ⟨0, _⟩ => exact Fin.ext hc.symm
    | ⟨1, _⟩ => rfl
    | ⟨2, _⟩ => rfl
  · refine (stack_1 _ _ _ _ j hc).trans ?_
    refine (lay_1 _ _).trans (congrArg (m ((c : Thread nD τ).loc main_arg0)) ?_)
    funext a
    match a with
    | ⟨0, _⟩ => exact Fin.ext hc.symm
    | ⟨1, _⟩ => rfl
    | ⟨2, _⟩ => rfl
  · refine (stack_2 _ _ _ _ j hc).trans ?_
    refine (lay_2 _ _).trans (congrArg (m ((c : Thread nD τ).loc main_arg0)) ?_)
    funext a
    match a with
    | ⟨0, _⟩ => exact Fin.ext hc.symm
    | ⟨1, _⟩ => rfl
    | ⟨2, _⟩ => rfl
  · refine (stack_3 _ _ _ _ j hc).trans ?_
    refine (lay_3 _ _).trans (congrArg (m ((c : Thread nD τ).loc main_arg0)) ?_)
    funext a
    match a with
    | ⟨0, _⟩ => exact Fin.ext hc.symm
    | ⟨1, _⟩ => rfl
    | ⟨2, _⟩ => rfl

/-- The weight the kernel reads is the weight, turned over. -/
theorem v17 (j : S3844x4x2048.Idx) (i : S4x2048x3844.Idx) (h0 : (i 0).val = (j 1).val) (h1 : (i 1).val = (j 2).val) (h2 : (i 2).val = (j 0).val) :
    V m c main_v17 j = m ((c : Thread nD τ).loc main_arg1) i := by
  have h : V m c main_v17 = transpose S3844x4x2048 [2, 0, 1] (m ((c : Thread nD τ).loc main_arg1)) transposes_S4x2048x3844_S3844x4x2048_2_0_1 := by
    funext j
    entry_read
    rfl
  rw [h]
  exact transpose_apply [2, 0, 1] _ _ _ i (fun b => by
    match b with
    | ⟨0, _⟩ => exact h2
    | ⟨1, _⟩ => exact h0
    | ⟨2, _⟩ => exact h1)

/-- The first moment the kernel reads is the first moment, turned over. -/
theorem v18 (j : S3844x4x2048.Idx) (i : S4x2048x3844.Idx) (h0 : (i 0).val = (j 1).val) (h1 : (i 1).val = (j 2).val) (h2 : (i 2).val = (j 0).val) :
    V m c main_v18 j = m ((c : Thread nD τ).loc main_arg2) i := by
  have h : V m c main_v18 = transpose S3844x4x2048 [2, 0, 1] (m ((c : Thread nD τ).loc main_arg2)) transposes_S4x2048x3844_S3844x4x2048_2_0_1 := by
    funext j
    entry_read
    rfl
  rw [h]
  exact transpose_apply [2, 0, 1] _ _ _ i (fun b => by
    match b with
    | ⟨0, _⟩ => exact h2
    | ⟨1, _⟩ => exact h0
    | ⟨2, _⟩ => exact h1)

/-- The second moment the kernel reads is the second moment, turned over. -/
theorem v19 (j : S3844x4x2048.Idx) (i : S4x2048x3844.Idx) (h0 : (i 0).val = (j 1).val) (h1 : (i 1).val = (j 2).val) (h2 : (i 2).val = (j 0).val) :
    V m c main_v19 j = m ((c : Thread nD τ).loc main_arg3) i := by
  have h : V m c main_v19 = transpose S3844x4x2048 [2, 0, 1] (m ((c : Thread nD τ).loc main_arg3)) transposes_S4x2048x3844_S3844x4x2048_2_0_1 := by
    funext j
    entry_read
    rfl
  rw [h]
  exact transpose_apply [2, 0, 1] _ _ _ i (fun b => by
    match b with
    | ⟨0, _⟩ => exact h2
    | ⟨1, _⟩ => exact h0
    | ⟨2, _⟩ => exact h1)

/-- The kernel's array of the update is the reference's, turned over. -/
theorem arr4 : (dats m 0 c).arrAt 4 cfg0.N = fun i => val_main_v23 (F := Ideal) (m ((c : Thread nD τ).loc main_arg0)) (m ((c : Thread nD τ).loc main_arg1)) (m ((c : Thread nD τ).loc main_arg2)) (m ((c : Thread nD τ).loc main_arg3)) (ix3 (i 1) (i 2) (i 0)) := by
  refine (dats m 0 c).arrAt_eq_of_covers 4 _ (by decide +kernel) fun t hf y => ?_
  have ht : t.val < 124 := t.isLt
  blk_simp
  rw [after0_4]
  frame_out
  pointwise [k0_pay4, k0_pay3, k0_pay2, k0_pay1]
  pointwise [val_main_v23, val_main_v22, val_main_cst_7, val_main_v21, val_main_v20, val_main_v19, val_main_cst_6, val_main_v18, val_main_v17, val_main_v16, val_main_cst_5, val_main_v15, val_main_v14, val_main_v13, val_main_cst_4, val_main_v12, val_main_v11, val_main_cst_3, val_main_v10, val_main_v9, val_main_v8, val_main_cst_2, val_main_v7, val_main_v6, val_main_v5, val_main_cst_1, val_main_v4, val_main_v3, val_main_v2, val_main_cst_0, val_main_v1, val_main_v0, val_main_cst]
  have e0 : iblk m c 0 t y = (m ((c : Thread nD τ).loc main_arg0)) (ix3 ((win0_4.blk t).view.emb y 1) ((win0_4.blk t).view.emb y 2) ((win0_4.blk t).view.emb y 0)) := by
    blk_simp [iblk]
    exact v16 m c _ _ (by blk_simp [ix_0 t, ix_4 t]) (by blk_simp [ix_0 t, ix_4 t]) (by blk_simp [ix_0 t, ix_4 t])
  have e1 : iblk m c 1 t y = (m ((c : Thread nD τ).loc main_arg1)) (ix3 ((win0_4.blk t).view.emb y 1) ((win0_4.blk t).view.emb y 2) ((win0_4.blk t).view.emb y 0)) := by
    blk_simp [iblk]
    exact v17 m c _ _ (by blk_simp [ix_1 t, ix_4 t]) (by blk_simp [ix_1 t, ix_4 t]) (by blk_simp [ix_1 t, ix_4 t])
  have e2 : iblk m c 2 t y = (m ((c : Thread nD τ).loc main_arg2)) (ix3 ((win0_4.blk t).view.emb y 1) ((win0_4.blk t).view.emb y 2) ((win0_4.blk t).view.emb y 0)) := by
    blk_simp [iblk]
    exact v18 m c _ _ (by blk_simp [ix_2 t, ix_4 t]) (by blk_simp [ix_2 t, ix_4 t]) (by blk_simp [ix_2 t, ix_4 t])
  have e3 : iblk m c 3 t y = (m ((c : Thread nD τ).loc main_arg3)) (ix3 ((win0_4.blk t).view.emb y 1) ((win0_4.blk t).view.emb y 2) ((win0_4.blk t).view.emb y 0)) := by
    blk_simp [iblk]
    exact v19 m c _ _ (by blk_simp [ix_3 t, ix_4 t]) (by blk_simp [ix_3 t, ix_4 t]) (by blk_simp [ix_3 t, ix_4 t])
  rw [e0, e1, e2, e3]

/-- The kernel's array of the first moment is the reference's, turned over. -/
theorem arr5 : (dats m 0 c).arrAt 5 cfg0.N = fun i => val_main_v4 (F := Ideal) (m ((c : Thread nD τ).loc main_arg0)) (m ((c : Thread nD τ).loc main_arg2)) (ix3 (i 1) (i 2) (i 0)) := by
  refine (dats m 0 c).arrAt_eq_of_covers 5 _ (by decide +kernel) fun t hf y => ?_
  have ht : t.val < 124 := t.isLt
  blk_simp
  rw [after0_5]
  frame_out
  pointwise [k0_pay2, k0_pay1]
  pointwise [val_main_v4, val_main_v3, val_main_v2, val_main_cst_0, val_main_v1, val_main_v0, val_main_cst]
  have e0 : iblk m c 0 t y = (m ((c : Thread nD τ).loc main_arg0)) (ix3 ((win0_5.blk t).view.emb y 1) ((win0_5.blk t).view.emb y 2) ((win0_5.blk t).view.emb y 0)) := by
    blk_simp [iblk]
    exact v16 m c _ _ (by blk_simp [ix_0 t, ix_5 t]) (by blk_simp [ix_0 t, ix_5 t]) (by blk_simp [ix_0 t, ix_5 t])
  have e2 : iblk m c 2 t y = (m ((c : Thread nD τ).loc main_arg2)) (ix3 ((win0_5.blk t).view.emb y 1) ((win0_5.blk t).view.emb y 2) ((win0_5.blk t).view.emb y 0)) := by
    blk_simp [iblk]
    exact v18 m c _ _ (by blk_simp [ix_2 t, ix_5 t]) (by blk_simp [ix_2 t, ix_5 t]) (by blk_simp [ix_2 t, ix_5 t])
  rw [e0, e2]

/-- The kernel's array of the second moment is the reference's, turned over. -/
theorem arr6 : (dats m 0 c).arrAt 6 cfg0.N = fun i => val_main_v10 (F := Ideal) (m ((c : Thread nD τ).loc main_arg0)) (m ((c : Thread nD τ).loc main_arg3)) (ix3 (i 1) (i 2) (i 0)) := by
  refine (dats m 0 c).arrAt_eq_of_covers 6 _ (by decide +kernel) fun t hf y => ?_
  have ht : t.val < 124 := t.isLt
  blk_simp
  rw [after0_6]
  frame_out
  pointwise [k0_pay3, k0_pay1]
  pointwise [val_main_v10, val_main_v9, val_main_v8, val_main_cst_2, val_main_v7, val_main_v6, val_main_v5, val_main_cst_1, val_main_v4, val_main_v3, val_main_v2, val_main_cst_0, val_main_v1, val_main_v0, val_main_cst]
  have e0 : iblk m c 0 t y = (m ((c : Thread nD τ).loc main_arg0)) (ix3 ((win0_6.blk t).view.emb y 1) ((win0_6.blk t).view.emb y 2) ((win0_6.blk t).view.emb y 0)) := by
    blk_simp [iblk]
    exact v16 m c _ _ (by blk_simp [ix_0 t, ix_6 t]) (by blk_simp [ix_0 t, ix_6 t]) (by blk_simp [ix_0 t, ix_6 t])
  have e3 : iblk m c 3 t y = (m ((c : Thread nD τ).loc main_arg3)) (ix3 ((win0_6.blk t).view.emb y 1) ((win0_6.blk t).view.emb y 2) ((win0_6.blk t).view.emb y 0)) := by
    blk_simp [iblk]
    exact v19 m c _ _ (by blk_simp [ix_3 t, ix_6 t]) (by blk_simp [ix_3 t, ix_6 t]) (by blk_simp [ix_3 t, ix_6 t])
  rw [e0, e3]

/-! What the host leaves after the region: the arrays, turned back. -/

/-- The gradient turned back is the gradient. -/
theorem W_v21 : Pipeline.afterTail₀ cfgs (dats m) 0 (V0 m) [hostOps1] c main_v21 = m ((c : Thread nD τ).loc main_arg0) := by
  have h : Pipeline.afterTail₀ cfgs (dats m) 0 (V0 m) [hostOps1] c main_v21 = transpose S4x2048x3844 [1, 2, 0] ((dats m 0 c).arrAt 0 cfg0.N) transposes_S3844x4x2048_S4x2048x3844_1_2_0 := by
    unfold Pipeline.afterTail₀
    simp only [hostOps1, List.flatten_cons, List.flatten_nil, List.append_nil]
    after_results_simp
    exact congrArg (fun x => transpose S4x2048x3844 [1, 2, 0] x transposes_S3844x4x2048_S4x2048x3844_1_2_0) (Pipeline.withArrays_arr spec0 (by decide) c (V0 m c) _ 0)
  rw [h, (dats m 0 c).arrAt_in 0 rfl, A_eq]
  funext i
  refine (transpose_apply [1, 2, 0] _ _ _ (ix3 (i 2) (i 0) (i 1)) (fun b => by
    match b with
    | ⟨0, _⟩ => rfl
    | ⟨1, _⟩ => rfl
    | ⟨2, _⟩ => rfl)).trans ?_
  exact v16 m c _ i rfl rfl rfl

/-- The array of the update turned back is the reference's. -/
theorem W_v22 : Pipeline.afterTail₀ cfgs (dats m) 0 (V0 m) [hostOps1] c main_v22 = val_main_v23 (F := Ideal) (m ((c : Thread nD τ).loc main_arg0)) (m ((c : Thread nD τ).loc main_arg1)) (m ((c : Thread nD τ).loc main_arg2)) (m ((c : Thread nD τ).loc main_arg3)) := by
  have h : Pipeline.afterTail₀ cfgs (dats m) 0 (V0 m) [hostOps1] c main_v22 = transpose S4x2048x3844 [1, 2, 0] ((dats m 0 c).arrAt 4 cfg0.N) transposes_S3844x4x2048_S4x2048x3844_1_2_0 := by
    unfold Pipeline.afterTail₀
    simp only [hostOps1, List.flatten_cons, List.flatten_nil, List.append_nil]
    after_results_simp
    exact congrArg (fun x => transpose S4x2048x3844 [1, 2, 0] x transposes_S3844x4x2048_S4x2048x3844_1_2_0) (Pipeline.withArrays_arr spec0 (by decide) c (V0 m c) _ 4)
  rw [h, arr4]
  funext i
  refine (transpose_apply [1, 2, 0] _ _ _ (ix3 (i 2) (i 0) (i 1)) (fun b => by
    match b with
    | ⟨0, _⟩ => rfl
    | ⟨1, _⟩ => rfl
    | ⟨2, _⟩ => rfl)).trans ?_
  refine congrArg (val_main_v23 (F := Ideal) (m ((c : Thread nD τ).loc main_arg0)) (m ((c : Thread nD τ).loc main_arg1)) (m ((c : Thread nD τ).loc main_arg2)) (m ((c : Thread nD τ).loc main_arg3))) ?_
  funext a
  match a with
  | ⟨0, _⟩ => rfl
  | ⟨1, _⟩ => rfl
  | ⟨2, _⟩ => rfl

/-- The array of the first moment turned back is the reference's. -/
theorem W_v23 : Pipeline.afterTail₀ cfgs (dats m) 0 (V0 m) [hostOps1] c main_v23 = val_main_v4 (F := Ideal) (m ((c : Thread nD τ).loc main_arg0)) (m ((c : Thread nD τ).loc main_arg2)) := by
  have h : Pipeline.afterTail₀ cfgs (dats m) 0 (V0 m) [hostOps1] c main_v23 = transpose S4x2048x3844 [1, 2, 0] ((dats m 0 c).arrAt 5 cfg0.N) transposes_S3844x4x2048_S4x2048x3844_1_2_0 := by
    unfold Pipeline.afterTail₀
    simp only [hostOps1, List.flatten_cons, List.flatten_nil, List.append_nil]
    after_results_simp
    exact congrArg (fun x => transpose S4x2048x3844 [1, 2, 0] x transposes_S3844x4x2048_S4x2048x3844_1_2_0) (Pipeline.withArrays_arr spec0 (by decide) c (V0 m c) _ 5)
  rw [h, arr5]
  funext i
  refine (transpose_apply [1, 2, 0] _ _ _ (ix3 (i 2) (i 0) (i 1)) (fun b => by
    match b with
    | ⟨0, _⟩ => rfl
    | ⟨1, _⟩ => rfl
    | ⟨2, _⟩ => rfl)).trans ?_
  refine congrArg (val_main_v4 (F := Ideal) (m ((c : Thread nD τ).loc main_arg0)) (m ((c : Thread nD τ).loc main_arg2))) ?_
  funext a
  match a with
  | ⟨0, _⟩ => rfl
  | ⟨1, _⟩ => rfl
  | ⟨2, _⟩ => rfl

/-- The array of the second moment turned back is the reference's. -/
theorem W_v24 : Pipeline.afterTail₀ cfgs (dats m) 0 (V0 m) [hostOps1] c main_v24 = val_main_v10 (F := Ideal) (m ((c : Thread nD τ).loc main_arg0)) (m ((c : Thread nD τ).loc main_arg3)) := by
  have h : Pipeline.afterTail₀ cfgs (dats m) 0 (V0 m) [hostOps1] c main_v24 = transpose S4x2048x3844 [1, 2, 0] ((dats m 0 c).arrAt 6 cfg0.N) transposes_S3844x4x2048_S4x2048x3844_1_2_0 := by
    unfold Pipeline.afterTail₀
    simp only [hostOps1, List.flatten_cons, List.flatten_nil, List.append_nil]
    after_results_simp
    exact congrArg (fun x => transpose S4x2048x3844 [1, 2, 0] x transposes_S3844x4x2048_S4x2048x3844_1_2_0) (Pipeline.withArrays_arr spec0 (by decide) c (V0 m c) _ 6)
  rw [h, arr6]
  funext i
  refine (transpose_apply [1, 2, 0] _ _ _ (ix3 (i 2) (i 0) (i 1)) (fun b => by
    match b with
    | ⟨0, _⟩ => rfl
    | ⟨1, _⟩ => rfl
    | ⟨2, _⟩ => rfl)).trans ?_
  refine congrArg (val_main_v10 (F := Ideal) (m ((c : Thread nD τ).loc main_arg0)) (m ((c : Thread nD τ).loc main_arg3))) ?_
  funext a
  match a with
  | ⟨0, _⟩ => rfl
  | ⟨1, _⟩ => rfl
  | ⟨2, _⟩ => rfl

/-- The kernel's run: it ends with the gradient, the reference's update and the reference's moments, its arguments kept. -/
theorem run_all (g : Dev nD → PrngReg) : θ_run Cert.Kernel21Ideal.defs (onTc (τ := τ) (Cert.Kernel21Ideal.main (F := Ideal))) ⟨m, fun _ => 0, g⟩ fun r => ∀ c : Dev nD,
    r.2.mem ((c.tc : Thread nD τ).loc main_v21) = m ((c.tc : Thread nD τ).loc main_arg0)
    ∧ r.2.mem ((c.tc : Thread nD τ).loc main_v22) = val_main_v23 (F := Ideal) (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v23) = val_main_v4 (F := Ideal) (m ((c.tc : Thread nD τ).loc main_arg0)) (m ((c.tc : Thread nD τ).loc main_arg2))
    ∧ r.2.mem ((c.tc : Thread nD τ).loc main_v24) = val_main_v10 (F := Ideal) (m ((c.tc : Thread nD τ).loc main_arg0)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run Cert.Kernel21Ideal.defs _ _).mono (fun r h c => ⟨
    ((h c).2 main_v21 (Pipeline.mem_restRefs_of main_v21 (by decide) (by decide))).trans (W_v21 m c),
    ((h c).2 main_v22 (Pipeline.mem_restRefs_of main_v22 (by decide) (by decide))).trans (W_v22 m c),
    ((h c).2 main_v23 (Pipeline.mem_restRefs_of main_v23 (by decide) (by decide))).trans (W_v23 m c),
    ((h c).2 main_v24 (Pipeline.mem_restRefs_of main_v24 (by decide) (by decide))).trans (W_v24 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩) (run_main m g)

/-- From equal arguments the kernel and the reference end with equal results. -/
theorem ends_equal : Cert.algebraic_Kernel21Ideal_Reference21Ideal := by
  intro m g m' g' _ ha
  refine ⟨fun c => m ((c.tc : Thread nD τ).loc main_arg0), fun c => val_main_v23 (F := Ideal) (m ((c.tc : Thread nD τ).loc main_arg0)) (m ((c.tc : Thread nD τ).loc main_arg1)) (m ((c.tc : Thread nD τ).loc main_arg2)) (m ((c.tc : Thread nD τ).loc main_arg3)), fun c => val_main_v4 (F := Ideal) (m ((c.tc : Thread nD τ).loc main_arg0)) (m ((c.tc : Thread nD τ).loc main_arg2)), fun c => val_main_v10 (F := Ideal) (m ((c.tc : Thread nD τ).loc main_arg0)) (m ((c.tc : Thread nD τ).loc main_arg3)), ?_, ?_⟩
  · exact run_all m g
  · refine (θ_run Cert.Reference21Ideal.defs _ _).mono (fun r h c => ?_) (Cert.Reference21Ideal.Value.run m' g')
    obtain ⟨h0, h1, h2, h3, hr⟩ := h c
    obtain ⟨a0, a1, a2, a3⟩ := ha c
    refine ⟨h0.trans a0, h1.trans ?_, h2.trans ?_, h3.trans ?_, hr⟩
    · rw [val_main_v23_eq, a0, a1, a2, a3]
    · rw [val_main_v4_eq, a0, a2]
    · rw [val_main_v10_eq, a0, a3]

/-- The reference ends with its arguments as launched, and it has no semaphore. -/
theorem reference_frame : Cert.quiescent_Reference21Ideal := by
  intro m ρ _
  exact (θ_run Cert.Reference21Ideal.defs _ _).mono (fun r h => ⟨fun c => (h c).2.2.2.2, sem_eq_zero_of_no_sems (by decide) r.2⟩)
    (Cert.Reference21Ideal.Value.run m ρ)

end Cert.Kernel21Ideal.Adam

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Ends
public import proofs.«01_k».proof.Proof.Mm2
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Mm9
public import proofs.«01_k».proof.Proof.Mm10
public import proofs.«01_k».proof.Proof.Mm11
public import proofs.«01_k».proof.Proof.Mm12
public import proofs.«01_k».proof.Proof.Mm13
public import proofs.«01_k».proof.Proof.Mm14
public import proofs.«01_k».proof.Proof.Mm15
public import proofs.«01_k».proof.Proof.Mm16
public import proofs.«01_k».proof.Proof.Adam17
public import proofs.«01_k».proof.Proof.Adam18
public import proofs.«01_k».proof.Proof.Adam19
public import proofs.«01_k».proof.Proof.Adam20
public import proofs.«01_k».proof.Proof.Adam21
public import Idealize.ShloMosaic.Adequacy
public import Idealize.ShloMosaic.Init

@[expose] public section

noncomputable section

namespace Cert.Proof

open Idealize.ShloMosaic Idealize.SL.Sem Cert.Kernel

/-- Everything the certificate claims. The kernel runs and leaves its arguments and its counters, read bit by bit and
    read over the reals; so does the reference; the reading over the reals rewrote nothing; and from finite arguments
    the two end with equal results. The same, without the condition on the arguments, of the fifteen matrix products
    and of the optimiser's step of five shapes of weight. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts, Cert.Ends.factsPre,
    fun m ρ _ => Cert.Kernel.Gen.frame m ρ, fun m ρ _ => Cert.KernelIdeal.Gen.frame m ρ, fun m ρ _ => Cert.KernelIdeal.Gen.frame m ρ,
    Cert.Ends.reference_frame, fun m ρ _ => Cert.Ends.reference_frame m ρ trivial,
    fun m ρ _ => Cert.Kernel2.Gen.frame m ρ, fun m ρ _ => Cert.Kernel2Ideal.Gen.frame m ρ, Cert.Kernel2Ideal.Mm.reference_frame,
    fun m ρ _ => Cert.Kernel3.Gen.frame m ρ, fun m ρ _ => Cert.Kernel3Ideal.Gen.frame m ρ, Cert.Kernel3Ideal.Mm.reference_frame,
    fun m ρ _ => Cert.Kernel4.Gen.frame m ρ, fun m ρ _ => Cert.Kernel4Ideal.Gen.frame m ρ, Cert.Kernel4Ideal.Mm.reference_frame,
    fun m ρ _ => Cert.Kernel5.Gen.frame m ρ, fun m ρ _ => Cert.Kernel5Ideal.Gen.frame m ρ, Cert.Kernel5Ideal.Mm.reference_frame,
    fun m ρ _ => Cert.Kernel6.Gen.frame m ρ, fun m ρ _ => Cert.Kernel6Ideal.Gen.frame m ρ, Cert.Kernel6Ideal.Mm.reference_frame,
    fun m ρ _ => Cert.Kernel7.Gen.frame m ρ, fun m ρ _ => Cert.Kernel7Ideal.Gen.frame m ρ, Cert.Kernel7Ideal.Mm.reference_frame,
    fun m ρ _ => Cert.Kernel8.Gen.frame m ρ, fun m ρ _ => Cert.Kernel8Ideal.Gen.frame m ρ, Cert.Kernel8Ideal.Mm.reference_frame,
    fun m ρ _ => Cert.Kernel9.Gen.frame m ρ, fun m ρ _ => Cert.Kernel9Ideal.Gen.frame m ρ, Cert.Kernel9Ideal.Mm.reference_frame,
    fun m ρ _ => Cert.Kernel10.Gen.frame m ρ, fun m ρ _ => Cert.Kernel10Ideal.Gen.frame m ρ, Cert.Kernel10Ideal.Mm.reference_frame,
    fun m ρ _ => Cert.Kernel11.Gen.frame m ρ, fun m ρ _ => Cert.Kernel11Ideal.Gen.frame m ρ, Cert.Kernel11Ideal.Mm.reference_frame,
    fun m ρ _ => Cert.Kernel12.Gen.frame m ρ, fun m ρ _ => Cert.Kernel12Ideal.Gen.frame m ρ, Cert.Kernel12Ideal.Mm.reference_frame,
    fun m ρ _ => Cert.Kernel13.Gen.frame m ρ, fun m ρ _ => Cert.Kernel13Ideal.Gen.frame m ρ, Cert.Kernel13Ideal.Mm.reference_frame,
    fun m ρ _ => Cert.Kernel14.Gen.frame m ρ, fun m ρ _ => Cert.Kernel14Ideal.Gen.frame m ρ, Cert.Kernel14Ideal.Mm.reference_frame,
    fun m ρ _ => Cert.Kernel15.Gen.frame m ρ, fun m ρ _ => Cert.Kernel15Ideal.Gen.frame m ρ, Cert.Kernel15Ideal.Mm.reference_frame,
    fun m ρ _ => Cert.Kernel16.Gen.frame m ρ, fun m ρ _ => Cert.Kernel16Ideal.Gen.frame m ρ, Cert.Kernel16Ideal.Mm.reference_frame,
    fun m ρ _ => Cert.Kernel17.Gen.frame m ρ, fun m ρ _ => Cert.Kernel17Ideal.Gen.frame m ρ, Cert.Kernel17Ideal.Adam.reference_frame,
    fun m ρ _ => Cert.Kernel18.Gen.frame m ρ, fun m ρ _ => Cert.Kernel18Ideal.Gen.frame m ρ, Cert.Kernel18Ideal.Adam.reference_frame,
    fun m ρ _ => Cert.Kernel19.Gen.frame m ρ, fun m ρ _ => Cert.Kernel19Ideal.Gen.frame m ρ, Cert.Kernel19Ideal.Adam.reference_frame,
    fun m ρ _ => Cert.Kernel20.Gen.frame m ρ, fun m ρ _ => Cert.Kernel20Ideal.Gen.frame m ρ, Cert.Kernel20Ideal.Adam.reference_frame,
    fun m ρ _ => Cert.Kernel21.Gen.frame m ρ, fun m ρ _ => Cert.Kernel21Ideal.Gen.frame m ρ, Cert.Kernel21Ideal.Adam.reference_frame,
    trivial, Cert.Ends.ends_equal,
    trivial, Cert.Kernel2Ideal.Mm.ends_equal,
    trivial, Cert.Kernel3Ideal.Mm.ends_equal,
    trivial, Cert.Kernel4Ideal.Mm.ends_equal,
    trivial, Cert.Kernel5Ideal.Mm.ends_equal,
    trivial, Cert.Kernel6Ideal.Mm.ends_equal,
    trivial, Cert.Kernel7Ideal.Mm.ends_equal,
    trivial, Cert.Kernel8Ideal.Mm.ends_equal,
    trivial, Cert.Kernel9Ideal.Mm.ends_equal,
    trivial, Cert.Kernel10Ideal.Mm.ends_equal,
    trivial, Cert.Kernel11Ideal.Mm.ends_equal,
    trivial, Cert.Kernel12Ideal.Mm.ends_equal,
    trivial, Cert.Kernel13Ideal.Mm.ends_equal,
    trivial, Cert.Kernel14Ideal.Mm.ends_equal,
    trivial, Cert.Kernel15Ideal.Mm.ends_equal,
    trivial, Cert.Kernel16Ideal.Mm.ends_equal,
    trivial, Cert.Kernel17Ideal.Adam.ends_equal,
    trivial, Cert.Kernel18Ideal.Adam.ends_equal,
    trivial, Cert.Kernel19Ideal.Adam.ends_equal,
    trivial, Cert.Kernel20Ideal.Adam.ends_equal,
    trivial, Cert.Kernel21Ideal.Adam.ends_equal⟩

end Cert.Proof

end
